-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)) (v4 : (c : Dev Cert.Kernel3Ideal.nD) → Buf (Elt Ideal) ((c.tc : Thread Cert.Kernel3Ideal.nD Cert.Kernel3Ideal.τ).loc Cert.Kernel3Ideal.main_v18_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_v18_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v121) = v0 c
          ∧ r.2.mem ((c.tc : Thread Cert.Reference3Ideal.nD Cert.Reference3Ideal.τ).loc Cert.Reference3Ideal.main_v123) = v1 c
          ∧ r.2.mem ((c.tc : Thread Cert.Reference3Ideal.nD Cert.Reference3Ideal.τ).loc Cert.Reference3Ideal.main_v125) = v2 c
          ∧ r.2.mem ((c.tc : Thread Cert.Reference3Ideal.nD Cert.Reference3Ideal.τ).loc Cert.Reference3Ideal.main_v126) = v3 c
          ∧ r.2.mem ((c.tc : Thread Cert.Reference3Ideal.nD Cert.Reference3Ideal.τ).loc Cert.Reference3Ideal.main_v118) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite2.lean ====
abbrev S4x4096x1024 : Shape := ⟨3, ![4, 4096, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x4x1024x1024 : Shape := ⟨4, ![2, 4, 1024, 1024]⟩
abbrev S_ : Shape := ⟨0, ![]⟩

class Facts : Prop where
  bcast_S_S4x4096x1024 : S_.BroadcastsInDim S4x4096x1024 (![] : Fin 0 → Fin S4x4096x1024.rank)
  bcast_S_S2x1024 : S_.BroadcastsInDim S2x1024 (![] : Fin 0 → Fin S2x1024.rank)
  bcast_S_S1x1024x3072 : S_.BroadcastsInDim S1x1024x3072 (![] : Fin 0 → Fin S1x1024x3072.rank)
  bcast_S_S1x3x1024 : S_.BroadcastsInDim S1x3x1024 (![] : Fin 0 → Fin S1x3x1024.rank)
  bcast_S_S1x1024x1024 : S_.BroadcastsInDim S1x1024x1024 (![] : Fin 0 → Fin S1x1024x1024.rank)
  bitsLt_bf16_f32 : FTy.bits .bf16 < FTy.bits .f32
  bcast_S_S2x4x1024x1024 : S_.BroadcastsInDim S2x4x1024x1024 (![] : Fin 0 → Fin S2x4x1024x1024.rank)

variable [Facts]

def fn_part1 {F : FTy → Type} [FloatOps F] (main_arg6 : FVec F S2x4x1024x1024 .bf16) (main_v2 : IVec S4x4096x1024 1) (main_v5 : IVec S2x1024 1) (main_v8 : IVec S1x1024x3072 1) (main_v11 : IVec S1x3x1024 1) (main_v14 : IVec S1x1024x1024 1) (main_v17 : IVec S2x1024 1) : IVec S4x4096x1024 1 × IVec S2x1024 1 × IVec S1x1024x3072 1 × IVec S1x3x1024 1 × IVec S1x1024x1024 1 × IVec S2x1024 1 × IVec S2x4x1024x1024 1 :=
  let main_v18 : FVec F S2x4x1024x1024 .f32 := (extf .f32 · bitsLt_bf16_f32) main_arg6
  let main_v19 : FVec F S2x4x1024x1024 .f32 := Host.absf main_v18
  let main_cst_5 : FVec F S_ .f32 := constant S_ .f32 0x7F800000#32
  let main_v20 : FVec F S2x4x1024x1024 .f32 := broadcastInDim S2x4x1024x1024 ![] bcast_S_S2x4x1024x1024 main_cst_5
  let main_v21 : IVec S2x4x1024x1024 1 := cmpf .olt main_v19 main_v20
  (main_v2, main_v5, main_v8, main_v11, main_v14, main_v17, main_v21)

def fn {F : FTy → Type} [FloatOps F] (main_arg0 : FVec F S4x4096x1024 .f32) (main_arg1 : FVec F S2x1024 .f32) (main_arg2 : FVec F S1x1024x3072 .f32) (main_arg3 : FVec F S1x3x1024 .f32) (main_arg4 : FVec F S1x1024x1024 .f32) (main_arg5 : FVec F S2x1024 .f32) (main_arg6 : FVec F S2x4x1024x1024 .bf16) (main_arg7 : FVec F S2x4x1024x1024 .bf16) : IVec S4x4096x1024 1 × IVec S2x1024 1 × IVec S1x1024x3072 1 × IVec S1x3x1024 1 × IVec S1x1024x1024 1 × IVec S2x1024 1 × IVec S2x4x1024x1024 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S1x1024x3072 .f32 := Host.absf main_arg2
  let main_cst_1 : FVec F S_ .f32 := constant S_ .f32 0x7F800000#32
  let main_v7 : FVec F S1x1024x3072 .f32 := broadcastInDim S1x1024x3072 ![] bcast_S_S1x1024x3072 main_cst_1
  let main_v8 : IVec S1x1024x3072 1 := cmpf .olt main_v6 main_v7
  let main_v9 : FVec F S1x3x1024 .f32 := Host.absf main_arg3
  let main_cst_2 : FVec F S_ .f32 := constant S_ .f32 0x7F800000#32
  let main_v10 : FVec F S1x3x1024 .f32 := broadcastInDim S1x3x1024 ![] bcast_S_S1x3x1024 main_cst_2
  let main_v11 : IVec S1x3x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S2x1024 .f32 := Host.absf main_arg5
  let main_cst_4 : FVec F S_ .f32 := constant S_ .f32 0x7F800000#32
  let main_v16 : FVec F S2x1024 .f32 := broadcastInDim S2x1024 ![] bcast_S_S2x1024 main_cst_4
  let main_v17 : IVec S2x1024 1 := cmpf .olt main_v15 main_v16
  fn_part1 (F := F) main_arg6 main_v2 main_v5 main_v8 main_v11 main_v14 main_v17
-- ==== Pre_finite4.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x4x1024x1024 : Shape := ⟨4, ![2, 4, 1024, 1024]⟩
abbrev S_ : Shape := ⟨0, ![]⟩

class Facts : Prop where
  bcast_S_S4x4096x1024 : S_.BroadcastsInDim S4x4096x1024 (![] : Fin 0 → Fin S4x4096x1024.rank)
  bitsLt_bf16_f32 : FTy.bits .bf16 < FTy.bits .f32
  bcast_S_S1x1024x1024 : S_.BroadcastsInDim S1x1024x1024 (![] : Fin 0 → Fin S1x1024x1024.rank)
  bcast_S_S2x1024 : S_.BroadcastsInDim S2x1024 (![] : Fin 0 → Fin S2x1024.rank)
  bcast_S_S2x4x1024x1024 : S_.BroadcastsInDim S2x4x1024x1024 (![] : Fin 0 → Fin S2x4x1024x1024.rank)

variable [Facts]

def fn {F : FTy → Type} [FloatOps F] (main_arg0 : FVec F S4x4096x1024 .f32) (main_arg1 : FVec F S4x4096x1024 .bf16) (main_arg2 : FVec F S1x1024x1024 .f32) (main_arg3 : FVec F S2x1024 .f32) (main_arg4 : FVec F S2x4x1024x1024 .bf16) (main_arg5 : FVec F S2x4x1024x1024 .bf16) : IVec S4x4096x1024 1 × IVec S4x4096x1024 1 × IVec S1x1024x1024 1 × IVec S2x1024 1 × IVec S2x4x1024x1024 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x4096x1024 .f32 := (extf .f32 · bitsLt_bf16_f32) main_arg1
  let main_v4 : FVec F S4x4096x1024 .f32 := Host.absf main_v3
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_v7 : FVec F S1x1024x1024 .f32 := Host.absf main_arg2
  let main_cst_1 : FVec F S_ .f32 := constant S_ .f32 0x7F800000#32
  let main_v8 : FVec F S1x1024x1024 .f32 := broadcastInDim S1x1024x1024 ![] bcast_S_S1x1024x1024 main_cst_1
  let main_v9 : IVec S1x1024x1024 1 := cmpf .olt main_v7 main_v8
  let main_v10 : FVec F S2x1024 .f32 := Host.absf main_arg3
  let main_cst_2 : FVec F S_ .f32 := constant S_ .f32 0x7F800000#32
  let main_v11 : FVec F S2x1024 .f32 := broadcastInDim S2x1024 ![] bcast_S_S2x1024 main_cst_2
  let main_v12 : IVec S2x1024 1 := cmpf .olt main_v10 main_v11
  let main_v13 : FVec F S2x4x1024x1024 .f32 := (extf .f32 · bitsLt_bf16_f32) main_arg4
  let main_v14 : FVec F S2x4x1024x1024 .f32 := Host.absf main_v13
  let main_cst_3 : FVec F S_ .f32 := constant S_ .f32 0x7F800000#32
  let main_v15 : FVec F S2x4x1024x1024 .f32 := broadcastInDim S2x4x1024x1024 ![] bcast_S_S2x4x1024x1024 main_cst_3
  let main_v16 : IVec S2x4x1024x1024 1 := cmpf .olt main_v14 main_v15
  (main_v2, main_v6, main_v9, main_v12, main_v16)
-- ==== Kernel.lean ====
abbrev S4x4096x1024 : Shape := ⟨3, ![4, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S16384x1024 : Shape := ⟨2, ![16384, 1024]⟩
abbrev S2x1x1024 : Shape := ⟨3, ![2, 1, 1024]⟩
abbrev S1x1x1024 : Shape := ⟨3, ![1, 1, 1024]⟩
abbrev S1024x1024 : Shape := ⟨2, ![1024, 1024]⟩
abbrev S1024x5632 : Shape := ⟨2, ![1024, 5632]⟩
abbrev S2816x1024 : Shape := ⟨2, ![2816, 1024]⟩
abbrev S3x64x5632 : Shape := ⟨3, ![3, 64, 5632]⟩
abbrev S3 : Shape := ⟨1, ![3]⟩
abbrev S1 : Shape := ⟨1, ![1]⟩
abbrev S_ : Shape := ⟨0, ![]⟩
abbrev S1x64x5632 : Shape := ⟨3, ![1, 64, 5632]⟩
abbrev S64x5632 : Shape := ⟨2, ![64, 5632]⟩
abbrev S1x1024x5632 : Shape := ⟨3, ![1, 1024, 5632]⟩
abbrev S3x352x1024 : Shape := ⟨3, ![3, 352, 1024]⟩
abbrev S1x352x1024 : Shape := ⟨3, ![1, 352, 1024]⟩
abbrev S352x1024 : Shape := ⟨2, ![352, 1024]⟩
abbrev S1x2816x1024 : Shape := ⟨3, ![1, 2816, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S16384x1024, .f32⟩
  | .hbm, ⟨6, _⟩ => ⟨S2x1x1024, .f32⟩
  | .hbm, ⟨7, _⟩ => ⟨S1x1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x5632, .bf16⟩
  | .local _ .vmem, ⟨7, _⟩ => ⟨S2816x1024, .bf16⟩
  | .local _ .vmem, ⟨8, _⟩ => ⟨S3x64x5632, .f32⟩
  | .local _ .vmem, ⟨9, _⟩ => ⟨S3x352x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scoped0 : Ref sig .tc := ⟨.vmem, 8, rfl⟩
abbrev cc0_scoped2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x1024 : Shape := ⟨3, ![4, 4096, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S4x4096x5632, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S_, .f32⟩
  | .hbm, ⟨33, _⟩ => ⟨S4x4096x2816, .f32⟩
  | .hbm, ⟨34, _⟩ => ⟨S4x4096x2816, .f32⟩
  | .hbm, ⟨35, _⟩ => ⟨S_, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel2.lean ====
abbrev S4x4096x1024 : Shape := ⟨3, ![4, 4096, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x4x1024x1024 : Shape := ⟨4, ![2, 4, 1024, 1024]⟩
abbrev S16384x1024 : Shape := ⟨2, ![16384, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1x1024x1024 : Shape := ⟨4, ![1, 1, 1024, 1024]⟩
abbrev S1024x3072 : Shape := ⟨2, ![1024, 3072]⟩
abbrev S8x1024 : Shape := ⟨2, ![8, 1024]⟩
abbrev S3x128x3072 : Shape := ⟨3, ![3, 128, 3072]⟩
abbrev S3 : Shape := ⟨1, ![3]⟩
abbrev S1 : Shape := ⟨1, ![1]⟩
abbrev S_ : Shape := ⟨0, ![]⟩
abbrev S1x128x3072 : Shape := ⟨3, ![1, 128, 3072]⟩
abbrev S128x3072 : Shape := ⟨2, ![128, 3072]⟩
abbrev S3x512x1024 : Shape := ⟨3, ![3, 512, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S504x1024 : Shape := ⟨2, ![504, 1024]⟩
abbrev S512x256 : Shape := ⟨2, ![512, 256]⟩

abbrev nBuf : Space → Nat
  | .hbm => 12
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S2x1024, .f32⟩
  | .hbm, ⟨6, _⟩ => ⟨S2x4x1024x1024, .bf16⟩
  | .hbm, ⟨7, _⟩ => ⟨S2x4x1024x1024, .bf16⟩
  | .hbm, ⟨8, _⟩ => ⟨S16384x1024, .f32⟩
  | .hbm, ⟨9, _⟩ => ⟨S2x1x1024, .f32⟩
  | .hbm, ⟨10, _⟩ => ⟨S2x1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x3072, .bf16⟩
  | .local _ .vmem, ⟨12, _⟩ => ⟨S1024x1024, .bf16⟩
  | .local _ .vmem, ⟨13, _⟩ => ⟨S8x1024, .f32⟩
  | .local _ .vmem, ⟨14, _⟩ => ⟨S3x128x3072, .f32⟩
  | .local _ .vmem, ⟨15, _⟩ => ⟨S3x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scoped0 : Ref sig .tc := ⟨.vmem, 14, rfl⟩
abbrev cc0_scoped2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x4096x1024 : Shape := ⟨3, ![4, 4096, 1024]⟩
abbrev S2x1024 : Shape := ⟨2, ![2, 1024]⟩
abbrev S1x1024x3072 : Shape := ⟨3, ![1, 1024, 3072]⟩
abbrev S1x3x1024 : Shape := ⟨3, ![1, 3, 1024]⟩
abbrev S1x1024x1024 : Shape := ⟨3, ![1, 1024, 1024]⟩
abbrev S2x4x1024x1024 : Shape := ⟨4, ![2, 4, 1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3072 : Shape := ⟨2, ![1024, 3072]⟩
abbrev S3x1024 : Shape := ⟨2, ![3, 1024]⟩
abbrev S1024x1024 : Shape := ⟨2, ![1024, 1024]⟩
abbrev S4x4096x3072 : Shape := ⟨3, ![4, 4096, 3072]⟩
abbrev S4x4098x1024 : Shape := ⟨3, ![4, 4098, 1024]⟩
abbrev S1x4x1024x1024 : Shape := ⟨4, ![1, 4, 1024, 1024]⟩
abbrev S4x1024x1024 : Shape := ⟨3, ![4, 1024, 1024]⟩
abbrev S4x4096x4x256 : Shape := ⟨4, ![4, 4096, 4, 256]⟩
abbrev S4x4096x4 : Shape := ⟨3, ![4, 4096, 4]⟩
abbrev S4x4096x4x1 : Shape := ⟨4, ![4, 4096, 4, 1]⟩
abbrev S16384x1024 : Shape := ⟨2, ![16384, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x3072, .f32⟩
  | .hbm, ⟨3, _⟩ => ⟨S1x3x1024, .f32⟩
  | .hbm, ⟨4, _⟩ => ⟨S1x1024x1024, .f32⟩
  | .hbm, ⟨5, _⟩ => ⟨S2x1024, .f32⟩
  | .hbm, ⟨6, _⟩ => ⟨S2x4x1024x1024, .bf16⟩
  | .hbm, ⟨7, _⟩ => ⟨S2x4x1024x1024, .bf16⟩
  | .hbm, ⟨8, _⟩ => ⟨S1x1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S1024x3072, .f32⟩
  | .hbm, ⟨27, _⟩ => ⟨S3x1024, .f32⟩
  | .hbm, ⟨28, _⟩ => ⟨S1024x1024, .f32⟩
  | .hbm, ⟨29, _⟩ => ⟨S4x4096x3072, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .i32⟩
  | .hbm, ⟨35, _⟩ => ⟨S_, .f32⟩
  | .hbm, ⟨36, _⟩ => ⟨S4x4098x1024, .f32⟩
  | .hbm, ⟨37, _⟩ => ⟨S4x4096x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S1x1024, .f32⟩
  | .hbm, ⟨48, _⟩ => ⟨S1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S1x1024, .f32⟩
  | .hbm, ⟨55, _⟩ => ⟨S1024, .f32⟩
  | .hbm, ⟨56, _⟩ => ⟨S1x1x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S1x1024, .f32⟩
  | .hbm, ⟨64, _⟩ => ⟨S1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S1x4x1024x1024, .bf16⟩
  | .hbm, ⟨82, _⟩ => ⟨S4x1024x1024, .bf16⟩
  | .hbm, ⟨83, _⟩ => ⟨S4x1024x1024, .f32⟩
  | .hbm, ⟨84, _⟩ => ⟨S1x4x1024x1024, .bf16⟩
  | .hbm, ⟨85, _⟩ => ⟨S4x1024x1024, .bf16⟩
  | .hbm, ⟨86, _⟩ => ⟨S4x1024x1024, .f32⟩
  | .hbm, ⟨87, _⟩ => ⟨S4x4096x1024, .f32⟩
  | .hbm, ⟨88, _⟩ => ⟨S4x4096x4x256, .f32⟩
  | .hbm, ⟨89, _⟩ => ⟨S_, .f32⟩
  | .hbm, ⟨90, _⟩ => ⟨S4x4096x4, .f32⟩
  | .hbm, ⟨91, _⟩ => ⟨S_, .f32⟩
  | .hbm, ⟨92, _⟩ => ⟨S4x4096x4, .f32⟩
  | .hbm, ⟨93, _⟩ => ⟨S4x4096x4, .f32⟩
  | .hbm, ⟨94, _⟩ => ⟨S4x4096x4x1, .f32⟩
  | .hbm, ⟨95, _⟩ => ⟨S4x4096x4x256, .f32⟩
  | .hbm, ⟨96, _⟩ => ⟨S4x4096x4x256, .f32⟩
  | .hbm, ⟨97, _⟩ => ⟨S4x4096x4x256, .f32⟩
  | .hbm, ⟨98, _⟩ => ⟨S_, .f32⟩
  | .hbm, ⟨99, _⟩ => ⟨S4x4096x4, .f32⟩
  | .hbm, ⟨100, _⟩ => ⟨S4x4096x4x1, .f32⟩
  | .hbm, ⟨101, _⟩ => ⟨S4x4096x4x256, .f32⟩
  | .hbm, ⟨102, _⟩ => ⟨S4x4096x4x256, .f32⟩
  | .hbm, ⟨103, _⟩ => ⟨S4x4096x1024, .f32⟩
  | .hbm, ⟨104, _⟩ => ⟨S4x4096x1024, .f32⟩
  | .hbm, ⟨105, _⟩ => ⟨S4x4096x1024, .f32⟩
  | .hbm, ⟨106, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_3 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096 : Shape := ⟨2, ![4, 4096]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024x1024 : Shape := ⟨3, ![1, 1024, 1024]⟩
abbrev S1024x2048 : Shape := ⟨2, ![1024, 2048]⟩
abbrev S16384x1024 : Shape := ⟨2, ![16384, 1024]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S2x1x1024 : Shape := ⟨3, ![2, 1, 1024]⟩
abbrev S32x1x512 : Shape := ⟨3, ![32, 1, 512]⟩
abbrev S1x1x1024 : Shape := ⟨3, ![1, 1, 1024]⟩
abbrev S4x16x1024x256 : Shape := ⟨4, ![4, 16, 1024, 256]⟩
abbrev S4x16x1024 : Shape := ⟨3, ![4, 16, 1024]⟩
abbrev S512x1024 : Shape := ⟨2, ![512, 1024]⟩
abbrev S1x1x512 : Shape := ⟨3, ![1, 1, 512]⟩
abbrev S1x2x1024x256 : Shape := ⟨4, ![1, 2, 1024, 256]⟩
abbrev S1x16x1024 : Shape := ⟨3, ![1, 16, 1024]⟩
abbrev S1024x5632 : Shape := ⟨2, ![1024, 5632]⟩
abbrev S2816x1024 : Shape := ⟨2, ![2816, 1024]⟩
abbrev S1024x1024 : Shape := ⟨2, ![1024, 1024]⟩
abbrev S3x64x5632 : Shape := ⟨3, ![3, 64, 5632]⟩
abbrev S3 : Shape := ⟨1, ![3]⟩
abbrev S1 : Shape := ⟨1, ![1]⟩
abbrev S1x64x5632 : Shape := ⟨3, ![1, 64, 5632]⟩
abbrev S64x5632 : Shape := ⟨2, ![64, 5632]⟩
abbrev S1x1024x5632 : Shape := ⟨3, ![1, 1024, 5632]⟩
abbrev S3x352x1024 : Shape := ⟨3, ![3, 352, 1024]⟩
abbrev S1x352x1024 : Shape := ⟨3, ![1, 352, 1024]⟩
abbrev S352x1024 : Shape := ⟨2, ![352, 1024]⟩
abbrev S1x2816x1024 : Shape := ⟨3, ![1, 2816, 1024]⟩
abbrev S3x512x1024 : Shape := ⟨3, ![3, 512, 1024]⟩
abbrev S1x512x1024 : Shape := ⟨3, ![1, 512, 1024]⟩
abbrev S3x256x2048 : Shape := ⟨3, ![3, 256, 2048]⟩
abbrev S1x256x2048 : Shape := ⟨3, ![1, 256, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1024x768 : Shape := ⟨2, ![1024, 768]⟩
abbrev S256x768 : Shape := ⟨2, ![256, 768]⟩
abbrev S768x1024 : Shape := ⟨2, ![768, 1024]⟩
abbrev S16x1024 : Shape := ⟨2, ![16, 1024]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S512x128 : Shape := ⟨2, ![512, 128]⟩
abbrev S1024x256 : Shape := ⟨2, ![1024, 256]⟩
abbrev S1x1x1024x256 : Shape := ⟨4, ![1, 1, 1024, 256]⟩

abbrev nBuf : Space → Nat
  | .hbm => 37
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S2x1024, .f32⟩
  | .hbm, ⟨6, _⟩ => ⟨S1024, .f32⟩
  | .hbm, ⟨7, _⟩ => ⟨S1x1024x1024, .f32⟩
  | .hbm, ⟨8, _⟩ => ⟨S1024x2048, .f32⟩
  | .hbm, ⟨9, _⟩ => ⟨S16384x1024, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S96, .f32⟩
  | .hbm, ⟨26, _⟩ => ⟨S128, .f32⟩
  | .hbm, ⟨27, _⟩ => ⟨S1x128, .f32⟩
  | .hbm, ⟨28, _⟩ => ⟨S2x1x1024, .f32⟩
  | .hbm, ⟨29, _⟩ => ⟨S32x1x512, .i32⟩
  | .hbm, ⟨30, _⟩ => ⟨S2x1x1024, .f32⟩
  | .hbm, ⟨31, _⟩ => ⟨S1x1x1024, .f32⟩
  | .hbm, ⟨32, _⟩ => ⟨S16384x1024, .f32⟩
  | .hbm, ⟨33, _⟩ => ⟨S16384x1024, .bf16⟩
  | .hbm, ⟨34, _⟩ => ⟨S16384x1024, .bf16⟩
  | .hbm, ⟨35, _⟩ => ⟨S4x16x1024x256, .bf16⟩
  | .hbm, ⟨36, _⟩ => ⟨S4x16x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x512, .i32⟩
  | .local _ .vmem, ⟨4, _⟩ => ⟨S1x1x512, .i32⟩
  | .local _ .vmem, ⟨5, _⟩ => ⟨S1x128, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x2x1024x256, .bf16⟩
  | .local _ .vmem, ⟨15, _⟩ => ⟨S1x2x1024x256, .bf16⟩
  | .local _ .vmem, ⟨16, _⟩ => ⟨S1x16x1024, .f32⟩
  | .local _ .vmem, ⟨17, _⟩ => ⟨S1x16x1024, .f32⟩
  | .local _ .vmem, ⟨18, _⟩ => ⟨S1024x5632, .bf16⟩
  | .local _ .vmem, ⟨19, _⟩ => ⟨S2816x1024, .bf16⟩
  | .local _ .vmem, ⟨20, _⟩ => ⟨S1024x1024, .bf16⟩
  | .local _ .vmem, ⟨21, _⟩ => ⟨S1024x2048, .bf16⟩
  | .local _ .vmem, ⟨22, _⟩ => ⟨S3x64x5632, .f32⟩
  | .local _ .vmem, ⟨23, _⟩ => ⟨S3x352x1024, .f32⟩
  | .local _ .vmem, ⟨24, _⟩ => ⟨S3x512x1024, .f32⟩
  | .local _ .vmem, ⟨25, _⟩ => ⟨S3x256x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v18_3 : Ref sig .tc := ⟨.hbm, 35, rfl⟩
abbrev main_v18_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scoped0 : Ref sig .tc := ⟨.vmem, 22, rfl⟩
abbrev cc0_scoped2 : Ref sig .tc := ⟨.vmem, 23, rfl⟩
abbrev cc0_scoped4 : Ref sig .tc := ⟨.vmem, 24, rfl⟩
abbrev cc0_scoped6 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x4096x1024 : Shape := ⟨3, ![4, 4096, 1024]⟩
abbrev S4x4096 : Shape := ⟨2, ![4, 4096]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024x1024 : Shape := ⟨3, ![1, 1024, 1024]⟩
abbrev S1024x2048 : Shape := ⟨2, ![1024, 2048]⟩
abbrev S1x1024 : Shape := ⟨2, ![1, 1024]⟩
abbrev S_ : Shape := ⟨0, ![]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4096x2816 : Shape := ⟨3, ![4, 4096, 2816]⟩
abbrev S16 : Shape := ⟨1, ![16]⟩
abbrev S1x1x16 : Shape := ⟨3, ![1, 1, 16]⟩
abbrev S4x4096x16 : Shape := ⟨3, ![4, 4096, 16]⟩
abbrev S4x4096x1x16 : Shape := ⟨4, ![4, 4096, 1, 16]⟩
abbrev S4x4096x2048 : Shape := ⟨3, ![4, 4096, 2048]⟩
abbrev S4x4096x8x128 : Shape := ⟨4, ![4, 4096, 8, 128]⟩
abbrev S4x4096x8x32 : Shape := ⟨4, ![4, 4096, 8, 32]⟩
abbrev S4x4096x8x16 : Shape := ⟨4, ![4, 4096, 8, 16]⟩
abbrev S4x4096x8x96 : Shape := ⟨4, ![4, 4096, 8, 96]⟩
abbrev S1024x1024 : Shape := ⟨2, ![1024, 1024]⟩
abbrev S4x16x256x1024 : Shape := ⟨4, ![4, 16, 256, 1024]⟩
abbrev S4x16x1024 : Shape := ⟨3, ![4, 16, 1024]⟩
abbrev S4x16x1024x256 : Shape := ⟨4, ![4, 16, 1024, 256]⟩
abbrev S16384x1024 : Shape := ⟨2, ![16384, 1024]⟩

abbrev nBuf : Space → Nat
  | .hbm => 160
  | .vmem => 0
  | .smem => 0
  | _ => 0

abbrev hbmTy0_0 (i : Nat) : BufTy := match i % 128 with
  | 0 => ⟨S4x4096x1024, .f32⟩
  | 1 => ⟨S4x4096, .i32⟩
  | 2 => ⟨S2x1024, .f32⟩
  | 3 => ⟨S2x1024x5632, .f32⟩
  | 4 => ⟨S2x2816x1024, .f32⟩
  | 5 => ⟨S2x1024, .f32⟩
  | 6 => ⟨S1024, .f32⟩
  | 7 => ⟨S1x1024x1024, .f32⟩
  | 8 => ⟨S1024x2048, .f32⟩
  | 9 => ⟨S1x1024, .f32⟩
  | 10 => ⟨S1024, .f32⟩
  | 11 => ⟨S4x4096x1024, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x1, .f32⟩
  | 22 => ⟨S4x4096x1024, .f32⟩
  | 23 => ⟨S4x4096x1024, .f32⟩
  | 24 => ⟨S1x1x1024, .f32⟩
  | 25 => ⟨S4x4096x1024, .f32⟩
  | 26 => ⟨S4x4096x1024, .f32⟩
  | 27 => ⟨S1x1024x5632, .f32⟩
  | 28 => ⟨S1024x5632, .f32⟩
  | 29 => ⟨S1x2816x1024, .f32⟩
  | 30 => ⟨S2816x1024, .f32⟩
  | 31 => ⟨S4x4096x5632, .f32⟩
  | 32 => ⟨S4x4096x2816, .f32⟩
  | 33 => ⟨S4x4096x2816, .f32⟩
  | 34 => ⟨S4x4096x2816, .f32⟩
  | 35 => ⟨S4x4096x2816, .f32⟩
  | 36 => ⟨S_, .f32⟩
  | 37 => ⟨S4x4096x2816, .f32⟩
  | 38 => ⟨S4x4096x2816, .f32⟩
  | 39 => ⟨S_, .f32⟩
  | 40 => ⟨S4x4096x2816, .f32⟩
  | 41 => ⟨S4x4096x2816, .f32⟩
  | 42 => ⟨S4x4096x2816, .f32⟩
  | 43 => ⟨S4x4096x2816, .f32⟩
  | 44 => ⟨S4x4096x1024, .f32⟩
  | 45 => ⟨S4x4096x1024, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S4x4096, .f32⟩
  | 61 => ⟨S4x4096x1, .f32⟩
  | 62 => ⟨S1x1x16, .f32⟩
  | 63 => ⟨S4x4096x16, .f32⟩
  | 64 => ⟨S4x4096x16, .f32⟩
  | 65 => ⟨S4x4096x16, .f32⟩
  | 66 => ⟨S4x4096x16, .f32⟩
  | 67 => ⟨S4x4096x1x16, .f32⟩
  | 68 => ⟨S4x4096x16, .f32⟩
  | 69 => ⟨S4x4096x1x16, .f32⟩
  | 70 => ⟨S4x4096x1024, .f32⟩
  | 71 => ⟨S_, .f32⟩
  | 72 => ⟨S4x4096, .f32⟩
  | 73 => ⟨S4x4096x1, .f32⟩
  | 74 => ⟨S_, .f32⟩
  | 75 => ⟨S4x4096x1, .f32⟩
  | 76 => ⟨S4x4096x1, .f32⟩
  | 77 => ⟨S_, .f32⟩
  | 78 => ⟨S4x4096x1, .f32⟩
  | 79 => ⟨S4x4096x1, .f32⟩
  | 80 => ⟨S4x4096x1, .f32⟩
  | 81 => ⟨S4x4096x1024, .f32⟩
  | 82 => ⟨S4x4096x1024, .f32⟩
  | 83 => ⟨S1x1x1024, .f32⟩
  | 84 => ⟨S4x4096x1024, .f32⟩
  | 85 => ⟨S4x4096x1024, .f32⟩
  | 86 => ⟨S4x4096x2048, .f32⟩
  | 87 => ⟨S4x4096x1024, .f32⟩
  | 88 => ⟨S4x4096x1024, .f32⟩
  | 89 => ⟨S4x4096x8x128, .f32⟩
  | 90 => ⟨S4x4096x8x32, .f32⟩
  | 91 => ⟨S4x4096x8x16, .f32⟩
  | 92 => ⟨S4x4096x8x16, .f32⟩
  | 93 => ⟨S4x4096x8x16, .f32⟩
  | 94 => ⟨S4x4096x8x16, .f32⟩
  | 95 => ⟨S4x4096x8x16, .f32⟩
  | 96 => ⟨S4x4096x8x16, .f32⟩
  | 97 => ⟨S4x4096x8x16, .f32⟩
  | 98 => ⟨S4x4096x8x16, .f32⟩
  | 99 => ⟨S4x4096x8x16, .f32⟩
  | 100 => ⟨S4x4096x8x16, .f32⟩
  | 101 => ⟨S4x4096x8x16, .f32⟩
  | 102 => ⟨S4x4096x8x16, .f32⟩
  | 103 => ⟨S4x4096x8x32, .f32⟩
  | 104 => ⟨S4x4096x8x96, .f32⟩
  | 105 => ⟨S4x4096x8x128, .f32⟩
  | 106 => ⟨S1x1024, .f32⟩
  | 107 => ⟨S1024, .f32⟩
  | 108 => ⟨S4x4096x1024, .f32⟩
  | 109 => ⟨S_, .f32⟩
  | 110 => ⟨S4x4096, .f32⟩
  | 111 => ⟨S4x4096x1, .f32⟩
  | 112 => ⟨S_, .f32⟩
  | 113 => ⟨S4x4096x1, .f32⟩
  | 114 => ⟨S4x4096x1, .f32⟩
  | 115 => ⟨S_, .f32⟩
  | 116 => ⟨S4x4096x1, .f32⟩
  | 117 => ⟨S4x4096x1, .f32⟩
  | 118 => ⟨S4x4096x1, .f32⟩
  | 119 => ⟨S4x4096x1024, .f32⟩
  | 120 => ⟨S4x4096x1024, .f32⟩
  | 121 => ⟨S1x1x1024, .f32⟩
  | 122 => ⟨S4x4096x1024, .f32⟩
  | 123 => ⟨S4x4096x1024, .f32⟩
  | 124 => ⟨S1024x1024, .f32⟩
  | 125 => ⟨S4x4096x1024, .f32⟩
  | 126 => ⟨S4x4096x8x128, .f32⟩
  | 127 => ⟨S4x4096x8x32, .f32⟩
  | _ => ⟨S4x4096x1024, .f32⟩

abbrev hbmTy0_1 (i : Nat) : BufTy := match i % 128 with
  | 0 => ⟨S4x4096x8x16, .f32⟩
  | 1 => ⟨S4x4096x8x16, .f32⟩
  | 2 => ⟨S4x4096x8x16, .f32⟩
  | 3 => ⟨S4x4096x8x16, .f32⟩
  | 4 => ⟨S4x4096x8x16, .f32⟩
  | 5 => ⟨S4x4096x8x16, .f32⟩
  | 6 => ⟨S4x4096x8x16, .f32⟩
  | 7 => ⟨S4x4096x8x16, .f32⟩
  | 8 => ⟨S4x4096x8x16, .f32⟩
  | 9 => ⟨S4x4096x8x16, .f32⟩
  | 10 => ⟨S4x4096x8x16, .f32⟩
  | 11 => ⟨S4x4096x8x16, .f32⟩
  | 12 => ⟨S4x4096x8x32, .f32⟩
  | 13 => ⟨S4x4096x8x96, .f32⟩
  | 14 => ⟨S4x4096x8x128, .f32⟩
  | 15 => ⟨S_, .f32⟩
  | 16 => ⟨S4x4096x8x128, .f32⟩
  | 17 => ⟨S4x4096x8x128, .f32⟩
  | 18 => ⟨S4x16x256x1024, .f32⟩
  | 19 => ⟨S_, .f32⟩
  | 20 => ⟨S4x16x1024, .f32⟩
  | 21 => ⟨S_, .f32⟩
  | 22 => ⟨S4x16x1024, .f32⟩
  | 23 => ⟨S4x16x1024, .f32⟩
  | 24 => ⟨S4x16x256x1024, .f32⟩
  | 25 => ⟨S4x16x1024x256, .f32⟩
  | 26 => ⟨S16384x1024, .f32⟩
  | 27 => ⟨S16384x1024, .f32⟩
  | 28 => ⟨S16384x1024, .bf16⟩
  | 29 => ⟨S16384x1024, .f32⟩
  | 30 => ⟨S16384x1024, .bf16⟩
  | 31 => ⟨S4x16x1024x256, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_9 : Ref sig .tc := ⟨.hbm, 109, rfl⟩
abbrev main_v82 : Ref sig .tc := ⟨.hbm, 110, rfl⟩
abbrev main_v83 : Ref sig .tc := ⟨.hbm, 111, rfl⟩
abbrev main_cst_10 : Ref sig .tc := ⟨.hbm, 112, rfl⟩
abbrev main_v84 : Ref sig .tc := ⟨.hbm, 113, rfl⟩
abbrev main_v85 : Ref sig .tc := ⟨.hbm, 114, rfl⟩
abbrev main_cst_11 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_12 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_13 : Ref sig .tc := ⟨.hbm, 147, rfl⟩
abbrev main_v116 : Ref sig .tc := ⟨.hbm, 148, rfl⟩
abbrev main_cst_14 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩

abbrev nD : Nat := 1
abbrev τ : Topo := Topo.v7x

variable {F : FTy → Type} [FloatOps F]
-- ==== Kernel4.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x4x1024x1024 : Shape := ⟨4, ![2, 4, 1024, 1024]⟩
abbrev S16384x1024 : Shape := ⟨2, ![16384, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1x1024x1024 : Shape := ⟨4, ![1, 1, 1024, 1024]⟩
abbrev S3x512x1024 : Shape := ⟨3, ![3, 512, 1024]⟩
abbrev S3 : Shape := ⟨1, ![3]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x256 : Shape := ⟨2, ![512, 256]⟩

abbrev nBuf : Space → Nat
  | .hbm => 10
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1x1024x1024, .f32⟩
  | .hbm, ⟨3, _⟩ => ⟨S2x1024, .f32⟩
  | .hbm, ⟨4, _⟩ => ⟨S2x4x1024x1024, .bf16⟩
  | .hbm, ⟨5, _⟩ => ⟨S2x4x1024x1024, .bf16⟩
  | .hbm, ⟨6, _⟩ => ⟨S16384x1024, .f32⟩
  | .hbm, ⟨7, _⟩ => ⟨S16384x1024, .bf16⟩
  | .hbm, ⟨8, _⟩ => ⟨S2x1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S3x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scoped0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x4096x1024 : Shape := ⟨3, ![4, 4096, 1024]⟩
abbrev S1x1024x1024 : Shape := ⟨3, ![1, 1024, 1024]⟩
abbrev S2x1024 : Shape := ⟨2, ![2, 1024]⟩
abbrev S2x4x1024x1024 : Shape := ⟨4, ![2, 4, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x4x1024x1024 : Shape := ⟨4, ![1, 4, 1024, 1024]⟩
abbrev S4x1024x1024 : Shape := ⟨3, ![4, 1024, 1024]⟩
abbrev S4x4096x4x256 : Shape := ⟨4, ![4, 4096, 4, 256]⟩
abbrev S4x4096x4 : Shape := ⟨3, ![4, 4096, 4]⟩
abbrev S4x4096x4x1 : Shape := ⟨4, ![4, 4096, 4, 1]⟩
abbrev S16384x1024 : Shape := ⟨2, ![16384, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1x1024x1024, .f32⟩
  | .hbm, ⟨3, _⟩ => ⟨S2x1024, .f32⟩
  | .hbm, ⟨4, _⟩ => ⟨S2x4x1024x1024, .bf16⟩
  | .hbm, ⟨5, _⟩ => ⟨S2x4x1024x1024, .bf16⟩
  | .hbm, ⟨6, _⟩ => ⟨S4x4096x1024, .f32⟩
  | .hbm, ⟨7, _⟩ => ⟨S1024x1024, .f32⟩
  | .hbm, ⟨8, _⟩ => ⟨S4x4096x1024, .f32⟩
  | .hbm, ⟨9, _⟩ => ⟨S4x4096x1024, .f32⟩
  | .hbm, ⟨10, _⟩ => ⟨S1x1024, .f32⟩
  | .hbm, ⟨11, _⟩ => ⟨S1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S1x4x1024x1024, .bf16⟩
  | .hbm, ⟨29, _⟩ => ⟨S4x1024x1024, .bf16⟩
  | .hbm, ⟨30, _⟩ => ⟨S4x1024x1024, .f32⟩
  | .hbm, ⟨31, _⟩ => ⟨S1x4x1024x1024, .bf16⟩
  | .hbm, ⟨32, _⟩ => ⟨S4x1024x1024, .bf16⟩
  | .hbm, ⟨33, _⟩ => ⟨S4x1024x1024, .f32⟩
  | .hbm, ⟨34, _⟩ => ⟨S4x4096x1024, .f32⟩
  | .hbm, ⟨35, _⟩ => ⟨S4x4096x4x256, .f32⟩
  | .hbm, ⟨36, _⟩ => ⟨S_, .f32⟩
  | .hbm, ⟨37, _⟩ => ⟨S4x4096x4, .f32⟩
  | .hbm, ⟨38, _⟩ => ⟨S_, .f32⟩
  | .hbm, ⟨39, _⟩ => ⟨S4x4096x4, .f32⟩
  | .hbm, ⟨40, _⟩ => ⟨S4x4096x4, .f32⟩
  | .hbm, ⟨41, _⟩ => ⟨S4x4096x4x1, .f32⟩
  | .hbm, ⟨42, _⟩ => ⟨S4x4096x4x256, .f32⟩
  | .hbm, ⟨43, _⟩ => ⟨S4x4096x4x256, .f32⟩
  | .hbm, ⟨44, _⟩ => ⟨S4x4096x4x256, .f32⟩
  | .hbm, ⟨45, _⟩ => ⟨S_, .f32⟩
  | .hbm, ⟨46, _⟩ => ⟨S4x4096x4, .f32⟩
  | .hbm, ⟨47, _⟩ => ⟨S4x4096x4x1, .f32⟩
  | .hbm, ⟨48, _⟩ => ⟨S4x4096x4x256, .f32⟩
  | .hbm, ⟨49, _⟩ => ⟨S4x4096x4x256, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Proof.Setup.lean ====
/- What the hand proof of the ideal kernel's run is stated over: @main up to the region, the blocks that the
   pipeline stages, the body's one branch condition, and the names of its staging buffers, scratch buffers,
   semaphores and HBM operands. -/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S3x64x5632 .f32 := Memref.whole cc0_scoped0
abbrev scM0_3 : Memref sig .tc .vmem S3x352x1024 .f32 := Memref.whole cc0_scoped2
/-- The operands left in HBM that the body copies into scratch itself, whole. -/
abbrev hbM0_0 : Memref sig .tc .hbm S2x1024x5632 .f32 := Memref.whole main_arg2
abbrev hbM0_1 : Memref sig .tc .hbm S2x2816x1024 .f32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 6, SemLoc.dma 7, SemLoc.dma 8, SemLoc.dma 9, SemLoc.dma 10, SemLoc.dma 11] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg2, main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3)) := by
  rw [BI.bigSep_eq_bigSepL_of_eq [main_arg2, main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_arg2) ∗ hbPt0 c hbM0_1 (V m c main_arg3))) := by
  rw [Pipeline.ΦD_eq, scopedRest0_eq, ownSems00_eq, hbmPts0_eq]; simp only [scM0_0, scM0_1, scM0_2, scM0_3, owns_whole]; try rfl

end Cert.KernelIdeal.Hand

end
-- ==== Proof.Staging.lean ====
/-
  STAGING A MATRIX THROUGH A RING OF THREE SLOTS. The kernel brings a weight matrix from HBM in `K` chunks of `R` rows:
  chunk `k` is copied into slot `k mod 3` of a ring, two further copies already in flight when it is loaded, and its rounded
  rows are stored at rows `R*k …` of the resident copy. Stated here at any sizes: what the ring holds after `n` copies
  (`ring`), that slot `k mod 3` still reads chunk `k` when it is loaded (`slot_reads`), and that the stores leave the rounded
  matrix in the resident copy (`stored_reads`).
-/
module

public import Idealize.ShloMosaic.Lib.Tactic
public import Idealize.ShloMosaic.Lib.WholeRead
public import Idealize.ShloMosaic.Lib.WritesUnit
public import Idealize.ShloMosaic.Lib.Writes
public import Idealize.ShloMosaic.Lib.ViewIndex
public import Idealize.ShloMosaic.Lib.Pipeline.Value

@[expose] public section

noncomputable section

namespace Cert.Staging

open Idealize.ShloMosaic

variable {F : FTy → Type} [FloatOps F]

section Slots
variable {sig' : RefSig} {sp : Space} {s s' : Shape} {e : EltTy}

/-- A slot read after the copy into it: the copied chunk. -/
theorem slot_hit (A : Memref sig' .tc sp s e) (r : Rect s) (hr : ∀ a, r.stride a = 1) (hq : r.shape.Squeezes s') (hc : r.shape.ShapeCasts s')
    (G : A.view.ty.Contents (Elt F)) (w : s'.Idx → Elt F e) :
    shapeCast s' (View.readAt (Elt F) A.view r.toLoadRect (View.write (Elt F) ((A.slice r hr).squeeze s' hq).view G w Finset.univ)) hc = w := by
  exact View.read_write_univ (v := ((A.slice r hr).squeeze s' hq).view) G w

/-- A slot read after a copy into another: as before the copy. -/
theorem slot_miss (A : Memref sig' .tc sp s e) (r r' : Rect s) (hr' : ∀ a, r'.stride a = 1) (hq : r'.shape.Squeezes s')
    (hd : Disjoint r.set r'.set) (G : A.view.ty.Contents (Elt F)) (w : s'.Idx → Elt F e) :
    View.readAt (Elt F) A.view r.toLoadRect (View.write (Elt F) ((A.slice r' hr').squeeze s' hq).view G w Finset.univ)
      = View.readAt (Elt F) A.view r.toLoadRect G := by
  have h1 : View.write (Elt F) ((A.slice r' hr').squeeze s' hq).view G w Finset.univ
      = View.write (Elt F) (A.view.slice r') G (fun x => w ((Shape.reshapeEquiv hq.numel_eq).symm x)) Finset.univ :=
    View.write_reshape_univ (v := A.view.slice r') hq.numel_eq G w
  rw [h1]
  exact View.read_slice_write_slice_of_disjoint r r' G _ _ (View.disjoint_slice (v := A.view) hd)

end Slots

section Ring
variable {sig' : RefSig} {R C K N : ℕ}

/-- The shapes: the ring, one slot of it, one chunk, the matrix. -/
abbrev RingS (R C : ℕ) : Shape := ⟨3, ![3, R, C]⟩
abbrev SlotS (R C : ℕ) : Shape := ⟨3, ![1, R, C]⟩
abbrev MatS (R C : ℕ) : Shape := ⟨2, ![R, C]⟩

theorem slot_inb (R C k : ℕ) : ∀ a : Fin 3, (![k % 3, 0, 0] : Fin 3 → ℕ) a + (![1, R, C] : Fin 3 → ℕ) a ≤ (RingS R C).size a := by
  intro a
  match a with
  | ⟨0, _⟩ => show k % 3 + 1 ≤ 3; omega
  | ⟨1, _⟩ => show 0 + R ≤ R; omega
  | ⟨2, _⟩ => show 0 + C ≤ C; omega

/-- Slot `k mod 3`. -/
abbrev slotR (R C k : ℕ) : Rect (RingS R C) := Rect.unit (s := RingS R C) ![k % 3, 0, 0] ![1, R, C] (slot_inb R C k)

theorem slot_disjoint (R C k l : ℕ) (h : k % 3 ≠ l % 3) : Disjoint (slotR R C k).set (slotR R C l).set := by
  rw [Finset.disjoint_left]
  intro y h1 h2
  have e1 := (Rect.mem_set_unit.mp h1) 0
  have e2 := (Rect.mem_set_unit.mp h2) 0
  have a1 : k % 3 ≤ (y 0).val ∧ (y 0).val < k % 3 + 1 := e1
  have a2 : l % 3 ≤ (y 0).val ∧ (y 0).val < l % 3 + 1 := e2
  omega

theorem chunk_inb (hK : 0 < K) (hN : R * K = N) (k : ℕ) : ∀ a : Fin 2, (![R * (k % K), 0] : Fin 2 → ℕ) a + (![R, C] : Fin 2 → ℕ) a ≤ (MatS N C).size a := by
  intro a
  match a with
  | ⟨0, _⟩ =>
    show R * (k % K) + R ≤ N
    have h := Nat.mod_lt k hK
    calc R * (k % K) + R = R * (k % K + 1) := (Nat.mul_succ _ _).symm
      _ ≤ R * K := Nat.mul_le_mul_left _ h
      _ = N := hN
  | ⟨1, _⟩ => show 0 + C ≤ C; omega

/-- The rows of chunk `k`. -/
abbrev chunkR (C : ℕ) (hK : 0 < K) (hN : R * K = N) (k : ℕ) : Rect (MatS N C) := Rect.unit (s := MatS N C) ![R * (k % K), 0] ![R, C] (chunk_inb hK hN k)

/-- The ring after the first `n` copies, chunk `k` the `k`-th. -/
def ring (A : Memref sig' .tc .vmem (RingS R C) .f32) (hq : (SlotS R C).Squeezes (MatS R C)) (ch : ℕ → (MatS R C).Idx → Elt F .f32)
    (f : A.view.ty.Contents (Elt F)) : ℕ → A.view.ty.Contents (Elt F)
  | 0 => f
  | k + 1 => View.write (Elt F) ((A.slice (slotR R C k) (fun _ => rfl)).squeeze (MatS R C) hq).view (ring A hq ch f k) (ch k) Finset.univ

/-- Slot `k mod 3` reads chunk `k` as long as at most two further copies have gone into the ring. -/
theorem slot_reads (A : Memref sig' .tc .vmem (RingS R C) .f32) (hq : (SlotS R C).Squeezes (MatS R C)) (hc : (SlotS R C).ShapeCasts (MatS R C))
    (ch : ℕ → (MatS R C).Idx → Elt F .f32) (f : A.view.ty.Contents (Elt F)) (k n : ℕ) (h1 : k < n) (h2 : n ≤ k + 3) :
    shapeCast (MatS R C) (View.readAt (Elt F) A.view (slotR R C k).toLoadRect (ring A hq ch f n)) hc = ch k := by
  obtain rfl | rfl | rfl : n = k + 1 ∨ n = k + 2 ∨ n = k + 3 := by omega
  · exact slot_hit A (slotR R C k) (fun _ => rfl) hq hc _ _
  · rw [ring, slot_miss A (slotR R C k) (slotR R C (k + 1)) (fun _ => rfl) hq (slot_disjoint R C _ _ (by omega))]
    exact slot_hit A (slotR R C k) (fun _ => rfl) hq hc _ _
  · rw [ring, slot_miss A (slotR R C k) (slotR R C (k + 2)) (fun _ => rfl) hq (slot_disjoint R C _ _ (by omega)),
      ring, slot_miss A (slotR R C k) (slotR R C (k + 1)) (fun _ => rfl) hq (slot_disjoint R C _ _ (by omega))]
    exact slot_hit A (slotR R C k) (fun _ => rfl) hq hc _ _

/-- What is stored of a loaded slot: the chunk rounded to bfloat16. -/
abbrev rounded (hc : (SlotS R C).ShapeCasts (MatS R C)) (hc' : (MatS R C).ShapeCasts (MatS R C)) (v : Vec F (SlotS R C) .f32) : FVec F (MatS R C) .bf16 :=
  shapeCast (MatS R C) (truncf .bf16 (shapeCast (MatS R C) v hc : FVec F (MatS R C) .f32) (by decide)) hc'

/-- The stores of the first `n` chunks, the last first; chunk `k` loaded when `min (k + 3) K` copies have gone into the ring. -/
def stores (hK : 0 < K) (hN : R * K = N) (A : Memref sig' .tc .vmem (RingS R C) .f32) (hq : (SlotS R C).Squeezes (MatS R C))
    (hc : (SlotS R C).ShapeCasts (MatS R C)) (hc' : (MatS R C).ShapeCasts (MatS R C)) (ch : ℕ → (MatS R C).Idx → Elt F .f32)
    (f : A.view.ty.Contents (Elt F)) : ℕ → List (View.Piece (Elt F) (MatS N C) .bf16)
  | 0 => []
  | k + 1 => ⟨chunkR C hK hN k, rounded hc hc' (View.readAt (Elt F) A.view (slotR R C k).toLoadRect (ring A hq ch f (min (k + 3) K)))⟩
      :: stores hK hN A hq hc hc' ch f k

/-- The stores leave the rounded matrix, chunk by chunk. -/
theorem stores_read (hK : 0 < K) (hN : R * K = N) (A : Memref sig' .tc .vmem (RingS R C) .f32) (hq : (SlotS R C).Squeezes (MatS R C))
    (hc : (SlotS R C).ShapeCasts (MatS R C)) (hc' : (MatS R C).ShapeCasts (MatS R C)) (X : FVec F (MatS N C) .f32)
    (f : A.view.ty.Contents (Elt F)) (B : Memref sig' .tc .vmem (MatS N C) .bf16) (g : B.view.ty.Contents (Elt F)) (n : ℕ) (hn : n ≤ K)
    (y : (MatS N C).Idx) (hy : (y 0).val < R * n) :
    View.read (Elt F) B.view (B.view.writes (Elt F) g (stores hK hN A hq hc hc' (fun k x => X ((chunkR C hK hN k).emb x)) f n)) y
      = truncf .bf16 X (by decide) y := by
  induction n with
  | zero => omega
  | succ k ih =>
    have hk : k % K = k := Nat.mod_eq_of_lt (by omega)
    rw [stores]
    by_cases h : (y 0).val < R * k
    · rw [View.read_writes_cons_rows_of_not_mem (o := R * (k % K)) (W := R) _ _ _ _ _ y rfl rfl (Or.inl (by rw [hk]; exact h))]
      exact ih (by omega) h
    · have hlt : (y 0).val - R * k < R := by
        have : R * (k + 1) = R * k + R := Nat.mul_succ _ _
        omega
      let x : (MatS R C).Idx := fun a => match a with
        | ⟨0, _⟩ => ⟨(y 0).val - R * k, hlt⟩
        | ⟨1, _⟩ => ⟨(y 1).val, (y 1).isLt⟩
      have hx0 : (y 0).val = R * (k % K) + (x 0).val := by
        show (y 0).val = R * (k % K) + ((y 0).val - R * k); rw [hk]; omega
      refine (View.read_writes_cons_rows_of_mem (o := R * (k % K)) B.view g (chunk_inb hK hN k)
        (rounded hc hc' (View.readAt (Elt F) A.view (slotR R C k).toLoadRect (ring A hq (fun k x => X ((chunkR C hK hN k).emb x)) f (min (k + 3) K))))
        _ y x rfl hx0 rfl).trans ?_
      have hs := slot_reads A hq hc (fun k x => X ((chunkR C hK hN k).emb x)) f k (min (k + 3) K) (by omega) (by omega)
      show shapeCast (MatS R C) (truncf .bf16 (shapeCast (MatS R C) _ hc : FVec F (MatS R C) .f32) (by decide)) hc' x = _
      rw [hs, shapeCast_apply _ hc' x x rfl]
      have he : (chunkR C hK hN k).emb x = y := funext fun a => Fin.ext (by
        match a with
        | ⟨0, _⟩ => show R * (k % K) + 1 * (x 0).val = (y 0).val; omega
        | ⟨1, _⟩ => show 0 + 1 * (y 1).val = (y 1).val; omega)
      show truncf .bf16 X (by decide) ((chunkR C hK hN k).emb x) = _
      rw [he]

end Ring

/-- A load through a whole memref held at the contents that read `X` is `X` at the rectangle. -/
theorem load_unread {sig' : RefSig} {sp : Space} {s : Shape} {e : EltTy} {M : Memref sig' .tc sp s e} (h : M.IsWhole) (X : s.Idx → Elt F e) (r : Rect s) :
    View.readAt (Elt F) M.view r.toLoadRect (h.unread X) = View.ld X r := by
  funext x; exact h.readAt_unread X _ x

end Cert.Staging

end
-- ==== Proof.Blocks.lean ====
/-
  WHAT ONE GRID POINT LEAVES IN ITS OUTPUT BLOCK, at any float: the block's four tiles of 256 rows, each the same function of
  its 256 rows of `x`, the two gains and the two resident weight matrices (`tile`); and that the body's four stores read back
  as that block (`out_read`).
-/
module

public import proofs.«01_k».proof.Proof.Setup
public import proofs.«01_k».proof.Proof.Staging
public import Idealize.ShloMosaic.Lib.WholeRead
public import Idealize.ShloMosaic.Lib.Pipeline.ValueKit.Tiles

@[expose] public section

set_option maxRecDepth 16384

noncomputable section

namespace Cert.KernelIdeal.Hand

open Idealize.ShloMosaic
open Cert.KernelIdeal.Gen
open Cert.Staging

variable {F : FTy → Type} [FloatOps F]

/-- One tile from its loads: the 256 rows `v`, the two gains, and per chunk of the hidden width the gate, up and down weights. -/
def tileV (v : Vec F S256x1024 .f32) (g gf : Vec F S1x1x1024 .f32) (g0 u0 d0 g1 u1 d1 : Vec F S1024x1024 .bf16)
    (g2 u2 : Vec F S1024x768 .bf16) (d2 : Vec F S768x1024 .bf16) : FVec F S256x1024 .f32 :=
  k0_pay32 (k0_pay30 (k0_pay27 v) (k0_pay28 v g) (k0_pay29 v g g0 u0) d0 g1 u1 d1) (k0_pay31 (k0_pay28 v g) g2 u2 d2) gf

/-- One tile from the resident weights. -/
def tile (v : Vec F S256x1024 .f32) (g gf : Vec F S1x1x1024 .f32) (w7 : Vec F S1024x5632 .bf16) (w8 : Vec F S2816x1024 .bf16) :
    FVec F S256x1024 .f32 :=
  tileV v g gf
    (View.ld w7 (Rect.unit (s := S1024x5632) ![0, 0] S1024x1024.size inb_S1024x5632_S1024x1024_0_0))
    (View.ld w7 (Rect.unit (s := S1024x5632) ![0, 2816] S1024x1024.size inb_S1024x5632_S1024x1024_0_2816))
    (View.ld w8 (Rect.unit (s := S2816x1024) ![0, 0] S1024x1024.size inb_S2816x1024_S1024x1024_0_0))
    (View.ld w7 (Rect.unit (s := S1024x5632) ![0, 1024] S1024x1024.size inb_S1024x5632_S1024x1024_0_1024))
    (View.ld w7 (Rect.unit (s := S1024x5632) ![0, 3840] S1024x1024.size inb_S1024x5632_S1024x1024_0_3840))
    (View.ld w8 (Rect.unit (s := S2816x1024) ![1024, 0] S1024x1024.size inb_S2816x1024_S1024x1024_1024_0))
    (View.ld w7 (Rect.unit (s := S1024x5632) ![0, 2048] S1024x768.size inb_S1024x5632_S1024x768_0_2048))
    (View.ld w7 (Rect.unit (s := S1024x5632) ![0, 4864] S1024x768.size inb_S1024x5632_S1024x768_0_4864))
    (View.ld w8 (Rect.unit (s := S2816x1024) ![2048, 0] S768x1024.size inb_S2816x1024_S768x1024_2048_0))

/-- The 256 rows of a block that hold row `n`. -/
def rowsAt (x : Vec F S1024x1024 .f32) (n : Fin 1024) : Vec F S256x1024 .f32 := fun j =>
  x (fun a => match a with
    | ⟨0, _⟩ => ⟨256 * (n.val / 256) + (j 0).val, by have := (j 0).isLt; have h : (j 0).val < 256 := this; have := n.isLt; show _ < 1024; omega⟩
    | ⟨1, _⟩ => ⟨(j 1).val, (j 1).isLt⟩)

/-- A block index within its tile. -/
def inTile (y : S1024x1024.Idx) : S256x1024.Idx := fun a => match a with
  | ⟨0, _⟩ => ⟨(y 0).val % 256, by show _ < 256; omega⟩
  | ⟨1, _⟩ => ⟨(y 1).val, (y 1).isLt⟩

/-- The output block. -/
def outBlk (x0 : Vec F S1024x1024 .f32) (x1 x2 : Vec F S1x1x1024 .f32) (w7 : Vec F S1024x5632 .bf16) (w8 : Vec F S2816x1024 .bf16) :
    Vec F S1024x1024 .f32 := fun y => tile (rowsAt x0 (y 0)) x1 x2 w7 w8 (inTile y)

section Reads
variable {arg1 : Memref sig .tc .vmem S1024x1024 .f32} (harg1 : arg1.IsWhole) {arg2 : Memref sig .tc .vmem S1x1x1024 .f32} (harg2 : arg2.IsWhole)
  {arg5 : Memref sig .tc .vmem S1x1x1024 .f32} (harg5 : arg5.IsWhole) {arg6 : Memref sig .tc .vmem S1024x1024 .f32} (harg6 : arg6.IsWhole)
  {arg7 : Memref sig .tc .vmem S1024x5632 .bf16} (harg7 : arg7.IsWhole) {arg8 : Memref sig .tc .vmem S2816x1024 .bf16} (harg8 : arg8.IsWhole)
  (x0 : Vec F S1024x1024 .f32) (x1 x2 : Vec F S1x1x1024 .f32) (w7 : Vec F S1024x5632 .bf16) (w8 : Vec F S2816x1024 .bf16)

/-- One tile as the body computes it from its loads, the rows those at `r`. -/
def tileL (r : Rect S1024x1024) (hr : r.shape = S256x1024) : FVec F S256x1024 .f32 :=
  tileV (hr ▸ View.readAt (Elt F) arg1.view r.toLoadRect (harg1.unread x0))
    (View.readAt (Elt F) arg2.view (Rect.unit (s := S1x1x1024) ![0, 0, 0] S1x1x1024.size inb_S1x1x1024_S1x1x1024_0_0_0).toLoadRect (harg2.unread x1))
    (View.readAt (Elt F) arg5.view (Rect.unit (s := S1x1x1024) ![0, 0, 0] S1x1x1024.size inb_S1x1x1024_S1x1x1024_0_0_0).toLoadRect (harg5.unread x2))
    (View.readAt (Elt F) arg7.view (Rect.unit (s := S1024x5632) ![0, 0] S1024x1024.size inb_S1024x5632_S1024x1024_0_0).toLoadRect (harg7.unread w7))
    (View.readAt (Elt F) arg7.view (Rect.unit (s := S1024x5632) ![0, 2816] S1024x1024.size inb_S1024x5632_S1024x1024_0_2816).toLoadRect (harg7.unread w7))
    (View.readAt (Elt F) arg8.view (Rect.unit (s := S2816x1024) ![0, 0] S1024x1024.size inb_S2816x1024_S1024x1024_0_0).toLoadRect (harg8.unread w8))
    (View.readAt (Elt F) arg7.view (Rect.unit (s := S1024x5632) ![0, 1024] S1024x1024.size inb_S1024x5632_S1024x1024_0_1024).toLoadRect (harg7.unread w7))
    (View.readAt (Elt F) arg7.view (Rect.unit (s := S1024x5632) ![0, 3840] S1024x1024.size inb_S1024x5632_S1024x1024_0_3840).toLoadRect (harg7.unread w7))
    (View.readAt (Elt F) arg8.view (Rect.unit (s := S2816x1024) ![1024, 0] S1024x1024.size inb_S2816x1024_S1024x1024_1024_0).toLoadRect (harg8.unread w8))
    (View.readAt (Elt F) arg7.view (Rect.unit (s := S1024x5632) ![0, 2048] S1024x768.size inb_S1024x5632_S1024x768_0_2048).toLoadRect (harg7.unread w7))
    (View.readAt (Elt F) arg7.view (Rect.unit (s := S1024x5632) ![0, 4864] S1024x768.size inb_S1024x5632_S1024x768_0_4864).toLoadRect (harg7.unread w7))
    (View.readAt (Elt F) arg8.view (Rect.unit (s := S2816x1024) ![2048, 0] S768x1024.size inb_S2816x1024_S768x1024_2048_0).toLoadRect (harg8.unread w8))

theorem whole_gain (X : Vec F S1x1x1024 .f32) : View.ld X (Rect.unit (s := S1x1x1024) ![0, 0, 0] S1x1x1024.size inb_S1x1x1024_S1x1x1024_0_0_0) = X := by
  funext x
  exact View.ld_unit_apply_of X _ _ _ x x fun a => by
    match a with
    | ⟨0, _⟩ => show _ = 0 + _; omega
    | ⟨1, _⟩ => show _ = 0 + _; omega
    | ⟨2, _⟩ => show _ = 0 + _; omega

theorem tileL_eq (o : ℕ) (inb : ∀ a : Fin 2, (![o, 0] : Fin 2 → ℕ) a + S256x1024.size a ≤ S1024x1024.size a) :
    tileL harg1 harg2 harg5 harg7 harg8 x0 x1 x2 w7 w8 (Rect.unit (s := S1024x1024) ![o, 0] S256x1024.size inb) rfl
      = tile (View.ld x0 (Rect.unit (s := S1024x1024) ![o, 0] S256x1024.size inb)) x1 x2 w7 w8 := by
  unfold tileL tile
  congr 1
  all_goals first
    | exact load_unread _ _ _
    | exact (load_unread _ _ _).trans (whole_gain _)

/-- A piece of the block at rows `256*k …` has the block's value where it holds an index. -/
theorem tile_at (k : ℕ) (hk : k < 4) (inb : ∀ a : Fin 2, (![256 * k, 0] : Fin 2 → ℕ) a + S256x1024.size a ≤ S1024x1024.size a) (y : S1024x1024.Idx)
    (x : S256x1024.Idx) (h0 : (y 0).val = 256 * k + (x 0).val) (h1 : (y 1).val = (x 1).val) :
    tile (View.ld x0 (Rect.unit (s := S1024x1024) ![256 * k, 0] S256x1024.size inb)) x1 x2 w7 w8 x = outBlk x0 x1 x2 w7 w8 y := by
  have hx : (x 0).val < 256 := (x 0).isLt
  have e1 : inTile y = x := funext fun a => Fin.ext (by
    match a with
    | ⟨0, _⟩ => show (y 0).val % 256 = (x 0).val; omega
    | ⟨1, _⟩ => exact h1)
  have e2 : View.ld x0 (Rect.unit (s := S1024x1024) ![256 * k, 0] S256x1024.size inb) = rowsAt x0 (y 0) := by
    funext j
    refine View.ld_unit_apply_of x0 _ _ _ j _ fun a => ?_
    match a with
    | ⟨0, _⟩ => show 256 * ((y 0).val / 256) + (j 0).val = 256 * k + (j 0).val; omega
    | ⟨1, _⟩ => show (j 1).val = 0 + (j 1).val; omega
  rw [outBlk, e1, e2]

/-- Four stores of 256 rows each, the last first, read back: a block whose value at every index is the payload's that holds it. -/
theorem four_tiles (f : arg6.view.ty.Contents (Elt F)) (P : Fin 4 → Vec F S256x1024 .f32) (v : Vec F S1024x1024 .f32)
    (h : ∀ (k : Fin 4) (y : S1024x1024.Idx) (x : S256x1024.Idx), (y 0).val = 256 * k.val + (x 0).val → (y 1).val = (x 1).val → P k x = v y) :
    View.read (Elt F) arg6.view (arg6.view.writes (Elt F) f
      [⟨Rect.unit (s := S1024x1024) ![768, 0] S256x1024.size inb_S1024x1024_S256x1024_768_0, P 3⟩,
        ⟨Rect.unit (s := S1024x1024) ![512, 0] S256x1024.size inb_S1024x1024_S256x1024_512_0, P 2⟩,
        ⟨Rect.unit (s := S1024x1024) ![256, 0] S256x1024.size inb_S1024x1024_S256x1024_256_0, P 1⟩,
        ⟨Rect.unit (s := S1024x1024) ![0, 0] S256x1024.size inb_S1024x1024_S256x1024_0_0, P 0⟩]) = v := by
  rw [View.read_writes_eq_canon _ _ _ (View.cover_of_tiled_head _ _ _ (by rfl))]
  funext y
  canon_tiles x h'
  · exact h 3 y x h'0 h'1
  · exact h 2 y x h'0 h'1
  · exact h 1 y x h'0 h'1
  · exact h 0 y x (by omega) h'1

/-- The body's four stores read back: the output block. -/
theorem out_read (f : arg6.view.ty.Contents (Elt F)) :
    View.read (Elt F) arg6.view (arg6.view.writes (Elt F) f
      [⟨Rect.unit (s := S1024x1024) ![768, 0] S256x1024.size inb_S1024x1024_S256x1024_768_0,
          tileL harg1 harg2 harg5 harg7 harg8 x0 x1 x2 w7 w8 (Rect.unit (s := S1024x1024) ![768, 0] S256x1024.size inb_S1024x1024_S256x1024_768_0) rfl⟩,
        ⟨Rect.unit (s := S1024x1024) ![512, 0] S256x1024.size inb_S1024x1024_S256x1024_512_0,
          tileL harg1 harg2 harg5 harg7 harg8 x0 x1 x2 w7 w8 (Rect.unit (s := S1024x1024) ![512, 0] S256x1024.size inb_S1024x1024_S256x1024_512_0) rfl⟩,
        ⟨Rect.unit (s := S1024x1024) ![256, 0] S256x1024.size inb_S1024x1024_S256x1024_256_0,
          tileL harg1 harg2 harg5 harg7 harg8 x0 x1 x2 w7 w8 (Rect.unit (s := S1024x1024) ![256, 0] S256x1024.size inb_S1024x1024_S256x1024_256_0) rfl⟩,
        ⟨Rect.unit (s := S1024x1024) ![0, 0] S256x1024.size inb_S1024x1024_S256x1024_0_0,
          tileL harg1 harg2 harg5 harg7 harg8 x0 x1 x2 w7 w8 (Rect.unit (s := S1024x1024) ![0, 0] S256x1024.size inb_S1024x1024_S256x1024_0_0) rfl⟩])
      = outBlk x0 x1 x2 w7 w8 := by
  rw [tileL_eq, tileL_eq, tileL_eq, tileL_eq]
  refine four_tiles (arg6 := arg6) f (fun k => match k with
    | 0 => tile (View.ld x0 (Rect.unit (s := S1024x1024) ![256 * 0, 0] S256x1024.size inb_S1024x1024_S256x1024_0_0)) x1 x2 w7 w8
    | 1 => tile (View.ld x0 (Rect.unit (s := S1024x1024) ![256 * 1, 0] S256x1024.size inb_S1024x1024_S256x1024_256_0)) x1 x2 w7 w8
    | 2 => tile (View.ld x0 (Rect.unit (s := S1024x1024) ![256 * 2, 0] S256x1024.size inb_S1024x1024_S256x1024_512_0)) x1 x2 w7 w8
    | 3 => tile (View.ld x0 (Rect.unit (s := S1024x1024) ![256 * 3, 0] S256x1024.size inb_S1024x1024_S256x1024_768_0)) x1 x2 w7 w8)
    _ (fun k y x h0 h1 => ?_)
  match k with
  | 0 => exact tile_at x0 x1 x2 w7 w8 0 (by decide) _ y x h0 h1
  | 1 => exact tile_at x0 x1 x2 w7 w8 1 (by decide) _ y x h0 h1
  | 2 => exact tile_at x0 x1 x2 w7 w8 2 (by decide) _ y x h0 h1
  | 3 => exact tile_at x0 x1 x2 w7 w8 3 (by decide) _ y x h0 h1

end Reads

end Cert.KernelIdeal.Hand

end
-- ==== Proof.RunB.lean ====
/-
  THE BODY'S TRIPLES. At every point after the first the body finds the rounded weights resident and leaves the output block
  (`runB`); at the first point it stages them from HBM, then does the same (`runA`).
-/
module

public import proofs.«01_k».proof.Proof.Blocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Staging

variable {F : FTy → Type} [FloatOps F]

local notation "𝕄" => MT nD τ sig Unit (Elt F) ℕ (Pipeline.UD sig nD τ) ℕ

/-- The two weight matrices of layer 1 as HBM holds them, read through the views the copies read through. -/
def guF (c : Dev nD) (fh : HbBuf0 (F := F) c hbM0_0) : FVec F S1024x5632 .f32 :=
  View.read (Elt F) ((hbM0_0.slice (Rect.unit (s := S2x1024x5632) ![1, 0, 0] S1x1024x5632.size inb_S2x1024x5632_S1x1024x5632_1_0_0) (fun _ => rfl)).squeeze
    S1024x5632 squeezes_S1x1024x5632_S1024x5632).view fh
def downF (c : Dev nD) (fh : HbBuf0 (F := F) c hbM0_1) : FVec F S2816x1024 .f32 :=
  View.read (Elt F) ((hbM0_1.slice (Rect.unit (s := S2x2816x1024) ![1, 0, 0] S1x2816x1024.size inb_S2x2816x1024_S1x2816x1024_1_0_0) (fun _ => rfl)).squeeze
    S2816x1024 squeezes_S1x2816x1024_S2816x1024).view fh

/-- The resident weights: rounded to bfloat16. -/
def guB (c : Dev nD) (fh : HbBuf0 (F := F) c hbM0_0) : FVec F S1024x5632 .bf16 := truncf .bf16 (guF c fh) bitsLt_bf16_f32
def downB (c : Dev nD) (fh : HbBuf0 (F := F) c hbM0_1) : FVec F S2816x1024 .bf16 := truncf .bf16 (downF c fh) bitsLt_bf16_f32

theorem gu_staged (c : Dev nD) (A : Memref sig .tc .vmem S3x64x5632 .f32) (f : A.view.ty.Contents (Elt F)) (fh : HbBuf0 (F := F) c hbM0_0)
    (B : Memref sig .tc .vmem S1024x5632 .bf16) (g : B.view.ty.Contents (Elt F)) :
    View.read (Elt F) B.view (B.view.writes (Elt F) g (stores (R := 64) (C := 5632) (K := 16) (N := 1024) (by decide) rfl A squeezes_S1x64x5632_S64x5632
      shapeCasts_S1x64x5632_S64x5632 shapeCasts_S64x5632_S64x5632
      (fun k x => guF c fh ((chunkR (R := 64) 5632 (K := 16) (N := 1024) (by decide) rfl k).emb x)) f 16)) = guB c fh := by
  funext y
  exact stores_read (R := 64) (C := 5632) (K := 16) (N := 1024) (by decide) rfl A _ _ _ (guF c fh) f B g 16 (by decide) y (y 0).isLt

theorem down_staged (c : Dev nD) (A : Memref sig .tc .vmem S3x352x1024 .f32) (f : A.view.ty.Contents (Elt F)) (fh : HbBuf0 (F := F) c hbM0_1)
    (B : Memref sig .tc .vmem S2816x1024 .bf16) (g : B.view.ty.Contents (Elt F)) :
    View.read (Elt F) B.view (B.view.writes (Elt F) g (stores (R := 352) (C := 1024) (K := 8) (N := 2816) (by decide) rfl A squeezes_S1x352x1024_S352x1024
      shapeCasts_S1x352x1024_S352x1024 shapeCasts_S352x1024_S352x1024
      (fun k x => downF c fh ((chunkR (R := 352) 1024 (K := 8) (N := 2816) (by decide) rfl k).emb x)) f 8)) = downB c fh := by
  funext y
  exact stores_read (R := 352) (C := 1024) (K := 8) (N := 2816) (by decide) rfl A _ _ _ (downF c fh) f B g 8 (by decide) y (y 0).isLt

theorem gu_landed {B : Memref sig .tc .vmem S1024x5632 .bf16} (hB : B.IsWhole) (c : Dev nD) (A : Memref sig .tc .vmem S3x64x5632 .f32) (f : A.view.ty.Contents (Elt F)) (fh : HbBuf0 (F := F) c hbM0_0)
    (g : B.view.ty.Contents (Elt F)) :
    B.view.writes (Elt F) g (stores (R := 64) (C := 5632) (K := 16) (N := 1024) (by decide) rfl A squeezes_S1x64x5632_S64x5632
      shapeCasts_S1x64x5632_S64x5632 shapeCasts_S64x5632_S64x5632
      (fun k x => guF c fh ((chunkR (R := 64) 5632 (K := 16) (N := 1024) (by decide) rfl k).emb x)) f 16) = hB.unread (guB c fh) :=
  hB.eq_unread (gu_staged c A f fh B g)

theorem down_landed {B : Memref sig .tc .vmem S2816x1024 .bf16} (hB : B.IsWhole) (c : Dev nD) (A : Memref sig .tc .vmem S3x352x1024 .f32) (f : A.view.ty.Contents (Elt F)) (fh : HbBuf0 (F := F) c hbM0_1)
    (g : B.view.ty.Contents (Elt F)) :
    B.view.writes (Elt F) g (stores (R := 352) (C := 1024) (K := 8) (N := 2816) (by decide) rfl A squeezes_S1x352x1024_S352x1024
      shapeCasts_S1x352x1024_S352x1024 shapeCasts_S352x1024_S352x1024
      (fun k x => downF c fh ((chunkR (R := 352) 1024 (K := 8) (N := 2816) (by decide) rfl k).emb x)) f 8) = hB.unread (downB c fh) :=
  hB.eq_unread (down_staged c A f fh B g)

set_option maxHeartbeats 2552000 in set_option sl_exec.dmaWindow true in set_option sl_exec.dmaWindowSet true in
/-- The body's triple at a point after the first: the output block computed from the resident weights `w7`, `w8`, which stay. -/
theorem runB (c : Dev nD) (i : grid0.Coords) (arg1 : Memref sig .tc .vmem S1024x1024 .f32) (harg1 : arg1.IsWhole) (arg2 : Memref sig .tc .vmem S1x1x1024 .f32) (harg2 : arg2.IsWhole) (arg5 : Memref sig .tc .vmem S1x1x1024 .f32) (harg5 : arg5.IsWhole) (arg6 : Memref sig .tc .vmem S1024x1024 .f32) (harg6 : arg6.IsWhole) (arg7 : Memref sig .tc .vmem S1024x5632 .bf16) (harg7 : arg7.IsWhole) (arg8 : Memref sig .tc .vmem S2816x1024 .bf16) (harg8 : arg8.IsWhole) (alloca_r0 : Memref sig .tc .vmem S3x64x5632 .f32) (halloca_r0 : alloca_r0.IsWhole) (alloca_r1 : Memref sig .tc .vmem S3x352x1024 .f32) (halloca_r1 : alloca_r1.IsWhole) (hc0 : ¬cond0_0 i)
    (x0 : Vec F S1024x1024 .f32) (x1 x2 : Vec F S1x1x1024 .f32) (w7 : Vec F S1024x5632 .bf16) (w8 : Vec F S2816x1024 .bf16) (fh0 : HbBuf0 (F := F) c hbM0_0) (fh1 : HbBuf0 (F := F) c hbM0_1)
    (W : Waits sig Unit) (K : PUnit → sProp 𝕄) :
    iprop(owns (c : Thread nD τ) arg1 fullShare x0 ∗ owns (c : Thread nD τ) arg2 fullShare x1 ∗ owns (c : Thread nD τ) arg5 fullShare x2 ∗ (∃ d, owns (c : Thread nD τ) arg6 fullShare d) ∗ owns (c : Thread nD τ) arg7 fullShare w7 ∗ owns (c : Thread nD τ) arg8 fullShare w8 ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
        ∗ (iprop(owns (c : Thread nD τ) arg1 fullShare x0 ∗ owns (c : Thread nD τ) arg2 fullShare x1 ∗ owns (c : Thread nD τ) arg5 fullShare x2 ∗ owns (c : Thread nD τ) arg6 fullShare (outBlk x0 x1 x2 w7 w8) ∗ owns (c : Thread nD τ) arg7 fullShare w7 ∗ owns (c : Thread nD τ) arg8 fullShare w8 ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ (cc0_swiglu_final i arg1 harg1 arg2 harg2 (Memref.whole main_arg2) (Memref.isWhole_whole _) (Memref.whole main_arg3) (Memref.isWhole_whole _) arg5 harg5 arg6 harg6 arg7 harg7 arg8 harg8 alloca_r0 halloca_r0 cc0_scoped1 alloca_r1 halloca_r1 cc0_scoped3) K := by
  simp only [cc0_swiglu_final_eq_skeleton]; unfold cc0_swiglu_final_skel
  simp only [k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%d3, %f3, -, H3⟩, ⟨%f7, %hf7, HS0⟩, ⟨%f8, %hf8, HS1⟩, ⟨%ds2, %fs2, -, HS2⟩, ⟨%ds3, %fs3, -, HS3⟩, Hq0, Hq1, Hq2, Hq3, Hq4, Hq5, Hh0, Hh1, HW, Hk⟩
  obtain rfl := harg1.eq_unread hf0; obtain rfl := harg2.eq_unread hf1; obtain rfl := harg5.eq_unread hf2
  obtain rfl := harg7.eq_unread hf7; obtain rfl := harg8.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg5.read_unread _
    iexact H2
  isplitl [H3]
  · iexists _; isplitr; swap; · iexact H3
    ipureintro; exact out_read harg1 harg2 harg5 harg7 harg8 x0 x1 x2 _ _ f3
  isplitl [HS0]
  · iexists _; isplitr; · ipureintro; exact harg7.read_unread _
    iexact HS0
  isplitl [HS1]
  · iexists _; isplitr; · ipureintro; exact harg8.read_unread _
    iexact HS1
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  iexists _; iexact HW

end Cert.KernelIdeal.Hand

end
-- ==== Proof.RunA.lean ====
/-
  THE BODY AT THE FIRST POINT. The weights are copied from HBM through the two rings into the scratch buffers, rounded on the
  way, every copy's wait matched with its start; then the point's output block is computed from them.
-/
module

public import proofs.«01_k».proof.Proof.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Staging

variable {F : FTy → Type} [FloatOps F]

local notation "𝕄" => MT nD τ sig Unit (Elt F) ℕ (Pipeline.UD sig nD τ) ℕ

set_option maxHeartbeats 2552000 in set_option sl_exec.dmaWindow true in set_option sl_exec.dmaWindowSet true in
/-- The body's triple at the first point: the weights staged from HBM, then the output block computed from them. -/
theorem runA (c : Dev nD) (i : grid0.Coords) (arg1 : Memref sig .tc .vmem S1024x1024 .f32) (harg1 : arg1.IsWhole) (arg2 : Memref sig .tc .vmem S1x1x1024 .f32) (harg2 : arg2.IsWhole) (arg5 : Memref sig .tc .vmem S1x1x1024 .f32) (harg5 : arg5.IsWhole) (arg6 : Memref sig .tc .vmem S1024x1024 .f32) (harg6 : arg6.IsWhole) (arg7 : Memref sig .tc .vmem S1024x5632 .bf16) (harg7 : arg7.IsWhole) (arg8 : Memref sig .tc .vmem S2816x1024 .bf16) (harg8 : arg8.IsWhole) (alloca_r0 : Memref sig .tc .vmem S3x64x5632 .f32) (halloca_r0 : alloca_r0.IsWhole) (alloca_r1 : Memref sig .tc .vmem S3x352x1024 .f32) (halloca_r1 : alloca_r1.IsWhole) (hc0 : cond0_0 i)
    (x0 : Vec F S1024x1024 .f32) (x1 x2 : Vec F S1x1x1024 .f32) (fh0 : HbBuf0 (F := F) c hbM0_0) (fh1 : HbBuf0 (F := F) c hbM0_1)
    (W : Waits sig Unit) (K : PUnit → sProp 𝕄) :
    iprop(owns (c : Thread nD τ) arg1 fullShare x0 ∗ owns (c : Thread nD τ) arg2 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ owes (c : Thread nD τ) 0 W
        ∗ (iprop(owns (c : Thread nD τ) arg1 fullShare x0 ∗ owns (c : Thread nD τ) arg2 fullShare x1 ∗ owns (c : Thread nD τ) arg5 fullShare x2 ∗ owns (c : Thread nD τ) arg6 fullShare (outBlk x0 x1 x2 (guB c fh0) (downB c fh1)) ∗ owns (c : Thread nD τ) arg7 fullShare (guB c fh0) ∗ owns (c : Thread nD τ) arg8 fullShare (downB c fh1) ∗ (∃ d, owns (c : Thread nD τ) alloca_r0 fullShare d) ∗ (∃ d, owns (c : Thread nD τ) alloca_r1 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ (cc0_swiglu_final i arg1 harg1 arg2 harg2 (Memref.whole main_arg2) (Memref.isWhole_whole _) (Memref.whole main_arg3) (Memref.isWhole_whole _) arg5 harg5 arg6 harg6 arg7 harg7 arg8 harg8 alloca_r0 halloca_r0 cc0_scoped1 alloca_r1 halloca_r1 cc0_scoped3) K := by
  simp only [cc0_swiglu_final_eq_skeleton]; unfold cc0_swiglu_final_skel
  simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%d3, %f3, -, H3⟩, ⟨%d7, %f7, -, HS0⟩, ⟨%d8, %f8, -, HS1⟩, ⟨%ds2, %fs2, -, HS2⟩, ⟨%ds3, %fs3, -, HS3⟩, Hq0, Hq1, Hq2, Hq3, Hq4, Hq5, Hh0, Hh1, HW, Hk⟩
  obtain rfl := harg1.eq_unread hf0; obtain rfl := harg2.eq_unread hf1; obtain rfl := harg5.eq_unread hf2
  unfold k0_part18_skel
  rw [wp_bind]
  extract_lets a0 v0 v1 v2 jp
  obtain ⟨j, hjp⟩ : ∃ j, jp = j := ⟨_, rfl⟩
  rw [hjp]
  sl_exec (disch := first | sl_exact hc0)
  ihave HS0 : (View.loc (c : Thread nD τ) arg7.view ↦[arg7.view.set]{fullShare} harg7.unread (guB c fh0)) $$ [HS0]
  · istop
    refine Entails.of_eq (congrArg (fun f => (View.loc (c : Thread nD τ) arg7.view ↦[arg7.view.set]{fullShare} f : sProp 𝕄)) ?_)
    exact gu_landed harg7 c alloca_r0 fs2 fh0 f7
  ihave HS1 : (View.loc (c : Thread nD τ) arg8.view ↦[arg8.view.set]{fullShare} harg8.unread (downB c fh1)) $$ [HS1]
  · istop
    refine Entails.of_eq (congrArg (fun f => (View.loc (c : Thread nD τ) arg8.view ↦[arg8.view.set]{fullShare} f : sProp 𝕄)) ?_)
    exact down_landed harg8 c alloca_r1 fs3 fh1 f8
  subst hjp
  simp only [jp]
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg5.read_unread _
    iexact H2
  isplitl [H3]
  · iexists _; isplitr; swap; · iexact H3
    ipureintro; exact out_read harg1 harg2 harg5 harg7 harg8 x0 x1 x2 _ _ f3
  isplitl [HS0]
  · iexists _; isplitr; · ipureintro; exact harg7.read_unread _
    iexact HS0
  isplitl [HS1]
  · iexists _; isplitr; · ipureintro; exact harg8.read_unread _
    iexact HS1
  isplitl [HS2]
  · iexists _, _; isplitr; swap; · iexact HS2
    ipureintro; rfl
  isplitl [HS3]
  · iexists _, _; isplitr; swap; · iexact HS3
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  iexists _; iexact HW

end Cert.KernelIdeal.Hand

end
-- ==== Proof.Launch.lean ====
/-
  THE LAUNCH. What the scratch holds between grid points (nothing known before the first, the rounded weights after it), the
  proof data of the pipeline, the body's obligation at every point, and the run of the whole program: it terminates, the
  arguments stay, the counters end at zero, and the result array ends at what the points wrote (`run_main`).
-/
module

public import proofs.«01_k».proof.Proof.RunA
public import Idealize.ShloMosaic.Lib.Claim
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two weight scratch buffers before point `n`: at anything before the first, at the rounded weights after. -/
def held (c : Dev nD) : ℕ → sProp 𝕄
  | 0 => iprop((∃ d, owns (c : Thread nD τ) scM0_0 fullShare d) ∗ (∃ d, owns (c : Thread nD τ) scM0_1 fullShare d))
  | _ + 1 => iprop(owns (c : Thread nD τ) scM0_0 fullShare (guB c (V m c main_arg2)) ∗ owns (c : Thread nD τ) scM0_1 fullShare (downB c (V m c main_arg3)))

/-- The rest of the invariant: the rings, the generator register, the copies' semaphores at zero, the weights in HBM. -/
def others (c : Dev nD) : sProp 𝕄 :=
  iprop((∃ d, owns (c : Thread nD τ) scM0_2 fullShare d) ∗ (∃ d, owns (c : Thread nD τ) scM0_3 fullShare d) ∗ (∃ r, prngReg c r)
    ∗ semVal ((c : Thread nD τ), SemLoc.dma 6) 0 ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0 ∗ semVal ((c : Thread nD τ), SemLoc.dma 11) 0
    ∗ hbPt0 c hbM0_0 (V m c main_arg2) ∗ hbPt0 c hbM0_1 (V m c main_arg3))

/-- The output block of point `t`. -/
def outAt (c : Dev nD) (t : Fin cfg0.N) : Vec F S1024x1024 .f32 :=
  outBlk (iblk m c 0 t) (iblk m c 1 t) (iblk m c 2 t) (guB c (V m c main_arg2)) (downB c (V m c main_arg3))

/-- The proof data: inputs keep their blocks, the output window gets `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := iprop(held m c t.val ∗ others m c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point, by the two triples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3,
    show (dats m 0 c).Φ t.castSucc = iprop(held m c t.val ∗ others m c) from rfl,
    show (dats m 0 c).Φ t.succ = iprop(held m c (t.val + 1) ∗ others m c) from rfl]
  unfold Dat.owesAt Pipeline.owesWithin others
  rw [show (dats m 0 c).owed t.castSucc = 0 from rfl, show (dats m 0 c).owed t.succ = 0 from rfl]
  have hN : t.val < 16 := lt_of_lt_of_eq t.isLt (show cfg0.N = 16 from N_0)
  rw [show held m c (t.val + 1) = iprop(owns (c : Thread nD τ) scM0_0 fullShare (guB c (V m c main_arg2)) ∗ owns (c : Thread nD τ) scM0_1 fullShare (downB c (V m c main_arg3))) from rfl]
  by_cases h0 : t.val % 16 = 0
  · rw [show t.val = 0 from by omega]
    unfold held
    iintro ⟨⟨⟨HS0, HS1⟩, HS2, HS3, Hg, Hq0, Hq1, Hq2, Hq3, Hq4, Hq5, Hh0, Hh1⟩, ⟨%W, -, HW⟩, ⟨%d0, H0⟩, ⟨%d1, H1⟩, ⟨%d2, H2⟩, ⟨%d3, H3⟩⟩
    iapply (runA c (grid0.coords t) _ _ _ _ _ _ _ _ _ _ _ _ _ _ _ _ ((hcond0_0 t).mpr h0) (iblk m c 0 t) (iblk m c 1 t) (iblk m c 2 t) (V m c main_arg2) (V m c main_arg3) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, HS0, HS1, HS2, HS3, Hq0, Hq1, Hq2, Hq3, Hq4, Hq5, Hh0, Hh1, ⟨%W', HW'⟩⟩
    isplitl [HS0 HS1 HS2 HS3 Hg Hq0 Hq1 Hq2 Hq3 Hq4 Hq5 Hh0 Hh1]
    · isplitl [HS0 HS1]
      · isplitl [HS0]; · iexact HS0
        iexact HS1
      isplitl [HS2]; · iexact HS2
      isplitl [HS3]; · iexact HS3
      isplitl [Hg]; · iexact Hg
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · obtain ⟨n, hn⟩ : ∃ n, t.val = n + 1 := ⟨t.val - 1, by omega⟩
    rw [hn]; unfold held
    iintro ⟨⟨⟨HS0, HS1⟩, HS2, HS3, Hg, Hq0, Hq1, Hq2, Hq3, Hq4, Hq5, Hh0, Hh1⟩, ⟨%W, -, HW⟩, ⟨%d0, H0⟩, ⟨%d1, H1⟩, ⟨%d2, H2⟩, ⟨%d3, H3⟩⟩
    iapply (runB c (grid0.coords t) _ _ _ _ _ _ _ _ _ _ _ _ _ _ _ _ (fun h => h0 ((hcond0_0 t).mp h)) (iblk m c 0 t) (iblk m c 1 t) (iblk m c 2 t) (guB c (V m c main_arg2)) (downB c (V m c main_arg3)) (V m c main_arg2) (V m c main_arg3) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, HS0, HS1, HS2, HS3, Hq0, Hq1, Hq2, Hq3, Hq4, Hq5, Hh0, Hh1, ⟨%W', HW'⟩⟩
    isplitl [HS0 HS1 HS2 HS3 Hg Hq0 Hq1 Hq2 Hq3 Hq4 Hq5 Hh0 Hh1]
    · isplitl [HS0 HS1]
      · isplitl [HS0]; · iexact HS0
        iexact HS1
      isplitl [HS2]; · iexact HS2
      isplitl [HS3]; · iexact HS3
      isplitl [Hg]; · iexact Hg
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point, -/
theorem Phi_in (c : Dev nD) : (Pipeline.ΦD osem0 spec0 H0 (V m) c : sProp 𝕄) ⊢ (dats m 0 c).Φ 0 := by
  rw [PhiD0_eq, show (dats m 0 c).Φ 0 = iprop(held m c 0 ∗ others m c) from rfl]
  unfold held others
  iintro ⟨⟨HS0, HS1, HS2, HS3⟩, Hg, ⟨Hq0, Hq1, Hq2, Hq3, Hq4, Hq5⟩, ⟨Hh0, Hh1⟩⟩
  isplitl [HS0 HS1]
  · isplitl [HS0]; · iexact HS0
    iexact HS1
  isplitl [HS2]; · iexact HS2
  isplitl [HS3]; · iexact HS3
  isplitl [Hg]; · iexact Hg
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  iexact Hh1

/-- and takes it back after the last, the scratch at whatever it holds. -/
theorem Phi_out (c : Dev nD) : (dats m 0 c).Φ (Fin.last cfg0.N) ⊢ (Pipeline.ΦD osem0 spec0 H0 (V m) c : sProp 𝕄) := by
  rw [PhiD0_eq, show (dats m 0 c).Φ (Fin.last cfg0.N) = iprop(held m c (15 + 1) ∗ others m c) from rfl]
  unfold held others
  iintro ⟨⟨HS0, HS1⟩, HS2, HS3, Hg, Hq0, Hq1, Hq2, Hq3, Hq4, Hq5, Hh0, Hh1⟩
  isplitl [HS0 HS1 HS2 HS3]
  · isplitl [HS0]; · iexists _; iexact HS0
    isplitl [HS1]; · iexists _; iexact HS1
    isplitl [HS2]; · iexact HS2
    iexact HS3
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

set_option backward.isDefEq.respectTransparency.types false in
/-- The run: every array at what the points wrote, every other buffer as the region found it, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- What the final state keeps: the five arguments. -/
def kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

theorem kept_of {r : PUnit × MemSt nD τ sig (Elt F)} (h : Pipeline.FramePost cfgs (dats m) 0 (V m) r) (c : Dev nD) : kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame claim. -/
theorem frame_run : θ_run defs (onTc (τ := τ) (main (F := F))) ⟨m, fun _ => 0, ρ⟩ (fun r => (∀ c : Dev nD, kept m r c) ∧ r.2.sem = fun _ => 0) :=
  (θ_run defs _ _).mono (fun _ h => ⟨fun c => kept_of m h.1 c, h.2⟩) (run_main m ρ)

/-- The run with the result array named. -/
theorem value_run : θ_run defs (onTc (τ := τ) (main (F := F))) ⟨m, fun _ => 0, ρ⟩
    (fun r => ∀ c : Dev nD, r.2.mem ((c.tc : Thread nD τ).loc main_v3) = (dats m 0 c).arrAt 3 cfg0.N ∧ kept m r c) :=
  (θ_run defs _ _).mono (fun _ h c => ⟨(h.1 c).1 3, kept_of m h.1 c⟩) (run_main m ρ)

end Cert.KernelIdeal.Hand

end
-- ==== Proof.RowSpec.lean ====
/-
  THE LAYER, ROW BY ROW. What the gated feed-forward block followed by the final normalisation makes of one row of 1024
  numbers, over the extended reals: the row is divided by its root mean square, multiplied by the gate and up matrices
  (the two halves of one matrix), gated by the logistic function, multiplied by the down matrix, added to the row it started
  from, and the sum is normalised once more.
-/
module

public import Idealize.ShloMosaic.Lib.Pointwise
public import Idealize.ShloMosaic.Lib.Pointwise.Sums

@[expose] public section

noncomputable section

namespace Cert.RowSpec

open Idealize.ShloMosaic

/-- The root-mean-square normalisation of the row `x` with gain `g`: `x · rsqrt (mean x² + ε) · g`. -/
def norm (x g : Fin 1024 → EReal) (k : Fin 1024) : EReal :=
  x k * Ideal.rsqrt (Ideal.div (∑ j, x j * x j) (Ideal.ofBits FTy.f32 1149239296#32) + Ideal.ofBits FTy.f32 897988541#32) * g k

/-- The gated activation: `a · logistic a · b`. -/
def swish (a b : EReal) : EReal := a * Ideal.div 1 (1 + Ideal.exp (-a)) * b

/-- Hidden unit `q` of the feed-forward block on a normalised row `h`: gate column `q`, up column `q + 2816`. -/
def hidden (h : Fin 1024 → EReal) (w : Fin 1024 → Fin 5632 → EReal) (q : Fin 2816) : EReal :=
  swish (∑ k, h k * w k ⟨q.val, by omega⟩) (∑ k, h k * w k ⟨q.val + 2816, by omega⟩)

/-- The block's output with the residual: the row plus the down projection of the hidden units. -/
def block (x g : Fin 1024 → EReal) (w : Fin 1024 → Fin 5632 → EReal) (d : Fin 2816 → Fin 1024 → EReal) (j : Fin 1024) : EReal :=
  x j + ∑ q, hidden (norm x g) w q * d q j

/-- The whole row function: feed-forward block, then the final normalisation with gain `gf`. -/
def out (x g gf : Fin 1024 → EReal) (w : Fin 1024 → Fin 5632 → EReal) (d : Fin 2816 → Fin 1024 → EReal) : Fin 1024 → EReal :=
  norm (block x g w d) gf

/-- A sum over the 2816 hidden units, in the three chunks 1024, 1024, 768. -/
theorem sum_chunks (f : Fin 2816 → EReal) :
    (∑ q, f q) = ((∑ q : Fin 1024, f ⟨q.val, by omega⟩) + ∑ q : Fin 1024, f ⟨q.val + 1024, by omega⟩)
      + ∑ q : Fin 768, f ⟨q.val + 2048, by omega⟩ := by
  have e1 := Fin.sum_univ_add (a := 2048) (b := 768) f
  have e2 := Fin.sum_univ_add (a := 1024) (b := 1024) (fun q : Fin 2048 => f ⟨q.val, by omega⟩)
  refine e1.trans ?_
  refine congrArg₂ (· + ·) (e2.trans (congrArg₂ (· + ·) ?_ ?_)) ?_
  · rfl
  · exact Finset.sum_congr rfl fun q _ => congrArg f (Fin.ext (Nat.add_comm 1024 q.val))
  · exact Finset.sum_congr rfl fun q _ => congrArg f (Fin.ext (Nat.add_comm 2048 q.val))

end Cert.RowSpec

end
-- ==== Proof.TileValue.lean ====
/-
  ONE TILE OF THE KERNEL, ROW BY ROW. The kernel's arithmetic on 256 rows, with the hidden units in three chunks, read at an
  index over the extended reals: row `r` of the tile is `RowSpec.out` of row `r` of what it was given.
-/
module

public import proofs.«01_k».proof.Proof.RunB
public import proofs.«01_k».proof.Proof.RowSpec

@[expose] public section

set_option maxRecDepth 16384

noncomputable section

namespace Cert.KernelIdeal.Hand

open Idealize.ShloMosaic Idealize.ShloMosaic.TcCoe
open Cert.KernelIdeal.Gen

/-- The first normalisation. -/
theorem pay28_at (v : Vec Ideal S256x1024 .f32) (g : Vec Ideal S1x1x1024 .f32) (r : Fin 256) (k : Fin 1024) :
    k0_pay28 v g (ix2 r k) = RowSpec.norm (fun j => v (ix2 r j)) (fun j => g (ix3 0 0 j)) k := by
  unfold RowSpec.norm
  pointwise [k0_pay28, k0_pay27]

/-- The first activation chunk, from the normalised rows. -/
theorem pay29_at (v : Vec Ideal S256x1024 .f32) (g : Vec Ideal S1x1x1024 .f32) (a b : Vec Ideal S1024x1024 .bf16) (r : Fin 256) (q : Fin 1024) :
    k0_pay29 v g a b (ix2 r q)
      = RowSpec.swish (∑ k, k0_pay28 v g (ix2 r k) * a (ix2 k q)) (∑ k, k0_pay28 v g (ix2 r k) * b (ix2 k q)) := by
  unfold RowSpec.swish
  pointwise [k0_pay29]
  simp only [zero_sub]

/-- The first two chunks added to the residual. -/
theorem pay30_at (v : FVec Ideal S256x1024 .f32) (h : FVec Ideal S256x1024 .bf16) (p : FVec Ideal S256x1024 .bf16)
    (d0 a b d1 : Vec Ideal S1024x1024 .bf16) (r : Fin 256) (j : Fin 1024) :
    k0_pay30 v h p d0 a b d1 (ix2 r j)
      = (v (ix2 r j) + ∑ q, p (ix2 r q) * d0 (ix2 q j))
        + ∑ q, RowSpec.swish (∑ k, h (ix2 r k) * a (ix2 k q)) (∑ k, h (ix2 r k) * b (ix2 k q)) * d1 (ix2 q j) := by
  unfold RowSpec.swish
  pointwise [k0_pay30]
  simp only [zero_sub]

/-- The third chunk. -/
theorem pay31_at (h : FVec Ideal S256x1024 .bf16) (a b : Vec Ideal S1024x768 .bf16) (d : Vec Ideal S768x1024 .bf16) (r : Fin 256) (j : Fin 1024) :
    k0_pay31 h a b d (ix2 r j)
      = ∑ q, RowSpec.swish (∑ k, h (ix2 r k) * a (ix2 k q)) (∑ k, h (ix2 r k) * b (ix2 k q)) * d (ix2 q j) := by
  unfold RowSpec.swish
  pointwise [k0_pay31]
  simp only [zero_sub]

/-- The last normalisation, of the sum of the two parts. -/
theorem pay32_at (x y : FVec Ideal S256x1024 .f32) (g : Vec Ideal S1x1x1024 .f32) (r : Fin 256) (k : Fin 1024) :
    k0_pay32 x y g (ix2 r k) = RowSpec.norm (fun j => x (ix2 r j) + y (ix2 r j)) (fun j => g (ix3 0 0 j)) k := by
  unfold RowSpec.norm
  pointwise [k0_pay32]

theorem pay27_at (v : Vec Ideal S256x1024 .f32) (r : Fin 256) (k : Fin 1024) : k0_pay27 v (ix2 r k) = v (ix2 r k) := by
  pointwise [k0_pay27]

/-- A load through a rectangle of a matrix, at an index: the matrix at the shifted index. -/
theorem ld2_at {n0 n1 s0 s1 : Nat} {e : EltTy} (w : Vec Ideal ⟨2, ![n0, n1]⟩ e) (p q : Nat)
    (inb : ∀ a, (![p, q] : Fin 2 → Nat) a + (![s0, s1] : Fin 2 → Nat) a ≤ (![n0, n1] : Fin 2 → Nat) a) (x : Fin s0) (y : Fin s1)
    (x' : Fin n0) (y' : Fin n1) (hx : x'.val = x.val + p) (hy : y'.val = y.val + q) :
    View.ld w (Rect.unit (s := ⟨2, ![n0, n1]⟩) ![p, q] ![s0, s1] inb) (ix2 x y) = w (ix2 x' y') :=
  View.ld_unit_apply_of w _ _ _ _ _ fun a => match a with
    | ⟨0, _⟩ => hx.trans (Nat.add_comm _ _)
    | ⟨1, _⟩ => hy.trans (Nat.add_comm _ _)

/-- One product of normalised rows with a rectangle of the resident gate and up weights. -/
theorem gu_sum {n : Nat} (v : Vec Ideal S256x1024 .f32) (g : Vec Ideal S1x1x1024 .f32) (w7 : Vec Ideal S1024x5632 .bf16) (o : Nat)
    (inb : ∀ a, (![0, o] : Fin 2 → Nat) a + (![1024, n] : Fin 2 → Nat) a ≤ (![1024, 5632] : Fin 2 → Nat) a)
    (r : Fin 256) (q : Fin n) (q' : Fin 5632) (hq : q'.val = q.val + o) :
    (∑ k : Fin 1024, RowSpec.norm (fun k => v (ix2 r k)) (fun k => g (ix3 0 0 k)) k * View.ld w7 (Rect.unit (s := S1024x5632) ![0, o] ![1024, n] inb) (ix2 k q))
      = ∑ k, RowSpec.norm (fun k => v (ix2 r k)) (fun k => g (ix3 0 0 k)) k * w7 (ix2 k q') :=
  Finset.sum_congr rfl fun k _ => congrArg₂ (· * ·) rfl (ld2_at w7 0 o inb k q k q' rfl hq)

/-- The tile at an index. -/
theorem tile_row (v : Vec Ideal S256x1024 .f32) (g gf : Vec Ideal S1x1x1024 .f32) (w7 : Vec Ideal S1024x5632 .bf16) (w8 : Vec Ideal S2816x1024 .bf16)
    (r : Fin 256) (j : Fin 1024) :
    tile v g gf w7 w8 (ix2 r j)
      = RowSpec.out (fun k => v (ix2 r k)) (fun k => g (ix3 0 0 k)) (fun k => gf (ix3 0 0 k)) (fun k q => w7 (ix2 k q)) (fun q k => w8 (ix2 q k)) j := by
  unfold tile tileV RowSpec.out
  rw [pay32_at]
  refine congrArg (fun x => RowSpec.norm x _ j) (funext fun k => ?_)
  unfold RowSpec.block
  rw [RowSpec.sum_chunks, pay30_at, pay31_at]
  simp only [pay27_at, pay28_at, pay29_at]
  unfold RowSpec.hidden
  rw [← add_assoc, ← add_assoc]
  refine congrArg₂ (· + ·) (congrArg₂ (· + ·) (congrArg₂ (· + ·) rfl ?_) ?_) ?_ <;>
    refine Finset.sum_congr rfl fun q _ => congrArg₂ (· * ·) (congrArg₂ RowSpec.swish ?_ ?_) ?_
  · exact gu_sum v g w7 0 _ r q ⟨q.val, by omega⟩ (by show q.val = q.val + 0; omega)
  · exact gu_sum v g w7 2816 _ r q ⟨q.val + 2816, by omega⟩ (by show q.val + 2816 = q.val + 2816; omega)
  · exact ld2_at w8 0 0 _ q k _ _ rfl rfl
  · exact gu_sum v g w7 1024 _ r q ⟨q.val + 1024, by omega⟩ (by show q.val + 1024 = q.val + 1024; omega)
  · exact gu_sum v g w7 3840 _ r q ⟨q.val + 1024 + 2816, by omega⟩ (by show q.val + 1024 + 2816 = q.val + 3840; omega)
  · exact ld2_at w8 1024 0 _ q k _ _ rfl rfl
  · exact gu_sum v g w7 2048 _ r q ⟨q.val + 2048, by omega⟩ (by show q.val + 2048 = q.val + 2048; omega)
  · exact gu_sum v g w7 4864 _ r q ⟨q.val + 2048 + 2816, by omega⟩ (by show q.val + 2048 + 2816 = q.val + 4864; omega)
  · exact ld2_at w8 2048 0 _ q k _ _ rfl rfl

end Cert.KernelIdeal.Hand

end
-- ==== Proof.ArrayValue.lean ====
/-
  THE KERNEL'S RESULT ARRAY. The sixteen blocks that the grid writes tile the array of 16384 rows; row `r` of the array is
  `RowSpec.out` of row `r` of the input, at the gains and weights of layer 1.
-/
module

public import proofs.«01_k».proof.Proof.Launch
public import proofs.«01_k».proof.Proof.TileValue

@[expose] public section

set_option maxRecDepth 16384

noncomputable section

namespace Cert.KernelIdeal.Hand

open Idealize.ShloMosaic Idealize.ShloMosaic.TcCoe
open Idealize.ShloMosaic.Pipeline (Dat)
open Cert.KernelIdeal.Gen

variable (m : (ℓ : Loc nD τ sig) → Buf (Elt Ideal) ℓ)

/-- Layer 1's gate and up matrix, as the body's copies see it, entry by entry. -/
theorem guB_at (c : Dev nD) (fh : HbBuf0 (F := Ideal) c hbM0_0) (k : Fin 1024) (q : Fin 5632) :
    guB c fh (ix2 k q) = (show FVec Ideal S2x1024x5632 .f32 from fh) (ix3 1 k q) := by
  unfold guB guF
  refine (congrFun (Memref.read_squeeze_slice (s' := S1024x5632) hbM0_0 (Rect.unit (s := S2x1024x5632) ![1, 0, 0] S1x1024x5632.size inb_S2x1024x5632_S1x1024x5632_1_0_0) (fun _ => rfl)
    squeezes_S1x1024x5632_S1024x5632 (by decide) fh) (ix2 k q)).trans ?_
  refine (shapeCast_dropUnit_apply ![1024, 5632] _ _ (ix2 k q)).trans ?_
  refine congrArg fh (funext fun a => Fin.ext ?_)
  match a with
  | ⟨0, _⟩ => rfl
  | ⟨1, _⟩ => show 0 + 1 * k.val = k.val; omega
  | ⟨2, _⟩ => show 0 + 1 * q.val = q.val; omega

/-- Layer 1's down matrix likewise. -/
theorem downB_at (c : Dev nD) (fh : HbBuf0 (F := Ideal) c hbM0_1) (k : Fin 2816) (q : Fin 1024) :
    downB c fh (ix2 k q) = (show FVec Ideal S2x2816x1024 .f32 from fh) (ix3 1 k q) := by
  unfold downB downF
  refine (congrFun (Memref.read_squeeze_slice (s' := S2816x1024) hbM0_1 (Rect.unit (s := S2x2816x1024) ![1, 0, 0] S1x2816x1024.size inb_S2x2816x1024_S1x2816x1024_1_0_0) (fun _ => rfl)
    squeezes_S1x2816x1024_S2816x1024 (by decide) fh) (ix2 k q)).trans ?_
  refine (shapeCast_dropUnit_apply ![2816, 1024] _ _ (ix2 k q)).trans ?_
  refine congrArg fh (funext fun a => Fin.ext ?_)
  match a with
  | ⟨0, _⟩ => rfl
  | ⟨1, _⟩ => show 0 + 1 * k.val = k.val; omega
  | ⟨2, _⟩ => show 0 + 1 * q.val = q.val; omega

/-- The rows as the region finds them: the input's, laid end to end. -/
theorem V_v0 (c : Dev nD) : V m c main_v0 = shapeCast S16384x1024 (show FVec Ideal S4x4096x1024 .f32 from m ((c : Thread nD τ).loc main_arg0)) shapeCasts_S4x4096x1024_S16384x1024 := by
  unfold V hostOps0; after_results; rfl
theorem V_v1 (c : Dev nD) : V m c main_v1 = shapeCast S2x1x1024 (show FVec Ideal S2x1024 .f32 from m ((c : Thread nD τ).loc main_arg1)) shapeCasts_S2x1024_S2x1x1024 := by
  unfold V hostOps0; after_results; rfl
theorem V_v2 (c : Dev nD) : V m c main_v2 = shapeCast S1x1x1024 (show FVec Ideal S1024 .f32 from m ((c : Thread nD τ).loc main_arg4)) shapeCasts_S1024_S1x1x1024 := by
  unfold V hostOps0; after_results; rfl

/-- The blocks' entries. -/
theorem iblk0_at (c : Dev nD) (t : Fin cfg0.N) (r : Fin 1024) (k : Fin 1024) (r' : Fin 16384) (hr : r'.val = 1024 * t.val + r.val) :
    (show FVec Ideal S1024x1024 .f32 from iblk m c 0 t) (ix2 r k) = (show FVec Ideal S16384x1024 .f32 from V m c main_v0) (ix2 r' k) := by
  have e : (grid0.coords t 0).val = t.val / 1 % 16 := Pipeline.Grid.coords_val t 0 (by decide) rfl
  have ht : t.val < 16 := lt_of_lt_of_eq t.isLt N_0
  refine congrArg (V m c main_v0) (funext fun a => Fin.ext ?_)
  match a with
  | ⟨0, _⟩ =>
    show (BitVec.ofNat 32 (grid0.coords t 0).val).toNat * 1024 + 1 * r.val = r'.val
    rw [BitVec.toNat_ofNat, e, hr]; omega
  | ⟨1, _⟩ => show 0 * 1024 + 1 * k.val = k.val; omega
theorem iblk1_at (c : Dev nD) (t : Fin cfg0.N) (k : Fin 1024) :
    (show FVec Ideal S1x1x1024 .f32 from iblk m c 1 t) (ix3 0 0 k) = (show FVec Ideal S2x1x1024 .f32 from V m c main_v1) (ix3 1 0 k) := by
  refine congrArg (V m c main_v1) (funext fun a => Fin.ext ?_)
  match a with
  | ⟨0, _⟩ => rfl
  | ⟨1, _⟩ => rfl
  | ⟨2, _⟩ => show 0 * 1024 + 1 * k.val = k.val; omega
theorem iblk2_at (c : Dev nD) (t : Fin cfg0.N) (k : Fin 1024) :
    (show FVec Ideal S1x1x1024 .f32 from iblk m c 2 t) (ix3 0 0 k) = (show FVec Ideal S1x1x1024 .f32 from V m c main_v2) (ix3 0 0 k) := by
  refine congrArg (V m c main_v2) (funext fun a => Fin.ext ?_)
  match a with
  | ⟨0, _⟩ => rfl
  | ⟨1, _⟩ => rfl
  | ⟨2, _⟩ => show 0 * 1024 + 1 * k.val = k.val; omega

/-- Row `r` of the array: the row function at the input's row `r`, at the arguments' contents. -/
def rowOut (c : Dev nD) (b : Fin 4) (r : Fin 4096) : Fin 1024 → EReal :=
  RowSpec.out (fun k => (show FVec Ideal S4x4096x1024 .f32 from m ((c : Thread nD τ).loc main_arg0)) (ix3 b r k))
    (fun k => (show FVec Ideal S2x1024 .f32 from m ((c : Thread nD τ).loc main_arg1)) (ix2 1 k))
    (fun k => (show FVec Ideal S1024 .f32 from m ((c : Thread nD τ).loc main_arg4)) (ix1 k))
    (fun k q => (show FVec Ideal S2x1024x5632 .f32 from m ((c : Thread nD τ).loc main_arg2)) (ix3 1 k q))
    (fun q k => (show FVec Ideal S2x2816x1024 .f32 from m ((c : Thread nD τ).loc main_arg3)) (ix3 1 q k))

/-- The whole result, batch and row kept apart, -/
def batchOut (c : Dev nD) : FVec Ideal S4x4096x1024 .f32 := fun i => rowOut m c (i 0) (i 1) (i 2)

/-- and laid end to end. -/
def arrOut (c : Dev nD) : FVec Ideal S16384x1024 .f32 := shapeCast S16384x1024 (batchOut m c) shapeCasts_S4x4096x1024_S16384x1024

/-- Rows laid end to end, at an index. -/
theorem flat_at (x : FVec Ideal S4x4096x1024 .f32) (r : Fin 16384) (k : Fin 1024) :
    shapeCast S16384x1024 x shapeCasts_S4x4096x1024_S16384x1024 (ix2 r k)
      = x (ix3 ⟨r.val / 4096, by omega⟩ ⟨r.val % 4096, by omega⟩ k) := by
  pointwise

theorem gainCast_at (x : FVec Ideal S2x1024 .f32) (k : Fin 1024) :
    shapeCast S2x1x1024 x shapeCasts_S2x1024_S2x1x1024 (ix3 1 0 k) = x (ix2 1 k) := by
  pointwise
theorem finalCast_at (x : FVec Ideal S1024 .f32) (k : Fin 1024) :
    shapeCast S1x1x1024 x shapeCasts_S1024_S1x1x1024 (ix3 0 0 k) = x (ix1 k) := by
  pointwise

/-- The block that point `t` writes, at an index. -/
theorem outAt_at (c : Dev nD) (t : Fin cfg0.N) (r : Fin 1024) (j : Fin 1024) (r' : Fin 16384) (hr : r'.val = 1024 * t.val + r.val) :
    (show FVec Ideal S1024x1024 .f32 from outAt m c t) (ix2 r j) = arrOut m c (ix2 r' j) := by
  have hin : inTile (ix2 r j) = ix2 ⟨r.val % 256, by omega⟩ j := funext fun a => by match a with | ⟨0, _⟩ => rfl | ⟨1, _⟩ => rfl
  refine (congrArg (tile (rowsAt (iblk m c 0 t) r) (iblk m c 1 t) (iblk m c 2 t) (guB c (V m c main_arg2)) (downB c (V m c main_arg3))) hin).trans ?_
  refine (tile_row _ _ _ _ _ _ _).trans ?_
  unfold arrOut
  rw [flat_at]
  refine congrFun (?_ : RowSpec.out _ _ _ _ _ = rowOut m c _ _) j
  unfold rowOut
  congr 1
  · funext k
    refine (show _ = (show FVec Ideal S1024x1024 .f32 from iblk m c 0 t) (ix2 r k) from congrArg (iblk m c 0 t) (funext fun a => Fin.ext ?_)).trans ?_
    · match a with
      | ⟨0, _⟩ => show 256 * (r.val / 256) + r.val % 256 = r.val; omega
      | ⟨1, _⟩ => rfl
    · rw [iblk0_at m c t r k r' hr, V_v0]; exact flat_at _ _ _
  · funext k; refine (iblk1_at m c t k).trans ?_; rw [V_v1]; exact gainCast_at _ k
  · funext k; refine (iblk2_at m c t k).trans ?_; rw [V_v2]; exact finalCast_at _ k
  · funext k q; rw [V_main_arg2]; exact guB_at c _ k q
  · funext q k; rw [V_main_arg3]; exact downB_at c _ q k

/-- What point `t` writes back is block `t` of the array. -/
theorem flushed_eq (c : Dev nD) (t : Fin cfg0.N) :
    (dats m 0 c).flushed 3 t = ((cfg0.win 3).blk t).view.read (Elt Ideal) (arrOut m c) := by
  have e : (grid0.coords t 0).val = t.val / 1 % 16 := Pipeline.Grid.coords_val t 0 (by decide) rfl
  have ht : t.val < 16 := lt_of_lt_of_eq t.isLt N_0
  show (cfg0.win 3).cut (grid0.coords t) ((dats m 0 c).after 3 t) = _
  rw [after0_3]
  funext y
  have h0 : (y 0).val < 1024 := (y 0).isLt
  refine (show _ = (show FVec Ideal S1024x1024 .f32 from outAt m c t) (ix2 ⟨(y 0).val, h0⟩ ⟨(y 1).val, (y 1).isLt⟩) from
    congrArg (outAt m c t) (funext fun a => Fin.ext (by match a with | ⟨0, _⟩ => rfl | ⟨1, _⟩ => rfl))).trans ?_
  refine (outAt_at m c t _ _ ⟨1024 * t.val + (y 0).val, by omega⟩ rfl).trans ?_
  refine congrArg (arrOut m c) (funext fun a => Fin.ext ?_)
  match a with
  | ⟨0, _⟩ =>
    show 1024 * t.val + (y 0).val = (BitVec.ofNat 32 (grid0.coords t 0).val).toNat * 1024 + 1 * (y 0).val
    rw [BitVec.toNat_ofNat, e]; omega
  | ⟨1, _⟩ => show (y 1).val = 0 * 1024 + 1 * (y 1).val; omega

/-- An index of the array lies in the block of the point its row names. -/
theorem covered (i : S16384x1024.Idx) : ∃ t : Fin cfg0.N, (cfg0.win 3).flush t = true ∧ i ∈ ((cfg0.win 3).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_3 _, ?_⟩
  generalize ht : (⟨(i 0).val / 1024, _⟩ : Fin cfg0.N) = t
  have hv : t.val = (i 0).val / 1024 := by rw [← ht]
  have e : (grid0.coords t 0).val = t.val / 1 % 16 := Pipeline.Grid.coords_val t 0 (by decide) rfl
  show i ∈ ((View.whole main_v3).slice (win0_3.rect t)).set
  rw [View.set_slice_whole, Rect.mem_set_unit]
  intro a
  match a with
  | ⟨0, _⟩ =>
    show (BitVec.ofNat 32 (grid0.coords t 0).val).toNat * 1024 ≤ (i 0 : Nat) ∧ (i 0 : Nat) < (BitVec.ofNat 32 (grid0.coords t 0).val).toNat * 1024 + 1024
    rw [BitVec.toNat_ofNat, e]; omega
  | ⟨1, _⟩ => show 0 * 1024 ≤ (i 1 : Nat) ∧ (i 1 : Nat) < 0 * 1024 + 1024; omega

/-- The result array after the last point. -/
theorem final (c : Dev nD) : (dats m 0 c).arrAt 3 cfg0.N = arrOut m c :=
  (dats m 0 c).arrAt_eq_of_cover 3 (arrOut m c) (fun t _ => flushed_eq m c t) covered

end Cert.KernelIdeal.Hand

end
-- ==== Proof.RefValue.lean ====
/-
  THE REFERENCE'S RESULT, ROW BY ROW. The reference program's result term, cut into the stages it is written in (normalise,
  gate and up products, activation, down product with the residual, final normalisation, the rows laid end to end), each stage
  read at an index: row `r` of the result is `RowSpec.out` of row `r` of the input.
-/
module

public import proofs.«01_k».proof.Proof.Gen.ReferenceIdeal.Run
public import proofs.«01_k».proof.Proof.RowSpec

@[expose] public section

set_option maxRecDepth 16384

noncomputable section

namespace Cert.ReferenceIdeal.Rows

open Cert.ReferenceIdeal Cert.ReferenceIdeal.Gen Idealize.ShloMosaic Idealize.ShloMosaic.TcCoe Idealize.SL.Sem

/-- Normalise every row of `x`, the gain laid along the rows. -/
def normA (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The gate and up products of every row. -/
def guA (h : FVec Ideal S4x4096x1024 .f32) (w : FVec Ideal S1024x5632 .f32) : FVec Ideal S4x4096x5632 .f32 :=
  Host.dotGeneral dot_S4x4096x1024_S1024x5632_S4x4096x5632_2_0_01_1_n_n none h w

/-- The gated activation of the two halves of the product. -/
def actA (p : FVec Ideal S4x4096x5632 .f32) : FVec Ideal S4x4096x2816 .f32 :=
  mulf (mulf (extractStridedSlice S4x4096x2816 ![0, 0, 0] p slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] p slices_S4x4096x5632_S4x4096x2816_0_0_0)))))) (extractStridedSlice S4x4096x2816 ![0, 0, 2816] p slices_S4x4096x5632_S4x4096x2816_0_0_2816)

/-- The down product added to the input. -/
def resA (x : FVec Ideal S4x4096x1024 .f32) (a : FVec Ideal S4x4096x2816 .f32) (d : FVec Ideal S2816x1024 .f32) : FVec Ideal S4x4096x1024 .f32 :=
  addf x (Host.dotGeneral dot_S4x4096x2816_S2816x1024_S4x4096x1024_2_0_01_1_n_n none a d)

/-- Layer 1's row of the gains and matrices of the stacked parameters. -/
def gain1 (g : FVec Ideal S2x1024 .f32) : FVec Ideal S1024 .f32 := shapeCast _ (extractStridedSlice S1x1024 ![1, 0] g slices_S2x1024_S1x1024_1_0) shapeCasts_S1x1024_S1024
def gu1 (w : FVec Ideal S2x1024x5632 .f32) : FVec Ideal S1024x5632 .f32 := shapeCast _ (extractStridedSlice S1x1024x5632 ![1, 0, 0] w slices_S2x1024x5632_S1x1024x5632_1_0_0) shapeCasts_S1x1024x5632_S1024x5632
def down1 (w : FVec Ideal S2x2816x1024 .f32) : FVec Ideal S2816x1024 .f32 := shapeCast _ (extractStridedSlice S1x2816x1024 ![1, 0, 0] w slices_S2x2816x1024_S1x2816x1024_1_0_0) shapeCasts_S1x2816x1024_S2816x1024

/-- All of it on the batch of rows. -/
def layerA (x : FVec Ideal S4x4096x1024 .f32) (g : FVec Ideal S2x1024 .f32) (w : FVec Ideal S2x1024x5632 .f32) (d : FVec Ideal S2x2816x1024 .f32) (gf : FVec Ideal S1024 .f32) : FVec Ideal S4x4096x1024 .f32 :=
  normA (resA x (actA (guA (normA x (gain1 g)) (gu1 w))) (down1 d)) gf

theorem res_eq (m : (ℓ : Loc nD τ sig) → Buf (Elt Ideal) ℓ) (c : Dev nD) :
    Value.res_main_v39 (F := Ideal) m c
      = shapeCast S16384x1024 (layerA (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
          shapeCasts_S4x4096x1024_S16384x1024 := rfl

theorem normA_at (x : FVec Ideal S4x4096x1024 .f32) (g : FVec Ideal S1024 .f32) (b : Fin 4) (r : Fin 4096) (k : Fin 1024) :
    normA x g (ix3 b r k) = RowSpec.norm (fun j => x (ix3 b r j)) (fun j => g (ix1 j)) k := by
  unfold RowSpec.norm
  pointwise [normA]

theorem guA_at (h : FVec Ideal S4x4096x1024 .f32) (w : FVec Ideal S1024x5632 .f32) (b : Fin 4) (r : Fin 4096) (q : Fin 5632) :
    guA h w (ix3 b r q) = ∑ k, h (ix3 b r k) * w (ix2 k q) := by
  pointwise [guA]

theorem actA_at (p : FVec Ideal S4x4096x5632 .f32) (b : Fin 4) (r : Fin 4096) (q : Fin 2816) :
    actA p (ix3 b r q) = RowSpec.swish (p (ix3 b r ⟨q.val, by omega⟩)) (p (ix3 b r ⟨q.val + 2816, by omega⟩)) := by
  unfold RowSpec.swish
  pointwise [actA]
  simp only [Nat.add_comm 2816]

theorem resA_at (x : FVec Ideal S4x4096x1024 .f32) (a : FVec Ideal S4x4096x2816 .f32) (d : FVec Ideal S2816x1024 .f32) (b : Fin 4) (r : Fin 4096) (j : Fin 1024) :
    resA x a d (ix3 b r j) = x (ix3 b r j) + ∑ q, a (ix3 b r q) * d (ix2 q j) := by
  pointwise [resA]

theorem gain1_at (g : FVec Ideal S2x1024 .f32) (j : Fin 1024) : gain1 g (ix1 j) = g (ix2 1 j) := by
  pointwise [gain1]

theorem gu1_at (w : FVec Ideal S2x1024x5632 .f32) (k : Fin 1024) (q : Fin 5632) : gu1 w (ix2 k q) = w (ix3 1 k q) := by
  pointwise [gu1]

theorem down1_at (w : FVec Ideal S2x2816x1024 .f32) (k : Fin 2816) (q : Fin 1024) : down1 w (ix2 k q) = w (ix3 1 k q) := by
  pointwise [down1]

/-- Every row of the reference's result is the row function of the input's row. -/
theorem layerA_at (x : FVec Ideal S4x4096x1024 .f32) (g : FVec Ideal S2x1024 .f32) (w : FVec Ideal S2x1024x5632 .f32) (d : FVec Ideal S2x2816x1024 .f32) (gf : FVec Ideal S1024 .f32)
    (b : Fin 4) (r : Fin 4096) (j : Fin 1024) :
    layerA x g w d gf (ix3 b r j)
      = RowSpec.out (fun k => x (ix3 b r k)) (fun k => g (ix2 1 k)) (fun k => gf (ix1 k)) (fun k q => w (ix3 1 k q)) (fun q k => d (ix3 1 q k)) j := by
  unfold layerA RowSpec.out RowSpec.block RowSpec.hidden
  simp only [normA_at, resA_at, actA_at, guA_at, gain1_at, gu1_at, down1_at]

end Cert.ReferenceIdeal.Rows

end
-- ==== Proof.Setup2.lean ====
/- What the hand proof of the ideal kernel's run is stated over: @main up to the region, the blocks that the
   pipeline stages, the body's one branch condition, and the names of its staging buffers, scratch buffers,
   semaphores and HBM operands. -/
module

public import proofs.«01_k».proof.Proof.Gen.Kernel2Ideal.Skeleton
public import proofs.«01_k».proof.Proof.Gen.Kernel2Ideal.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`): the point is the first of its sequence. -/
abbrev per4 : BitVec 32 := Scalar.select (Scalar.cmpi .eq 4#32 0#32) 1#32 4#32
abbrev rem4 (i : grid0.Coords) : BitVec 32 := Scalar.remsi (BitVec.ofNat 32 (i 0).val) per4
abbrev cond0_1 (i : grid0.Coords) : Prop :=
  (Scalar.cmpi .ne (Scalar.extui (Scalar.cmpi .eq (Scalar.select (Scalar.andi (Scalar.xori (Scalar.cmpi .slt (rem4 i) 0#32) (Scalar.cmpi .slt per4 0#32)) (Scalar.cmpi .ne (rem4 i) 0#32)) (Scalar.addi (rem4 i) per4) (rem4 i)) 0#32)) 0#32) = 1#1
/-- It holds at the points whose number is a multiple of four. -/
theorem hcond0_1 : ∀ t : Fin cfg0.N, cond0_1 (grid0.coords t) ↔ t.val % 4 = 0 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    rw [e1] at e0
    simp only [cond0_1, rem4, e0]
    revert ht
    generalize t.val = n
    revert n
    decide
   : ∀ t : Fin grid0.N, cond0_1 (grid0.coords t) ↔ t.val % 4 = 0)

/-! ## The memrefs the body is called on -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x3072 .bf16 := Memref.whole cc0_scratch0
abbrev scM0_1 : Memref sig .tc .vmem S1024x1024 .bf16 := Memref.whole cc0_scratch1
abbrev scM0_2 : Memref sig .tc .vmem S8x1024 .f32 := Memref.whole cc0_scratch2
abbrev scM0_3 : Memref sig .tc .vmem S3x128x3072 .f32 := Memref.whole cc0_scoped0
abbrev scM0_4 : Memref sig .tc .vmem S3x512x1024 .f32 := Memref.whole cc0_scoped2
/-- The operands left in HBM that the body copies into scratch itself, whole. -/
abbrev hbM0_0 : Memref sig .tc .hbm S1x1024x3072 .f32 := Memref.whole main_arg2
abbrev hbM0_1 : Memref sig .tc .hbm S1x1024x1024 .f32 := Memref.whole main_arg4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 11, SemLoc.dma 12, SemLoc.dma 13, SemLoc.dma 14, SemLoc.dma 15, SemLoc.dma 16] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg2, main_arg4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg4)) := by
  rw [BI.bigSep_eq_bigSepL_of_eq [main_arg2, main_arg4] (by decide) (by decide)]; rfl

/-- The invariant of a body with transfers of its own, conjunct by conjunct: the scratch operands owned at some contents, the
    generator register at some state, the own cells at zero, the HBM operands at their launch contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg2) ∗ hbPt0 c hbM0_1 (V m c main_arg4))) := by
  rw [Pipeline.ΦD_eq, scopedRest0_eq, ownSems00_eq, hbmPts0_eq]; simp only [scM0_0, scM0_1, scM0_2, scM0_3, scM0_4, owns_whole]; try rfl

end Cert.Kernel2Ideal.Hand

end
-- ==== Proof.Blocks2.lean ====
/-
  WHAT ONE GRID POINT OF THE CONVOLUTION AND MEMORY-ATTENTION CALL LEAVES, at any float: its output block's two tiles of 512
  rows, each the same function of its rows of `x`, the weights, and the last eight rows of the gated product just before it
  (`tile`); and the last eight rows that it hands to the next point (`tailZ`).
-/
module

public import proofs.«01_k».proof.Proof.Setup2
public import proofs.«01_k».proof.Proof.Staging
public import Idealize.ShloMosaic.Lib.WholeRead
public import Idealize.ShloMosaic.Lib.Pipeline.ValueKit.Tiles

@[expose] public section

set_option maxRecDepth 16384

noncomputable section

namespace Cert.Kernel2Ideal.Hand

open Idealize.ShloMosaic
open Cert.Kernel2Ideal.Gen
open Cert.Staging

variable {F : FTy → Type} [FloatOps F]

/-- The residual stream after the short convolution: 512 rows `v`, the gain, the three taps (latest first), the three input
    projections, the output projection, and the eight rows `pr` of the gated product before these. -/
def mixV (v : Vec F S512x1024 .f32) (g c2 c1 c0 : Vec F S1x1x1024 .f32) (wb wc wx wo : Vec F S1024x1024 .bf16) (pr : Vec F S8x1024 .f32) :
    FVec F S512x1024 .f32 :=
  k0_pay22 (k0_pay13 v) (k0_pay15 (k0_pay14 v g) wb (constant S512x1024 .f32 0x00000000#32)) (k0_pay18 (k0_pay14 v g) wc wx pr c2 c1)
    (k0_pay19 c0) (k0_pay20 (k0_pay14 v g) wc wx) (k0_pay21 pr) (iota .tc S8x1024 32 [0] iota_S8x1024_d0_w32) 2#32 wo

/-- The memory attention over it: the gain, and this sequence's prepared products for the scores and for the values. -/
def attV (x : FVec F S512x1024 .f32) (g : FVec F S1x1024 .f32) (qk vo : Vec F S1x1x1024x1024 .bf16) : FVec F S512x1024 .f32 :=
  k0_pay1 x (k0_pay35 vo) (k0_pay36 x g qk) (k0_pay37 x g qk) (k0_pay38 x g qk) (k0_pay39 x g qk) (k0_pay40 x g qk)

/-- One tile from its loads. -/
def tileV (v : Vec F S512x1024 .f32) (g c2 c1 c0 gm : Vec F S1x1x1024 .f32) (qk vo : Vec F S1x1x1024x1024 .bf16)
    (wb wc wx wo : Vec F S1024x1024 .bf16) (pr : Vec F S8x1024 .f32) : FVec F S512x1024 .f32 :=
  attV (mixV v g c2 c1 c0 wb wc wx wo pr) (k0_pay34 gm) qk vo

/-- The first tile as the body computes it, -/
theorem first_tile (v : Vec F S512x1024 .f32) (g c2 c1 c0 gm : Vec F S1x1x1024 .f32) (qk vo : Vec F S1x1x1024x1024 .bf16)
    (wb wc wx wo : Vec F S1024x1024 .bf16) (pr : Vec F S8x1024 .f32) :
    k0_pay26 (mixV v g c2 c1 c0 wb wc wx wo pr) (k0_pay23 vo)
      (k0_pay24 (k0_pay13 v) (k0_pay15 (k0_pay14 v g) wb (constant S512x1024 .f32 0x00000000#32)) (k0_pay18 (k0_pay14 v g) wc wx pr c2 c1)
        (k0_pay19 c0) (k0_pay20 (k0_pay14 v g) wc wx) (k0_pay21 pr) (iota .tc S8x1024 32 [0] iota_S8x1024_d0_w32) 2#32 wo gm qk)
      (k0_pay25 (k0_pay13 v) (k0_pay15 (k0_pay14 v g) wb (constant S512x1024 .f32 0x00000000#32)) (k0_pay18 (k0_pay14 v g) wc wx pr c2 c1)
        (k0_pay19 c0) (k0_pay20 (k0_pay14 v g) wc wx) (k0_pay21 pr) (iota .tc S8x1024 32 [0] iota_S8x1024_d0_w32) 2#32 wo gm qk)
      = tileV v g c2 c1 c0 gm qk vo wb wc wx wo pr := rfl

/-- and the second: the same function. -/
theorem second_mix (v : Vec F S512x1024 .f32) (g c2 c1 c0 : Vec F S1x1x1024 .f32)
    (wb wc wx wo : Vec F S1024x1024 .bf16) (pr : Vec F S8x1024 .f32) :
    k0_pay33 (k0_pay27 v) (k0_pay29 v g wb) (k0_pay30 v g wc wx) pr (k0_pay32 c2) c1 c0 wo = mixV v g c2 c1 c0 wb wc wx wo pr := rfl

/-- The last eight rows of a tile's gated product. -/
theorem second_tail (v : Vec F S512x1024 .f32) (g : Vec F S1x1x1024 .f32) (wc wx : Vec F S1024x1024 .bf16) :
    k0_pay31 v g wc wx = k0_pay17 (k0_pay14 v g) wc wx := rfl

/-- The taps, latest first. -/
def tap (x2 : Vec F S1x3x1024 .f32) (k : ℕ) (h : ∀ a : Fin 3, (![0, k, 0] : Fin 3 → ℕ) a + S1x1x1024.size a ≤ S1x3x1024.size a) : Vec F S1x1x1024 .f32 :=
  View.ld x2 (Rect.unit (s := S1x3x1024) ![0, k, 0] S1x1x1024.size h)

/-- A projection's weights: 1024 columns of the resident input weights. -/
def wcol (w10 : Vec F S1024x3072 .bf16) (o : ℕ) (h : ∀ a : Fin 2, (![0, o] : Fin 2 → ℕ) a + S1024x1024.size a ≤ S1024x3072.size a) : Vec F S1024x1024 .bf16 :=
  View.ld w10 (Rect.unit (s := S1024x3072) ![0, o] S1024x1024.size h)

/-- One tile from the resident weights. -/
def tile (v : Vec F S512x1024 .f32) (x1 : Vec F S1x1x1024 .f32) (x2 : Vec F S1x3x1024 .f32) (x3 : Vec F S1x1x1024 .f32) (x4 x5 : Vec F S1x1x1024x1024 .bf16)
    (w10 : Vec F S1024x3072 .bf16) (w11 : Vec F S1024x1024 .bf16) (pr : Vec F S8x1024 .f32) : FVec F S512x1024 .f32 :=
  tileV v x1 (tap x2 2 inb_S1x3x1024_S1x1x1024_0_2_0) (tap x2 1 inb_S1x3x1024_S1x1x1024_0_1_0) (tap x2 0 inb_S1x3x1024_S1x1x1024_0_0_0) x3 x4 x5
    (wcol w10 0 inb_S1024x3072_S1024x1024_0_0) (wcol w10 1024 inb_S1024x3072_S1024x1024_0_1024) (wcol w10 2048 inb_S1024x3072_S1024x1024_0_2048) w11 pr

/-- The last eight rows of a tile's gated product. -/
def tileTail (v : Vec F S512x1024 .f32) (x1 : Vec F S1x1x1024 .f32) (w10 : Vec F S1024x3072 .bf16) : FVec F S8x1024 .f32 :=
  k0_pay17 (k0_pay14 v x1) (wcol w10 1024 inb_S1024x3072_S1024x1024_0_1024) (wcol w10 2048 inb_S1024x3072_S1024x1024_0_2048)

/-- Rows `512*k …` of a block. -/
def rowsK (x : Vec F S1024x1024 .f32) (k : Fin 2) : Vec F S512x1024 .f32 := fun j =>
  x (fun a => match a with
    | ⟨0, _⟩ => ⟨512 * k.val + (j 0).val, by have h : (j 0).val < 512 := (j 0).isLt; have := k.isLt; show _ < 1024; omega⟩
    | ⟨1, _⟩ => ⟨(j 1).val, (j 1).isLt⟩)

/-- A block index's tile, and the index within it. -/
def tileNo (y : S1024x1024.Idx) : Fin 2 := ⟨(y 0).val / 512, by have h : (y 0).val < 1024 := (y 0).isLt; omega⟩
def inTile (y : S1024x1024.Idx) : S512x1024.Idx := fun a => match a with
  | ⟨0, _⟩ => ⟨(y 0).val % 512, by show _ < 512; omega⟩
  | ⟨1, _⟩ => ⟨(y 1).val, (y 1).isLt⟩

/-- The eight rows before tile `k`: those handed to the point, then the first tile's last. -/
def prevOf (x0 : Vec F S1024x1024 .f32) (x1 : Vec F S1x1x1024 .f32) (w10 : Vec F S1024x3072 .bf16) (pr : Vec F S8x1024 .f32) (k : Fin 2) : Vec F S8x1024 .f32 :=
  if k = 0 then pr else tileTail (rowsK x0 0) x1 w10

/-- The output block. -/
def outBlk (x0 : Vec F S1024x1024 .f32) (x1 : Vec F S1x1x1024 .f32) (x2 : Vec F S1x3x1024 .f32) (x3 : Vec F S1x1x1024 .f32) (x4 x5 : Vec F S1x1x1024x1024 .bf16)
    (w10 : Vec F S1024x3072 .bf16) (w11 : Vec F S1024x1024 .bf16) (pr : Vec F S8x1024 .f32) : Vec F S1024x1024 .f32 :=
  fun y => tile (rowsK x0 (tileNo y)) x1 x2 x3 x4 x5 w10 w11 (prevOf x0 x1 w10 pr (tileNo y)) (inTile y)

/-- The eight rows handed to the next point. -/
def tailZ (x0 : Vec F S1024x1024 .f32) (x1 : Vec F S1x1x1024 .f32) (w10 : Vec F S1024x3072 .bf16) : Vec F S8x1024 .f32 := tileTail (rowsK x0 1) x1 w10

section Reads
variable {arg1 : Memref sig .tc .vmem S1024x1024 .f32} (harg1 : arg1.IsWhole) {arg2 : Memref sig .tc .vmem S1x1x1024 .f32} (harg2 : arg2.IsWhole)
  {arg4 : Memref sig .tc .vmem S1x3x1024 .f32} (harg4 : arg4.IsWhole) {arg6 : Memref sig .tc .vmem S1x1x1024 .f32} (harg6 : arg6.IsWhole)
  {arg7 : Memref sig .tc .vmem S1x1x1024x1024 .bf16} (harg7 : arg7.IsWhole) {arg8 : Memref sig .tc .vmem S1x1x1024x1024 .bf16} (harg8 : arg8.IsWhole)
  {arg9 : Memref sig .tc .vmem S1024x1024 .f32} {arg10 : Memref sig .tc .vmem S1024x3072 .bf16} (harg10 : arg10.IsWhole)
  {arg11 : Memref sig .tc .vmem S1024x1024 .bf16} (harg11 : arg11.IsWhole) {arg12 : Memref sig .tc .vmem S8x1024 .f32} (harg12 : arg12.IsWhole)
  (x0 : Vec F S1024x1024 .f32) (x1 : Vec F S1x1x1024 .f32) (x2 : Vec F S1x3x1024 .f32) (x3 : Vec F S1x1x1024 .f32) (x4 x5 : Vec F S1x1x1024x1024 .bf16)
  (w10 : Vec F S1024x3072 .bf16) (w11 : Vec F S1024x1024 .bf16)

/-- One tile as the body computes it from its loads, the rows those at `r`, the rows before it `P`. -/
def tileL (r : Rect S1024x1024) (hr : r.shape = S512x1024) (P : Vec F S8x1024 .f32) : FVec F S512x1024 .f32 :=
  tileV (hr ▸ View.readAt (Elt F) arg1.view r.toLoadRect (harg1.unread x0))
    (View.readAt (Elt F) arg2.view (Rect.unit (s := S1x1x1024) ![0, 0, 0] S1x1x1024.size inb_S1x1x1024_S1x1x1024_0_0_0).toLoadRect (harg2.unread x1))
    (View.readAt (Elt F) arg4.view (Rect.unit (s := S1x3x1024) ![0, 2, 0] S1x1x1024.size inb_S1x3x1024_S1x1x1024_0_2_0).toLoadRect (harg4.unread x2))
    (View.readAt (Elt F) arg4.view (Rect.unit (s := S1x3x1024) ![0, 1, 0] S1x1x1024.size inb_S1x3x1024_S1x1x1024_0_1_0).toLoadRect (harg4.unread x2))
    (View.readAt (Elt F) arg4.view (Rect.unit (s := S1x3x1024) ![0, 0, 0] S1x1x1024.size inb_S1x3x1024_S1x1x1024_0_0_0).toLoadRect (harg4.unread x2))
    (View.readAt (Elt F) arg6.view (Rect.unit (s := S1x1x1024) ![0, 0, 0] S1x1x1024.size inb_S1x1x1024_S1x1x1024_0_0_0).toLoadRect (harg6.unread x3))
    (View.readAt (Elt F) arg7.view (Rect.unit (s := S1x1x1024x1024) ![0, 0, 0, 0] S1x1x1024x1024.size inb_S1x1x1024x1024_S1x1x1024x1024_0_0_0_0).toLoadRect (harg7.unread x4))
    (View.readAt (Elt F) arg8.view (Rect.unit (s := S1x1x1024x1024) ![0, 0, 0, 0] S1x1x1024x1024.size inb_S1x1x1024x1024_S1x1x1024x1024_0_0_0_0).toLoadRect (harg8.unread x5))
    (View.readAt (Elt F) arg10.view (Rect.unit (s := S1024x3072) ![0, 0] S1024x1024.size inb_S1024x3072_S1024x1024_0_0).toLoadRect (harg10.unread w10))
    (View.readAt (Elt F) arg10.view (Rect.unit (s := S1024x3072) ![0, 1024] S1024x1024.size inb_S1024x3072_S1024x1024_0_1024).toLoadRect (harg10.unread w10))
    (View.readAt (Elt F) arg10.view (Rect.unit (s := S1024x3072) ![0, 2048] S1024x1024.size inb_S1024x3072_S1024x1024_0_2048).toLoadRect (harg10.unread w10))
    (View.readAt (Elt F) arg11.view (Rect.unit (s := S1024x1024) ![0, 0] S1024x1024.size inb_S1024x1024_S1024x1024_0_0).toLoadRect (harg11.unread w11))
    P

/-- The last eight rows of the tile's gated product, from its loads. -/
def tailL (r : Rect S1024x1024) (hr : r.shape = S512x1024) : FVec F S8x1024 .f32 :=
  k0_pay17 (k0_pay14 (hr ▸ View.readAt (Elt F) arg1.view r.toLoadRect (harg1.unread x0))
      (View.readAt (Elt F) arg2.view (Rect.unit (s := S1x1x1024) ![0, 0, 0] S1x1x1024.size inb_S1x1x1024_S1x1x1024_0_0_0).toLoadRect (harg2.unread x1)))
    (View.readAt (Elt F) arg10.view (Rect.unit (s := S1024x3072) ![0, 1024] S1024x1024.size inb_S1024x3072_S1024x1024_0_1024).toLoadRect (harg10.unread w10))
    (View.readAt (Elt F) arg10.view (Rect.unit (s := S1024x3072) ![0, 2048] S1024x1024.size inb_S1024x3072_S1024x1024_0_2048).toLoadRect (harg10.unread w10))

theorem ld_whole {s : Shape} {e : EltTy} (X : Vec F s e) (off : Fin s.rank → ℕ) (h0 : ∀ a, off a = 0) (inb : ∀ a, off a + s.size a ≤ s.size a) :
    View.ld X (Rect.unit (s := s) off s.size inb) = X := by
  funext x
  exact View.ld_unit_apply_of X _ _ _ x x fun a => by rw [h0 a, Nat.zero_add]

theorem z2 : ∀ a : Fin 2, (![0, 0] : Fin 2 → ℕ) a = 0 := by decide
theorem z3 : ∀ a : Fin 3, (![0, 0, 0] : Fin 3 → ℕ) a = 0 := by decide
theorem z4 : ∀ a : Fin 4, (![0, 0, 0, 0] : Fin 4 → ℕ) a = 0 := by decide

theorem tileL_eq (o : ℕ) (inb : ∀ a : Fin 2, (![o, 0] : Fin 2 → ℕ) a + S512x1024.size a ≤ S1024x1024.size a) (P : Vec F S8x1024 .f32) :
    tileL harg1 harg2 harg4 harg6 harg7 harg8 harg10 harg11 x0 x1 x2 x3 x4 x5 w10 w11 (Rect.unit (s := S1024x1024) ![o, 0] S512x1024.size inb) rfl P
      = tile (View.ld x0 (Rect.unit (s := S1024x1024) ![o, 0] S512x1024.size inb)) x1 x2 x3 x4 x5 w10 w11 P := by
  unfold tileL tile
  congr 1
  all_goals first
    | exact load_unread _ _ _
    | exact (load_unread _ _ _).trans (ld_whole _ _ z2 _)
    | exact (load_unread _ _ _).trans (ld_whole _ _ z3 _)
    | exact (load_unread _ _ _).trans (ld_whole _ _ z4 _)

theorem tailL_eq (o : ℕ) (inb : ∀ a : Fin 2, (![o, 0] : Fin 2 → ℕ) a + S512x1024.size a ≤ S1024x1024.size a) :
    tailL harg1 harg2 harg10 x0 x1 w10 (Rect.unit (s := S1024x1024) ![o, 0] S512x1024.size inb) rfl
      = tileTail (View.ld x0 (Rect.unit (s := S1024x1024) ![o, 0] S512x1024.size inb)) x1 w10 := by
  unfold tailL tileTail
  congr 1
  · congr 1
    · exact load_unread _ _ _
    · exact (load_unread _ _ _).trans (ld_whole _ _ z3 _)
  · exact load_unread _ _ _
  · exact load_unread _ _ _

theorem rows_ld (k : Fin 2) (inb : ∀ a : Fin 2, (![512 * k.val, 0] : Fin 2 → ℕ) a + S512x1024.size a ≤ S1024x1024.size a) :
    View.ld x0 (Rect.unit (s := S1024x1024) ![512 * k.val, 0] S512x1024.size inb) = rowsK x0 k := by
  funext j
  refine View.ld_unit_apply_of x0 _ _ _ j _ fun a => ?_
  match a with
  | ⟨0, _⟩ => rfl
  | ⟨1, _⟩ => show (j 1).val = 0 + (j 1).val; omega

theorem tail0_eq : tailL harg1 harg2 harg10 x0 x1 w10 (Rect.unit (s := S1024x1024) ![0, 0] S512x1024.size inb_S1024x1024_S512x1024_0_0) rfl = tileTail (rowsK x0 0) x1 w10 :=
  (tailL_eq harg1 harg2 harg10 x0 x1 w10 0 _).trans (congrArg (fun v => tileTail v x1 w10) (rows_ld x0 0 inb_S1024x1024_S512x1024_0_0))
theorem tail1_eq : tailL harg1 harg2 harg10 x0 x1 w10 (Rect.unit (s := S1024x1024) ![512, 0] S512x1024.size inb_S1024x1024_S512x1024_512_0) rfl = tailZ x0 x1 w10 :=
  (tailL_eq harg1 harg2 harg10 x0 x1 w10 512 _).trans (congrArg (fun v => tileTail v x1 w10) (rows_ld x0 1 inb_S1024x1024_S512x1024_512_0))

/-- A tile's value at its index is the block's. -/
theorem tile_at (k : Fin 2) (pr : Vec F S8x1024 .f32) (y : S1024x1024.Idx) (x : S512x1024.Idx) (h0 : (y 0).val = 512 * k.val + (x 0).val) (h1 : (y 1).val = (x 1).val) :
    tile (rowsK x0 k) x1 x2 x3 x4 x5 w10 w11 (prevOf x0 x1 w10 pr k) x = outBlk x0 x1 x2 x3 x4 x5 w10 w11 pr y := by
  have hx : (x 0).val < 512 := (x 0).isLt
  have e1 : inTile y = x := funext fun a => Fin.ext (by
    match a with
    | ⟨0, _⟩ => show (y 0).val % 512 = (x 0).val; omega
    | ⟨1, _⟩ => exact h1)
  have e2 : tileNo y = k := Fin.ext (by show (y 0).val / 512 = k.val; omega)
  rw [outBlk, e1, e2]

/-- Two stores of 512 rows each read back. -/
theorem two_tiles (f : arg9.view.ty.Contents (Elt F)) (P : Fin 2 → Vec F S512x1024 .f32) (v : Vec F S1024x1024 .f32)
    (h : ∀ (k : Fin 2) (y : S1024x1024.Idx) (x : S512x1024.Idx), (y 0).val = 512 * k.val + (x 0).val → (y 1).val = (x 1).val → P k x = v y) :
    View.read (Elt F) arg9.view (arg9.view.writes (Elt F) f
      [⟨Rect.unit (s := S1024x1024) ![512, 0] S512x1024.size inb_S1024x1024_S512x1024_512_0, P 1⟩,
        ⟨Rect.unit (s := S1024x1024) ![0, 0] S512x1024.size inb_S1024x1024_S512x1024_0_0, P 0⟩]) = v := by
  rw [View.read_writes_eq_canon _ _ _ (View.cover_of_tiled_head _ _ _ (by rfl))]
  funext y
  canon_tiles x h'
  · exact h 1 y x h'0 h'1
  · exact h 0 y x (by omega) h'1

/-- The body's two stores read back: the output block. -/
theorem out_read (f : arg9.view.ty.Contents (Elt F)) (pr P Q : Vec F S8x1024 .f32) (hP : P = pr)
    (hQ : Q = tailL harg1 harg2 harg10 x0 x1 w10 (Rect.unit (s := S1024x1024) ![0, 0] S512x1024.size inb_S1024x1024_S512x1024_0_0) rfl) :
    View.read (Elt F) arg9.view (arg9.view.writes (Elt F) f
      [⟨Rect.unit (s := S1024x1024) ![512, 0] S512x1024.size inb_S1024x1024_S512x1024_512_0,
          tileL harg1 harg2 harg4 harg6 harg7 harg8 harg10 harg11 x0 x1 x2 x3 x4 x5 w10 w11 (Rect.unit (s := S1024x1024) ![512, 0] S512x1024.size inb_S1024x1024_S512x1024_512_0) rfl Q⟩,
        ⟨Rect.unit (s := S1024x1024) ![0, 0] S512x1024.size inb_S1024x1024_S512x1024_0_0,
          tileL harg1 harg2 harg4 harg6 harg7 harg8 harg10 harg11 x0 x1 x2 x3 x4 x5 w10 w11 (Rect.unit (s := S1024x1024) ![0, 0] S512x1024.size inb_S1024x1024_S512x1024_0_0) rfl P⟩])
      = outBlk x0 x1 x2 x3 x4 x5 w10 w11 pr := by
  rw [tileL_eq, tileL_eq, hP, hQ, tail0_eq]
  rw [show View.ld x0 (Rect.unit (s := S1024x1024) ![512, 0] S512x1024.size inb_S1024x1024_S512x1024_512_0) = rowsK x0 1 from rows_ld x0 1 _,
    show View.ld x0 (Rect.unit (s := S1024x1024) ![0, 0] S512x1024.size inb_S1024x1024_S512x1024_0_0) = rowsK x0 0 from rows_ld x0 0 _]
  exact two_tiles (arg9 := arg9) f (fun k => tile (rowsK x0 k) x1 x2 x3 x4 x5 w10 w11 (prevOf x0 x1 w10 pr k)) _
    (fun k y x h0 h1 => tile_at x0 x1 x2 x3 x4 x5 w10 w11 k pr y x h0 h1)

/-- The carried rows read back: the last stored. -/
theorem carry_read (M : Memref sig .tc .vmem S8x1024 .f32) (f : M.view.ty.Contents (Elt F)) (P : Vec F S8x1024 .f32) (L : List (View.Piece (Elt F) S8x1024 .f32)) :
    View.read (Elt F) M.view (M.view.writes (Elt F) f (⟨Rect.unit (s := S8x1024) ![0, 0] S8x1024.size inb_S8x1024_S8x1024_0_0, P⟩ :: L)) = P := by
  funext y
  exact View.read_writes_cons_rows_of_mem (o := 0) M.view f inb_S8x1024_S8x1024_0_0 P L y y rfl (Nat.zero_add _).symm rfl

theorem carry_load (P : Vec F S8x1024 .f32) :
    View.readAt (Elt F) arg12.view (Rect.unit (s := S8x1024) ![0, 0] S8x1024.size inb_S8x1024_S8x1024_0_0).toLoadRect (harg12.unread P) = P :=
  (load_unread _ _ _).trans (ld_whole _ _ z2 _)

end Reads

end Cert.Kernel2Ideal.Hand

end
-- ==== Proof.Run2BC.lean ====
/-
  THE BODY'S TRIPLES of the convolution and memory-attention call at a point after the first: inside a sequence it finds the rows
  before the point in the scratch it carries (`runC`); at a sequence's first point it zeroes them (`runB`).
-/
module

public import proofs.«01_k».proof.Proof.Blocks2

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen
open Cert.Staging

variable {F : FTy → Type} [FloatOps F]

local notation "𝕄" => MT nD τ sig Unit (Elt F) ℕ (Pipeline.UD sig nD τ) ℕ

/-- The two weight matrices of the mixer as HBM holds them, read through the views the copies read through. -/
def winF (c : Dev nD) (fh : HbBuf0 (F := F) c hbM0_0) : FVec F S1024x3072 .f32 :=
  View.read (Elt F) ((hbM0_0.slice (Rect.unit (s := S1x1024x3072) ![0, 0, 0] S1x1024x3072.size inb_S1x1024x3072_S1x1024x3072_0_0_0) (fun _ => rfl)).squeeze
    S1024x3072 squeezes_S1x1024x3072_S1024x3072).view fh
def woutF (c : Dev nD) (fh : HbBuf0 (F := F) c hbM0_1) : FVec F S1024x1024 .f32 :=
  View.read (Elt F) ((hbM0_1.slice (Rect.unit (s := S1x1024x1024) ![0, 0, 0] S1x1024x1024.size inb_S1x1024x1024_S1x1024x1024_0_0_0) (fun _ => rfl)).squeeze
    S1024x1024 squeezes_S1x1024x1024_S1024x1024).view fh

/-- The resident weights: rounded to bfloat16. -/
def winB (c : Dev nD) (fh : HbBuf0 (F := F) c hbM0_0) : FVec F S1024x3072 .bf16 := truncf .bf16 (winF c fh) bitsLt_bf16_f32
def woutB (c : Dev nD) (fh : HbBuf0 (F := F) c hbM0_1) : FVec F S1024x1024 .bf16 := truncf .bf16 (woutF c fh) bitsLt_bf16_f32

theorem win_landed {B : Memref sig .tc .vmem S1024x3072 .bf16} (hB : B.IsWhole) (c : Dev nD) (A : Memref sig .tc .vmem S3x128x3072 .f32) (f : A.view.ty.Contents (Elt F)) (fh : HbBuf0 (F := F) c hbM0_0)
    (g : B.view.ty.Contents (Elt F)) :
    B.view.writes (Elt F) g (stores (R := 128) (C := 3072) (K := 8) (N := 1024) (by decide) rfl A squeezes_S1x128x3072_S128x3072
      shapeCasts_S1x128x3072_S128x3072 shapeCasts_S128x3072_S128x3072
      (fun k x => winF c fh ((chunkR (R := 128) 3072 (K := 8) (N := 1024) (by decide) rfl k).emb x)) f 8) = hB.unread (winB c fh) := by
  refine hB.eq_unread ?_
  funext y
  exact stores_read (R := 128) (C := 3072) (K := 8) (N := 1024) (by decide) rfl A _ _ _ (winF c fh) f B g 8 (by decide) y (y 0).isLt

theorem wout_landed {B : Memref sig .tc .vmem S1024x1024 .bf16} (hB : B.IsWhole) (c : Dev nD) (A : Memref sig .tc .vmem S3x512x1024 .f32) (f : A.view.ty.Contents (Elt F)) (fh : HbBuf0 (F := F) c hbM0_1)
    (g : B.view.ty.Contents (Elt F)) :
    B.view.writes (Elt F) g (stores (R := 512) (C := 1024) (K := 2) (N := 1024) (by decide) rfl A squeezes_S1x512x1024_S512x1024
      shapeCasts_S1x512x1024_S512x1024 shapeCasts_S512x1024_S512x1024
      (fun k x => woutF c fh ((chunkR (R := 512) 1024 (K := 2) (N := 1024) (by decide) rfl k).emb x)) f 2) = hB.unread (woutB c fh) := by
  refine hB.eq_unread ?_
  funext y
  exact stores_read (R := 512) (C := 1024) (K := 2) (N := 1024) (by decide) rfl A _ _ _ (woutF c fh) f B g 2 (by decide) y (y 0).isLt

set_option maxHeartbeats 2552000 in set_option sl_exec.dmaWindow true in set_option sl_exec.dmaWindowSet true in
/-- The body's triple at a point inside a sequence: the weights resident, the rows before the point handed over. -/
theorem runC (c : Dev nD) (i : grid0.Coords) (arg1 : Memref sig .tc .vmem S1024x1024 .f32) (harg1 : arg1.IsWhole) (arg2 : Memref sig .tc .vmem S1x1x1024 .f32) (harg2 : arg2.IsWhole) (arg4 : Memref sig .tc .vmem S1x3x1024 .f32) (harg4 : arg4.IsWhole) (arg6 : Memref sig .tc .vmem S1x1x1024 .f32) (harg6 : arg6.IsWhole) (arg7 : Memref sig .tc .vmem S1x1x1024x1024 .bf16) (harg7 : arg7.IsWhole) (arg8 : Memref sig .tc .vmem S1x1x1024x1024 .bf16) (harg8 : arg8.IsWhole) (arg9 : Memref sig .tc .vmem S1024x1024 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S8x1024 .f32) (harg12 : arg12.IsWhole) (alloca_r0 : Memref sig .tc .vmem S3x128x3072 .f32) (halloca_r0 : alloca_r0.IsWhole) (alloca_r1 : Memref sig .tc .vmem S3x512x1024 .f32) (halloca_r1 : alloca_r1.IsWhole) (hc0 : ¬cond0_0 i) (hc1 : ¬cond0_1 i)
    (x0 : Vec F S1024x1024 .f32) (x1 : Vec F S1x1x1024 .f32) (x2 : Vec F S1x3x1024 .f32) (x3 : Vec F S1x1x1024 .f32) (x4 x5 : Vec F S1x1x1024x1024 .bf16) (w10 : Vec F S1024x3072 .bf16) (w11 : Vec F S1024x1024 .bf16) (pr : Vec F S8x1024 .f32) (fh0 : HbBuf0 (F := F) c hbM0_0) (fh1 : HbBuf0 (F := F) c hbM0_1)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare w10 ∗ owns (c : Thread nD τ) arg11 fullShare w11 ∗ owns (c : Thread nD τ) arg12 fullShare pr ∗ (∃ d, owns (c : Thread nD τ) alloca_r0 fullShare d) ∗ (∃ d, owns (c : Thread nD τ) alloca_r1 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare (outBlk x0 x1 x2 x3 x4 x5 w10 w11 pr) ∗ owns (c : Thread nD τ) arg10 fullShare w10 ∗ owns (c : Thread nD τ) arg11 fullShare w11 ∗ owns (c : Thread nD τ) arg12 fullShare (tailZ x0 x1 w10) ∗ (∃ d, owns (c : Thread nD τ) alloca_r0 fullShare d) ∗ (∃ d, owns (c : Thread nD τ) alloca_r1 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ (cc0_convmix_memattn i arg1 harg1 arg2 harg2 (Memref.whole main_arg2) (Memref.isWhole_whole _) arg4 harg4 (Memref.whole main_arg4) (Memref.isWhole_whole _) arg6 harg6 arg7 harg7 arg8 harg8 arg9 harg9 arg10 harg10 arg11 harg11 arg12 harg12 alloca_r0 halloca_r0 cc0_scoped1 alloca_r1 halloca_r1 cc0_scoped3) K := by
  simp only [cc0_convmix_memattn_eq_skeleton]; unfold cc0_convmix_memattn_skel
  simp only [k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f10, %hf10, HS0⟩, ⟨%f11, %hf11, HS1⟩, ⟨%f12, %hf12, HS2⟩, ⟨%ds3, %fs3, -, HS3⟩, ⟨%ds4, %fs4, -, HS4⟩, Hq0, Hq1, Hq2, Hq3, Hq4, Hq5, Hh0, Hh1, HW, Hk⟩
  obtain rfl := harg1.eq_unread hf0; obtain rfl := harg2.eq_unread hf1; obtain rfl := harg4.eq_unread hf2; obtain rfl := harg6.eq_unread hf3; obtain rfl := harg7.eq_unread hf4; obtain rfl := harg8.eq_unread hf5
  obtain rfl := harg10.eq_unread hf10; obtain rfl := harg11.eq_unread hf11
  obtain rfl := harg12.eq_unread hf12
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg4.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro; exact out_read harg1 harg2 harg4 harg6 harg7 harg8 harg10 harg11 x0 x1 x2 x3 x4 x5 _ _ f6 _ _ _ (carry_load harg12 pr) (View.readCov_cons_toLoadRect arg12.view _ _ _)
  isplitl [HS0]
  · iexists _; isplitr; · ipureintro; exact harg10.read_unread _
    iexact HS0
  isplitl [HS1]
  · iexists _; isplitr; · ipureintro; exact harg11.read_unread _
    iexact HS1
  isplitl [HS2]
  · iexists _; isplitr; swap; · iexact HS2
    ipureintro; exact (carry_read arg12 _ _ _).trans (tail1_eq harg1 harg2 harg10 x0 x1 _)
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  iexists _; iexact HW

set_option maxHeartbeats 2552000 in set_option sl_exec.dmaWindow true in set_option sl_exec.dmaWindowSet true in
/-- The body's triple at the first point of a sequence after the first: the weights resident, the rows before it zeroed. -/
theorem runB (c : Dev nD) (i : grid0.Coords) (arg1 : Memref sig .tc .vmem S1024x1024 .f32) (harg1 : arg1.IsWhole) (arg2 : Memref sig .tc .vmem S1x1x1024 .f32) (harg2 : arg2.IsWhole) (arg4 : Memref sig .tc .vmem S1x3x1024 .f32) (harg4 : arg4.IsWhole) (arg6 : Memref sig .tc .vmem S1x1x1024 .f32) (harg6 : arg6.IsWhole) (arg7 : Memref sig .tc .vmem S1x1x1024x1024 .bf16) (harg7 : arg7.IsWhole) (arg8 : Memref sig .tc .vmem S1x1x1024x1024 .bf16) (harg8 : arg8.IsWhole) (arg9 : Memref sig .tc .vmem S1024x1024 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S8x1024 .f32) (harg12 : arg12.IsWhole) (alloca_r0 : Memref sig .tc .vmem S3x128x3072 .f32) (halloca_r0 : alloca_r0.IsWhole) (alloca_r1 : Memref sig .tc .vmem S3x512x1024 .f32) (halloca_r1 : alloca_r1.IsWhole) (hc0 : ¬cond0_0 i) (hc1 : cond0_1 i)
    (x0 : Vec F S1024x1024 .f32) (x1 : Vec F S1x1x1024 .f32) (x2 : Vec F S1x3x1024 .f32) (x3 : Vec F S1x1x1024 .f32) (x4 x5 : Vec F S1x1x1024x1024 .bf16) (w10 : Vec F S1024x3072 .bf16) (w11 : Vec F S1024x1024 .bf16) (fh0 : HbBuf0 (F := F) c hbM0_0) (fh1 : HbBuf0 (F := F) c hbM0_1)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare w10 ∗ owns (c : Thread nD τ) arg11 fullShare w11 ∗ (∃ d, owns (c : Thread nD τ) arg12 fullShare d) ∗ (∃ d, owns (c : Thread nD τ) alloca_r0 fullShare d) ∗ (∃ d, owns (c : Thread nD τ) alloca_r1 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare (outBlk x0 x1 x2 x3 x4 x5 w10 w11 (k0_pay12 (F := F))) ∗ owns (c : Thread nD τ) arg10 fullShare w10 ∗ owns (c : Thread nD τ) arg11 fullShare w11 ∗ owns (c : Thread nD τ) arg12 fullShare (tailZ x0 x1 w10) ∗ (∃ d, owns (c : Thread nD τ) alloca_r0 fullShare d) ∗ (∃ d, owns (c : Thread nD τ) alloca_r1 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ (cc0_convmix_memattn i arg1 harg1 arg2 harg2 (Memref.whole main_arg2) (Memref.isWhole_whole _) arg4 harg4 (Memref.whole main_arg4) (Memref.isWhole_whole _) arg6 harg6 arg7 harg7 arg8 harg8 arg9 harg9 arg10 harg10 arg11 harg11 arg12 harg12 alloca_r0 halloca_r0 cc0_scoped1 alloca_r1 halloca_r1 cc0_scoped3) K := by
  simp only [cc0_convmix_memattn_eq_skeleton]; unfold cc0_convmix_memattn_skel
  simp only [k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f10, %hf10, HS0⟩, ⟨%f11, %hf11, HS1⟩, ⟨%d12, %f12, -, HS2⟩, ⟨%ds3, %fs3, -, HS3⟩, ⟨%ds4, %fs4, -, HS4⟩, Hq0, Hq1, Hq2, Hq3, Hq4, Hq5, Hh0, Hh1, HW, Hk⟩
  obtain rfl := harg1.eq_unread hf0; obtain rfl := harg2.eq_unread hf1; obtain rfl := harg4.eq_unread hf2; obtain rfl := harg6.eq_unread hf3; obtain rfl := harg7.eq_unread hf4; obtain rfl := harg8.eq_unread hf5
  obtain rfl := harg10.eq_unread hf10; obtain rfl := harg11.eq_unread hf11
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg4.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro; exact out_read harg1 harg2 harg4 harg6 harg7 harg8 harg10 harg11 x0 x1 x2 x3 x4 x5 _ _ f6 _ _ _ (View.readCov_cons_toLoadRect arg12.view _ _ _) (View.readCov_cons_toLoadRect arg12.view _ _ _)
  isplitl [HS0]
  · iexists _; isplitr; · ipureintro; exact harg10.read_unread _
    iexact HS0
  isplitl [HS1]
  · iexists _; isplitr; · ipureintro; exact harg11.read_unread _
    iexact HS1
  isplitl [HS2]
  · iexists _; isplitr; swap; · iexact HS2
    ipureintro; exact (carry_read arg12 _ _ _).trans (tail1_eq harg1 harg2 harg10 x0 x1 _)
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  iexists _; iexact HW

end Cert.Kernel2Ideal.Hand

end
-- ==== Proof.Run2A.lean ====
/-
  THE BODY AT THE FIRST POINT of the convolution and memory-attention call. The weights are copied from HBM through the two rings
  into the scratch buffers, rounded on the way, every copy's wait matched with its start; the rows before the point are zeroed;
  then the point's output block is computed.
-/
module

public import proofs.«01_k».proof.Proof.Run2BC

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen
open Cert.Staging

variable {F : FTy → Type} [FloatOps F]

local notation "𝕄" => MT nD τ sig Unit (Elt F) ℕ (Pipeline.UD sig nD τ) ℕ

set_option maxHeartbeats 2552000 in set_option sl_exec.dmaWindow true in set_option sl_exec.dmaWindowSet true in
/-- The body's triple at the first point: the weights staged from HBM, the rows before it zeroed, then the output block computed. -/
theorem runA (c : Dev nD) (i : grid0.Coords) (arg1 : Memref sig .tc .vmem S1024x1024 .f32) (harg1 : arg1.IsWhole) (arg2 : Memref sig .tc .vmem S1x1x1024 .f32) (harg2 : arg2.IsWhole) (arg4 : Memref sig .tc .vmem S1x3x1024 .f32) (harg4 : arg4.IsWhole) (arg6 : Memref sig .tc .vmem S1x1x1024 .f32) (harg6 : arg6.IsWhole) (arg7 : Memref sig .tc .vmem S1x1x1024x1024 .bf16) (harg7 : arg7.IsWhole) (arg8 : Memref sig .tc .vmem S1x1x1024x1024 .bf16) (harg8 : arg8.IsWhole) (arg9 : Memref sig .tc .vmem S1024x1024 .f32) (harg9 : arg9.IsWhole) (arg10 : Memref sig .tc .vmem S1024x3072 .bf16) (harg10 : arg10.IsWhole) (arg11 : Memref sig .tc .vmem S1024x1024 .bf16) (harg11 : arg11.IsWhole) (arg12 : Memref sig .tc .vmem S8x1024 .f32) (harg12 : arg12.IsWhole) (alloca_r0 : Memref sig .tc .vmem S3x128x3072 .f32) (halloca_r0 : alloca_r0.IsWhole) (alloca_r1 : Memref sig .tc .vmem S3x512x1024 .f32) (halloca_r1 : alloca_r1.IsWhole) (hc0 : cond0_0 i) (hc1 : cond0_1 i)
    (x0 : Vec F S1024x1024 .f32) (x1 : Vec F S1x1x1024 .f32) (x2 : Vec F S1x3x1024 .f32) (x3 : Vec F S1x1x1024 .f32) (x4 x5 : Vec F S1x1x1024x1024 .bf16) (fh0 : HbBuf0 (F := F) c hbM0_0) (fh1 : HbBuf0 (F := F) c hbM0_1)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg6 fullShare x3 ∗ owns (c : Thread nD τ) arg7 fullShare x4 ∗ owns (c : Thread nD τ) arg8 fullShare x5 ∗ owns (c : Thread nD τ) arg9 fullShare (outBlk x0 x1 x2 x3 x4 x5 (winB c fh0) (woutB c fh1) (k0_pay12 (F := F))) ∗ owns (c : Thread nD τ) arg10 fullShare (winB c fh0) ∗ owns (c : Thread nD τ) arg11 fullShare (woutB c fh1) ∗ owns (c : Thread nD τ) arg12 fullShare (tailZ x0 x1 (winB c fh0)) ∗ (∃ d, owns (c : Thread nD τ) alloca_r0 fullShare d) ∗ (∃ d, owns (c : Thread nD τ) alloca_r1 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fh1 ∗ (∃ W', owes (c : Thread nD τ) 0 W')) -∗ K ⟨⟩))
      ⊢ wp frame (wpE (defs₀ (F := F)) Variants.none c none) Set.univ (cc0_convmix_memattn i arg1 harg1 arg2 harg2 (Memref.whole main_arg2) (Memref.isWhole_whole _) arg4 harg4 (Memref.whole main_arg4) (Memref.isWhole_whole _) arg6 harg6 arg7 harg7 arg8 harg8 arg9 harg9 arg10 harg10 arg11 harg11 arg12 harg12 alloca_r0 halloca_r0 cc0_scoped1 alloca_r1 halloca_r1 cc0_scoped3) K := by
  simp only [cc0_convmix_memattn_eq_skeleton]; unfold cc0_convmix_memattn_skel
  simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d10, %f10, -, HS0⟩, ⟨%d11, %f11, -, HS1⟩, ⟨%d12, %f12, -, HS2⟩, ⟨%ds3, %fs3, -, HS3⟩, ⟨%ds4, %fs4, -, HS4⟩, Hq0, Hq1, Hq2, Hq3, Hq4, Hq5, Hh0, Hh1, HW, Hk⟩
  obtain rfl := harg1.eq_unread hf0; obtain rfl := harg2.eq_unread hf1; obtain rfl := harg4.eq_unread hf2; obtain rfl := harg6.eq_unread hf3; obtain rfl := harg7.eq_unread hf4; obtain rfl := harg8.eq_unread hf5
  unfold k0_part8_skel
  rw [wp_bind]
  extract_lets a0 v0 v1 v2 v3 v4 v5 v6 v7 v8 v9 v10 v11 v12 v13 v14 v15 cst jp2 jp
  obtain ⟨j, hjp⟩ : ∃ j, jp = j := ⟨_, rfl⟩
  rw [hjp]
  sl_exec (disch := first | sl_exact hc0 | sl_exact hc1)
  ihave HS0 : (View.loc (c : Thread nD τ) arg10.view ↦[arg10.view.set]{fullShare} harg10.unread (winB c fh0)) $$ [HS0]
  · istop
    refine Entails.of_eq (congrArg (fun f => (View.loc (c : Thread nD τ) arg10.view ↦[arg10.view.set]{fullShare} f : sProp 𝕄)) ?_)
    exact win_landed harg10 c alloca_r0 fs3 fh0 f10
  ihave HS1 : (View.loc (c : Thread nD τ) arg11.view ↦[arg11.view.set]{fullShare} harg11.unread (woutB c fh1)) $$ [HS1]
  · istop
    refine Entails.of_eq (congrArg (fun f => (View.loc (c : Thread nD τ) arg11.view ↦[arg11.view.set]{fullShare} f : sProp 𝕄)) ?_)
    exact wout_landed harg11 c alloca_r1 fs4 fh1 f11
  subst hjp
  simp only [jp, jp2]
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg4.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro; exact out_read harg1 harg2 harg4 harg6 harg7 harg8 harg10 harg11 x0 x1 x2 x3 x4 x5 _ _ f6 _ _ _ (View.readCov_cons_toLoadRect arg12.view _ _ _) (View.readCov_cons_toLoadRect arg12.view _ _ _)
  isplitl [HS0]
  · iexists _; isplitr; · ipureintro; exact harg10.read_unread _
    iexact HS0
  isplitl [HS1]
  · iexists _; isplitr; · ipureintro; exact harg11.read_unread _
    iexact HS1
  isplitl [HS2]
  · iexists _; isplitr; swap; · iexact HS2
    ipureintro; exact (carry_read arg12 _ _ _).trans (tail1_eq harg1 harg2 harg10 x0 x1 _)
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  iexists _; iexact HW

end Cert.Kernel2Ideal.Hand

end
-- ==== Proof.Launch2.lean ====
/-
  THE LAUNCH of the convolution and memory-attention call. What the scratch holds between grid points (nothing known before the
  first; after it the rounded weights, and the last eight rows of the previous point's gated product), the proof data of the
  pipeline, the body's obligation at every point, and the run of the whole program (`run_main`).
-/
module

public import proofs.«01_k».proof.Proof.Run2A
public import Idealize.ShloMosaic.Lib.Claim
public import Idealize.ShloMosaic.Lib.Pipeline.Value

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen
open Cert.Staging

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem N_0' : cfg0.N = 16 := N_0

/-- The last eight rows of point `n`'s gated product. -/
def tailAt (c : Dev nD) (n : Fin cfg0.N) : Vec F S8x1024 .f32 := tailZ (iblk m c 0 n) (iblk m c 1 n) (winB c (V m c main_arg2))

/-- The rows before point `t`: none at a sequence's first point, else the previous point's last. -/
def prevAt (c : Dev nD) (t : Fin cfg0.N) : Vec F S8x1024 .f32 :=
  if t.val % 4 = 0 then k0_pay12 else tailAt m c ⟨t.val - 1, Nat.lt_of_le_of_lt (Nat.sub_le _ _) t.isLt⟩

/-- The scratch before point `n`: at anything before the first; after it the rounded weights and the previous point's last rows. -/
def held (c : Dev nD) : ℕ → sProp 𝕄
  | 0 => iprop((∃ d, owns (c : Thread nD τ) scM0_0 fullShare d) ∗ (∃ d, owns (c : Thread nD τ) scM0_1 fullShare d) ∗ (∃ d, owns (c : Thread nD τ) scM0_2 fullShare d))
  | n + 1 => iprop(owns (c : Thread nD τ) scM0_0 fullShare (winB c (V m c main_arg2)) ∗ owns (c : Thread nD τ) scM0_1 fullShare (woutB c (V m c main_arg4))
      ∗ (∃ d, ⌜∀ h : n < cfg0.N, d = tailAt m c ⟨n, h⟩⌝ ∗ owns (c : Thread nD τ) scM0_2 fullShare d))

/-- The rest of the invariant: the rings, the generator register, the copies' semaphores at zero, the weights in HBM. -/
def others (c : Dev nD) : sProp 𝕄 :=
  iprop((∃ d, owns (c : Thread nD τ) scM0_3 fullShare d) ∗ (∃ d, owns (c : Thread nD τ) scM0_4 fullShare d) ∗ (∃ r, prngReg c r)
    ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0
    ∗ hbPt0 c hbM0_0 (V m c main_arg2) ∗ hbPt0 c hbM0_1 (V m c main_arg4))

/-- The output block of point `t`. -/
def outAt (c : Dev nD) (t : Fin cfg0.N) : Vec F S1024x1024 .f32 :=
  outBlk (iblk m c 0 t) (iblk m c 1 t) (iblk m c 2 t) (iblk m c 3 t) (iblk m c 4 t) (iblk m c 5 t) (winB c (V m c main_arg2)) (woutB c (V m c main_arg4)) (prevAt m c t)

/-- The proof data: inputs keep their blocks, the output window gets `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := iprop(held m c t.val ∗ others m c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1600000 in
/-- The body at any point, by the three triples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, after0_6,
    show (dats m 0 c).Φ t.castSucc = iprop(held m c t.val ∗ others m c) from rfl,
    show (dats m 0 c).Φ t.succ = iprop(held m c (t.val + 1) ∗ others m c) from rfl]
  unfold Dat.owesAt Pipeline.owesWithin others
  rw [show (dats m 0 c).owed t.castSucc = 0 from rfl, show (dats m 0 c).owed t.succ = 0 from rfl]
  have hN : t.val < 16 := lt_of_lt_of_eq t.isLt (show cfg0.N = 16 from N_0)
  rw [show held m c (t.val + 1) = iprop(owns (c : Thread nD τ) scM0_0 fullShare (winB c (V m c main_arg2)) ∗ owns (c : Thread nD τ) scM0_1 fullShare (woutB c (V m c main_arg4))
      ∗ (∃ d, ⌜∀ h : t.val < cfg0.N, d = tailAt m c ⟨t.val, h⟩⌝ ∗ owns (c : Thread nD τ) scM0_2 fullShare d)) from rfl]
  unfold outAt
  by_cases h0 : t.val % 16 = 0
  · have h1 : t.val % 4 = 0 := by omega
    rw [show prevAt m c t = k0_pay12 from if_pos h1, show held m c t.val = held m c 0 from by rw [show t.val = 0 from by omega]]
    rw [show held m c 0 = iprop((∃ d, owns (c : Thread nD τ) scM0_0 fullShare d) ∗ (∃ d, owns (c : Thread nD τ) scM0_1 fullShare d) ∗ (∃ d, owns (c : Thread nD τ) scM0_2 fullShare d)) from rfl]
    iintro ⟨⟨⟨HS0, HS1, HS2⟩, HS3, HS4, Hg, Hq0, Hq1, Hq2, Hq3, Hq4, Hq5, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (V m c main_arg2) (V m c main_arg4) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, H2, H3, H4, H5, H6, HS0, HS1, HS2, HS3, HS4, Hq0, Hq1, Hq2, Hq3, Hq4, Hq5, Hh0, Hh1, ⟨%W', HW'⟩⟩
    isplitl [HS0 HS1 HS2 HS3 HS4 Hg Hq0 Hq1 Hq2 Hq3 Hq4 Hq5 Hh0 Hh1]
    · isplitl [HS0 HS1 HS2]
      · isplitl [HS0]; · iexact HS0
        isplitl [HS1]; · iexact HS1
        iexists _; isplitr; swap; · iexact HS2
        ipureintro; exact fun _ => rfl
      isplitl [HS3]; · iexact HS3
      isplitl [HS4]; · iexact HS4
      isplitl [Hg]; · iexact Hg
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ : ∃ n, t.val = n + 1 := ⟨t.val - 1, by omega⟩
    rw [show held m c t.val = held m c (n + 1) from by rw [hn]]
    rw [show held m c (n + 1) = iprop(owns (c : Thread nD τ) scM0_0 fullShare (winB c (V m c main_arg2)) ∗ owns (c : Thread nD τ) scM0_1 fullShare (woutB c (V m c main_arg4))
      ∗ (∃ d, ⌜∀ h : n < cfg0.N, d = tailAt m c ⟨n, h⟩⌝ ∗ owns (c : Thread nD τ) scM0_2 fullShare d)) from rfl]
    by_cases h1 : t.val % 4 = 0
    · rw [show prevAt m c t = k0_pay12 from if_pos h1]
      iintro ⟨⟨⟨HS0, HS1, ⟨%d12, %hd12, HS2⟩⟩, HS3, HS4, Hg, Hq0, Hq1, Hq2, Hq3, Hq4, Hq5, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (winB c (V m c main_arg2)) (woutB c (V m c main_arg4)) (V m c main_arg2) (V m c main_arg4) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexists _; iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hh0]; · iexact Hh0
      isplitl [Hh1]; · iexact Hh1
      isplitl [HW]; · iexact HW
      iintro ⟨H0, H1, H2, H3, H4, H5, H6, HS0, HS1, HS2, HS3, HS4, Hq0, Hq1, Hq2, Hq3, Hq4, Hq5, Hh0, Hh1, ⟨%W', HW'⟩⟩
      isplitl [HS0 HS1 HS2 HS3 HS4 Hg Hq0 Hq1 Hq2 Hq3 Hq4 Hq5 Hh0 Hh1]
      · isplitl [HS0 HS1 HS2]
        · isplitl [HS0]; · iexact HS0
          isplitl [HS1]; · iexact HS1
          iexists _; isplitr; swap; · iexact HS2
          ipureintro; exact fun _ => rfl
        isplitl [HS3]; · iexact HS3
        isplitl [HS4]; · iexact HS4
        isplitl [Hg]; · iexact Hg
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6
    · have hp : prevAt m c t = tailAt m c ⟨n, by rw [N_0']; omega⟩ := by
        unfold prevAt; rw [if_neg h1]; congr 1; exact Fin.ext (by show t.val - 1 = n; omega)
      rw [hp]
      iintro ⟨⟨⟨HS0, HS1, ⟨%d12, %hd12, HS2⟩⟩, HS3, HS4, Hg, Hq0, Hq1, Hq2, Hq3, Hq4, Hq5, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩⟩
      obtain rfl := hd12 (by rw [N_0']; omega)
      iapply (runC c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (winB c (V m c main_arg2)) (woutB c (V m c main_arg4)) (tailAt m c ⟨n, by rw [N_0']; omega⟩) (V m c main_arg2) (V m c main_arg4) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hh0]; · iexact Hh0
      isplitl [Hh1]; · iexact Hh1
      isplitl [HW]; · iexact HW
      iintro ⟨H0, H1, H2, H3, H4, H5, H6, HS0, HS1, HS2, HS3, HS4, Hq0, Hq1, Hq2, Hq3, Hq4, Hq5, Hh0, Hh1, ⟨%W', HW'⟩⟩
      isplitl [HS0 HS1 HS2 HS3 HS4 Hg Hq0 Hq1 Hq2 Hq3 Hq4 Hq5 Hh0 Hh1]
      · isplitl [HS0 HS1 HS2]
        · isplitl [HS0]; · iexact HS0
          isplitl [HS1]; · iexact HS1
          iexists _; isplitr; swap; · iexact HS2
          ipureintro; exact fun _ => rfl
        isplitl [HS3]; · iexact HS3
        isplitl [HS4]; · iexact HS4
        isplitl [Hg]; · iexact Hg
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hh0]; · iexact Hh0
        iexact Hh1
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point, -/
theorem Phi_in (c : Dev nD) : (Pipeline.ΦD osem0 spec0 H0 (V m) c : sProp 𝕄) ⊢ (dats m 0 c).Φ 0 := by
  rw [PhiD0_eq, show (dats m 0 c).Φ 0 = iprop(held m c 0 ∗ others m c) from rfl]
  unfold held others
  iintro ⟨⟨HS0, HS1, HS2, HS3, HS4⟩, Hg, ⟨Hq0, Hq1, Hq2, Hq3, Hq4, Hq5⟩, ⟨Hh0, Hh1⟩⟩
  isplitl [HS0 HS1 HS2]
  · isplitl [HS0]; · iexact HS0
    isplitl [HS1]; · iexact HS1
    iexact HS2
  isplitl [HS3]; · iexact HS3
  isplitl [HS4]; · iexact HS4
  isplitl [Hg]; · iexact Hg
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  iexact Hh1

/-- and takes it back after the last, the scratch at whatever it holds. -/
theorem Phi_out (c : Dev nD) : (dats m 0 c).Φ (Fin.last cfg0.N) ⊢ (Pipeline.ΦD osem0 spec0 H0 (V m) c : sProp 𝕄) := by
  rw [PhiD0_eq, show (dats m 0 c).Φ (Fin.last cfg0.N) = iprop(held m c (15 + 1) ∗ others m c) from rfl]
  unfold held others
  iintro ⟨⟨HS0, HS1, ⟨%d12, -, HS2⟩⟩, HS3, HS4, Hg, Hq0, Hq1, Hq2, Hq3, Hq4, Hq5, Hh0, Hh1⟩
  isplitl [HS0 HS1 HS2 HS3 HS4]
  · isplitl [HS0]; · iexists _; iexact HS0
    isplitl [HS1]; · iexists _; iexact HS1
    isplitl [HS2]; · iexists _; iexact HS2
    isplitl [HS3]; · iexact HS3
    iexact HS4
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

set_option backward.isDefEq.respectTransparency.types false in
/-- The run: every array at what the points wrote, every other buffer as the region found it, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- What the final state keeps: the eight arguments. -/
def kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

theorem kept_of {r : PUnit × MemSt nD τ sig (Elt F)} (h : Pipeline.FramePost cfgs (dats m) 0 (V m) r) (c : Dev nD) : kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 2).trans (((dats m 0 c).arrAt_in 2 rfl _).trans ((A_eq m c 2).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 4).trans (((dats m 0 c).arrAt_in 4 rfl _).trans ((A_eq m c 4).trans (V_main_arg6 m c))),
    ((h c).1 5).trans (((dats m 0 c).arrAt_in 5 rfl _).trans ((A_eq m c 5).trans (V_main_arg7 m c)))⟩

/-- The frame claim. -/
theorem frame_run : θ_run defs (onTc (τ := τ) (main (F := F))) ⟨m, fun _ => 0, ρ⟩ (fun r => (∀ c : Dev nD, kept m r c) ∧ r.2.sem = fun _ => 0) :=
  (θ_run defs _ _).mono (fun _ h => ⟨fun c => kept_of m h.1 c, h.2⟩) (run_main m ρ)

/-- The run with the result array named. -/
theorem value_run : θ_run defs (onTc (τ := τ) (main (F := F))) ⟨m, fun _ => 0, ρ⟩
    (fun r => ∀ c : Dev nD, r.2.mem ((c.tc : Thread nD τ).loc main_v3) = (dats m 0 c).arrAt 6 cfg0.N ∧ kept m r c) :=
  (θ_run defs _ _).mono (fun _ h c => ⟨(h.1 c).1 6, kept_of m h.1 c⟩) (run_main m ρ)

end Cert.Kernel2Ideal.Hand

end
-- ==== Proof.RowSpec2.lean ====
/-
  THE MIXER AND THE MEMORY ATTENTION, ROW BY ROW, over the extended reals. One row of 1024 numbers is normalised and projected;
  the gated product of this row and of the two rows before it in its sequence is summed with the three taps, gated and projected
  back, and added to the row; the result is normalised, multiplied by the prepared score matrix, turned into probabilities head
  by head (four heads of 256), multiplied by the prepared value matrix, and added. The finite numbers are followed through all of
  it up to the scores: with finite scores a head's sum of exponentials is at least one, and there dividing by the sum and
  multiplying by its reciprocal are the same.
-/
module

public import proofs.«01_k».proof.Proof.RowSpec
public import Idealize.ShloMosaic.Lib.IdealHost

@[expose] public section

noncomputable section

namespace Cert.RowSpec

open Idealize.ShloMosaic

/-- One of the three projections of a normalised row: 1024 columns of the input weights from column `o`. -/
def proj (h : Fin 1024 → EReal) (w : Fin 1024 → Fin 3072 → EReal) (o : ℕ) (ho : o ≤ 2048) (q : Fin 1024) : EReal :=
  ∑ k, h k * w k ⟨q.val + o, by omega⟩

/-- The gated product of a normalised row. -/
def gated (h : Fin 1024 → EReal) (w : Fin 1024 → Fin 3072 → EReal) (q : Fin 1024) : EReal :=
  proj h w 1024 (by omega) q * proj h w 2048 (by omega) q

/-- The convolution at one row: the gated products of this row and of the two before it, with the taps (earliest first). -/
def conv (c : Fin 3 → Fin 1024 → EReal) (z0 z1 z2 : Fin 1024 → EReal) (q : Fin 1024) : EReal :=
  c 2 q * z0 q + c 1 q * z1 q + c 0 q * z2 q

/-- The mixer's output with the residual. -/
def mix (x b v : Fin 1024 → EReal) (wo : Fin 1024 → Fin 1024 → EReal) (j : Fin 1024) : EReal :=
  x j + ∑ q, b q * v q * wo q j

/-- The gated product `k` rows before row `r` of the sequence `x`, zero before its first row. -/
def lag (x : Fin 4096 → Fin 1024 → EReal) (g : Fin 1024 → EReal) (w : Fin 1024 → Fin 3072 → EReal) (r : Fin 4096) (k : Fin 3) (q : Fin 1024) : EReal :=
  if h : k.val ≤ r.val then gated (norm (x ⟨r.val - k.val, by omega⟩) g) w q else 0

/-- The mixer on row `r` of the sequence `x`. -/
def mixer (x : Fin 4096 → Fin 1024 → EReal) (g : Fin 1024 → EReal) (w : Fin 1024 → Fin 3072 → EReal) (c : Fin 3 → Fin 1024 → EReal)
    (wo : Fin 1024 → Fin 1024 → EReal) (r : Fin 4096) : Fin 1024 → EReal :=
  mix (x r) (proj (norm (x r) g) w 0 (by omega)) (conv c (lag x g w r 0) (lag x g w r 1) (lag x g w r 2)) wo

/-- The scores of a row. -/
def scores (x g : Fin 1024 → EReal) (qk : Fin 1024 → Fin 1024 → EReal) (p : Fin 1024) : EReal := ∑ k, norm x g k * qk k p

/-- Column `j` of head `hd`. -/
def col (hd : Fin 4) (j : Fin 256) : Fin 1024 := ⟨256 * hd.val + j.val, by omega⟩

/-- A head's largest score, -/
def top (s : Fin 1024 → EReal) (hd : Fin 4) : EReal := Finset.fold max ⊥ (fun j : Fin 256 => s (col hd j)) Finset.univ

/-- the exponential of a score less the largest, -/
def numer (s : Fin 1024 → EReal) (hd : Fin 4) (j : Fin 256) : EReal := Ideal.exp (s (col hd j) - top s hd)

/-- their sum, -/
def denom (s : Fin 1024 → EReal) (hd : Fin 4) : EReal := ∑ j, numer s hd j

/-- the probability, -/
def prob (s : Fin 1024 → EReal) (hd : Fin 4) (j : Fin 256) : EReal := Ideal.div (numer s hd j) (denom s hd)

/-- and the same by the reciprocal of the sum. -/
def probR (s : Fin 1024 → EReal) (hd : Fin 4) (j : Fin 256) : EReal := numer s hd j * Ideal.div 1 (denom s hd)

/-- A column's head and its place in the head. -/
def hd (p : Fin 1024) : Fin 4 := ⟨p.val / 256, by omega⟩
def at' (p : Fin 1024) : Fin 256 := ⟨p.val % 256, by omega⟩

/-- The memory attention with the residual, for a way `pr` of making the probabilities. -/
def attend (pr : (Fin 1024 → EReal) → Fin 4 → Fin 256 → EReal) (x g : Fin 1024 → EReal) (qk vo : Fin 1024 → Fin 1024 → EReal) (j : Fin 1024) : EReal :=
  x j + ∑ p, pr (scores x g qk) (hd p) (at' p) * vo p j

/-! ## Finite numbers -/

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem IsReal.zero : IsReal 0 := ⟨0, EReal.coe_zero.symm⟩
theorem IsReal.sum {ι : Type} (s : Finset ι) (f : ι → EReal) (h : ∀ i, IsReal (f i)) : IsReal (∑ i ∈ s, f i) :=
  Finset.sum_induction f IsReal (fun _ _ => IsReal.add) IsReal.zero fun i _ => h i

/-- The two constants of the normalisation. -/
theorem width_eq : Ideal.ofBits FTy.f32 1149239296#32 = ((1024 : ℝ) : EReal) := by
  simp [Ideal.ofBits, Ideal.ieee, -EReal.coe_mul]; norm_num
theorem eps_pos : ∃ e : ℝ, 0 < e ∧ Ideal.ofBits FTy.f32 897988541#32 = (e : EReal) := by
  refine ⟨_, ?_, by simp [Ideal.ofBits, Ideal.ieee, -EReal.coe_mul]; rfl⟩
  positivity

theorem IsReal.norm {x g : Fin 1024 → EReal} (hx : ∀ k, IsReal (x k)) (hg : ∀ k, IsReal (g k)) (k : Fin 1024) : IsReal (norm x g k) := by
  have hs : ∃ s : ℝ, 0 ≤ s ∧ (∑ j, x j * x j) = (s : EReal) := by
    refine Finset.sum_induction (fun j => x j * x j) (fun y => ∃ s : ℝ, 0 ≤ s ∧ y = (s : EReal)) ?_ ⟨0, le_refl _, EReal.coe_zero.symm⟩ ?_
    · rintro _ _ ⟨a, ha, rfl⟩ ⟨b, hb, rfl⟩; exact ⟨a + b, add_nonneg ha hb, (EReal.coe_add a b).symm⟩
    · intro j _; obtain ⟨a, ha⟩ := hx j; exact ⟨a * a, mul_self_nonneg a, by simp only [ha]; exact (EReal.coe_mul a a).symm⟩
  obtain ⟨s, hs0, hs⟩ := hs
  obtain ⟨e, he0, he⟩ := eps_pos
  unfold RowSpec.norm
  refine ((hx k).mul ?_).mul (hg k)
  have hd : Ideal.div (s : EReal) ((1024 : ℝ) : EReal) = ((s * (1024 : ℝ)⁻¹ : ℝ) : EReal) := by
    unfold Ideal.div
    rw [if_neg (by rw [← EReal.coe_zero]; exact fun h => by have := EReal.coe_injective h; norm_num at this), ← EReal.coe_inv, ← EReal.coe_mul]
  rw [hs, he, width_eq, hd, ← EReal.coe_add]
  have hp : 0 < s * (1024 : ℝ)⁻¹ + e := add_pos_of_nonneg_of_pos (mul_nonneg hs0 (by norm_num)) he0
  refine ⟨(Real.sqrt (s * (1024 : ℝ)⁻¹ + e))⁻¹, ?_⟩
  show (if s * (1024 : ℝ)⁻¹ + e < 0 then (⊥ : EReal) else if s * (1024 : ℝ)⁻¹ + e = 0 then ⊤ else (((Real.sqrt (s * (1024 : ℝ)⁻¹ + e))⁻¹ : ℝ) : EReal)) = _
  rw [if_neg (not_lt.mpr hp.le), if_neg hp.ne']

theorem IsReal.proj {h : Fin 1024 → EReal} {w : Fin 1024 → Fin 3072 → EReal} (hh : ∀ k, IsReal (h k)) (hw : ∀ k q, IsReal (w k q))
    (o : ℕ) (ho : o ≤ 2048) (q : Fin 1024) : IsReal (proj h w o ho q) := IsReal.sum _ _ fun k => (hh k).mul (hw k _)

theorem IsReal.gated {h : Fin 1024 → EReal} {w : Fin 1024 → Fin 3072 → EReal} (hh : ∀ k, IsReal (h k)) (hw : ∀ k q, IsReal (w k q))
    (q : Fin 1024) : IsReal (gated h w q) := (IsReal.proj hh hw _ _ q).mul (IsReal.proj hh hw _ _ q)

theorem IsReal.conv {c : Fin 3 → Fin 1024 → EReal} {z0 z1 z2 : Fin 1024 → EReal} (hc : ∀ a q, IsReal (c a q)) (h0 : ∀ q, IsReal (z0 q))
    (h1 : ∀ q, IsReal (z1 q)) (h2 : ∀ q, IsReal (z2 q)) (q : Fin 1024) : IsReal (conv c z0 z1 z2 q) :=
  (((hc 2 q).mul (h0 q)).add ((hc 1 q).mul (h1 q))).add ((hc 0 q).mul (h2 q))

theorem IsReal.mix {x b v : Fin 1024 → EReal} {wo : Fin 1024 → Fin 1024 → EReal} (hx : ∀ k, IsReal (x k)) (hb : ∀ k, IsReal (b k))
    (hv : ∀ k, IsReal (v k)) (hw : ∀ k q, IsReal (wo k q)) (j : Fin 1024) : IsReal (mix x b v wo j) :=
  (hx j).add (IsReal.sum _ _ fun q => ((hb q).mul (hv q)).mul (hw q j))

theorem IsReal.lag {x : Fin 4096 → Fin 1024 → EReal} {g : Fin 1024 → EReal} {w : Fin 1024 → Fin 3072 → EReal} (hx : ∀ r k, IsReal (x r k))
    (hg : ∀ k, IsReal (g k)) (hw : ∀ k q, IsReal (w k q)) (r : Fin 4096) (k : Fin 3) (q : Fin 1024) : IsReal (lag x g w r k q) := by
  unfold RowSpec.lag
  split
  · exact IsReal.gated (IsReal.norm (hx _) hg) hw q
  · exact IsReal.zero

theorem IsReal.mixer {x : Fin 4096 → Fin 1024 → EReal} {g : Fin 1024 → EReal} {w : Fin 1024 → Fin 3072 → EReal} {c : Fin 3 → Fin 1024 → EReal}
    {wo : Fin 1024 → Fin 1024 → EReal} (hx : ∀ r k, IsReal (x r k)) (hg : ∀ k, IsReal (g k)) (hw : ∀ k q, IsReal (w k q)) (hc : ∀ a q, IsReal (c a q))
    (ho : ∀ k q, IsReal (wo k q)) (r : Fin 4096) (j : Fin 1024) : IsReal (mixer x g w c wo r j) :=
  IsReal.mix (hx r) (IsReal.proj (IsReal.norm (hx r) hg) hw _ _)
    (IsReal.conv hc (IsReal.lag hx hg hw r 0) (IsReal.lag hx hg hw r 1) (IsReal.lag hx hg hw r 2)) ho j

theorem IsReal.scores {x g : Fin 1024 → EReal} {qk : Fin 1024 → Fin 1024 → EReal} (hx : ∀ k, IsReal (x k)) (hg : ∀ k, IsReal (g k))
    (hq : ∀ k q, IsReal (qk k q)) (p : Fin 1024) : IsReal (scores x g qk p) := IsReal.sum _ _ fun k => (IsReal.norm hx hg k).mul (hq k p)

/-- A number whose absolute value is below the infinite one. -/
theorem IsReal.of_abs_lt {x : EReal} (h : Ideal.cmp .olt (max x (-x)) (Ideal.ofBits FTy.f32 0x7F800000#32) = 1#1) : IsReal x := by
  have htop : Ideal.ofBits FTy.f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

/-- The largest of finitely many (at least one) is one of them. -/
theorem top_mem (s : Fin 1024 → EReal) (hd : Fin 4) : ∃ j, top s hd = s (col hd j) := by
  have h : ∀ t : Finset (Fin 256), Finset.fold max ⊥ (fun j : Fin 256 => s (col hd j)) t = ⊥ ∨ ∃ j, Finset.fold max ⊥ (fun j : Fin 256 => s (col hd j)) t = s (col hd j) := by
    intro t
    induction t using Finset.induction_on with
    | empty => exact Or.inl Finset.fold_empty
    | insert a t ha ih =>
      rw [Finset.fold_insert ha]
      rcases max_choice (s (col hd a)) (Finset.fold max ⊥ (fun j : Fin 256 => s (col hd j)) t) with e | e
      · exact Or.inr ⟨a, e⟩
      · rcases ih with ih | ⟨j, ih⟩
        · exact Or.inl (e.trans ih)
        · exact Or.inr ⟨j, e.trans ih⟩
  have hle : s (col hd 0) ≤ top s hd := (Finset.le_fold_max _).mpr (Or.inr ⟨0, Finset.mem_univ _, le_refl _⟩)
  rcases h Finset.univ with e | e
  · exact ⟨0, le_antisymm (e.le.trans bot_le) hle⟩
  · exact e

theorem exp_nonneg (x : EReal) : 0 ≤ Ideal.exp x := by
  induction x using EReal.rec with
  | bot => exact le_refl _
  | top => exact le_top
  | coe r => exact EReal.coe_nonneg.mpr (Real.exp_pos r).le

/-- With finite scores a head's sum of exponentials is not zero. -/
theorem denom_ne_zero {s : Fin 1024 → EReal} (hs : ∀ p, IsReal (s p)) (hd : Fin 4) : denom s hd ≠ 0 := by
  obtain ⟨j, hj⟩ := top_mem s hd
  obtain ⟨r, hr⟩ := hs (col hd j)
  have h1 : numer s hd j = 1 := by
    unfold numer
    rw [hj, hr, ← EReal.coe_sub, sub_self]
    show ((Real.exp 0 : ℝ) : EReal) = 1
    rw [Real.exp_zero, EReal.coe_one]
  have h2 : (1 : EReal) ≤ denom s hd := h1 ▸ Finset.single_le_sum (f := fun j => numer s hd j) (fun i _ => exp_nonneg _) (Finset.mem_univ j)
  intro e
  rw [e] at h2
  exact absurd h2 (by simp)

/-- So the two ways of making the probabilities are one. -/
theorem probR_eq {s : Fin 1024 → EReal} (hs : ∀ p, IsReal (s p)) : probR s = prob s :=
  funext fun hd => funext fun _ => Ideal.mul_one_div (denom_ne_zero hs hd)

end Cert.RowSpec

end
-- ==== Proof.TileValue2.lean ====
/-
  ONE TILE OF THE SECOND KERNEL, ROW BY ROW. The arithmetic on 512 rows read at an index over the extended reals: the gated
  product, its two shifts (which take their first rows from the eight rows before the tile), the mixer, and the attention.
-/
module

public import proofs.«01_k».proof.Proof.Run2BC
public import proofs.«01_k».proof.Proof.RowSpec2
public import proofs.«01_k».proof.Proof.TileValue

@[expose] public section

set_option maxRecDepth 16384

noncomputable section

namespace Cert.Kernel2Ideal.Hand

open Idealize.ShloMosaic Idealize.ShloMosaic.TcCoe
open Cert.Kernel2Ideal.Gen

theorem pay13_at (v : Vec Ideal S512x1024 .f32) (r : Fin 512) (k : Fin 1024) : k0_pay13 v (ix2 r k) = v (ix2 r k) := by
  pointwise [k0_pay13]

/-- The first normalisation. -/
theorem pay14_at (v : Vec Ideal S512x1024 .f32) (g : Vec Ideal S1x1x1024 .f32) (r : Fin 512) (k : Fin 1024) :
    k0_pay14 v g (ix2 r k) = RowSpec.norm (fun j => v (ix2 r j)) (fun j => g (ix3 0 0 j)) k := by
  unfold RowSpec.norm
  pointwise [k0_pay14, k0_pay13]

theorem pay15_at (h : FVec Ideal S512x1024 .bf16) (w : Vec Ideal S1024x1024 .bf16) (r : Fin 512) (q : Fin 1024) :
    k0_pay15 h w (constant S512x1024 .f32 0x00000000#32) (ix2 r q) = ∑ k, h (ix2 r k) * w (ix2 k q) := by
  pointwise [k0_pay15]

/-- The gated product. -/
theorem pay16_at (h : FVec Ideal S512x1024 .bf16) (wc wx : Vec Ideal S1024x1024 .bf16) (r : Fin 512) (q : Fin 1024) :
    k0_pay16 h wc wx (ix2 r q) = (∑ k, h (ix2 r k) * wc (ix2 k q)) * ∑ k, h (ix2 r k) * wx (ix2 k q) := by
  pointwise [k0_pay16]

theorem pay17_at (h : FVec Ideal S512x1024 .bf16) (wc wx : Vec Ideal S1024x1024 .bf16) (i : Fin 8) (q : Fin 1024) :
    k0_pay17 h wc wx (ix2 i q) = k0_pay16 h wc wx (ix2 ⟨504 + i.val, by omega⟩ q) := by
  pointwise [k0_pay17]

/-- Rows shifted down by `n`, the first ones taken from the rows before. -/
def shiftV (n : BitVec 32) (z : FVec Ideal S512x1024 .f32) (pr : Vec Ideal S8x1024 .f32) : FVec Ideal S512x1024 .f32 :=
  concatenate S512x1024 0 [⟨S8x1024, (select (cmpi .slt (iota .tc S8x1024 32 [0] iota_S8x1024_d0_w32) (broadcast S8x1024 n)) (dynamicRotate 0 n none pr rotates_S8x1024_d0)
      (extractStridedSlice S8x1024 ![0, 0] (dynamicRotate 0 n none z rotates_S512x1024_d0) slices_S512x1024_o0_0_S8x1024) : FVec Ideal S8x1024 .f32)⟩,
    ⟨S504x1024, extractStridedSlice S504x1024 ![8, 0] (dynamicRotate 0 n none z rotates_S512x1024_d0) slices_S512x1024_o8_0_S504x1024⟩]
    concatenates_S8x1024_S504x1024_S512x1024_d0

/-- Row `r` of the rows shifted by `k`. -/
def lagRow (k : Fin 3) (z : FVec Ideal S512x1024 .f32) (pr : Vec Ideal S8x1024 .f32) (r : Fin 512) (q : Fin 1024) : EReal :=
  if h : k.val ≤ r.val then z (ix2 ⟨r.val - k.val, by omega⟩ q) else pr (ix2 ⟨8 + r.val - k.val, by omega⟩ q)

/-- A select on "row below `k`" of the first eight rows. -/
theorem sel_lt (k : Nat) (hk : k < 8) (i : Fin 8) (a b : EReal) :
    (Scalar.select (IntOp.cmpi CmpIPredicate.slt (BitVec.ofNat 32 i.val) (BitVec.ofNat 32 k)) a b : EReal) = if i.val < k then a else b := by
  have h : ∀ k i : Fin 8, IntOp.cmpi CmpIPredicate.slt (BitVec.ofNat 32 i.val) (BitVec.ofNat 32 k.val) = if i.val < k.val then 1#1 else 0#1 := by decide
  rw [h ⟨k, hk⟩ i]
  by_cases hik : i.val < k
  · rw [if_pos hik, if_pos hik]; rfl
  · rw [if_neg hik, if_neg hik]; rfl

theorem shift1_at (z : FVec Ideal S512x1024 .f32) (pr : Vec Ideal S8x1024 .f32) (r : Fin 512) (q : Fin 1024) :
    shiftV 1#32 z pr (ix2 r q) = lagRow 1 z pr r q := by
  unfold lagRow
  pointwise [shiftV]
  by_cases h8 : r.val < 8
  · rw [dif_pos h8]
    refine (sel_lt 1 (by omega) ⟨r.val, h8⟩ _ _).trans ?_
    by_cases h : r.val < 1
    · rw [if_pos h, dif_neg (by show ¬ 1 ≤ r.val; omega)]
      exact congrArg (fun i => pr (ix2 i q)) (Fin.ext (by show (r.val + 8 - 1) % 8 = 8 + r.val - 1; omega))
    · rw [if_neg h, dif_pos (by show 1 ≤ r.val; omega)]
      exact congrArg (fun i => z (ix2 i q)) (Fin.ext (by show (r.val + 512 - 1) % 512 = r.val - 1; omega))
  · rw [dif_neg h8, dif_pos (by show 1 ≤ r.val; omega)]
    exact congrArg (fun i => z (ix2 i q)) (Fin.ext (by show (8 + (r.val - 8) + 512 - 1) % 512 = r.val - 1; omega))

theorem shift2_at (z : FVec Ideal S512x1024 .f32) (pr : Vec Ideal S8x1024 .f32) (r : Fin 512) (q : Fin 1024) :
    shiftV 2#32 z pr (ix2 r q) = lagRow 2 z pr r q := by
  unfold lagRow
  pointwise [shiftV]
  by_cases h8 : r.val < 8
  · rw [dif_pos h8]
    refine (sel_lt 2 (by omega) ⟨r.val, h8⟩ _ _).trans ?_
    by_cases h : r.val < 2
    · rw [if_pos h, dif_neg (by show ¬ 2 ≤ r.val; omega)]
      exact congrArg (fun i => pr (ix2 i q)) (Fin.ext (by show (r.val + 8 - 2) % 8 = 8 + r.val - 2; omega))
    · rw [if_neg h, dif_pos (by show 2 ≤ r.val; omega)]
      exact congrArg (fun i => z (ix2 i q)) (Fin.ext (by show (r.val + 512 - 2) % 512 = r.val - 2; omega))
  · rw [dif_neg h8, dif_pos (by show 2 ≤ r.val; omega)]
    exact congrArg (fun i => z (ix2 i q)) (Fin.ext (by show (8 + (r.val - 8) + 512 - 2) % 512 = r.val - 2; omega))

/-- The mixer's tile, its two shifts named. -/
def mixF (v b z : FVec Ideal S512x1024 .f32) (s1 s2 : FVec Ideal S512x1024 .f32) (c2 c1 c0 : Vec Ideal S1x1x1024 .f32) (wo : FVec Ideal S1024x1024 .bf16) : FVec Ideal S512x1024 .f32 :=
  addf v (matmul dot_S512x1024_S1024x1024_S512x1024_1_0_0_1_n_n none
    (truncf .bf16 (mulf b (addf (addf (mulf (broadcastTo S512x1024 (shapeCast S1x1024 c2 shapeCasts_S1x1x1024_S1x1024) broadcasts_S1x1024_S512x1024) z)
      (mulf (broadcastTo S512x1024 (shapeCast S1x1024 c1 shapeCasts_S1x1x1024_S1x1024) broadcasts_S1x1024_S512x1024) s1))
      (mulf (broadcastTo S512x1024 (shapeCast S1x1024 c0 shapeCasts_S1x1x1024_S1x1024) broadcasts_S1x1024_S512x1024) s2))) bitsLt_bf16_f32) wo
    (constant S512x1024 .f32 0x00000000#32))

theorem mixV_eq (v : Vec Ideal S512x1024 .f32) (g c2 c1 c0 : Vec Ideal S1x1x1024 .f32) (wb wc wx wo : Vec Ideal S1024x1024 .bf16) (pr : Vec Ideal S8x1024 .f32) :
    mixV v g c2 c1 c0 wb wc wx wo pr
      = mixF (k0_pay13 v) (k0_pay15 (k0_pay14 v g) wb (constant S512x1024 .f32 0x00000000#32)) (k0_pay16 (k0_pay14 v g) wc wx)
          (shiftV 1#32 (k0_pay16 (k0_pay14 v g) wc wx) pr) (shiftV 2#32 (k0_pay16 (k0_pay14 v g) wc wx) pr) c2 c1 c0 wo := rfl

theorem mixF_at (v b z s1 s2 : FVec Ideal S512x1024 .f32) (c2 c1 c0 : Vec Ideal S1x1x1024 .f32) (wo : Vec Ideal S1024x1024 .bf16) (r : Fin 512) (j : Fin 1024) :
    mixF v b z s1 s2 c2 c1 c0 wo (ix2 r j)
      = v (ix2 r j) + ∑ q, b (ix2 r q) * (c2 (ix3 0 0 q) * z (ix2 r q) + c1 (ix3 0 0 q) * s1 (ix2 r q) + c0 (ix3 0 0 q) * s2 (ix2 r q)) * wo (ix2 q j) := by
  pointwise [mixF]

/-- The scores. -/
theorem pay36_at (x : FVec Ideal S512x1024 .f32) (g : FVec Ideal S1x1024 .f32) (qk : Vec Ideal S1x1x1024x1024 .bf16) (r : Fin 512) (p : Fin 1024) :
    k0_pay36 x g qk (ix2 r p)
      = RowSpec.scores (fun j => x (ix2 r j)) (fun j => g (ix2 0 j)) (fun k p => qk (ix4 0 0 k p)) p := by
  unfold RowSpec.scores RowSpec.norm
  pointwise [k0_pay36]

theorem neg_inf : Ideal.ofBits FTy.f32 4286578688#32 = ⊥ := by simp [Ideal.ofBits, Ideal.ieee]

/-- The first two heads' probabilities. -/
theorem pay37_at (x : FVec Ideal S512x1024 .f32) (g : FVec Ideal S1x1024 .f32) (qk : Vec Ideal S1x1x1024x1024 .bf16) (r : Fin 512) (j : Fin 256) :
    k0_pay37 x g qk (ix2 r j) = RowSpec.probR (fun p => k0_pay36 x g qk (ix2 r p)) 0 j := by
  pointwise [k0_pay37]
  rw [neg_inf]
  unfold RowSpec.probR RowSpec.denom RowSpec.numer RowSpec.top RowSpec.col
  simp only [Fin.val_zero, Nat.mul_zero, Nat.zero_add]
theorem pay38_at (x : FVec Ideal S512x1024 .f32) (g : FVec Ideal S1x1024 .f32) (qk : Vec Ideal S1x1x1024x1024 .bf16) (r : Fin 512) (j : Fin 256) :
    k0_pay38 x g qk (ix2 r j) = RowSpec.probR (fun p => k0_pay36 x g qk (ix2 r p)) 1 j := by
  pointwise [k0_pay38]
  rw [neg_inf]
  rfl
theorem pay39_at (x : FVec Ideal S512x1024 .f32) (g : FVec Ideal S1x1024 .f32) (qk : Vec Ideal S1x1x1024x1024 .bf16) (r : Fin 512) (j : Fin 256) :
    k0_pay39 x g qk (ix2 r j) = k0_pay36 x g qk (ix2 r (RowSpec.col 2 j)) := by
  pointwise [k0_pay39]
  rfl
theorem pay40_at (x : FVec Ideal S512x1024 .f32) (g : FVec Ideal S1x1024 .f32) (qk : Vec Ideal S1x1x1024x1024 .bf16) (r : Fin 512) :
    k0_pay40 x g qk (ix1 r) = RowSpec.top (fun p => k0_pay36 x g qk (ix2 r p)) 2 := by
  pointwise [k0_pay40]
  simp only [pay39_at]
  rw [neg_inf]
  rfl

theorem pay35_at (vo : Vec Ideal S1x1x1024x1024 .bf16) (p j : Fin 1024) : k0_pay35 vo (ix2 p j) = vo (ix4 0 0 p j) := by
  pointwise [k0_pay35]
theorem pay34_at (g : Vec Ideal S1x1x1024 .f32) (j : Fin 1024) : k0_pay34 g (ix2 0 j) = g (ix3 0 0 j) := by
  pointwise [k0_pay34]

/-- The attention's tile at an index. -/
theorem attV_at (x : FVec Ideal S512x1024 .f32) (g : FVec Ideal S1x1024 .f32) (qk vo : Vec Ideal S1x1x1024x1024 .bf16) (r : Fin 512) (j : Fin 1024) :
    attV x g qk vo (ix2 r j)
      = RowSpec.attend RowSpec.probR (fun k => x (ix2 r k)) (fun k => g (ix2 0 k)) (fun k p => qk (ix4 0 0 k p)) (fun p k => vo (ix4 0 0 p k)) j := by
  have hs : (fun p => k0_pay36 x g qk (ix2 r p)) = RowSpec.scores (fun k => x (ix2 r k)) (fun k => g (ix2 0 k)) (fun k p => qk (ix4 0 0 k p)) :=
    funext fun p => pay36_at x g qk r p
  unfold attV RowSpec.attend
  rw [← hs]
  pointwise [k0_pay1]
  refine congrArg (x (ix2 r j) + ·) (Finset.sum_congr rfl fun p _ => congrArg₂ (· * ·) ?_ (pay35_at vo p j))
  have hp : ∀ (h : Fin 4) (i : Fin 256), p.val = 256 * h.val + i.val → RowSpec.hd p = h ∧ RowSpec.at' p = i := fun h i e =>
    ⟨Fin.ext (by show p.val / 256 = h.val; omega), Fin.ext (by show p.val % 256 = i.val; omega)⟩
  split
  · rename_i h0
    obtain ⟨e1, e2⟩ := hp 0 ⟨p.val, h0⟩ (by show p.val = 256 * 0 + p.val; omega)
    rw [e1, e2]; exact pay37_at x g qk r _
  · split
    · rename_i h0 h1
      obtain ⟨e1, e2⟩ := hp 1 ⟨p.val - 256, h1⟩ (by show p.val = 256 * 1 + (p.val - 256); omega)
      rw [e1, e2]; exact pay38_at x g qk r _
    · split
      · rename_i h0 h1 h2
        obtain ⟨e1, e2⟩ := hp 2 ⟨p.val - 256 - 256, h2⟩ (by show p.val = 256 * 2 + (p.val - 256 - 256); omega)
        rw [e1, e2]
        simp only [pay39_at, pay40_at]
        rfl
      · rename_i h0 h1 h2
        obtain ⟨e1, e2⟩ := hp 3 ⟨p.val - 256 - 256 - 256, by omega⟩ (by show p.val = 256 * 3 + (p.val - 256 - 256 - 256); omega)
        rw [e1, e2, neg_inf]
        rfl

/-- The gated product of a tile's row, from the resident weights, -/
theorem gate_at (v : Vec Ideal S512x1024 .f32) (x1 : Vec Ideal S1x1x1024 .f32) (w10 : Vec Ideal S1024x3072 .bf16) (h1 h2) (r : Fin 512) (q : Fin 1024) :
    k0_pay16 (k0_pay14 v x1) (wcol w10 1024 h1) (wcol w10 2048 h2) (ix2 r q)
      = RowSpec.gated (RowSpec.norm (fun k => v (ix2 r k)) (fun k => x1 (ix3 0 0 k))) (fun k q => w10 (ix2 k q)) q := by
  rw [pay16_at]
  simp only [pay14_at]
  unfold RowSpec.gated RowSpec.proj wcol
  exact congrArg₂ (· * ·)
    (Finset.sum_congr rfl fun k _ => congrArg₂ (· * ·) rfl (Cert.KernelIdeal.Hand.ld2_at w10 0 1024 _ k q k ⟨q.val + 1024, by omega⟩ rfl rfl))
    (Finset.sum_congr rfl fun k _ => congrArg₂ (· * ·) rfl (Cert.KernelIdeal.Hand.ld2_at w10 0 2048 _ k q k ⟨q.val + 2048, by omega⟩ rfl rfl))

/-- its first projection, -/
theorem first_at (v : Vec Ideal S512x1024 .f32) (x1 : Vec Ideal S1x1x1024 .f32) (w10 : Vec Ideal S1024x3072 .bf16) (h0) (r : Fin 512) (q : Fin 1024) :
    k0_pay15 (k0_pay14 v x1) (wcol w10 0 h0) (constant S512x1024 .f32 0x00000000#32) (ix2 r q)
      = RowSpec.proj (RowSpec.norm (fun k => v (ix2 r k)) (fun k => x1 (ix3 0 0 k))) (fun k q => w10 (ix2 k q)) 0 (by omega) q := by
  rw [pay15_at]
  simp only [pay14_at]
  unfold RowSpec.proj wcol
  exact Finset.sum_congr rfl fun k _ => congrArg₂ (· * ·) rfl (Cert.KernelIdeal.Hand.ld2_at w10 0 0 _ k q k ⟨q.val + 0, by omega⟩ rfl rfl)

/-- and the last eight rows of its gated product. -/
theorem tileTail_at (v : Vec Ideal S512x1024 .f32) (x1 : Vec Ideal S1x1x1024 .f32) (w10 : Vec Ideal S1024x3072 .bf16) (i : Fin 8) (q : Fin 1024) :
    tileTail v x1 w10 (ix2 i q)
      = RowSpec.gated (RowSpec.norm (fun k => v (ix2 ⟨504 + i.val, by omega⟩ k)) (fun k => x1 (ix3 0 0 k))) (fun k q => w10 (ix2 k q)) q := by
  unfold tileTail
  rw [pay17_at, gate_at]

/-- A tap. -/
theorem tap_at (x2 : Vec Ideal S1x3x1024 .f32) (k : Fin 3) (h) (q : Fin 1024) : tap x2 k.val h (ix3 0 0 q) = x2 (ix3 0 k q) :=
  View.ld_unit_apply_of x2 _ _ _ _ _ fun a => match a with
    | ⟨0, _⟩ => rfl
    | ⟨1, _⟩ => rfl
    | ⟨2, _⟩ => (Nat.zero_add _).symm

/-- The eight gated rows of the sequence `x` before its row `n`, zero where there are none. -/
def before (x : Fin 4096 → Fin 1024 → EReal) (g : Fin 1024 → EReal) (w : Fin 1024 → Fin 3072 → EReal) (n : Fin 4096) (i : Fin 8) (q : Fin 1024) : EReal :=
  if h : 8 ≤ n.val + i.val then RowSpec.gated (RowSpec.norm (x ⟨n.val + i.val - 8, by omega⟩) g) w q else 0

/-- A tile's lagged rows are the sequence's. -/
theorem lagRow_eq (x : Fin 4096 → Fin 1024 → EReal) (g : Fin 1024 → EReal) (w : Fin 1024 → Fin 3072 → EReal) (n : Fin 4096) (hn : n.val ≤ 3584)
    (z : FVec Ideal S512x1024 .f32) (pr : Vec Ideal S8x1024 .f32)
    (hz : ∀ (r : Fin 512) (q : Fin 1024), z (ix2 r q) = RowSpec.gated (RowSpec.norm (x ⟨n.val + r.val, by omega⟩) g) w q)
    (hp : ∀ (i : Fin 8) (q : Fin 1024), pr (ix2 i q) = before x g w n i q)
    (k : Fin 3) (r : Fin 512) (q : Fin 1024) : lagRow k z pr r q = RowSpec.lag x g w ⟨n.val + r.val, by omega⟩ k q := by
  have hk := k.isLt
  unfold lagRow RowSpec.lag
  by_cases h : k.val ≤ r.val
  · rw [dif_pos h, dif_pos (by show k.val ≤ n.val + r.val; omega), hz]
    exact congrArg (fun i => RowSpec.gated (RowSpec.norm (x i) g) w q) (Fin.ext (by show n.val + (r.val - k.val) = n.val + r.val - k.val; omega))
  · rw [dif_neg h, hp]
    unfold before
    by_cases h' : k.val ≤ n.val + r.val
    · rw [dif_pos h', dif_pos (by show 8 ≤ n.val + (8 + r.val - k.val); omega)]
      exact congrArg (fun i => RowSpec.gated (RowSpec.norm (x i) g) w q) (Fin.ext (by show n.val + (8 + r.val - k.val) - 8 = n.val + r.val - k.val; omega))
    · rw [dif_neg h', dif_neg (by show ¬ 8 ≤ n.val + (8 + r.val - k.val); omega)]

/-- One tile that holds the sequence's rows from `n`, with the gated rows before it: the mixer and the attention on its rows. -/
theorem tile_row (x : Fin 4096 → Fin 1024 → EReal) (n : Fin 4096) (hn : n.val ≤ 3584)
    (v : Vec Ideal S512x1024 .f32) (x1 : Vec Ideal S1x1x1024 .f32) (x2 : Vec Ideal S1x3x1024 .f32) (x3 : Vec Ideal S1x1x1024 .f32)
    (x4 x5 : Vec Ideal S1x1x1024x1024 .bf16) (w10 : Vec Ideal S1024x3072 .bf16) (w11 : Vec Ideal S1024x1024 .bf16) (pr : Vec Ideal S8x1024 .f32)
    (hv : ∀ (r : Fin 512) (k : Fin 1024), v (ix2 r k) = x ⟨n.val + r.val, by omega⟩ k)
    (hp : ∀ (i : Fin 8) (q : Fin 1024), pr (ix2 i q) = before x (fun k => x1 (ix3 0 0 k)) (fun k q => w10 (ix2 k q)) n i q)
    (r : Fin 512) (j : Fin 1024) :
    tile v x1 x2 x3 x4 x5 w10 w11 pr (ix2 r j)
      = RowSpec.attend RowSpec.probR (RowSpec.mixer x (fun k => x1 (ix3 0 0 k)) (fun k q => w10 (ix2 k q)) (fun a q => x2 (ix3 0 a q)) (fun q j => w11 (ix2 q j)) ⟨n.val + r.val, by omega⟩)
          (fun k => x3 (ix3 0 0 k)) (fun k p => x4 (ix4 0 0 k p)) (fun p k => x5 (ix4 0 0 p k)) j := by
  have hr : ∀ r : Fin 512, (fun k => v (ix2 r k)) = x ⟨n.val + r.val, by omega⟩ := fun r => funext fun k => hv r k
  have hz : ∀ (h1 h2) (r : Fin 512) (q : Fin 1024), k0_pay16 (k0_pay14 v x1) (wcol w10 1024 h1) (wcol w10 2048 h2) (ix2 r q)
      = RowSpec.gated (RowSpec.norm (x ⟨n.val + r.val, by omega⟩) (fun k => x1 (ix3 0 0 k))) (fun k q => w10 (ix2 k q)) q := fun h1 h2 r q => by rw [gate_at, hr]
  unfold tile tileV
  rw [attV_at]
  simp only [pay34_at]
  refine congrArg (fun y => RowSpec.attend RowSpec.probR y _ _ _ j) (funext fun k => ?_)
  rw [mixV_eq, mixF_at]
  unfold RowSpec.mixer RowSpec.mix
  refine congrArg₂ (· + ·) ((pay13_at v r k).trans (hv r k)) (Finset.sum_congr rfl fun q _ => congrArg₂ (· * ·) (congrArg₂ (· * ·) ?_ ?_) rfl)
  · rw [first_at, hr]
  · rw [shift1_at, shift2_at, lagRow_eq x _ _ n hn _ pr (hz _ _) hp 1 r q, lagRow_eq x _ _ n hn _ pr (hz _ _) hp 2 r q]
    unfold RowSpec.conv
    refine congrArg₂ (· + ·) (congrArg₂ (· + ·) (congrArg₂ (· * ·) (tap_at x2 2 _ q) ?_) (congrArg₂ (· * ·) (tap_at x2 1 _ q) rfl)) (congrArg₂ (· * ·) (tap_at x2 0 _ q) rfl)
    refine (hz _ _ r q).trans ?_
    unfold RowSpec.lag
    rw [dif_pos (show (0 : Fin 3).val ≤ n.val + r.val from Nat.zero_le _)]
    rfl

end Cert.Kernel2Ideal.Hand

end
-- ==== Proof.ArrayValue2.lean ====
/-
  THE SECOND KERNEL'S RESULT ARRAY. The sixteen blocks that the grid writes tile the array of 16384 rows: four points to a
  sequence. Row `r` of a sequence is the mixer and the attention on row `r` of the input; the gated rows that a point needs from
  before its block are those that the point before it left, and none at a sequence's start.
-/
module

public import proofs.«01_k».proof.Proof.Launch2
public import proofs.«01_k».proof.Proof.TileValue2

@[expose] public section

set_option maxRecDepth 16384

noncomputable section

namespace Cert.Kernel2Ideal.Hand

open Idealize.ShloMosaic Idealize.ShloMosaic.TcCoe
open Idealize.ShloMosaic.Pipeline (Dat)
open Cert.Kernel2Ideal.Gen

variable (m : (ℓ : Loc nD τ sig) → Buf (Elt Ideal) ℓ)

/-- The input weights, as the body's copies see them, entry by entry. -/
theorem winB_at (c : Dev nD) (fh : HbBuf0 (F := Ideal) c hbM0_0) (k : Fin 1024) (q : Fin 3072) :
    winB c fh (ix2 k q) = (show FVec Ideal S1x1024x3072 .f32 from fh) (ix3 0 k q) := by
  unfold winB winF
  refine (congrFun (Memref.read_squeeze_slice (s' := S1024x3072) hbM0_0 (Rect.unit (s := S1x1024x3072) ![0, 0, 0] S1x1024x3072.size inb_S1x1024x3072_S1x1024x3072_0_0_0) (fun _ => rfl)
    squeezes_S1x1024x3072_S1024x3072 (by decide) fh) (ix2 k q)).trans ?_
  refine (shapeCast_dropUnit_apply ![1024, 3072] _ _ (ix2 k q)).trans ?_
  refine congrArg fh (funext fun a => Fin.ext ?_)
  match a with
  | ⟨0, _⟩ => rfl
  | ⟨1, _⟩ => show 0 + 1 * k.val = k.val; omega
  | ⟨2, _⟩ => show 0 + 1 * q.val = q.val; omega

/-- The output weights likewise. -/
theorem woutB_at (c : Dev nD) (fh : HbBuf0 (F := Ideal) c hbM0_1) (k : Fin 1024) (q : Fin 1024) :
    woutB c fh (ix2 k q) = (show FVec Ideal S1x1024x1024 .f32 from fh) (ix3 0 k q) := by
  unfold woutB woutF
  refine (congrFun (Memref.read_squeeze_slice (s' := S1024x1024) hbM0_1 (Rect.unit (s := S1x1024x1024) ![0, 0, 0] S1x1024x1024.size inb_S1x1024x1024_S1x1024x1024_0_0_0) (fun _ => rfl)
    squeezes_S1x1024x1024_S1024x1024 (by decide) fh) (ix2 k q)).trans ?_
  refine (shapeCast_dropUnit_apply ![1024, 1024] _ _ (ix2 k q)).trans ?_
  refine congrArg fh (funext fun a => Fin.ext ?_)
  match a with
  | ⟨0, _⟩ => rfl
  | ⟨1, _⟩ => show 0 + 1 * k.val = k.val; omega
  | ⟨2, _⟩ => show 0 + 1 * q.val = q.val; omega

/-- The rows as the region finds them: the input's, laid end to end. -/
theorem V_v0 (c : Dev nD) : V m c main_v0 = shapeCast S16384x1024 (show FVec Ideal S4x4096x1024 .f32 from m ((c : Thread nD τ).loc main_arg0)) shapeCasts_S4x4096x1024_S16384x1024 := by
  unfold V hostOps0; after_results; rfl
theorem V_v1 (c : Dev nD) : V m c main_v1 = shapeCast S2x1x1024 (show FVec Ideal S2x1024 .f32 from m ((c : Thread nD τ).loc main_arg1)) shapeCasts_S2x1024_S2x1x1024 := by
  unfold V hostOps0; after_results; rfl
theorem V_v2 (c : Dev nD) : V m c main_v2 = shapeCast S2x1x1024 (show FVec Ideal S2x1024 .f32 from m ((c : Thread nD τ).loc main_arg5)) shapeCasts_S2x1024_S2x1x1024 := by
  unfold V hostOps0; after_results; rfl

/-- Rows laid end to end, at an index. -/
theorem flat_at (x : FVec Ideal S4x4096x1024 .f32) (r : Fin 16384) (k : Fin 1024) :
    shapeCast S16384x1024 x shapeCasts_S4x4096x1024_S16384x1024 (ix2 r k)
      = x (ix3 ⟨r.val / 4096, by omega⟩ ⟨r.val % 4096, by omega⟩ k) := by
  pointwise

theorem gainCast_at (x : FVec Ideal S2x1024 .f32) (k : Fin 1024) :
    shapeCast S2x1x1024 x shapeCasts_S2x1024_S2x1x1024 (ix3 0 0 k) = x (ix2 0 k) := by
  pointwise

/-- A point's sequence, and where in it the point's block starts. -/
def seqOf (t : Fin cfg0.N) : Fin 4 := ⟨t.val / 4, by have := lt_of_lt_of_eq t.isLt N_0; omega⟩

/-- The input's sequence `b`. -/
def seqIn (c : Dev nD) (b : Fin 4) : Fin 4096 → Fin 1024 → EReal := fun r k => (show FVec Ideal S4x4096x1024 .f32 from m ((c : Thread nD τ).loc main_arg0)) (ix3 b r k)

/-- The blocks' entries. -/
theorem iblk0_at (c : Dev nD) (t : Fin cfg0.N) (r : Fin 1024) (k : Fin 1024) (s : Fin 4096) (hs : s.val = 1024 * (t.val % 4) + r.val) :
    (show FVec Ideal S1024x1024 .f32 from iblk m c 0 t) (ix2 r k) = seqIn m c (seqOf t) s k := by
  have e : (grid0.coords t 0).val = t.val / 1 % 16 := Pipeline.Grid.coords_val t 0 (by decide) rfl
  have ht : t.val < 16 := lt_of_lt_of_eq t.isLt N_0
  have h1 : (show FVec Ideal S1024x1024 .f32 from iblk m c 0 t) (ix2 r k) = (show FVec Ideal S16384x1024 .f32 from V m c main_v0) (ix2 ⟨1024 * t.val + r.val, by omega⟩ k) := by
    refine congrArg (V m c main_v0) (funext fun a => Fin.ext ?_)
    match a with
    | ⟨0, _⟩ =>
      show (BitVec.ofNat 32 (grid0.coords t 0).val).toNat * 1024 + 1 * r.val = 1024 * t.val + r.val
      rw [BitVec.toNat_ofNat, e]; omega
    | ⟨1, _⟩ => show 0 * 1024 + 1 * k.val = k.val; omega
  rw [h1, V_v0]
  refine (flat_at _ _ k).trans ?_
  unfold seqIn
  exact congrArg₂ (fun b s => (show FVec Ideal S4x4096x1024 .f32 from m ((c : Thread nD τ).loc main_arg0)) (ix3 b s k))
    (Fin.ext (by show (1024 * t.val + r.val) / 4096 = t.val / 4; omega)) (Fin.ext (by show (1024 * t.val + r.val) % 4096 = s.val; omega))
theorem iblk1_at (c : Dev nD) (t : Fin cfg0.N) (k : Fin 1024) :
    (show FVec Ideal S1x1x1024 .f32 from iblk m c 1 t) (ix3 0 0 k) = (show FVec Ideal S2x1024 .f32 from m ((c : Thread nD τ).loc main_arg1)) (ix2 0 k) := by
  refine (show _ = (show FVec Ideal S2x1x1024 .f32 from V m c main_v1) (ix3 0 0 k) from congrArg (V m c main_v1) (funext fun a => Fin.ext ?_)).trans ?_
  · match a with
    | ⟨0, _⟩ => rfl
    | ⟨1, _⟩ => rfl
    | ⟨2, _⟩ => show 0 * 1024 + 1 * k.val = k.val; omega
  · rw [V_v1]; exact gainCast_at _ k
theorem iblk2_at (c : Dev nD) (t : Fin cfg0.N) (a : Fin 3) (k : Fin 1024) :
    (show FVec Ideal S1x3x1024 .f32 from iblk m c 2 t) (ix3 0 a k) = (show FVec Ideal S1x3x1024 .f32 from m ((c : Thread nD τ).loc main_arg3)) (ix3 0 a k) := by
  refine (show _ = (show FVec Ideal S1x3x1024 .f32 from V m c main_arg3) (ix3 0 a k) from congrArg (V m c main_arg3) (funext fun a => Fin.ext ?_)).trans ?_
  · match a with
    | ⟨0, _⟩ => rfl
    | ⟨1, _⟩ => show 0 * 3 + 1 * _ = _; omega
    | ⟨2, _⟩ => show 0 * 1024 + 1 * k.val = k.val; omega
  · rw [V_main_arg3]
theorem iblk3_at (c : Dev nD) (t : Fin cfg0.N) (k : Fin 1024) :
    (show FVec Ideal S1x1x1024 .f32 from iblk m c 3 t) (ix3 0 0 k) = (show FVec Ideal S2x1024 .f32 from m ((c : Thread nD τ).loc main_arg5)) (ix2 0 k) := by
  refine (show _ = (show FVec Ideal S2x1x1024 .f32 from V m c main_v2) (ix3 0 0 k) from congrArg (V m c main_v2) (funext fun a => Fin.ext ?_)).trans ?_
  · match a with
    | ⟨0, _⟩ => rfl
    | ⟨1, _⟩ => rfl
    | ⟨2, _⟩ => show 0 * 1024 + 1 * k.val = k.val; omega
  · rw [V_v2]; exact gainCast_at _ k

/-- The prepared products' block is the sequence's. -/
theorem block6 (t : Fin cfg0.N) : cc0_transform_6 (grid0.coords t) 1 = t.val / 4 := by
  have ht : t.val < 16 := lt_of_lt_of_eq t.isLt N_0
  have e0 : (grid0.coords t 0).val = t.val / 1 % 16 := Pipeline.Grid.coords_val t 0 (by decide) rfl
  have e1 : t.val / 1 % 16 = t.val := by omega
  rw [e1] at e0
  simp only [cc0_transform_6, e0]
  revert ht
  generalize t.val = n
  revert n
  decide
theorem block7 (t : Fin cfg0.N) : cc0_transform_7 (grid0.coords t) 1 = t.val / 4 := block6 t

theorem iblk4_at (c : Dev nD) (t : Fin cfg0.N) (k p : Fin 1024) :
    (show FVec Ideal S1x1x1024x1024 .bf16 from iblk m c 4 t) (ix4 0 0 k p) = (show FVec Ideal S2x4x1024x1024 .bf16 from m ((c : Thread nD τ).loc main_arg6)) (ix4 0 (seqOf t) k p) := by
  refine (show _ = (show FVec Ideal S2x4x1024x1024 .bf16 from V m c main_arg6) (ix4 0 (seqOf t) k p) from congrArg (V m c main_arg6) (funext fun a => Fin.ext ?_)).trans ?_
  · match a with
    | ⟨0, _⟩ => rfl
    | ⟨1, _⟩ => show cc0_transform_6 (grid0.coords t) 1 * 1 + 1 * 0 = t.val / 4; rw [block6]; omega
    | ⟨2, _⟩ => show 0 * 1024 + 1 * k.val = k.val; omega
    | ⟨3, _⟩ => show 0 * 1024 + 1 * p.val = p.val; omega
  · rw [V_main_arg6]
theorem iblk5_at (c : Dev nD) (t : Fin cfg0.N) (k p : Fin 1024) :
    (show FVec Ideal S1x1x1024x1024 .bf16 from iblk m c 5 t) (ix4 0 0 k p) = (show FVec Ideal S2x4x1024x1024 .bf16 from m ((c : Thread nD τ).loc main_arg7)) (ix4 0 (seqOf t) k p) := by
  refine (show _ = (show FVec Ideal S2x4x1024x1024 .bf16 from V m c main_arg7) (ix4 0 (seqOf t) k p) from congrArg (V m c main_arg7) (funext fun a => Fin.ext ?_)).trans ?_
  · match a with
    | ⟨0, _⟩ => rfl
    | ⟨1, _⟩ => show cc0_transform_7 (grid0.coords t) 1 * 1 + 1 * 0 = t.val / 4; rw [block7]; omega
    | ⟨2, _⟩ => show 0 * 1024 + 1 * k.val = k.val; omega
    | ⟨3, _⟩ => show 0 * 1024 + 1 * p.val = p.val; omega
  · rw [V_main_arg7]

/-- The arguments' rows and matrices that every point reads. -/
def gainM (c : Dev nD) : Fin 1024 → EReal := fun k => (show FVec Ideal S2x1024 .f32 from m ((c : Thread nD τ).loc main_arg1)) (ix2 0 k)
def winM (c : Dev nD) : Fin 1024 → Fin 3072 → EReal := fun k q => (show FVec Ideal S1x1024x3072 .f32 from m ((c : Thread nD τ).loc main_arg2)) (ix3 0 k q)

/-- Row `r` of sequence `b` of the result, for a way `pr` of making the probabilities: the mixer, then the attention. -/
def rowOut (pr : (Fin 1024 → EReal) → Fin 4 → Fin 256 → EReal) (c : Dev nD) (b : Fin 4) (r : Fin 4096) : Fin 1024 → EReal :=
  RowSpec.attend pr
    (RowSpec.mixer (seqIn m c b) (gainM m c) (winM m c)
      (fun a q => (show FVec Ideal S1x3x1024 .f32 from m ((c : Thread nD τ).loc main_arg3)) (ix3 0 a q))
      (fun q j => (show FVec Ideal S1x1024x1024 .f32 from m ((c : Thread nD τ).loc main_arg4)) (ix3 0 q j)) r)
    (fun k => (show FVec Ideal S2x1024 .f32 from m ((c : Thread nD τ).loc main_arg5)) (ix2 0 k))
    (fun k p => (show FVec Ideal S2x4x1024x1024 .bf16 from m ((c : Thread nD τ).loc main_arg6)) (ix4 0 b k p))
    (fun p k => (show FVec Ideal S2x4x1024x1024 .bf16 from m ((c : Thread nD τ).loc main_arg7)) (ix4 0 b p k))

/-- The whole result, batch and row kept apart, -/
def batchOut (pr : (Fin 1024 → EReal) → Fin 4 → Fin 256 → EReal) (c : Dev nD) : FVec Ideal S4x4096x1024 .f32 := fun i => rowOut m pr c (i 0) (i 1) (i 2)

/-- and laid end to end. -/
def arrOut (pr : (Fin 1024 → EReal) → Fin 4 → Fin 256 → EReal) (c : Dev nD) : FVec Ideal S16384x1024 .f32 := shapeCast S16384x1024 (batchOut m pr c) shapeCasts_S4x4096x1024_S16384x1024

theorem gain_eq (c : Dev nD) (t : Fin cfg0.N) : (fun k => (show FVec Ideal S1x1x1024 .f32 from iblk m c 1 t) (ix3 0 0 k)) = gainM m c := funext fun k => iblk1_at m c t k
theorem win_eq (c : Dev nD) : (fun k q => winB c (V m c main_arg2) (ix2 k q)) = winM m c := funext fun k => funext fun q => by rw [V_main_arg2]; exact winB_at c _ k q

/-- Tile `k` of a block at a row. -/
theorem rowsK_at (x : FVec Ideal S1024x1024 .f32) (k : Fin 2) (r : Fin 512) (q : Fin 1024) : rowsK (F := Ideal) x k (ix2 r q) = x (ix2 ⟨512 * k.val + r.val, by omega⟩ q) :=
  congrArg x (funext fun a => Fin.ext (by match a with | ⟨0, _⟩ => rfl | ⟨1, _⟩ => rfl))

/-- The last eight gated rows of tile `k` of point `t`. -/
theorem tail_at (c : Dev nD) (t : Fin cfg0.N) (k : Fin 2) (i : Fin 8) (q : Fin 1024) (s : Fin 4096) (hs : s.val = 1024 * (t.val % 4) + 512 * k.val + 504 + i.val) :
    tileTail (rowsK (iblk m c 0 t) k) (iblk m c 1 t) (winB c (V m c main_arg2)) (ix2 i q)
      = RowSpec.gated (RowSpec.norm (seqIn m c (seqOf t) s) (gainM m c)) (winM m c) q := by
  have hk := k.isLt
  rw [tileTail_at]
  refine congrFun (congrArg₂ RowSpec.gated (congrArg₂ RowSpec.norm (funext fun j => ?_) (gain_eq m c t)) (win_eq m c)) q
  refine (rowsK_at _ k _ j).trans (iblk0_at m c t _ j s ?_)
  show s.val = 1024 * (t.val % 4) + (512 * k.val + (504 + i.val)); omega

/-- The rows handed to a point are the gated rows before its block. -/
theorem prevAt_at (c : Dev nD) (t : Fin cfg0.N) (i : Fin 8) (q : Fin 1024) :
    prevAt m c t (ix2 i q) = before (seqIn m c (seqOf t)) (gainM m c) (winM m c) ⟨1024 * (t.val % 4), by omega⟩ i q := by
  have ht : t.val < 16 := lt_of_lt_of_eq t.isLt N_0
  unfold prevAt before
  by_cases h : t.val % 4 = 0
  · rw [if_pos h, dif_neg (by show ¬ 8 ≤ 1024 * (t.val % 4) + i.val; omega)]
    pointwise [k0_pay12]
  · rw [if_neg h, dif_pos (by show 8 ≤ 1024 * (t.val % 4) + i.val; omega)]
    refine (tail_at m c ⟨t.val - 1, by omega⟩ 1 i q ⟨1024 * (t.val % 4) + i.val - 8, by omega⟩ (by show 1024 * (t.val % 4) + i.val - 8 = 1024 * ((t.val - 1) % 4) + 512 * 1 + 504 + i.val; omega)).trans ?_
    exact congrArg (fun b => RowSpec.gated (RowSpec.norm (seqIn m c b _) (gainM m c)) (winM m c) q) (Fin.ext (by show (t.val - 1) / 4 = t.val / 4; omega))

/-- The rows before tile `k` of a point likewise. -/
theorem prevOf_at (c : Dev nD) (t : Fin cfg0.N) (k : Fin 2) (i : Fin 8) (q : Fin 1024) :
    prevOf (iblk m c 0 t) (iblk m c 1 t) (winB c (V m c main_arg2)) (prevAt m c t) k (ix2 i q)
      = before (seqIn m c (seqOf t)) (gainM m c) (winM m c) ⟨1024 * (t.val % 4) + 512 * k.val, by omega⟩ i q := by
  unfold prevOf
  match k with
  | 0 => rw [if_pos rfl]; exact prevAt_at m c t i q
  | 1 =>
    rw [if_neg (by decide)]
    unfold before
    rw [dif_pos (by show 8 ≤ 1024 * (t.val % 4) + 512 * 1 + i.val; omega)]
    exact tail_at m c t 0 i q _ (by show 1024 * (t.val % 4) + 512 * 1 + i.val - 8 = 1024 * (t.val % 4) + 512 * 0 + 504 + i.val; omega)

/-- A row's value from equal arguments. -/
theorem row_congr {pr : (Fin 1024 → EReal) → Fin 4 → Fin 256 → EReal} (x : Fin 4096 → Fin 1024 → EReal) (r : Fin 4096) {g g' : Fin 1024 → EReal}
    {w w' : Fin 1024 → Fin 3072 → EReal} {a a' : Fin 3 → Fin 1024 → EReal} {wo wo' : Fin 1024 → Fin 1024 → EReal} {gm gm' : Fin 1024 → EReal}
    {qk qk' vo vo' : Fin 1024 → Fin 1024 → EReal} (hg : g = g') (hw : w = w') (ha : a = a') (ho : wo = wo') (hm : gm = gm') (hq : qk = qk') (hv : vo = vo') :
    RowSpec.attend pr (RowSpec.mixer x g w a wo r) gm qk vo = RowSpec.attend pr (RowSpec.mixer x g' w' a' wo' r) gm' qk' vo' := by
  subst hg hw ha ho hm hq hv; rfl

/-- The block that point `t` writes, at an index. -/
theorem outAt_at (c : Dev nD) (t : Fin cfg0.N) (r : Fin 1024) (j : Fin 1024) (r' : Fin 16384) (hr : r'.val = 1024 * t.val + r.val) :
    (show FVec Ideal S1024x1024 .f32 from outAt m c t) (ix2 r j) = arrOut m RowSpec.probR c (ix2 r' j) := by
  have ht : t.val < 16 := lt_of_lt_of_eq t.isLt N_0
  have hk : r.val / 512 < 2 := by omega
  have hno : tileNo (ix2 r j) = ⟨r.val / 512, hk⟩ := rfl
  have hin : inTile (ix2 r j) = ix2 ⟨r.val % 512, by omega⟩ j := funext fun a => by match a with | ⟨0, _⟩ => rfl | ⟨1, _⟩ => rfl
  show tile (rowsK (iblk m c 0 t) (tileNo (ix2 r j))) (iblk m c 1 t) (iblk m c 2 t) (iblk m c 3 t) (iblk m c 4 t) (iblk m c 5 t) (winB c (V m c main_arg2))
    (woutB c (V m c main_arg4)) (prevOf (iblk m c 0 t) (iblk m c 1 t) (winB c (V m c main_arg2)) (prevAt m c t) (tileNo (ix2 r j))) (inTile (ix2 r j)) = _
  rw [hno, hin]
  refine (tile_row (seqIn m c (seqOf t)) ⟨1024 * (t.val % 4) + 512 * (r.val / 512), by omega⟩ (by show 1024 * (t.val % 4) + 512 * (r.val / 512) ≤ 3584; omega)
    _ _ _ _ _ _ _ _ _ (fun r1 k => ?_) (fun i q => ?_) ⟨r.val % 512, by omega⟩ j).trans ?_
  · refine (rowsK_at _ _ r1 k).trans (iblk0_at m c t _ k _ ?_)
    show 1024 * (t.val % 4) + 512 * (r.val / 512) + r1.val = 1024 * (t.val % 4) + (512 * (r.val / 512) + r1.val); omega
  · refine (prevOf_at m c t ⟨r.val / 512, hk⟩ i q).trans ?_
    rw [← win_eq m c, ← gain_eq m c t]
  · unfold arrOut
    rw [flat_at]
    refine congrFun (?_ : RowSpec.attend _ _ _ _ _ = rowOut m _ c _ _) j
    have hb : (⟨r'.val / 4096, by omega⟩ : Fin 4) = seqOf t := Fin.ext (by show r'.val / 4096 = t.val / 4; omega)
    have hs : (⟨r'.val % 4096, by omega⟩ : Fin 4096) = ⟨1024 * (t.val % 4) + 512 * (r.val / 512) + r.val % 512, by omega⟩ :=
      Fin.ext (by show r'.val % 4096 = 1024 * (t.val % 4) + 512 * (r.val / 512) + r.val % 512; omega)
    refine Eq.trans ?_ (congrArg₂ (rowOut m RowSpec.probR c) hb hs).symm
    exact row_congr _ _ (gain_eq m c t) (win_eq m c) (funext fun a => funext fun q => iblk2_at m c t a q)
      (funext fun q => funext fun j => by rw [V_main_arg4]; exact woutB_at c _ q j) (funext fun k => iblk3_at m c t k)
      (funext fun k => funext fun p => iblk4_at m c t k p) (funext fun p => funext fun k => iblk5_at m c t p k)

/-- What point `t` writes back is block `t` of the array. -/
theorem flushed_eq (c : Dev nD) (t : Fin cfg0.N) :
    (dats m 0 c).flushed 6 t = ((cfg0.win 6).blk t).view.read (Elt Ideal) (arrOut m RowSpec.probR c) := by
  have e : (grid0.coords t 0).val = t.val / 1 % 16 := Pipeline.Grid.coords_val t 0 (by decide) rfl
  have ht : t.val < 16 := lt_of_lt_of_eq t.isLt N_0
  show (cfg0.win 6).cut (grid0.coords t) ((dats m 0 c).after 6 t) = _
  rw [after0_6]
  funext y
  have h0 : (y 0).val < 1024 := (y 0).isLt
  refine (show _ = (show FVec Ideal S1024x1024 .f32 from outAt m c t) (ix2 ⟨(y 0).val, h0⟩ ⟨(y 1).val, (y 1).isLt⟩) from
    congrArg (outAt m c t) (funext fun a => Fin.ext (by match a with | ⟨0, _⟩ => rfl | ⟨1, _⟩ => rfl))).trans ?_
  refine (outAt_at m c t _ _ ⟨1024 * t.val + (y 0).val, by omega⟩ rfl).trans ?_
  refine congrArg (arrOut m RowSpec.probR c) (funext fun a => Fin.ext ?_)
  match a with
  | ⟨0, _⟩ =>
    show 1024 * t.val + (y 0).val = (BitVec.ofNat 32 (grid0.coords t 0).val).toNat * 1024 + 1 * (y 0).val
    rw [BitVec.toNat_ofNat, e]; omega
  | ⟨1, _⟩ => show (y 1).val = 0 * 1024 + 1 * (y 1).val; omega

/-- An index of the array lies in the block of the point its row names. -/
theorem covered (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_6 _, ?_⟩
  generalize ht : (⟨(i 0).val / 1024, _⟩ : Fin cfg0.N) = t
  have hv : t.val = (i 0).val / 1024 := by rw [← ht]
  have e : (grid0.coords t 0).val = t.val / 1 % 16 := Pipeline.Grid.coords_val t 0 (by decide) rfl
  show i ∈ ((View.whole main_v3).slice (win0_6.rect t)).set
  rw [View.set_slice_whole, Rect.mem_set_unit]
  intro a
  match a with
  | ⟨0, _⟩ =>
    show (BitVec.ofNat 32 (grid0.coords t 0).val).toNat * 1024 ≤ (i 0 : Nat) ∧ (i 0 : Nat) < (BitVec.ofNat 32 (grid0.coords t 0).val).toNat * 1024 + 1024
    rw [BitVec.toNat_ofNat, e]; omega
  | ⟨1, _⟩ => show 0 * 1024 ≤ (i 1 : Nat) ∧ (i 1 : Nat) < 0 * 1024 + 1024; omega

/-- The result array after the last point. -/
theorem final (c : Dev nD) : (dats m 0 c).arrAt 6 cfg0.N = arrOut m RowSpec.probR c :=
  (dats m 0 c).arrAt_eq_of_cover 6 (arrOut m RowSpec.probR c) (fun t _ => flushed_eq m c t) covered

end Cert.Kernel2Ideal.Hand

end
-- ==== Proof.Finite2.lean ====
/-
  WHAT THE PRECONDITION SAYS: every number that the scores are computed from is real; and so the two ways of making the
  probabilities give one result.
-/
module

public import proofs.«01_k».proof.Defs
public import proofs.«01_k».proof.Proof.ArrayValue2

@[expose] public section

noncomputable section

namespace Cert.Kernel2Ideal.Hand

open Idealize.ShloMosaic Idealize.ShloMosaic.TcCoe
open Cert.Kernel2Ideal.Gen

/-- The side conditions of the precondition's own operations. -/
theorem preFacts : Cert.Pre_finite2.Facts where
  bcast_S_S4x4096x1024 := by decide
  bcast_S_S2x1024 := by decide
  bcast_S_S1x1024x3072 := by decide
  bcast_S_S1x3x1024 := by decide
  bcast_S_S1x1024x1024 := by decide
  bitsLt_bf16_f32 := by decide
  bcast_S_S2x4x1024x1024 := by decide

/-- An array of ones for "absolute value below the infinite one" is an array of real numbers. -/
theorem real_of_mask {s : Shape} (x : FVec Ideal s .f32) (hb : Cert.Pre_finite2.S_.BroadcastsInDim s (![] : Fin 0 → Fin s.rank))
    (h : cmpf .olt (Host.absf x) (broadcastInDim s ![] hb (constant (F := Ideal) Cert.Pre_finite2.S_ .f32 0x7F800000#32)) = fun _ => 1#1) (i : s.Idx) :
    RowSpec.IsReal (x i) := RowSpec.IsReal.of_abs_lt (congrFun h i)

variable (m : (ℓ : Loc nD τ sig) → Buf (Elt Ideal) ℓ)

/-- Under the precondition every score is real, so both ways of making the probabilities give the same row, -/
theorem rowOut_eq (hm : Cert.Pre_Kernel2Ideal_finite2 (hPre_finite2 := preFacts) m) (c : Dev nD) (b : Fin 4) (r : Fin 4096) :
    rowOut m RowSpec.probR c b r = rowOut m RowSpec.prob c b r := by
  obtain ⟨h0, h1, h2, h3, h4, h5, h6⟩ := hm c
  have hs : ∀ p, RowSpec.IsReal (RowSpec.scores
      (RowSpec.mixer (seqIn m c b) (gainM m c) (winM m c)
        (fun a q => (show FVec Ideal S1x3x1024 .f32 from m ((c : Thread nD τ).loc main_arg3)) (ix3 0 a q))
        (fun q j => (show FVec Ideal S1x1024x1024 .f32 from m ((c : Thread nD τ).loc main_arg4)) (ix3 0 q j)) r)
      (fun k => (show FVec Ideal S2x1024 .f32 from m ((c : Thread nD τ).loc main_arg5)) (ix2 0 k))
      (fun k p => (show FVec Ideal S2x4x1024x1024 .bf16 from m ((c : Thread nD τ).loc main_arg6)) (ix4 0 b k p)) p) :=
    RowSpec.IsReal.scores
      (RowSpec.IsReal.mixer (fun s k => real_of_mask _ _ h0 (ix3 b s k)) (fun k => real_of_mask _ _ h1 (ix2 0 k)) (fun k q => real_of_mask _ _ h2 (ix3 0 k q))
        (fun a q => real_of_mask _ _ h3 (ix3 0 a q)) (fun q j => real_of_mask _ _ h4 (ix3 0 q j)) r)
      (fun k => real_of_mask _ _ h5 (ix2 0 k)) (fun k p => real_of_mask _ _ h6 (ix4 0 b k p))
  unfold rowOut RowSpec.attend
  rw [RowSpec.probR_eq hs]

/-- and the same array. -/
theorem arrOut_eq (hm : Cert.Pre_Kernel2Ideal_finite2 (hPre_finite2 := preFacts) m) (c : Dev nD) : arrOut m RowSpec.probR c = arrOut m RowSpec.prob c :=
  congrArg (fun x => shapeCast S16384x1024 x shapeCasts_S4x4096x1024_S16384x1024) (funext fun i => congrFun (rowOut_eq m hm c (i 0) (i 1)) (i 2))

end Cert.Kernel2Ideal.Hand

end
-- ==== Proof.RefValue2.lean ====
/-
  THE SECOND REFERENCE'S RESULT, ROW BY ROW. The reference's result term, cut into the stages it is written in (normalise, project,
  gated product, zero rows put before it, convolution, projection with the residual, normalise, scores, probabilities, values with
  the residual, the rows laid end to end), each stage read at an index.
-/
module

public import proofs.«01_k».proof.Proof.Gen.Reference2Ideal.Run
public import proofs.«01_k».proof.Proof.RowSpec2
public import Idealize.ShloMosaic.Lib.KernelVsHost

@[expose] public section

set_option maxRecDepth 16384

noncomputable section

namespace Cert.Reference2Ideal.Rows

open Cert.Reference2Ideal Cert.Reference2Ideal.Gen Idealize.ShloMosaic Idealize.ShloMosaic.TcCoe Idealize.SL.Sem

/-- Normalise every row of `x`, the gain laid along the rows. -/
def normA (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- Layer 0's row of stacked gains, and the one layer of the stacked matrices and taps. -/
def gain0 (g : FVec Ideal S2x1024 .f32) : FVec Ideal S1024 .f32 := shapeCast _ (extractStridedSlice S1x1024 ![0, 0] g slices_S2x1024_S1x1024_0_0) shapeCasts_S1x1024_S1024
def win0 (w : FVec Ideal S1x1024x3072 .f32) : FVec Ideal S1024x3072 .f32 := shapeCast _ w shapeCasts_S1x1024x3072_S1024x3072
def wout0 (w : FVec Ideal S1x1024x1024 .f32) : FVec Ideal S1024x1024 .f32 := shapeCast _ w shapeCasts_S1x1024x1024_S1024x1024
def taps0 (c : FVec Ideal S1x3x1024 .f32) : FVec Ideal S3x1024 .f32 := shapeCast _ c shapeCasts_S1x3x1024_S3x1024
def mem0 (w : FVec Ideal S2x4x1024x1024 .bf16) : FVec Ideal S4x1024x1024 .f32 :=
  extf .f32 (shapeCast _ (extractStridedSlice S1x4x1024x1024 ![0, 0, 0, 0] w slices_S2x4x1024x1024_S1x4x1024x1024_0_0_0_0) shapeCasts_S1x4x1024x1024_S4x1024x1024) bitsLt_bf16_f32

/-- The three projections of every row, side by side. -/
def projA (h : FVec Ideal S4x4096x1024 .f32) (w : FVec Ideal S1024x3072 .f32) : FVec Ideal S4x4096x3072 .f32 :=
  Host.dotGeneral dot_S4x4096x1024_S1024x3072_S4x4096x3072_2_0_01_1_n_n none h w

/-- The gated product, two rows of zeros before every sequence. -/
def padA (p : FVec Ideal S4x4096x3072 .f32) : FVec Ideal S4x4098x1024 .f32 :=
  pad S4x4098x1024 ![0, 2, 0] ![0, 0, 0] ![0, 0, 0] (mulf (extractStridedSlice S4x4096x1024 ![0, 0, 1024] p slices_S4x4096x3072_S4x4096x1024_0_0_1024) (extractStridedSlice S4x4096x1024 ![0, 0, 2048] p slices_S4x4096x3072_S4x4096x1024_0_0_2048)) (sitofp .f32 (constantI S_ 32 0#32)) pads_S4x4096x1024_S4x4098x1024_000_200_000 h_S_

/-- The convolution. -/
def convA (z : FVec Ideal S4x4098x1024 .f32) (c : FVec Ideal S3x1024 .f32) : FVec Ideal S4x4096x1024 .f32 :=
  addf (addf (addf (broadcastInDim S4x4096x1024 ![] bcast_S_S4x4096x1024 (constant S_ .f32 0x00000000#32)) (mulf (extractStridedSlice S4x4096x1024 ![0, 0, 0] z slices_S4x4098x1024_S4x4096x1024_0_0_0) (broadcastInDim S4x4096x1024 ![0, 1, 2] bcast_S1x1x1024_S4x4096x1024_0_1_2 (broadcastInDim S1x1x1024 ![2] bcast_S1024_S1x1x1024_2 (shapeCast _ (extractStridedSlice S1x1024 ![0, 0] c slices_S3x1024_S1x1024_0_0) shapeCasts_S1x1024_S1024))))) (mulf (extractStridedSlice S4x4096x1024 ![0, 1, 0] z slices_S4x4098x1024_S4x4096x1024_0_1_0) (broadcastInDim S4x4096x1024 ![0, 1, 2] bcast_S1x1x1024_S4x4096x1024_0_1_2 (broadcastInDim S1x1x1024 ![2] bcast_S1024_S1x1x1024_2 (shapeCast _ (extractStridedSlice S1x1024 ![1, 0] c slices_S3x1024_S1x1024_1_0) shapeCasts_S1x1024_S1024))))) (mulf (extractStridedSlice S4x4096x1024 ![0, 2, 0] z slices_S4x4098x1024_S4x4096x1024_0_2_0) (broadcastInDim S4x4096x1024 ![0, 1, 2] bcast_S1x1x1024_S4x4096x1024_0_1_2 (broadcastInDim S1x1x1024 ![2] bcast_S1024_S1x1x1024_2 (shapeCast _ (extractStridedSlice S1x1024 ![2, 0] c slices_S3x1024_S1x1024_2_0) shapeCasts_S1x1024_S1024))))

/-- The gated convolution projected back and added to the input. -/
def mixA (x : FVec Ideal S4x4096x1024 .f32) (p : FVec Ideal S4x4096x3072 .f32) (v : FVec Ideal S4x4096x1024 .f32) (w : FVec Ideal S1024x1024 .f32) : FVec Ideal S4x4096x1024 .f32 :=
  addf x (Host.dotGeneral dot_S4x4096x1024_S1024x1024_S4x4096x1024_2_0_01_1_n_n none (mulf (extractStridedSlice S4x4096x1024 ![0, 0, 0] p slices_S4x4096x3072_S4x4096x1024_0_0_0) v) w)

/-- The scores, a head's kept together. -/
def scoresA (h : FVec Ideal S4x4096x1024 .f32) (qk : FVec Ideal S4x1024x1024 .f32) : FVec Ideal S4x4096x4x256 .f32 :=
  shapeCast _ (Host.dotGeneral dot_S4x4096x1024_S4x1024x1024_S4x4096x1024_2_1_1_2_0_0 none h qk) shapeCasts_S4x4096x1024_S4x4096x4x256

/-- A head's largest score, -/
def topA (s : FVec Ideal S4x4096x4x256 .f32) : FVec Ideal S4x4096x4 .f32 :=
  Host.reduce FloatOps.maximumf s (constant S_ .f32 0xFF800000#32) reducesTo_S4x4096x4x256_S4x4096x4_d3 h_S_

/-- which is not below the least number, -/
def floorA (t : FVec Ideal S4x4096x4 .f32) : FVec Ideal S4x4096x4 .f32 :=
  maximumf (broadcastInDim S4x4096x4 ![] bcast_S_S4x4096x4 (constant S_ .f32 0xFF800000#32)) t

/-- and the exponentials of the scores less it. -/
def lessA (s : FVec Ideal S4x4096x4x256 .f32) (t : FVec Ideal S4x4096x4 .f32) : FVec Ideal S4x4096x4x256 .f32 :=
  Host.exp (subf s (broadcastInDim S4x4096x4x256 ![0, 1, 2, 3] bcast_S4x4096x4x1_S4x4096x4x256_0_1_2_3 (broadcastInDim S4x4096x4x1 ![0, 1, 2] bcast_S4x4096x4_S4x4096x4x1_0_1_2 t)))

/-- The probabilities, the heads side by side. -/
def probA (e : FVec Ideal S4x4096x4x256 .f32) : FVec Ideal S4x4096x1024 .f32 :=
  shapeCast _ (Host.divf e (broadcastInDim S4x4096x4x256 ![0, 1, 2, 3] bcast_S4x4096x4x1_S4x4096x4x256_0_1_2_3 (broadcastInDim S4x4096x4x1 ![0, 1, 2] bcast_S4x4096x4_S4x4096x4x1_0_1_2 (Host.reduceAdd e (constant S_ .f32 0x00000000#32) reducesTo_S4x4096x4x256_S4x4096x4_d3 h_S_)))) shapeCasts_S4x4096x4x256_S4x4096x1024

/-- The values they weigh, added to the input. -/
def valA (x p : FVec Ideal S4x4096x1024 .f32) (vo : FVec Ideal S4x1024x1024 .f32) : FVec Ideal S4x4096x1024 .f32 :=
  addf x (Host.dotGeneral dot_S4x4096x1024_S4x1024x1024_S4x4096x1024_2_1_1_2_0_0 none p vo)

/-- The mixer on the batch of rows, -/
def mixerA (x : FVec Ideal S4x4096x1024 .f32) (g : FVec Ideal S2x1024 .f32) (w : FVec Ideal S1x1024x3072 .f32) (c : FVec Ideal S1x3x1024 .f32) (wo : FVec Ideal S1x1024x1024 .f32) : FVec Ideal S4x4096x1024 .f32 :=
  mixA x (projA (normA x (gain0 g)) (win0 w)) (convA (padA (projA (normA x (gain0 g)) (win0 w))) (taps0 c)) (wout0 wo)

/-- and the attention. -/
def attA (x : FVec Ideal S4x4096x1024 .f32) (g : FVec Ideal S2x1024 .f32) (qk vo : FVec Ideal S2x4x1024x1024 .bf16) : FVec Ideal S4x4096x1024 .f32 :=
  valA x (probA (lessA (scoresA (normA x (gain0 g)) (mem0 qk)) (floorA (topA (scoresA (normA x (gain0 g)) (mem0 qk)))))) (mem0 vo)

/-- The reference's result term, the two stages named. -/
theorem res_eq (m : (ℓ : Loc nD τ sig) → Buf (Elt Ideal) ℓ) (c : Dev nD) :
    shapeCast S16384x1024 (addf (F := Ideal) (Value.res_main_v48 (StableHlo.launchContents m c)) (Host.dotGeneral dot_S4x4096x1024_S4x1024x1024_S4x4096x1024_2_1_1_2_0_0 none (shapeCast _ (Host.divf (Value.res_main_v78 (StableHlo.launchContents m c)) (broadcastInDim S4x4096x4x256 ![0, 1, 2, 3] bcast_S4x4096x4x1_S4x4096x4x256_0_1_2_3 (broadcastInDim S4x4096x4x1 ![0, 1, 2] bcast_S4x4096x4_S4x4096x4x1_0_1_2 (Host.reduceAdd (Value.res_main_v78 (StableHlo.launchContents m c)) (constant S_ .f32 0x00000000#32) reducesTo_S4x4096x4x256_S4x4096x4_d3 h_S_)))) shapeCasts_S4x4096x4x256_S4x4096x1024) (extf .f32 (shapeCast _ (extractStridedSlice S1x4x1024x1024 ![0, 0, 0, 0] ((StableHlo.launchContents m c) (Proc.devRef .tc main_arg7)) slices_S2x4x1024x1024_S1x4x1024x1024_0_0_0_0) shapeCasts_S1x4x1024x1024_S4x1024x1024) bitsLt_bf16_f32))) shapeCasts_S4x4096x1024_S16384x1024
      = shapeCast S16384x1024 (attA (mixerA (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)))
          shapeCasts_S4x4096x1024_S16384x1024 := rfl

theorem normA_at (x : FVec Ideal S4x4096x1024 .f32) (g : FVec Ideal S1024 .f32) (b : Fin 4) (r : Fin 4096) (k : Fin 1024) :
    normA x g (ix3 b r k) = RowSpec.norm (fun j => x (ix3 b r j)) (fun j => g (ix1 j)) k := by
  unfold RowSpec.norm
  pointwise [normA]

theorem gain0_at (g : FVec Ideal S2x1024 .f32) (j : Fin 1024) : gain0 g (ix1 j) = g (ix2 0 j) := by
  pointwise [gain0]
theorem win0_at (w : FVec Ideal S1x1024x3072 .f32) (k : Fin 1024) (q : Fin 3072) : win0 w (ix2 k q) = w (ix3 0 k q) := by
  pointwise [win0]
theorem wout0_at (w : FVec Ideal S1x1024x1024 .f32) (k : Fin 1024) (q : Fin 1024) : wout0 w (ix2 k q) = w (ix3 0 k q) := by
  pointwise [wout0]
theorem taps0_at (w : FVec Ideal S1x3x1024 .f32) (k : Fin 3) (q : Fin 1024) : taps0 w (ix2 k q) = w (ix3 0 k q) := by
  pointwise [taps0]
theorem mem0_at (w : FVec Ideal S2x4x1024x1024 .bf16) (b : Fin 4) (k q : Fin 1024) : mem0 w (ix3 b k q) = w (ix4 0 b k q) := by
  pointwise [mem0]

theorem projA_at (h : FVec Ideal S4x4096x1024 .f32) (w : FVec Ideal S1024x3072 .f32) (b : Fin 4) (r : Fin 4096) (q : Fin 3072) :
    projA h w (ix3 b r q) = ∑ k, h (ix3 b r k) * w (ix2 k q) := by
  pointwise [projA]

/-- A sequence's gated product, zero before its first row. -/
def zAt (p : FVec Ideal S4x4096x3072 .f32) (b : Fin 4) (r : ℕ) (hr : r < 4096) (q : Fin 1024) : EReal :=
  p (ix3 b ⟨r, hr⟩ ⟨q.val + 1024, by omega⟩) * p (ix3 b ⟨r, hr⟩ ⟨q.val + 2048, by omega⟩)

theorem padA_at (p : FVec Ideal S4x4096x3072 .f32) (b : Fin 4) (r : Fin 4098) (q : Fin 1024) :
    padA p (ix3 b r q) = if h : 2 ≤ r.val then zAt p b (r.val - 2) (by omega) q else 0 := by
  unfold zAt
  pointwise [padA]
  by_cases h : 2 ≤ r.val
  · rw [dif_pos h, dif_pos ⟨h, by omega⟩]
    simp only [Nat.add_comm 1024, Nat.add_comm 2048]
  · rw [dif_neg h, dif_neg fun h' => h h'.1]
    exact sitofp_zero (φ := .f32)

theorem convA_at (z : FVec Ideal S4x4098x1024 .f32) (c : FVec Ideal S3x1024 .f32) (b : Fin 4) (r : Fin 4096) (q : Fin 1024) :
    convA z c (ix3 b r q) = c (ix2 2 q) * z (ix3 b ⟨r.val + 2, by omega⟩ q) + c (ix2 1 q) * z (ix3 b ⟨r.val + 1, by omega⟩ q) + c (ix2 0 q) * z (ix3 b ⟨r.val, by omega⟩ q) := by
  pointwise [convA]
  simp only [Nat.add_comm 1, Nat.add_comm 2]
  rw [mul_comm (c (ix2 2 q)), mul_comm (c (ix2 1 q)), mul_comm (c (ix2 0 q)), add_comm (_ + _), add_comm (_ * _) (_ * _), ← add_assoc]

theorem mixA_at (x : FVec Ideal S4x4096x1024 .f32) (p : FVec Ideal S4x4096x3072 .f32) (v : FVec Ideal S4x4096x1024 .f32) (w : FVec Ideal S1024x1024 .f32)
    (b : Fin 4) (r : Fin 4096) (j : Fin 1024) :
    mixA x p v w (ix3 b r j) = RowSpec.mix (fun k => x (ix3 b r k)) (fun q => p (ix3 b r ⟨q.val, by omega⟩)) (fun q => v (ix3 b r q)) (fun q j => w (ix2 q j)) j := by
  unfold RowSpec.mix
  pointwise [mixA]

theorem scoresA_at (h : FVec Ideal S4x4096x1024 .f32) (qk : FVec Ideal S4x1024x1024 .f32) (b : Fin 4) (r : Fin 4096) (hd : Fin 4) (j : Fin 256) :
    scoresA h qk (ix4 b r hd j) = ∑ k, h (ix3 b r k) * qk (ix3 b k (RowSpec.col hd j)) := by
  unfold RowSpec.col
  pointwise [scoresA]
  simp only [Nat.mul_comm]

theorem neg_inf : Ideal.ofBits FTy.f32 4286578688#32 = ⊥ := by simp [Ideal.ofBits, Ideal.ieee]

theorem topA_at (s : FVec Ideal S4x4096x4x256 .f32) (b : Fin 4) (r : Fin 4096) (hd : Fin 4) :
    topA s (ix3 b r hd) = Finset.fold max ⊥ (fun j : Fin 256 => s (ix4 b r hd j)) Finset.univ := by
  pointwise [topA]
  rw [neg_inf]

theorem floorA_at (t : FVec Ideal S4x4096x4 .f32) (b : Fin 4) (r : Fin 4096) (hd : Fin 4) :
    floorA t (ix3 b r hd) = max (Ideal.ofBits FTy.f32 4286578688#32) (t (ix3 b r hd)) := by
  pointwise [floorA]

theorem lessA_at (s : FVec Ideal S4x4096x4x256 .f32) (t : FVec Ideal S4x4096x4 .f32) (b : Fin 4) (r : Fin 4096) (hd : Fin 4) (j : Fin 256) :
    lessA s t (ix4 b r hd j) = Ideal.exp (s (ix4 b r hd j) - t (ix3 b r hd)) := by
  pointwise [lessA]

theorem max_neg_inf (x : EReal) : max (Ideal.ofBits FTy.f32 4286578688#32) x = x := by
  rw [neg_inf]; exact max_eq_right bot_le

theorem probA_at (e : FVec Ideal S4x4096x4x256 .f32) (b : Fin 4) (r : Fin 4096) (p : Fin 1024) :
    probA e (ix3 b r p) = Ideal.div (e (ix4 b r (RowSpec.hd p) (RowSpec.at' p))) (∑ j, e (ix4 b r (RowSpec.hd p) j)) := by
  unfold RowSpec.hd RowSpec.at'
  pointwise [probA]

theorem valA_at (x p : FVec Ideal S4x4096x1024 .f32) (vo : FVec Ideal S4x1024x1024 .f32) (b : Fin 4) (r : Fin 4096) (j : Fin 1024) :
    valA x p vo (ix3 b r j) = x (ix3 b r j) + ∑ q, p (ix3 b r q) * vo (ix3 b q j) := by
  pointwise [valA]

/-- The mixer on a row of the batch. -/
theorem mixerA_at (x : FVec Ideal S4x4096x1024 .f32) (g : FVec Ideal S2x1024 .f32) (w : FVec Ideal S1x1024x3072 .f32) (c : FVec Ideal S1x3x1024 .f32) (wo : FVec Ideal S1x1024x1024 .f32)
    (b : Fin 4) (r : Fin 4096) (j : Fin 1024) :
    mixerA x g w c wo (ix3 b r j)
      = RowSpec.mixer (fun r k => x (ix3 b r k)) (fun k => g (ix2 0 k)) (fun k q => w (ix3 0 k q)) (fun a q => c (ix3 0 a q)) (fun q j => wo (ix3 0 q j)) r j := by
  have hn : ∀ (r : Fin 4096) (k : Fin 1024), normA x (gain0 g) (ix3 b r k) = RowSpec.norm (fun k => x (ix3 b r k)) (fun k => g (ix2 0 k)) k := fun r k => by
    rw [normA_at]; simp only [gain0_at]
  have hp : ∀ (r : Fin 4096) (o : ℕ) (ho : o ≤ 2048) (q : Fin 1024), projA (normA x (gain0 g)) (win0 w) (ix3 b r ⟨q.val + o, by omega⟩)
      = RowSpec.proj (RowSpec.norm (fun k => x (ix3 b r k)) (fun k => g (ix2 0 k))) (fun k q => w (ix3 0 k q)) o ho q := fun r o ho q => by
    rw [projA_at]; simp only [hn, win0_at]; rfl
  have hz : ∀ (k : Fin 3) (r' : Fin 4098) (q : Fin 1024), r'.val + k.val = r.val + 2 → padA (projA (normA x (gain0 g)) (win0 w)) (ix3 b r' q)
      = RowSpec.lag (fun r k => x (ix3 b r k)) (fun k => g (ix2 0 k)) (fun k q => w (ix3 0 k q)) r k q := fun k r' q e => by
    have hk := k.isLt
    rw [padA_at]
    unfold RowSpec.lag
    by_cases h : k.val ≤ r.val
    · have h2 : 2 ≤ r'.val := by omega
      rw [dif_pos h, dif_pos h2]
      have er : (⟨r'.val - 2, by omega⟩ : Fin 4096) = ⟨r.val - k.val, by omega⟩ := Fin.ext (by show r'.val - 2 = r.val - k.val; omega)
      unfold zAt
      rw [er]
      exact congrArg₂ (· * ·) (hp _ 1024 (by omega) q) (hp _ 2048 (by omega) q)
    · rw [dif_neg h, dif_neg (by omega)]
  unfold mixerA RowSpec.mixer
  rw [mixA_at]
  refine congrFun (congr (congr (congrArg (RowSpec.mix _) (funext fun q => ?_)) (funext fun q => ?_)) (funext fun q => funext fun j => wout0_at wo q j)) j
  · exact hp r 0 (by omega) q
  · rw [convA_at]
    unfold RowSpec.conv
    rw [taps0_at, taps0_at, taps0_at, hz 0 _ q (by show r.val + 2 + 0 = r.val + 2; omega), hz 1 _ q (by show r.val + 1 + 1 = r.val + 2; omega), hz 2 _ q rfl]

/-- The attention on a row. -/
theorem attA_at (x : FVec Ideal S4x4096x1024 .f32) (g : FVec Ideal S2x1024 .f32) (qk vo : FVec Ideal S2x4x1024x1024 .bf16) (b : Fin 4) (r : Fin 4096) (j : Fin 1024) :
    attA x g qk vo (ix3 b r j)
      = RowSpec.attend RowSpec.prob (fun k => x (ix3 b r k)) (fun k => g (ix2 0 k)) (fun k p => qk (ix4 0 b k p)) (fun p k => vo (ix4 0 b p k)) j := by
  have hs : ∀ (hd : Fin 4) (i : Fin 256), scoresA (normA x (gain0 g)) (mem0 qk) (ix4 b r hd i)
      = RowSpec.scores (fun k => x (ix3 b r k)) (fun k => g (ix2 0 k)) (fun k p => qk (ix4 0 b k p)) (RowSpec.col hd i) := fun hd i => by
    rw [scoresA_at]; simp only [normA_at, gain0_at, mem0_at]; rfl
  unfold attA RowSpec.attend
  rw [valA_at]
  refine congrArg (x (ix3 b r j) + ·) (Finset.sum_congr rfl fun p _ => congrArg₂ (· * ·) ?_ (mem0_at vo b p j))
  rw [probA_at]
  simp only [lessA_at, floorA_at, max_neg_inf, topA_at, hs]
  rfl

/-- Both on a row. -/
theorem rowA_at (x : FVec Ideal S4x4096x1024 .f32) (g : FVec Ideal S2x1024 .f32) (w : FVec Ideal S1x1024x3072 .f32) (c : FVec Ideal S1x3x1024 .f32) (wo : FVec Ideal S1x1024x1024 .f32)
    (gm : FVec Ideal S2x1024 .f32) (qk vo : FVec Ideal S2x4x1024x1024 .bf16) (b : Fin 4) (r : Fin 4096) (j : Fin 1024) :
    attA (mixerA x g w c wo) gm qk vo (ix3 b r j)
      = RowSpec.attend RowSpec.prob
          (RowSpec.mixer (fun r k => x (ix3 b r k)) (fun k => g (ix2 0 k)) (fun k q => w (ix3 0 k q)) (fun a q => c (ix3 0 a q)) (fun q j => wo (ix3 0 q j)) r)
          (fun k => gm (ix2 0 k)) (fun k p => qk (ix4 0 b k p)) (fun p k => vo (ix4 0 b p k)) j := by
  rw [attA_at]
  exact congrArg (fun y => RowSpec.attend RowSpec.prob y _ _ _ j) (funext fun k => mixerA_at x g w c wo b r k)

end Cert.Reference2Ideal.Rows

end
-- ==== Proof.Setup3.lean ====
/- What the hand proof of the ideal kernel's run is stated over: @main up to the region, the blocks that the
   pipeline stages, the body's one branch condition, and the names of its staging buffers, scratch buffers,
   semaphores and HBM operands. -/
module

public import proofs.«01_k».proof.Proof.Gen.Kernel3Ideal.Skeleton
public import proofs.«01_k».proof.Proof.Gen.Kernel3Ideal.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h2`): the point is the first of its sequence. -/
abbrev per8 : BitVec 32 := Scalar.select (Scalar.cmpi .eq 8#32 0#32) 1#32 8#32
abbrev rem8 (i : grid0.Coords) : BitVec 32 := Scalar.remsi (BitVec.ofNat 32 (i 0).val) per8
abbrev cond0_1 (i : grid0.Coords) : Prop :=
  (Scalar.cmpi .ne (Scalar.extui (Scalar.cmpi .eq (Scalar.select (Scalar.andi (Scalar.xori (Scalar.cmpi .slt (rem8 i) 0#32) (Scalar.cmpi .slt per8 0#32)) (Scalar.cmpi .ne (rem8 i) 0#32)) (Scalar.addi (rem8 i) per8) (rem8 i)) 0#32)) 0#32) = 1#1
/-- It holds at the points whose number is a multiple of eight. -/
theorem hcond0_1 : ∀ t : Fin cfg0.N, cond0_1 (grid0.coords t) ↔ t.val % 8 = 0 :=
  (fun t => by
    have ht : t.val < 32 := Nat.lt_of_lt_of_eq t.isLt N_0
    have e0 : (grid0.coords t 0).val = t.val / 1 % 32 := Pipeline.Grid.coords_val t 0 (by decide) rfl
    have e1 : t.val / 1 % 32 = t.val := by omega
    rw [e1] at e0
    simp only [cond0_1, rem8, e0]
    revert ht
    generalize t.val = n
    revert n
    decide
   : ∀ t : Fin grid0.N, cond0_1 (grid0.coords t) ↔ t.val % 8 = 0)

/-! ## The memrefs the body is called on -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x1024 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x5632 .bf16 := Memref.whole cc0_scratch0
abbrev scM0_1 : Memref sig .tc .vmem S2816x1024 .bf16 := Memref.whole cc0_scratch1
abbrev scM0_2 : Memref sig .tc .vmem S1024x1024 .bf16 := Memref.whole cc0_scratch2
abbrev scM0_3 : Memref sig .tc .vmem S1024x2048 .bf16 := Memref.whole cc0_scratch3
abbrev scM0_4 : Memref sig .tc .vmem S3x64x5632 .f32 := Memref.whole cc0_scoped0
abbrev scM0_5 : Memref sig .tc .vmem S3x352x1024 .f32 := Memref.whole cc0_scoped2
abbrev scM0_6 : Memref sig .tc .vmem S3x512x1024 .f32 := Memref.whole cc0_scoped4
abbrev scM0_7 : Memref sig .tc .vmem S3x256x2048 .f32 := Memref.whole cc0_scoped6
/-- The operands left in HBM that the body copies into scratch itself, whole. -/
abbrev hbM0_0 : Memref sig .tc .hbm S2x1024x5632 .f32 := Memref.whole main_arg3
abbrev hbM0_1 : Memref sig .tc .hbm S2x2816x1024 .f32 := Memref.whole main_arg4
abbrev hbM0_2 : Memref sig .tc .hbm S1x1024x1024 .f32 := Memref.whole main_arg7
abbrev hbM0_3 : Memref sig .tc .hbm S1024x2048 .f32 := Memref.whole main_arg8
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_arg3, main_arg4, main_arg7, main_arg8}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4) ∗ hbPt0 c hbM0_2 (V m c main_arg7) ∗ hbPt0 c hbM0_3 (V m c main_arg8)) := by
  rw [BI.bigSep_eq_bigSepL_of_eq [main_arg3, main_arg4, main_arg7, main_arg8] (by decide) (by decide)]; rfl

/-- The invariant of a body with transfers of its own, conjunct by conjunct: the scratch operands owned at some contents, the
    generator register at some state, the own cells at zero, the HBM operands at their launch contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0) ∗ iprop(hbPt0 c hbM0_0 (V m c main_arg3) ∗ hbPt0 c hbM0_1 (V m c main_arg4) ∗ hbPt0 c hbM0_2 (V m c main_arg7) ∗ hbPt0 c hbM0_3 (V m c main_arg8))) := by
  rw [Pipeline.ΦD_eq, scopedRest0_eq, ownSems00_eq, hbmPts0_eq]; simp only [scM0_0, scM0_1, scM0_2, scM0_3, scM0_4, scM0_5, scM0_6, scM0_7, owns_whole]; try rfl

end Cert.Kernel3Ideal.Hand

end
-- ==== Proof.Blocks3.lean ====
/-
  WHAT ONE GRID POINT LEAVES IN THE BLOCK OF ITS FIRST RESULT, at any float: the block's two tiles of 256 rows, each the same
  function of its 256 rows of `x`, the gain and the two resident weight matrices (`tile`); and that the body's two stores read
  back as that block (`out_read`). The body spells the two tiles with different names for the same operations (`tiles_agree`).
-/
module

public import proofs.«01_k».proof.Proof.Setup3
public import proofs.«01_k».proof.Proof.Staging
public import Idealize.ShloMosaic.Lib.WholeRead
public import Idealize.ShloMosaic.Lib.Pipeline.ValueKit.Tiles

@[expose] public section

set_option maxRecDepth 16384

noncomputable section

namespace Cert.Kernel3Ideal.Hand

open Idealize.ShloMosaic
open Cert.Kernel3Ideal.Gen
open Cert.Staging

variable {F : FTy → Type} [FloatOps F]

/-- One tile from its loads: the 256 rows `v`, the gain, and per chunk of the hidden width the gate, up and down weights. -/
def tileV (v : Vec F S256x1024 .f32) (g : Vec F S1x1x1024 .f32) (g0 u0 d0 g1 u1 d1 : Vec F S1024x1024 .bf16)
    (g2 u2 : Vec F S1024x768 .bf16) (d2 : Vec F S768x1024 .bf16) : FVec F S256x1024 .f32 :=
  k0_pay41 (k0_pay38 v g) (k0_pay39 (k0_pay37 v) (k0_pay38 v g) g0 u0 d0 g1 u1 d1) (k0_pay40 (k0_pay38 v g) g2) u2 d2

/-- The same, as the body spells its second tile. -/
def tileV' (v : Vec F S256x1024 .f32) (g : Vec F S1x1x1024 .f32) (g0 u0 d0 g1 u1 d1 : Vec F S1024x1024 .bf16)
    (g2 u2 : Vec F S1024x768 .bf16) (d2 : Vec F S768x1024 .bf16) : FVec F S256x1024 .f32 :=
  k0_pay47 (k0_pay43 v g) (k0_pay45 (k0_pay42 v) (k0_pay43 v g) (k0_pay44 v g g0) u0 d0 g1 u1 d1) (k0_pay46 (k0_pay43 v g) g2) u2
    (constant S256x768 .f32 0x00000000#32) d2

theorem tiles_agree (v : Vec F S256x1024 .f32) (g : Vec F S1x1x1024 .f32) (g0 u0 d0 g1 u1 d1 : Vec F S1024x1024 .bf16)
    (g2 u2 : Vec F S1024x768 .bf16) (d2 : Vec F S768x1024 .bf16) :
    tileV' v g g0 u0 d0 g1 u1 d1 g2 u2 d2 = tileV v g g0 u0 d0 g1 u1 d1 g2 u2 d2 := rfl

/-- One tile from the resident weights. -/
def tile (v : Vec F S256x1024 .f32) (g : Vec F S1x1x1024 .f32) (w7 : Vec F S1024x5632 .bf16) (w8 : Vec F S2816x1024 .bf16) :
    FVec F S256x1024 .f32 :=
  tileV v g
    (View.ld w7 (Rect.unit (s := S1024x5632) ![0, 0] S1024x1024.size inb_S1024x5632_S1024x1024_0_0))
    (View.ld w7 (Rect.unit (s := S1024x5632) ![0, 2816] S1024x1024.size inb_S1024x5632_S1024x1024_0_2816))
    (View.ld w8 (Rect.unit (s := S2816x1024) ![0, 0] S1024x1024.size inb_S2816x1024_S1024x1024_0_0))
    (View.ld w7 (Rect.unit (s := S1024x5632) ![0, 1024] S1024x1024.size inb_S1024x5632_S1024x1024_0_1024))
    (View.ld w7 (Rect.unit (s := S1024x5632) ![0, 3840] S1024x1024.size inb_S1024x5632_S1024x1024_0_3840))
    (View.ld w8 (Rect.unit (s := S2816x1024) ![1024, 0] S1024x1024.size inb_S2816x1024_S1024x1024_1024_0))
    (View.ld w7 (Rect.unit (s := S1024x5632) ![0, 2048] S1024x768.size inb_S1024x5632_S1024x768_0_2048))
    (View.ld w7 (Rect.unit (s := S1024x5632) ![0, 4864] S1024x768.size inb_S1024x5632_S1024x768_0_4864))
    (View.ld w8 (Rect.unit (s := S2816x1024) ![2048, 0] S768x1024.size inb_S2816x1024_S768x1024_2048_0))

/-- The 256 rows of a block that hold row `n`. -/
def rowsAt (x : Vec F S512x1024 .f32) (n : Fin 512) : Vec F S256x1024 .f32 := fun j =>
  x (fun a => match a with
    | ⟨0, _⟩ => ⟨256 * (n.val / 256) + (j 0).val, by have := (j 0).isLt; have h : (j 0).val < 256 := this; have := n.isLt; show _ < 512; omega⟩
    | ⟨1, _⟩ => ⟨(j 1).val, (j 1).isLt⟩)

/-- A block index within its tile. -/
def inTile (y : S512x1024.Idx) : S256x1024.Idx := fun a => match a with
  | ⟨0, _⟩ => ⟨(y 0).val % 256, by show _ < 256; omega⟩
  | ⟨1, _⟩ => ⟨(y 1).val, (y 1).isLt⟩

/-- The output block. -/
def outBlk (x0 : Vec F S512x1024 .f32) (x1 : Vec F S1x1x1024 .f32) (w7 : Vec F S1024x5632 .bf16) (w8 : Vec F S2816x1024 .bf16) :
    Vec F S512x1024 .f32 := fun y => tile (rowsAt x0 (y 0)) x1 w7 w8 (inTile y)

section Reads
variable {arg1 : Memref sig .tc .vmem S512x1024 .f32} (harg1 : arg1.IsWhole) {arg2 : Memref sig .tc .vmem S1x1x1024 .f32} (harg2 : arg2.IsWhole)
  {arg11 : Memref sig .tc .vmem S512x1024 .f32} (harg11 : arg11.IsWhole)
  {arg16 : Memref sig .tc .vmem S1024x5632 .bf16} (harg16 : arg16.IsWhole) {arg17 : Memref sig .tc .vmem S2816x1024 .bf16} (harg17 : arg17.IsWhole)
  (x0 : Vec F S512x1024 .f32) (x1 : Vec F S1x1x1024 .f32) (w7 : Vec F S1024x5632 .bf16) (w8 : Vec F S2816x1024 .bf16)

/-- One tile as the body computes it from its loads, the rows those at `r`. -/
def tileL (r : Rect S512x1024) (hr : r.shape = S256x1024) : FVec F S256x1024 .f32 :=
  tileV (hr ▸ View.readAt (Elt F) arg1.view r.toLoadRect (harg1.unread x0))
    (View.readAt (Elt F) arg2.view (Rect.unit (s := S1x1x1024) ![0, 0, 0] S1x1x1024.size inb_S1x1x1024_S1x1x1024_0_0_0).toLoadRect (harg2.unread x1))
    (View.readAt (Elt F) arg16.view (Rect.unit (s := S1024x5632) ![0, 0] S1024x1024.size inb_S1024x5632_S1024x1024_0_0).toLoadRect (harg16.unread w7))
    (View.readAt (Elt F) arg16.view (Rect.unit (s := S1024x5632) ![0, 2816] S1024x1024.size inb_S1024x5632_S1024x1024_0_2816).toLoadRect (harg16.unread w7))
    (View.readAt (Elt F) arg17.view (Rect.unit (s := S2816x1024) ![0, 0] S1024x1024.size inb_S2816x1024_S1024x1024_0_0).toLoadRect (harg17.unread w8))
    (View.readAt (Elt F) arg16.view (Rect.unit (s := S1024x5632) ![0, 1024] S1024x1024.size inb_S1024x5632_S1024x1024_0_1024).toLoadRect (harg16.unread w7))
    (View.readAt (Elt F) arg16.view (Rect.unit (s := S1024x5632) ![0, 3840] S1024x1024.size inb_S1024x5632_S1024x1024_0_3840).toLoadRect (harg16.unread w7))
    (View.readAt (Elt F) arg17.view (Rect.unit (s := S2816x1024) ![1024, 0] S1024x1024.size inb_S2816x1024_S1024x1024_1024_0).toLoadRect (harg17.unread w8))
    (View.readAt (Elt F) arg16.view (Rect.unit (s := S1024x5632) ![0, 2048] S1024x768.size inb_S1024x5632_S1024x768_0_2048).toLoadRect (harg16.unread w7))
    (View.readAt (Elt F) arg16.view (Rect.unit (s := S1024x5632) ![0, 4864] S1024x768.size inb_S1024x5632_S1024x768_0_4864).toLoadRect (harg16.unread w7))
    (View.readAt (Elt F) arg17.view (Rect.unit (s := S2816x1024) ![2048, 0] S768x1024.size inb_S2816x1024_S768x1024_2048_0).toLoadRect (harg17.unread w8))

/-- The same in the second tile's spelling. -/
def tileL' (r : Rect S512x1024) (hr : r.shape = S256x1024) : FVec F S256x1024 .f32 :=
  tileV' (hr ▸ View.readAt (Elt F) arg1.view r.toLoadRect (harg1.unread x0))
    (View.readAt (Elt F) arg2.view (Rect.unit (s := S1x1x1024) ![0, 0, 0] S1x1x1024.size inb_S1x1x1024_S1x1x1024_0_0_0).toLoadRect (harg2.unread x1))
    (View.readAt (Elt F) arg16.view (Rect.unit (s := S1024x5632) ![0, 0] S1024x1024.size inb_S1024x5632_S1024x1024_0_0).toLoadRect (harg16.unread w7))
    (View.readAt (Elt F) arg16.view (Rect.unit (s := S1024x5632) ![0, 2816] S1024x1024.size inb_S1024x5632_S1024x1024_0_2816).toLoadRect (harg16.unread w7))
    (View.readAt (Elt F) arg17.view (Rect.unit (s := S2816x1024) ![0, 0] S1024x1024.size inb_S2816x1024_S1024x1024_0_0).toLoadRect (harg17.unread w8))
    (View.readAt (Elt F) arg16.view (Rect.unit (s := S1024x5632) ![0, 1024] S1024x1024.size inb_S1024x5632_S1024x1024_0_1024).toLoadRect (harg16.unread w7))
    (View.readAt (Elt F) arg16.view (Rect.unit (s := S1024x5632) ![0, 3840] S1024x1024.size inb_S1024x5632_S1024x1024_0_3840).toLoadRect (harg16.unread w7))
    (View.readAt (Elt F) arg17.view (Rect.unit (s := S2816x1024) ![1024, 0] S1024x1024.size inb_S2816x1024_S1024x1024_1024_0).toLoadRect (harg17.unread w8))
    (View.readAt (Elt F) arg16.view (Rect.unit (s := S1024x5632) ![0, 2048] S1024x768.size inb_S1024x5632_S1024x768_0_2048).toLoadRect (harg16.unread w7))
    (View.readAt (Elt F) arg16.view (Rect.unit (s := S1024x5632) ![0, 4864] S1024x768.size inb_S1024x5632_S1024x768_0_4864).toLoadRect (harg16.unread w7))
    (View.readAt (Elt F) arg17.view (Rect.unit (s := S2816x1024) ![2048, 0] S768x1024.size inb_S2816x1024_S768x1024_2048_0).toLoadRect (harg17.unread w8))

theorem whole_gain (X : Vec F S1x1x1024 .f32) : View.ld X (Rect.unit (s := S1x1x1024) ![0, 0, 0] S1x1x1024.size inb_S1x1x1024_S1x1x1024_0_0_0) = X := by
  funext x
  exact View.ld_unit_apply_of X _ _ _ x x fun a => by
    match a with
    | ⟨0, _⟩ => show _ = 0 + _; omega
    | ⟨1, _⟩ => show _ = 0 + _; omega
    | ⟨2, _⟩ => show _ = 0 + _; omega

theorem tileL_eq (o : ℕ) (inb : ∀ a : Fin 2, (![o, 0] : Fin 2 → ℕ) a + S256x1024.size a ≤ S512x1024.size a) :
    tileL harg1 harg2 harg16 harg17 x0 x1 w7 w8 (Rect.unit (s := S512x1024) ![o, 0] S256x1024.size inb) rfl
      = tile (View.ld x0 (Rect.unit (s := S512x1024) ![o, 0] S256x1024.size inb)) x1 w7 w8 := by
  unfold tileL tile
  congr 1
  all_goals first
    | exact load_unread _ _ _
    | exact (load_unread _ _ _).trans (whole_gain _)

theorem tileL'_eq (o : ℕ) (inb : ∀ a : Fin 2, (![o, 0] : Fin 2 → ℕ) a + S256x1024.size a ≤ S512x1024.size a) :
    tileL' harg1 harg2 harg16 harg17 x0 x1 w7 w8 (Rect.unit (s := S512x1024) ![o, 0] S256x1024.size inb) rfl
      = tile (View.ld x0 (Rect.unit (s := S512x1024) ![o, 0] S256x1024.size inb)) x1 w7 w8 :=
  Eq.trans (by unfold tileL' tileL; exact tiles_agree _ _ _ _ _ _ _ _ _ _ _) (tileL_eq harg1 harg2 harg16 harg17 x0 x1 w7 w8 o inb)

/-- A piece of the block at rows `256*k …` has the block's value where it holds an index. -/
theorem tile_at (k : ℕ) (hk : k < 2) (inb : ∀ a : Fin 2, (![256 * k, 0] : Fin 2 → ℕ) a + S256x1024.size a ≤ S512x1024.size a) (y : S512x1024.Idx)
    (x : S256x1024.Idx) (h0 : (y 0).val = 256 * k + (x 0).val) (h1 : (y 1).val = (x 1).val) :
    tile (View.ld x0 (Rect.unit (s := S512x1024) ![256 * k, 0] S256x1024.size inb)) x1 w7 w8 x = outBlk x0 x1 w7 w8 y := by
  have hx : (x 0).val < 256 := (x 0).isLt
  have e1 : inTile y = x := funext fun a => Fin.ext (by
    match a with
    | ⟨0, _⟩ => show (y 0).val % 256 = (x 0).val; omega
    | ⟨1, _⟩ => exact h1)
  have e2 : View.ld x0 (Rect.unit (s := S512x1024) ![256 * k, 0] S256x1024.size inb) = rowsAt x0 (y 0) := by
    funext j
    refine View.ld_unit_apply_of x0 _ _ _ j _ fun a => ?_
    match a with
    | ⟨0, _⟩ => show 256 * ((y 0).val / 256) + (j 0).val = 256 * k + (j 0).val; omega
    | ⟨1, _⟩ => show (j 1).val = 0 + (j 1).val; omega
  rw [outBlk, e1, e2]

/-- Two stores of 256 rows each, the last first, read back: a block whose value at every index is the payload's that holds it. -/
theorem two_tiles (f : arg11.view.ty.Contents (Elt F)) (P : Fin 2 → Vec F S256x1024 .f32) (v : Vec F S512x1024 .f32)
    (h : ∀ (k : Fin 2) (y : S512x1024.Idx) (x : S256x1024.Idx), (y 0).val = 256 * k.val + (x 0).val → (y 1).val = (x 1).val → P k x = v y) :
    View.read (Elt F) arg11.view (arg11.view.writes (Elt F) f
      [⟨Rect.unit (s := S512x1024) ![256, 0] S256x1024.size inb_S512x1024_S256x1024_256_0, P 1⟩,
        ⟨Rect.unit (s := S512x1024) ![0, 0] S256x1024.size inb_S512x1024_S256x1024_0_0, P 0⟩]) = v := by
  rw [View.read_writes_eq_canon _ _ _ (View.cover_of_tiled_head _ _ _ (by rfl))]
  funext y
  canon_tiles x h'
  · exact h 1 y x h'0 h'1
  · exact h 0 y x (by omega) h'1

/-- The body's two stores read back: the block. -/
theorem out_read (f : arg11.view.ty.Contents (Elt F)) :
    View.read (Elt F) arg11.view (arg11.view.writes (Elt F) f
      [⟨Rect.unit (s := S512x1024) ![256, 0] S256x1024.size inb_S512x1024_S256x1024_256_0,
          tileL' harg1 harg2 harg16 harg17 x0 x1 w7 w8 (Rect.unit (s := S512x1024) ![256, 0] S256x1024.size inb_S512x1024_S256x1024_256_0) rfl⟩,
        ⟨Rect.unit (s := S512x1024) ![0, 0] S256x1024.size inb_S512x1024_S256x1024_0_0,
          tileL harg1 harg2 harg16 harg17 x0 x1 w7 w8 (Rect.unit (s := S512x1024) ![0, 0] S256x1024.size inb_S512x1024_S256x1024_0_0) rfl⟩])
      = outBlk x0 x1 w7 w8 := by
  rw [tileL'_eq, tileL_eq]
  refine two_tiles (arg11 := arg11) f (fun k => match k with
    | 0 => tile (View.ld x0 (Rect.unit (s := S512x1024) ![256 * 0, 0] S256x1024.size inb_S512x1024_S256x1024_0_0)) x1 w7 w8
    | 1 => tile (View.ld x0 (Rect.unit (s := S512x1024) ![256 * 1, 0] S256x1024.size inb_S512x1024_S256x1024_256_0)) x1 w7 w8)
    _ (fun k y x h0 h1 => ?_)
  match k with
  | 0 => exact tile_at x0 x1 w7 w8 0 (by decide) _ y x h0 h1
  | 1 => exact tile_at x0 x1 w7 w8 1 (by decide) _ y x h0 h1

end Reads

end Cert.Kernel3Ideal.Hand

end
-- ==== Proof.Heads3.lean ====
/-
  WHAT ONE GRID POINT LEAVES IN THE BLOCKS OF THE QUERIES, KEYS AND VALUES, at any float: the body's own operations on the first
  result's block, the gains, the positions, the angular frequencies and the resident projection weights (`qBlk`, `kBlk`, `vtBlk`); and
  that the body's stores read back as those blocks (`q_read`, `k_read`, `vt_read`).
-/
module

public import proofs.«01_k».proof.Proof.Blocks3
public import Idealize.ShloMosaic.Lib.Pointwise

@[expose] public section

set_option maxRecDepth 16384

noncomputable section

namespace Cert.Kernel3Ideal.Hand

open Idealize.ShloMosaic
open Cert.Kernel3Ideal.Gen
open Cert.Staging

variable {F : FTy → Type} [FloatOps F]

/-- The mean square of every row. -/
def meanSq (x : FVec F S512x1024 .f32) : FVec F S512x1 .f32 :=
  divf (shapeCast S512x1 (multiReduction .add [1] S512 (mulf x x) 0x00000000#32 reduces_S512x1024_S512 (.inl rfl) rfl) shapeCasts_S512_S512x1)
    (broadcast S512x1 (Scalar.ofBits .f32 0x44800000#32))

/-- The lane numbers of one head. -/
def lanes : IVec S1x128 32 := iota .tc S1x128 32 [1] iota_S1x128_d1_w32

/-- The queries, the keys and the two halves of the values that the body stores, of the rows `x`. -/
def qV (x : FVec F S512x1024 .f32) (g : Vec F S1x1x1024 .f32) (pos : Vec F S1x1x512 .i32) (fr : Vec F S1x128 .f32) (w : Vec F S1024x1024 .bf16) : FVec F S512x1024 .bf16 :=
  k0_pay57 k0_pay49 (k0_pay54 pos fr) (k0_pay55 lanes pos fr) (k0_pay56 x (meanSq x) g w) 1008#32
def kV (x : FVec F S512x1024 .f32) (g : Vec F S1x1x1024 .f32) (pos : Vec F S1x1x512 .i32) (fr : Vec F S1x128 .f32) (w : Vec F S1024x1024 .bf16) : FVec F S512x1024 .bf16 :=
  k0_pay59 k0_pay49 (k0_pay52 x (meanSq x) g) (k0_pay54 pos fr) (k0_pay55 lanes pos fr) w
def vLo (x : FVec F S512x1024 .f32) (g : Vec F S1x1x1024 .f32) (w : Vec F S1024x1024 .bf16) : FVec F S1x1x1024x256 .bf16 :=
  k0_pay61 (k0_pay52 x (meanSq x) g) w
def vHi (x : FVec F S512x1024 .f32) (g : Vec F S1x1x1024 .f32) (w : Vec F S1024x1024 .bf16) : FVec F S1x1x1024x256 .bf16 :=
  k0_pay64 (k0_pay60 (k0_pay52 x (meanSq x) g) w)

/-- The key and the value columns of the resident shared matrix. -/
def wkOf (w : Vec F S1024x2048 .bf16) : Vec F S1024x1024 .bf16 := View.ld w (Rect.unit (s := S1024x2048) ![0, 0] S1024x1024.size inb_S1024x2048_S1024x1024_0_0)
def wvOf (w : Vec F S1024x2048 .bf16) : Vec F S1024x1024 .bf16 := View.ld w (Rect.unit (s := S1024x2048) ![0, 1024] S1024x1024.size inb_S1024x2048_S1024x1024_0_1024)

/-- An index of the values' block within its half. -/
def inHalf (y : S1x2x1024x256.Idx) : S1x1x1024x256.Idx := fun a => match a with
  | ⟨0, _⟩ => ⟨0, by show 0 < 1; decide⟩
  | ⟨1, _⟩ => ⟨0, by show 0 < 1; decide⟩
  | ⟨2, _⟩ => ⟨(y 2).val, (y 2).isLt⟩
  | ⟨3, _⟩ => ⟨(y 3).val, (y 3).isLt⟩

/-- The three blocks. -/
def qBlk (x0 : Vec F S512x1024 .f32) (x1 : Vec F S1x1x1024 .f32) (x2 : Vec F S1x1x512 .i32) (x3 : Vec F S1x128 .f32) (x4 : Vec F S1x1x1024 .f32)
    (w7 : Vec F S1024x5632 .bf16) (w8 : Vec F S2816x1024 .bf16) (w9 : Vec F S1024x1024 .bf16) : Vec F S512x1024 .bf16 :=
  qV (outBlk x0 x1 w7 w8) x4 x2 x3 w9
def kBlk (x0 : Vec F S512x1024 .f32) (x1 : Vec F S1x1x1024 .f32) (x2 : Vec F S1x1x512 .i32) (x3 : Vec F S1x128 .f32) (x5 : Vec F S1x1x1024 .f32)
    (w7 : Vec F S1024x5632 .bf16) (w8 : Vec F S2816x1024 .bf16) (w10 : Vec F S1024x2048 .bf16) : Vec F S512x1024 .bf16 :=
  kV (outBlk x0 x1 w7 w8) x5 x2 x3 (wkOf w10)
def vtBlk (x0 : Vec F S512x1024 .f32) (x1 : Vec F S1x1x1024 .f32) (x5 : Vec F S1x1x1024 .f32)
    (w7 : Vec F S1024x5632 .bf16) (w8 : Vec F S2816x1024 .bf16) (w10 : Vec F S1024x2048 .bf16) : Vec F S1x2x1024x256 .bf16 := fun y =>
  if (y 1).val = 0 then vLo (outBlk x0 x1 w7 w8) x5 (wvOf w10) (inHalf y) else vHi (outBlk x0 x1 w7 w8) x5 (wvOf w10) (inHalf y)

section Reads
variable {arg1 : Memref sig .tc .vmem S512x1024 .f32} (harg1 : arg1.IsWhole) {arg2 : Memref sig .tc .vmem S1x1x1024 .f32} (harg2 : arg2.IsWhole)
  {arg5 : Memref sig .tc .vmem S1x1x512 .i32} (harg5 : arg5.IsWhole) {arg6 : Memref sig .tc .vmem S1x128 .f32} (harg6 : arg6.IsWhole)
  {arg7 : Memref sig .tc .vmem S1x1x1024 .f32} (harg7 : arg7.IsWhole) {arg8 : Memref sig .tc .vmem S1x1x1024 .f32} (harg8 : arg8.IsWhole)
  {arg12 : Memref sig .tc .vmem S512x1024 .bf16} {arg14 : Memref sig .tc .vmem S1x2x1024x256 .bf16}
  {arg16 : Memref sig .tc .vmem S1024x5632 .bf16} (harg16 : arg16.IsWhole) {arg17 : Memref sig .tc .vmem S2816x1024 .bf16} (harg17 : arg17.IsWhole)
  {arg18 : Memref sig .tc .vmem S1024x1024 .bf16} (harg18 : arg18.IsWhole) {arg19 : Memref sig .tc .vmem S1024x2048 .bf16} (harg19 : arg19.IsWhole)
  (x0 : Vec F S512x1024 .f32) (x1 : Vec F S1x1x1024 .f32) (x2 : Vec F S1x1x512 .i32) (x3 : Vec F S1x128 .f32) (x4 x5 : Vec F S1x1x1024 .f32)
  (w7 : Vec F S1024x5632 .bf16) (w8 : Vec F S2816x1024 .bf16) (w9 : Vec F S1024x1024 .bf16) (w10 : Vec F S1024x2048 .bf16)

/-- The two tiles one above the other, as the body joins them. -/
def rowsL : FVec F S512x1024 .f32 :=
  concatenate S512x1024 0 [
    ⟨S256x1024, tileL harg1 harg2 harg16 harg17 x0 x1 w7 w8 (Rect.unit (s := S512x1024) ![0, 0] S256x1024.size inb_S512x1024_S256x1024_0_0) rfl⟩,
    ⟨S256x1024, tileL' harg1 harg2 harg16 harg17 x0 x1 w7 w8 (Rect.unit (s := S512x1024) ![256, 0] S256x1024.size inb_S512x1024_S256x1024_256_0) rfl⟩]
    concatenates_S256x1024_S256x1024_S512x1024_d0

theorem rowsL_eq : rowsL harg1 harg2 harg16 harg17 x0 x1 w7 w8 = outBlk x0 x1 w7 w8 := by
  unfold rowsL
  rw [tileL'_eq, tileL_eq]
  funext y
  rw [concatenate_pair_apply]
  split
  · exact tile_at x0 x1 w7 w8 0 (by decide) inb_S512x1024_S256x1024_0_0 y _ (by show (y 0).val = 256 * 0 + (y 0).val; omega) rfl
  · rename_i h
    have h' : ¬ (y 0).val < 256 := h
    exact tile_at x0 x1 w7 w8 1 (by decide) inb_S512x1024_S256x1024_256_0 y _ (by show (y 0).val = 256 * 1 + ((y 0).val - 256); omega) rfl

/-- Whole loads. -/
theorem gain_load {M : Memref sig .tc .vmem S1x1x1024 .f32} (h : M.IsWhole) (X : Vec F S1x1x1024 .f32) :
    View.readAt (Elt F) M.view (Rect.unit (s := S1x1x1024) ![0, 0, 0] S1x1x1024.size inb_S1x1x1024_S1x1x1024_0_0_0).toLoadRect (h.unread X) = X :=
  (load_unread _ _ _).trans (whole_gain X)
theorem pos_load (X : Vec F S1x1x512 .i32) :
    View.readAt (Elt F) arg5.view (Rect.unit (s := S1x1x512) ![0, 0, 0] S1x1x512.size inb_S1x1x512_S1x1x512_0_0_0).toLoadRect (harg5.unread X) = X := by
  refine (load_unread _ _ _).trans (funext fun x => View.ld_unit_apply_of X _ _ _ x x fun a => ?_)
  match a with
  | ⟨0, _⟩ => show _ = 0 + _; omega
  | ⟨1, _⟩ => show _ = 0 + _; omega
  | ⟨2, _⟩ => show _ = 0 + _; omega
theorem freq_load (X : Vec F S1x128 .f32) :
    View.readAt (Elt F) arg6.view (Rect.unit (s := S1x128) ![0, 0] S1x128.size inb_S1x128_S1x128_0_0).toLoadRect (harg6.unread X) = X := by
  refine (load_unread _ _ _).trans (funext fun x => View.ld_unit_apply_of X _ _ _ x x fun a => ?_)
  match a with
  | ⟨0, _⟩ => show _ = 0 + _; omega
  | ⟨1, _⟩ => show _ = 0 + _; omega
theorem wq_load (X : Vec F S1024x1024 .bf16) :
    View.readAt (Elt F) arg18.view (Rect.unit (s := S1024x1024) ![0, 0] S1024x1024.size inb_S1024x1024_S1024x1024_0_0).toLoadRect (harg18.unread X) = X := by
  refine (load_unread _ _ _).trans (funext fun x => View.ld_unit_apply_of X _ _ _ x x fun a => ?_)
  match a with
  | ⟨0, _⟩ => show _ = 0 + _; omega
  | ⟨1, _⟩ => show _ = 0 + _; omega

/-- A store of a whole block read back. -/
theorem whole_read (M : Memref sig .tc .vmem S512x1024 .bf16) (f : M.view.ty.Contents (Elt F)) (P : Vec F S512x1024 .bf16) :
    View.read (Elt F) M.view (M.view.writes (Elt F) f [⟨Rect.unit (s := S512x1024) ![0, 0] S512x1024.size inb_S512x1024_S512x1024_0_0, P⟩]) = P := by
  funext y
  exact View.read_writes_cons_rows_of_mem (o := 0) M.view f inb_S512x1024_S512x1024_0_0 P [] y y rfl (Nat.zero_add _).symm rfl

/-- The queries' block. -/
theorem q_read (f : arg12.view.ty.Contents (Elt F)) :
    View.read (Elt F) arg12.view (arg12.view.writes (Elt F) f
      [⟨Rect.unit (s := S512x1024) ![0, 0] S512x1024.size inb_S512x1024_S512x1024_0_0,
        qV (rowsL harg1 harg2 harg16 harg17 x0 x1 w7 w8)
          (View.readAt (Elt F) arg7.view (Rect.unit (s := S1x1x1024) ![0, 0, 0] S1x1x1024.size inb_S1x1x1024_S1x1x1024_0_0_0).toLoadRect (harg7.unread x4))
          (View.readAt (Elt F) arg5.view (Rect.unit (s := S1x1x512) ![0, 0, 0] S1x1x512.size inb_S1x1x512_S1x1x512_0_0_0).toLoadRect (harg5.unread x2))
          (View.readAt (Elt F) arg6.view (Rect.unit (s := S1x128) ![0, 0] S1x128.size inb_S1x128_S1x128_0_0).toLoadRect (harg6.unread x3))
          (View.readAt (Elt F) arg18.view (Rect.unit (s := S1024x1024) ![0, 0] S1024x1024.size inb_S1024x1024_S1024x1024_0_0).toLoadRect (harg18.unread w9))⟩])
      = qBlk x0 x1 x2 x3 x4 w7 w8 w9 := by
  rw [whole_read, rowsL_eq, gain_load, pos_load, freq_load, wq_load]; rfl

/-- The keys' block. -/
theorem k_read (f : arg12.view.ty.Contents (Elt F)) :
    View.read (Elt F) arg12.view (arg12.view.writes (Elt F) f
      [⟨Rect.unit (s := S512x1024) ![0, 0] S512x1024.size inb_S512x1024_S512x1024_0_0,
        kV (rowsL harg1 harg2 harg16 harg17 x0 x1 w7 w8)
          (View.readAt (Elt F) arg8.view (Rect.unit (s := S1x1x1024) ![0, 0, 0] S1x1x1024.size inb_S1x1x1024_S1x1x1024_0_0_0).toLoadRect (harg8.unread x5))
          (View.readAt (Elt F) arg5.view (Rect.unit (s := S1x1x512) ![0, 0, 0] S1x1x512.size inb_S1x1x512_S1x1x512_0_0_0).toLoadRect (harg5.unread x2))
          (View.readAt (Elt F) arg6.view (Rect.unit (s := S1x128) ![0, 0] S1x128.size inb_S1x128_S1x128_0_0).toLoadRect (harg6.unread x3))
          (View.readAt (Elt F) arg19.view (Rect.unit (s := S1024x2048) ![0, 0] S1024x1024.size inb_S1024x2048_S1024x1024_0_0).toLoadRect (harg19.unread w10))⟩])
      = kBlk x0 x1 x2 x3 x5 w7 w8 w10 := by
  rw [whole_read, rowsL_eq, gain_load, pos_load, freq_load, load_unread]; rfl

/-- The values' block: two stores, the second half last. -/
theorem vt_read (f : arg14.view.ty.Contents (Elt F)) :
    View.read (Elt F) arg14.view (arg14.view.writes (Elt F) f
      [⟨Rect.unit (s := S1x2x1024x256) ![0, 1, 0, 0] S1x1x1024x256.size inb_S1x2x1024x256_S1x1x1024x256_0_1_0_0,
        vHi (rowsL harg1 harg2 harg16 harg17 x0 x1 w7 w8)
          (View.readAt (Elt F) arg8.view (Rect.unit (s := S1x1x1024) ![0, 0, 0] S1x1x1024.size inb_S1x1x1024_S1x1x1024_0_0_0).toLoadRect (harg8.unread x5))
          (View.readAt (Elt F) arg19.view (Rect.unit (s := S1024x2048) ![0, 1024] S1024x1024.size inb_S1024x2048_S1024x1024_0_1024).toLoadRect (harg19.unread w10))⟩,
       ⟨Rect.unit (s := S1x2x1024x256) ![0, 0, 0, 0] S1x1x1024x256.size inb_S1x2x1024x256_S1x1x1024x256_0_0_0_0,
        vLo (rowsL harg1 harg2 harg16 harg17 x0 x1 w7 w8)
          (View.readAt (Elt F) arg8.view (Rect.unit (s := S1x1x1024) ![0, 0, 0] S1x1x1024.size inb_S1x1x1024_S1x1x1024_0_0_0).toLoadRect (harg8.unread x5))
          (View.readAt (Elt F) arg19.view (Rect.unit (s := S1024x2048) ![0, 1024] S1024x1024.size inb_S1024x2048_S1024x1024_0_1024).toLoadRect (harg19.unread w10))⟩])
      = vtBlk x0 x1 x5 w7 w8 w10 := by
  rw [rowsL_eq, gain_load, load_unread]
  rw [View.read_writes_eq_canon _ _ _ (View.cover_of_tiled_head _ _ _ (by rfl))]
  funext y
  have e : ∀ x : S1x1x1024x256.Idx, (y 2).val = (x 2).val → (y 3).val = (x 3).val → x = inHalf y := fun x h2 h3 => funext fun a => Fin.ext (by
    match a with
    | ⟨0, _⟩ => have h : (x 0).val < 1 := (x 0).isLt; show (x 0).val = 0; omega
    | ⟨1, _⟩ => have h : (x 1).val < 1 := (x 1).isLt; show (x 1).val = 0; omega
    | ⟨2, _⟩ => exact h2.symm
    | ⟨3, _⟩ => exact h3.symm)
  canon_tiles x h'
  · have h : (x 1).val < 1 := (x 1).isLt
    rw [vtBlk, if_neg (by omega), e x h'2 h'3]; rfl
  · have h : (x 1).val < 1 := (x 1).isLt
    rw [vtBlk, if_pos (by omega), e x h'2 h'3]; rfl

end Reads

end Cert.Kernel3Ideal.Hand

end
-- ==== Proof.Means3.lean ====
/-
  WHAT ONE GRID POINT LEAVES IN THE BLOCK OF THE KEYS' MEANS, at any float. The block has sixteen rows, one for every 256 rows of a
  sequence, and stays for the eight points of the sequence: the first of them clears it, and each writes its two rows (`kmBlk`, over
  what the point before left). That the body's stores read back as that block (`km_read`, and `km_read0` where it is cleared).
-/
module

public import proofs.«01_k».proof.Proof.Heads3

@[expose] public section

set_option maxRecDepth 16384

noncomputable section

namespace Cert.Kernel3Ideal.Hand

open Idealize.ShloMosaic
open Cert.Kernel3Ideal.Gen
open Cert.Staging

variable {F : FTy → Type} [FloatOps F]

/-- The number of the point in its sequence, as the body works it out. -/
def tileNo (i : grid0.Coords) : BitVec 32 :=
  let a : BitVec 32 := BitVec.ofNat 32 (i 0).val
  let n : BitVec 32 := Scalar.select (Scalar.cmpi .eq 8#32 0#32) 1#32 8#32
  let q : BitVec 32 := Scalar.remsi a n
  Scalar.select (Scalar.andi (Scalar.xori (Scalar.cmpi .slt q 0#32) (Scalar.cmpi .slt n 0#32)) (Scalar.cmpi .ne q 0#32)) (Scalar.addi q n) q

theorem tileNo_at : ∀ t : Fin grid0.N, tileNo (grid0.coords t) = BitVec.ofNat 32 (t.val % 8) := by decide +kernel

/-- The row numbers of the block. -/
def rowNums : IVec S16x1024 32 := iota .tc S16x1024 32 [0] iota_S16x1024_d0_w32

/-- The keys before they are rounded, of the rows `x`, and the mean of the first 256 of them. -/
def kF (x : FVec F S512x1024 .f32) (g : Vec F S1x1x1024 .f32) (pos : Vec F S1x1x512 .i32) (fr : Vec F S1x128 .f32) (w : Vec F S1024x1024 .bf16) : FVec F S512x1024 .f32 :=
  k0_pay58 k0_pay49 (k0_pay52 x (meanSq x) g) (k0_pay54 pos fr) (k0_pay55 lanes pos fr) w
def kMean (x : FVec F S512x1024 .f32) (g : Vec F S1x1x1024 .f32) (pos : Vec F S1x1x512 .i32) (fr : Vec F S1x128 .f32) (w : Vec F S1024x1024 .bf16) : FVec F S1x1024 .f32 :=
  k0_pay62 k0_pay49 (k0_pay52 x (meanSq x) g) (k0_pay54 pos fr) (k0_pay55 lanes pos fr) w

/-- The block after the two rows of the point number `s`, over `prev`. -/
def kmV (s : BitVec 32) (x : FVec F S512x1024 .f32) (g : Vec F S1x1x1024 .f32) (pos : Vec F S1x1x512 .i32) (fr : Vec F S1x128 .f32) (w : Vec F S1024x1024 .bf16)
    (prev : Vec F S1x16x1024 .f32) : FVec F S1x16x1024 .f32 :=
  k0_pay1 (k0_pay65 s rowNums (kF x g pos fr w) (k0_pay63 rowNums (kMean x g pos fr w) (Scalar.muli s 2#32) 0#32 prev))
def kmBlk (i : grid0.Coords) (x0 : Vec F S512x1024 .f32) (x1 : Vec F S1x1x1024 .f32) (x2 : Vec F S1x1x512 .i32) (x3 : Vec F S1x128 .f32) (x5 : Vec F S1x1x1024 .f32)
    (w7 : Vec F S1024x5632 .bf16) (w8 : Vec F S2816x1024 .bf16) (w10 : Vec F S1024x2048 .bf16) (prev : Vec F S1x16x1024 .f32) : Vec F S1x16x1024 .f32 :=
  kmV (tileNo i) (outBlk x0 x1 w7 w8) x5 x2 x3 (wkOf w10) prev

/-- The whole block as a box, and the origin of it. -/
abbrev boxM : Rect S1x16x1024 := Rect.unit (s := S1x16x1024) ![0, 0, 0] S1x16x1024.size inb_S1x16x1024_S1x16x1024_0_0_0

theorem origin3 : (![0, 0, 0] : Fin S1x16x1024.rank → ℕ) = fun _ => 0 := funext fun a => by match a with | ⟨0, _⟩ => rfl | ⟨1, _⟩ => rfl | ⟨2, _⟩ => rfl

variable {arg15 : Memref sig .tc .vmem S1x16x1024 .f32}

/-- The last store of the whole block is what is read back, and what a load finds. -/
theorem km_top (f : arg15.view.ty.Contents (Elt F)) (P : Vec F S1x16x1024 .f32) (L : List (View.Piece (Elt F) S1x16x1024 .f32)) :
    View.read (Elt F) arg15.view (arg15.view.writes (Elt F) f (⟨boxM, P⟩ :: L)) = P :=
  (View.read_writes_eq_canon _ _ _ fun y => ⟨_, List.mem_cons_self, View.mem_set_unit_zero origin3 inb_S1x16x1024_S1x16x1024_0_0_0 y⟩).trans (View.canon_cons_unit_zero origin3 _ P L)
theorem km_cov (P : Vec F S1x16x1024 .f32) (L : List (View.Piece (Elt F) S1x16x1024 .f32)) :
    arg15.view.readCov (⟨boxM, P⟩ :: L) boxM.toLoadRect = P :=
  (View.readCov_eq_canon_ld _ _ _ fun y => ⟨_, List.mem_cons_self, View.mem_set_unit_zero origin3 inb_S1x16x1024_S1x16x1024_0_0_0 y⟩).trans
    ((View.ld_unit_zero origin3 _ _).trans (View.canon_cons_unit_zero origin3 _ P L))

section Reads
variable {arg1 : Memref sig .tc .vmem S512x1024 .f32} (harg1 : arg1.IsWhole) {arg2 : Memref sig .tc .vmem S1x1x1024 .f32} (harg2 : arg2.IsWhole)
  {arg5 : Memref sig .tc .vmem S1x1x512 .i32} (harg5 : arg5.IsWhole) {arg6 : Memref sig .tc .vmem S1x128 .f32} (harg6 : arg6.IsWhole)
  {arg8 : Memref sig .tc .vmem S1x1x1024 .f32} (harg8 : arg8.IsWhole) (harg15 : arg15.IsWhole)
  {arg16 : Memref sig .tc .vmem S1024x5632 .bf16} (harg16 : arg16.IsWhole) {arg17 : Memref sig .tc .vmem S2816x1024 .bf16} (harg17 : arg17.IsWhole)
  {arg19 : Memref sig .tc .vmem S1024x2048 .bf16} (harg19 : arg19.IsWhole)
  (i : grid0.Coords) (x0 : Vec F S512x1024 .f32) (x1 : Vec F S1x1x1024 .f32) (x2 : Vec F S1x1x512 .i32) (x3 : Vec F S1x128 .f32) (x5 : Vec F S1x1x1024 .f32)
  (w7 : Vec F S1024x5632 .bf16) (w8 : Vec F S2816x1024 .bf16) (w10 : Vec F S1024x2048 .bf16)

/-- The loads of the gain, the positions, the frequencies and the key columns. -/
abbrev gL : Vec F S1x1x1024 .f32 := View.readAt (Elt F) arg8.view (Rect.unit (s := S1x1x1024) ![0, 0, 0] S1x1x1024.size inb_S1x1x1024_S1x1x1024_0_0_0).toLoadRect (harg8.unread x5)
abbrev posL : Vec F S1x1x512 .i32 := View.readAt (Elt F) arg5.view (Rect.unit (s := S1x1x512) ![0, 0, 0] S1x1x512.size inb_S1x1x512_S1x1x512_0_0_0).toLoadRect (harg5.unread x2)
abbrev frL : Vec F S1x128 .f32 := View.readAt (Elt F) arg6.view (Rect.unit (s := S1x128) ![0, 0] S1x128.size inb_S1x128_S1x128_0_0).toLoadRect (harg6.unread x3)
abbrev wkL : Vec F S1024x1024 .bf16 := View.readAt (Elt F) arg19.view (Rect.unit (s := S1024x2048) ![0, 0] S1024x1024.size inb_S1024x2048_S1024x1024_0_0).toLoadRect (harg19.unread w10)

/-- The block from the loads is the block. -/
theorem kmV_loads (prev : Vec F S1x16x1024 .f32) :
    kmV (tileNo i) (rowsL harg1 harg2 harg16 harg17 x0 x1 w7 w8) (gL harg8 x5) (posL harg5 x2) (frL harg6 x3) (wkL harg19 w10) prev
      = kmBlk i x0 x1 x2 x3 x5 w7 w8 w10 prev := by
  unfold gL posL frL wkL
  rw [rowsL_eq, gain_load, pos_load, freq_load, load_unread]; rfl

/-- At a point that finds `prev`. -/
theorem km_read (prev : Vec F S1x16x1024 .f32) (f : arg15.view.ty.Contents (Elt F)) (L : List (View.Piece (Elt F) S1x16x1024 .f32)) :
    View.read (Elt F) arg15.view (arg15.view.writes (Elt F) f
      (⟨boxM, k0_pay1 (k0_pay65 (tileNo i) rowNums
          (kF (rowsL harg1 harg2 harg16 harg17 x0 x1 w7 w8) (gL harg8 x5) (posL harg5 x2) (frL harg6 x3) (wkL harg19 w10))
          (arg15.view.readCov [⟨boxM, k0_pay63 rowNums
              (kMean (rowsL harg1 harg2 harg16 harg17 x0 x1 w7 w8) (gL harg8 x5) (posL harg5 x2) (frL harg6 x3) (wkL harg19 w10))
              (Scalar.muli (tileNo i) 2#32) 0#32 (View.readAt (Elt F) arg15.view boxM.toLoadRect (harg15.unread prev))⟩] boxM.toLoadRect))⟩ :: L))
      = kmBlk i x0 x1 x2 x3 x5 w7 w8 w10 prev := by
  rw [km_top, km_cov, load_unread, View.ld_unit_zero origin3]
  exact kmV_loads harg1 harg2 harg5 harg6 harg8 harg16 harg17 harg19 i x0 x1 x2 x3 x5 w7 w8 w10 prev

/-- At a point that clears it. -/
theorem km_read0 (f : arg15.view.ty.Contents (Elt F)) (L : List (View.Piece (Elt F) S1x16x1024 .f32)) :
    View.read (Elt F) arg15.view (arg15.view.writes (Elt F) f
      (⟨boxM, k0_pay1 (k0_pay65 (tileNo i) rowNums
          (kF (rowsL harg1 harg2 harg16 harg17 x0 x1 w7 w8) (gL harg8 x5) (posL harg5 x2) (frL harg6 x3) (wkL harg19 w10))
          (arg15.view.readCov [⟨boxM, k0_pay63 rowNums
              (kMean (rowsL harg1 harg2 harg16 harg17 x0 x1 w7 w8) (gL harg8 x5) (posL harg5 x2) (frL harg6 x3) (wkL harg19 w10))
              (Scalar.muli (tileNo i) 2#32) 0#32 (arg15.view.readCov [⟨boxM, k0_pay36⟩] boxM.toLoadRect)⟩, ⟨boxM, k0_pay36⟩] boxM.toLoadRect))⟩ :: L))
      = kmBlk i x0 x1 x2 x3 x5 w7 w8 w10 k0_pay36 := by
  rw [km_top, km_cov, km_cov]
  exact kmV_loads harg1 harg2 harg5 harg6 harg8 harg16 harg17 harg19 i x0 x1 x2 x3 x5 w7 w8 w10 k0_pay36

end Reads

end Cert.Kernel3Ideal.Hand

end
-- ==== Proof.Run3B.lean ====
/-
  THE BODY'S TRIPLE at a point after the first of the feed-forward and projection call: it finds the rounded weights resident and
  leaves the blocks of the five results, the means' over what the point before left or over nothing (`runB`).
-/
module

public import proofs.«01_k».proof.Proof.Means3

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen
open Cert.Staging

variable {F : FTy → Type} [FloatOps F]

local notation "𝕄" => MT nD τ sig Unit (Elt F) ℕ (Pipeline.UD sig nD τ) ℕ

/-- The two weight matrices of layer 0 as HBM holds them, read through the views the copies read through. -/
def guF (c : Dev nD) (fh : HbBuf0 (F := F) c hbM0_0) : FVec F S1024x5632 .f32 :=
  View.read (Elt F) ((hbM0_0.slice (Rect.unit (s := S2x1024x5632) ![0, 0, 0] S1x1024x5632.size inb_S2x1024x5632_S1x1024x5632_0_0_0) (fun _ => rfl)).squeeze
    S1024x5632 squeezes_S1x1024x5632_S1024x5632).view fh
def downF (c : Dev nD) (fh : HbBuf0 (F := F) c hbM0_1) : FVec F S2816x1024 .f32 :=
  View.read (Elt F) ((hbM0_1.slice (Rect.unit (s := S2x2816x1024) ![0, 0, 0] S1x2816x1024.size inb_S2x2816x1024_S1x2816x1024_0_0_0) (fun _ => rfl)).squeeze
    S2816x1024 squeezes_S1x2816x1024_S2816x1024).view fh

/-- The query matrix and the shared key and value matrix likewise. -/
def wqF (c : Dev nD) (fh : HbBuf0 (F := F) c hbM0_2) : FVec F S1024x1024 .f32 :=
  View.read (Elt F) ((hbM0_2.slice (Rect.unit (s := S1x1024x1024) ![0, 0, 0] S1x1024x1024.size inb_S1x1024x1024_S1x1024x1024_0_0_0) (fun _ => rfl)).squeeze
    S1024x1024 squeezes_S1x1024x1024_S1024x1024).view fh
def wkvF (c : Dev nD) (fh : HbBuf0 (F := F) c hbM0_3) : FVec F S1024x2048 .f32 := View.read (Elt F) hbM0_3.view fh

/-- The resident weights: rounded to bfloat16. -/
def guB (c : Dev nD) (fh : HbBuf0 (F := F) c hbM0_0) : FVec F S1024x5632 .bf16 := truncf .bf16 (guF c fh) bitsLt_bf16_f32
def downB (c : Dev nD) (fh : HbBuf0 (F := F) c hbM0_1) : FVec F S2816x1024 .bf16 := truncf .bf16 (downF c fh) bitsLt_bf16_f32
def wqB (c : Dev nD) (fh : HbBuf0 (F := F) c hbM0_2) : FVec F S1024x1024 .bf16 := truncf .bf16 (wqF c fh) bitsLt_bf16_f32
def wkvB (c : Dev nD) (fh : HbBuf0 (F := F) c hbM0_3) : FVec F S1024x2048 .bf16 := truncf .bf16 (wkvF c fh) bitsLt_bf16_f32

theorem gu_staged (c : Dev nD) (A : Memref sig .tc .vmem S3x64x5632 .f32) (f : A.view.ty.Contents (Elt F)) (fh : HbBuf0 (F := F) c hbM0_0)
    (B : Memref sig .tc .vmem S1024x5632 .bf16) (g : B.view.ty.Contents (Elt F)) :
    View.read (Elt F) B.view (B.view.writes (Elt F) g (stores (R := 64) (C := 5632) (K := 16) (N := 1024) (by decide) rfl A squeezes_S1x64x5632_S64x5632
      shapeCasts_S1x64x5632_S64x5632 shapeCasts_S64x5632_S64x5632
      (fun k x => guF c fh ((chunkR (R := 64) 5632 (K := 16) (N := 1024) (by decide) rfl k).emb x)) f 16)) = guB c fh := by
  funext y
  exact stores_read (R := 64) (C := 5632) (K := 16) (N := 1024) (by decide) rfl A _ _ _ (guF c fh) f B g 16 (by decide) y (y 0).isLt

theorem down_staged (c : Dev nD) (A : Memref sig .tc .vmem S3x352x1024 .f32) (f : A.view.ty.Contents (Elt F)) (fh : HbBuf0 (F := F) c hbM0_1)
    (B : Memref sig .tc .vmem S2816x1024 .bf16) (g : B.view.ty.Contents (Elt F)) :
    View.read (Elt F) B.view (B.view.writes (Elt F) g (stores (R := 352) (C := 1024) (K := 8) (N := 2816) (by decide) rfl A squeezes_S1x352x1024_S352x1024
      shapeCasts_S1x352x1024_S352x1024 shapeCasts_S352x1024_S352x1024
      (fun k x => downF c fh ((chunkR (R := 352) 1024 (K := 8) (N := 2816) (by decide) rfl k).emb x)) f 8)) = downB c fh := by
  funext y
  exact stores_read (R := 352) (C := 1024) (K := 8) (N := 2816) (by decide) rfl A _ _ _ (downF c fh) f B g 8 (by decide) y (y 0).isLt

theorem gu_landed {B : Memref sig .tc .vmem S1024x5632 .bf16} (hB : B.IsWhole) (c : Dev nD) (A : Memref sig .tc .vmem S3x64x5632 .f32) (f : A.view.ty.Contents (Elt F)) (fh : HbBuf0 (F := F) c hbM0_0)
    (g : B.view.ty.Contents (Elt F)) :
    B.view.writes (Elt F) g (stores (R := 64) (C := 5632) (K := 16) (N := 1024) (by decide) rfl A squeezes_S1x64x5632_S64x5632
      shapeCasts_S1x64x5632_S64x5632 shapeCasts_S64x5632_S64x5632
      (fun k x => guF c fh ((chunkR (R := 64) 5632 (K := 16) (N := 1024) (by decide) rfl k).emb x)) f 16) = hB.unread (guB c fh) :=
  hB.eq_unread (gu_staged c A f fh B g)

theorem down_landed {B : Memref sig .tc .vmem S2816x1024 .bf16} (hB : B.IsWhole) (c : Dev nD) (A : Memref sig .tc .vmem S3x352x1024 .f32) (f : A.view.ty.Contents (Elt F)) (fh : HbBuf0 (F := F) c hbM0_1)
    (g : B.view.ty.Contents (Elt F)) :
    B.view.writes (Elt F) g (stores (R := 352) (C := 1024) (K := 8) (N := 2816) (by decide) rfl A squeezes_S1x352x1024_S352x1024
      shapeCasts_S1x352x1024_S352x1024 shapeCasts_S352x1024_S352x1024
      (fun k x => downF c fh ((chunkR (R := 352) 1024 (K := 8) (N := 2816) (by decide) rfl k).emb x)) f 8) = hB.unread (downB c fh) :=
  hB.eq_unread (down_staged c A f fh B g)

theorem wq_staged (c : Dev nD) (A : Memref sig .tc .vmem S3x512x1024 .f32) (f : A.view.ty.Contents (Elt F)) (fh : HbBuf0 (F := F) c hbM0_2)
    (B : Memref sig .tc .vmem S1024x1024 .bf16) (g : B.view.ty.Contents (Elt F)) :
    View.read (Elt F) B.view (B.view.writes (Elt F) g (stores (R := 512) (C := 1024) (K := 2) (N := 1024) (by decide) rfl A squeezes_S1x512x1024_S512x1024
      shapeCasts_S1x512x1024_S512x1024 shapeCasts_S512x1024_S512x1024
      (fun k x => wqF c fh ((chunkR (R := 512) 1024 (K := 2) (N := 1024) (by decide) rfl k).emb x)) f 2)) = wqB c fh := by
  funext y
  exact stores_read (R := 512) (C := 1024) (K := 2) (N := 1024) (by decide) rfl A _ _ _ (wqF c fh) f B g 2 (by decide) y (y 0).isLt

theorem wq_landed {B : Memref sig .tc .vmem S1024x1024 .bf16} (hB : B.IsWhole) (c : Dev nD) (A : Memref sig .tc .vmem S3x512x1024 .f32) (f : A.view.ty.Contents (Elt F)) (fh : HbBuf0 (F := F) c hbM0_2)
    (g : B.view.ty.Contents (Elt F)) :
    B.view.writes (Elt F) g (stores (R := 512) (C := 1024) (K := 2) (N := 1024) (by decide) rfl A squeezes_S1x512x1024_S512x1024
      shapeCasts_S1x512x1024_S512x1024 shapeCasts_S512x1024_S512x1024
      (fun k x => wqF c fh ((chunkR (R := 512) 1024 (K := 2) (N := 1024) (by decide) rfl k).emb x)) f 2) = hB.unread (wqB c fh) :=
  hB.eq_unread (wq_staged c A f fh B g)

theorem wkv_staged (c : Dev nD) (A : Memref sig .tc .vmem S3x256x2048 .f32) (f : A.view.ty.Contents (Elt F)) (fh : HbBuf0 (F := F) c hbM0_3)
    (B : Memref sig .tc .vmem S1024x2048 .bf16) (g : B.view.ty.Contents (Elt F)) :
    View.read (Elt F) B.view (B.view.writes (Elt F) g (stores (R := 256) (C := 2048) (K := 4) (N := 1024) (by decide) rfl A squeezes_S1x256x2048_S256x2048
      shapeCasts_S1x256x2048_S256x2048 shapeCasts_S256x2048_S256x2048
      (fun k x => wkvF c fh ((chunkR (R := 256) 2048 (K := 4) (N := 1024) (by decide) rfl k).emb x)) f 4)) = wkvB c fh := by
  funext y
  exact stores_read (R := 256) (C := 2048) (K := 4) (N := 1024) (by decide) rfl A _ _ _ (wkvF c fh) f B g 4 (by decide) y (y 0).isLt

theorem wkv_landed {B : Memref sig .tc .vmem S1024x2048 .bf16} (hB : B.IsWhole) (c : Dev nD) (A : Memref sig .tc .vmem S3x256x2048 .f32) (f : A.view.ty.Contents (Elt F)) (fh : HbBuf0 (F := F) c hbM0_3)
    (g : B.view.ty.Contents (Elt F)) :
    B.view.writes (Elt F) g (stores (R := 256) (C := 2048) (K := 4) (N := 1024) (by decide) rfl A squeezes_S1x256x2048_S256x2048
      shapeCasts_S1x256x2048_S256x2048 shapeCasts_S256x2048_S256x2048
      (fun k x => wkvF c fh ((chunkR (R := 256) 2048 (K := 4) (N := 1024) (by decide) rfl k).emb x)) f 4) = hB.unread (wkvB c fh) :=
  hB.eq_unread (wkv_staged c A f fh B g)

set_option maxHeartbeats 4000000 in set_option sl_exec.dmaWindow true in set_option sl_exec.dmaWindowSet true in
/-- The body's triple at a point after the first: the five results' blocks from the resident weights `w7` to `w10`, which stay; the means' block
    over `base`, which is zero where the body clears the block and what it found, `prev`, elsewhere. -/
theorem runB (c : Dev nD) (i : grid0.Coords) (arg1 : Memref sig .tc .vmem S512x1024 .f32) (harg1 : arg1.IsWhole) (arg2 : Memref sig .tc .vmem S1x1x1024 .f32) (harg2 : arg2.IsWhole) (arg5 : Memref sig .tc .vmem S1x1x512 .i32) (harg5 : arg5.IsWhole) (arg6 : Memref sig .tc .vmem S1x128 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x2x1024x256 .bf16) (harg14 : arg14.IsWhole) (arg15 : Memref sig .tc .vmem S1x16x1024 .f32) (harg15 : arg15.IsWhole) (arg16 : Memref sig .tc .vmem S1024x5632 .bf16) (harg16 : arg16.IsWhole) (arg17 : Memref sig .tc .vmem S2816x1024 .bf16) (harg17 : arg17.IsWhole) (arg18 : Memref sig .tc .vmem S1024x1024 .bf16) (harg18 : arg18.IsWhole) (arg19 : Memref sig .tc .vmem S1024x2048 .bf16) (harg19 : arg19.IsWhole) (alloca_r0 : Memref sig .tc .vmem S3x64x5632 .f32) (halloca_r0 : alloca_r0.IsWhole) (alloca_r1 : Memref sig .tc .vmem S3x352x1024 .f32) (halloca_r1 : alloca_r1.IsWhole) (alloca_r2 : Memref sig .tc .vmem S3x512x1024 .f32) (halloca_r2 : alloca_r2.IsWhole) (alloca_r3 : Memref sig .tc .vmem S3x256x2048 .f32) (halloca_r3 : alloca_r3.IsWhole) (hc0 : ¬cond0_0 i)
    (x0 : Vec F S512x1024 .f32) (x1 : Vec F S1x1x1024 .f32) (x2 : Vec F S1x1x512 .i32) (x3 : Vec F S1x128 .f32) (x4 x5 : Vec F S1x1x1024 .f32) (w7 : Vec F S1024x5632 .bf16) (w8 : Vec F S2816x1024 .bf16) (w9 : Vec F S1024x1024 .bf16) (w10 : Vec F S1024x2048 .bf16) (prev base : Vec F S1x16x1024 .f32) (hb1 : cond0_1 i → base = k0_pay36) (hb2 : ¬ cond0_1 i → base = prev) (fh0 : HbBuf0 (F := F) c hbM0_0) (fh1 : HbBuf0 (F := F) c hbM0_1) (fh2 : HbBuf0 (F := F) c hbM0_2) (fh3 : HbBuf0 (F := F) c hbM0_3)
    (W : Waits sig Unit) (K : PUnit → sProp 𝕄) :
    iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare prev ∗ owns (c : Thread nD τ) arg16 fullShare w7 ∗ owns (c : Thread nD τ) arg17 fullShare w8 ∗ owns (c : Thread nD τ) arg18 fullShare w9 ∗ owns (c : Thread nD τ) arg19 fullShare w10 ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg11 fullShare (outBlk x0 x1 w7 w8) ∗ owns (c : Thread nD τ) arg12 fullShare (qBlk x0 x1 x2 x3 x4 w7 w8 w9) ∗ owns (c : Thread nD τ) arg13 fullShare (kBlk x0 x1 x2 x3 x5 w7 w8 w10) ∗ owns (c : Thread nD τ) arg14 fullShare (vtBlk x0 x1 x5 w7 w8 w10) ∗ owns (c : Thread nD τ) arg15 fullShare (kmBlk i x0 x1 x2 x3 x5 w7 w8 w10 base) ∗ owns (c : Thread nD τ) arg16 fullShare w7 ∗ owns (c : Thread nD τ) arg17 fullShare w8 ∗ owns (c : Thread nD τ) arg18 fullShare w9 ∗ owns (c : Thread nD τ) arg19 fullShare w10 ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_swiglu_qkv i arg1 harg1 arg2 harg2 (Memref.whole main_arg3) (Memref.isWhole_whole _) (Memref.whole main_arg4) (Memref.isWhole_whole _) arg5 harg5 arg6 harg6 arg7 harg7 arg8 harg8 (Memref.whole main_arg7) (Memref.isWhole_whole _) (Memref.whole main_arg8) (Memref.isWhole_whole _) arg11 harg11 arg12 harg12 arg13 harg13 arg14 harg14 arg15 harg15 arg16 harg16 arg17 harg17 arg18 harg18 arg19 harg19 alloca_r0 halloca_r0 cc0_scoped1 alloca_r1 halloca_r1 cc0_scoped3 alloca_r2 halloca_r2 cc0_scoped5 alloca_r3 halloca_r3 cc0_scoped7) K := by
  simp only [cc0_swiglu_qkv_eq_skeleton]; unfold cc0_swiglu_qkv_skel
  simp only [k0_part29_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%g0, %hg0, HS0⟩, ⟨%g1, %hg1, HS1⟩, ⟨%g2, %hg2, HS2⟩, ⟨%g3, %hg3, HS3⟩, ⟨%e4, %g4, -, HS4⟩, ⟨%e5, %g5, -, HS5⟩, ⟨%e6, %g6, -, HS6⟩, ⟨%e7, %g7, -, HS7⟩, Hq0, Hq1, Hq2, Hq3, Hq4, Hq5, Hq6, Hq7, Hq8, Hq9, Hq10, Hq11, Hh0, Hh1, Hh2, Hh3, HW, Hk⟩
  obtain rfl := harg1.eq_unread hf0; obtain rfl := harg2.eq_unread hf1; obtain rfl := harg5.eq_unread hf2; obtain rfl := harg6.eq_unread hf3; obtain rfl := harg7.eq_unread hf4; obtain rfl := harg8.eq_unread hf5; obtain rfl := harg15.eq_unread hf10
  obtain rfl := harg16.eq_unread hg0; obtain rfl := harg17.eq_unread hg1; obtain rfl := harg18.eq_unread hg2; obtain rfl := harg19.eq_unread hg3
  by_cases hc1 : cond0_1 i
  · sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro; exact out_read harg1 harg2 harg16 harg17 x0 x1 _ _ f6
    isplitl [H7]
    · iexists _; isplitr; swap; · iexact H7
      ipureintro; exact q_read harg1 harg2 harg5 harg6 harg7 harg16 harg17 harg18 x0 x1 x2 x3 x4 _ _ _ f7
    isplitl [H8]
    · iexists _; isplitr; swap; · iexact H8
      ipureintro; exact k_read harg1 harg2 harg5 harg6 harg8 harg16 harg17 harg19 x0 x1 x2 x3 x5 _ _ _ f8
    isplitl [H9]
    · iexists _; isplitr; swap; · iexact H9
      ipureintro; exact vt_read harg1 harg2 harg8 harg16 harg17 harg19 x0 x1 x5 _ _ _ f9
    isplitl [H10]
    · iexists _; isplitr; swap; · iexact H10
      ipureintro; rw [hb1 hc1]; exact km_read0 harg1 harg2 harg5 harg6 harg8 harg16 harg17 harg19 i x0 x1 x2 x3 x5 _ _ _ _ _
    isplitl [HS0]
    · iexists _; isplitr; · ipureintro; exact harg16.read_unread _
      iexact HS0
    isplitl [HS1]
    · iexists _; isplitr; · ipureintro; exact harg17.read_unread _
      iexact HS1
    isplitl [HS2]
    · iexists _; isplitr; · ipureintro; exact harg18.read_unread _
      iexact HS2
    isplitl [HS3]
    · iexists _; isplitr; · ipureintro; exact harg19.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    iexists _; iexact HW
  · sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro; exact out_read harg1 harg2 harg16 harg17 x0 x1 _ _ f6
    isplitl [H7]
    · iexists _; isplitr; swap; · iexact H7
      ipureintro; exact q_read harg1 harg2 harg5 harg6 harg7 harg16 harg17 harg18 x0 x1 x2 x3 x4 _ _ _ f7
    isplitl [H8]
    · iexists _; isplitr; swap; · iexact H8
      ipureintro; exact k_read harg1 harg2 harg5 harg6 harg8 harg16 harg17 harg19 x0 x1 x2 x3 x5 _ _ _ f8
    isplitl [H9]
    · iexists _; isplitr; swap; · iexact H9
      ipureintro; exact vt_read harg1 harg2 harg8 harg16 harg17 harg19 x0 x1 x5 _ _ _ f9
    isplitl [H10]
    · iexists _; isplitr; swap; · iexact H10
      ipureintro; rw [hb2 hc1]; exact km_read harg1 harg2 harg5 harg6 harg8 harg15 harg16 harg17 harg19 i x0 x1 x2 x3 x5 _ _ _ _ _ _
    isplitl [HS0]
    · iexists _; isplitr; · ipureintro; exact harg16.read_unread _
      iexact HS0
    isplitl [HS1]
    · iexists _; isplitr; · ipureintro; exact harg17.read_unread _
      iexact HS1
    isplitl [HS2]
    · iexists _; isplitr; · ipureintro; exact harg18.read_unread _
      iexact HS2
    isplitl [HS3]
    · iexists _; isplitr; · ipureintro; exact harg19.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    iexists _; iexact HW

end Cert.Kernel3Ideal.Hand

end
-- ==== Proof.Run3A.lean ====
/-
  THE BODY AT THE FIRST POINT of the feed-forward and projection call. The four weight matrices are copied from HBM through the four
  rings into the scratch buffers, rounded on the way, every copy's wait matched with its start; then the point's blocks are computed.
-/
module

public import proofs.«01_k».proof.Proof.Run3B

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen
open Cert.Staging

variable {F : FTy → Type} [FloatOps F]

local notation "𝕄" => MT nD τ sig Unit (Elt F) ℕ (Pipeline.UD sig nD τ) ℕ

set_option maxHeartbeats 4000000 in set_option sl_exec.dmaWindow true in set_option sl_exec.dmaWindowSet true in
/-- The body's triple at the first point: the weights staged from HBM, then the blocks computed. -/
theorem runA (c : Dev nD) (i : grid0.Coords) (arg1 : Memref sig .tc .vmem S512x1024 .f32) (harg1 : arg1.IsWhole) (arg2 : Memref sig .tc .vmem S1x1x1024 .f32) (harg2 : arg2.IsWhole) (arg5 : Memref sig .tc .vmem S1x1x512 .i32) (harg5 : arg5.IsWhole) (arg6 : Memref sig .tc .vmem S1x128 .f32) (harg6 : arg6.IsWhole) (arg7 : Memref sig .tc .vmem S1x1x1024 .f32) (harg7 : arg7.IsWhole) (arg8 : Memref sig .tc .vmem S1x1x1024 .f32) (harg8 : arg8.IsWhole) (arg11 : Memref sig .tc .vmem S512x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1x2x1024x256 .bf16) (harg14 : arg14.IsWhole) (arg15 : Memref sig .tc .vmem S1x16x1024 .f32) (harg15 : arg15.IsWhole) (arg16 : Memref sig .tc .vmem S1024x5632 .bf16) (harg16 : arg16.IsWhole) (arg17 : Memref sig .tc .vmem S2816x1024 .bf16) (harg17 : arg17.IsWhole) (arg18 : Memref sig .tc .vmem S1024x1024 .bf16) (harg18 : arg18.IsWhole) (arg19 : Memref sig .tc .vmem S1024x2048 .bf16) (harg19 : arg19.IsWhole) (alloca_r0 : Memref sig .tc .vmem S3x64x5632 .f32) (halloca_r0 : alloca_r0.IsWhole) (alloca_r1 : Memref sig .tc .vmem S3x352x1024 .f32) (halloca_r1 : alloca_r1.IsWhole) (alloca_r2 : Memref sig .tc .vmem S3x512x1024 .f32) (halloca_r2 : alloca_r2.IsWhole) (alloca_r3 : Memref sig .tc .vmem S3x256x2048 .f32) (halloca_r3 : alloca_r3.IsWhole) (hc0 : cond0_0 i) (hc1 : cond0_1 i)
    (x0 : Vec F S512x1024 .f32) (x1 : Vec F S1x1x1024 .f32) (x2 : Vec F S1x1x512 .i32) (x3 : Vec F S1x128 .f32) (x4 x5 : Vec F S1x1x1024 .f32) (fh0 : HbBuf0 (F := F) c hbM0_0) (fh1 : HbBuf0 (F := F) c hbM0_1) (fh2 : HbBuf0 (F := F) c hbM0_2) (fh3 : HbBuf0 (F := F) c hbM0_3)
    (W : Waits sig Unit) (K : PUnit → sProp 𝕄) :
    iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ hbPt0 c hbM0_0 fh0 ∗ hbPt0 c hbM0_1 fh1 ∗ hbPt0 c hbM0_2 fh2 ∗ hbPt0 c hbM0_3 fh3 ∗ owes (c : Thread nD τ) 0 W
        ∗ (iprop(owns (c : Thread nD τ) arg1 fullShare x0 ∗ owns (c : Thread nD τ) arg2 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg11 fullShare (outBlk x0 x1 (guB c fh0) (downB c fh1)) ∗ owns (c : Thread nD τ) arg12 fullShare (qBlk x0 x1 x2 x3 x4 (guB c fh0) (downB c fh1) (wqB c fh2)) ∗ owns (c : Thread nD τ) arg13 fullShare (kBlk x0 x1 x2 x3 x5 (guB c fh0) (downB c fh1) (wkvB c fh3)) ∗ owns (c : Thread nD τ) arg14 fullShare (vtBlk x0 x1 x5 (guB c fh0) (downB c fh1) (wkvB c fh3)) ∗ owns (c : Thread nD τ) arg15 fullShare (kmBlk i x0 x1 x2 x3 x5 (guB c fh0) (downB c fh1) (wkvB c fh3) k0_pay36) ∗ owns (c : Thread nD τ) arg16 fullShare (guB c fh0) ∗ owns (c : Thread nD τ) arg17 fullShare (downB c fh1) ∗ owns (c : Thread nD τ) arg18 fullShare (wqB c fh2) ∗ owns (c : Thread nD τ) arg19 fullShare (wkvB c fh3) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_swiglu_qkv i arg1 harg1 arg2 harg2 (Memref.whole main_arg3) (Memref.isWhole_whole _) (Memref.whole main_arg4) (Memref.isWhole_whole _) arg5 harg5 arg6 harg6 arg7 harg7 arg8 harg8 (Memref.whole main_arg7) (Memref.isWhole_whole _) (Memref.whole main_arg8) (Memref.isWhole_whole _) arg11 harg11 arg12 harg12 arg13 harg13 arg14 harg14 arg15 harg15 arg16 harg16 arg17 harg17 arg18 harg18 arg19 harg19 alloca_r0 halloca_r0 cc0_scoped1 alloca_r1 halloca_r1 cc0_scoped3 alloca_r2 halloca_r2 cc0_scoped5 alloca_r3 halloca_r3 cc0_scoped7) K := by
  simp only [cc0_swiglu_qkv_eq_skeleton]; unfold cc0_swiglu_qkv_skel
  simp only [k0_part29_eq_skeleton, k0_part22_eq_skeleton, k0_part23_eq_skeleton, k0_part24_eq_skeleton, k0_part25_eq_skeleton, k0_part26_eq_skeleton, k0_part27_eq_skeleton, k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%e0, %g0, -, HS0⟩, ⟨%e1, %g1, -, HS1⟩, ⟨%e2, %g2, -, HS2⟩, ⟨%e3, %g3, -, HS3⟩, ⟨%e4, %g4, -, HS4⟩, ⟨%e5, %g5, -, HS5⟩, ⟨%e6, %g6, -, HS6⟩, ⟨%e7, %g7, -, HS7⟩, Hq0, Hq1, Hq2, Hq3, Hq4, Hq5, Hq6, Hq7, Hq8, Hq9, Hq10, Hq11, Hh0, Hh1, Hh2, Hh3, HW, Hk⟩
  obtain rfl := harg1.eq_unread hf0; obtain rfl := harg2.eq_unread hf1; obtain rfl := harg5.eq_unread hf2; obtain rfl := harg6.eq_unread hf3; obtain rfl := harg7.eq_unread hf4; obtain rfl := harg8.eq_unread hf5
  unfold k0_part29_skel
  rw [wp_bind, wp_bind, k0_part22_eq_skeleton]
  unfold k0_part22_skel
  extract_lets a0 v0 v1 v2 v3 v4 v5 v6 v7 v8 v9 v10 v11 v12 v13 v14 v15 jp2 jp
  obtain ⟨j, hjp⟩ : ∃ j, jp = j := ⟨_, rfl⟩
  rw [hjp]
  sl_exec (disch := first | sl_exact hc0)
  ihave HS0 : (View.loc (c : Thread nD τ) arg16.view ↦[arg16.view.set]{fullShare} harg16.unread (guB c fh0)) $$ [HS0]
  · istop
    refine Entails.of_eq (congrArg (fun f => (View.loc (c : Thread nD τ) arg16.view ↦[arg16.view.set]{fullShare} f : sProp 𝕄)) ?_)
    exact gu_landed harg16 c alloca_r0 g4 fh0 g0
  ihave HS1 : (View.loc (c : Thread nD τ) arg17.view ↦[arg17.view.set]{fullShare} harg17.unread (downB c fh1)) $$ [HS1]
  · istop
    refine Entails.of_eq (congrArg (fun f => (View.loc (c : Thread nD τ) arg17.view ↦[arg17.view.set]{fullShare} f : sProp 𝕄)) ?_)
    exact down_landed harg17 c alloca_r1 g5 fh1 g1
  ihave HS2 : (View.loc (c : Thread nD τ) arg18.view ↦[arg18.view.set]{fullShare} harg18.unread (wqB c fh2)) $$ [HS2]
  · istop
    refine Entails.of_eq (congrArg (fun f => (View.loc (c : Thread nD τ) arg18.view ↦[arg18.view.set]{fullShare} f : sProp 𝕄)) ?_)
    exact wq_landed harg18 c alloca_r2 g6 fh2 g2
  ihave HS3 : (View.loc (c : Thread nD τ) arg19.view ↦[arg19.view.set]{fullShare} harg19.unread (wkvB c fh3)) $$ [HS3]
  · istop
    refine Entails.of_eq (congrArg (fun f => (View.loc (c : Thread nD τ) arg19.view ↦[arg19.view.set]{fullShare} f : sProp 𝕄)) ?_)
    exact wkv_landed harg19 c alloca_r3 g7 fh3 g3
  subst hjp
  simp only [jp, jp2]
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; swap; · iexact H6
    ipureintro; exact out_read harg1 harg2 harg16 harg17 x0 x1 _ _ f6
  isplitl [H7]
  · iexists _; isplitr; swap; · iexact H7
    ipureintro; exact q_read harg1 harg2 harg5 harg6 harg7 harg16 harg17 harg18 x0 x1 x2 x3 x4 _ _ _ f7
  isplitl [H8]
  · iexists _; isplitr; swap; · iexact H8
    ipureintro; exact k_read harg1 harg2 harg5 harg6 harg8 harg16 harg17 harg19 x0 x1 x2 x3 x5 _ _ _ f8
  isplitl [H9]
  · iexists _; isplitr; swap; · iexact H9
    ipureintro; exact vt_read harg1 harg2 harg8 harg16 harg17 harg19 x0 x1 x5 _ _ _ f9
  isplitl [H10]
  · iexists _; isplitr; swap; · iexact H10
    ipureintro; exact km_read0 harg1 harg2 harg5 harg6 harg8 harg16 harg17 harg19 i x0 x1 x2 x3 x5 _ _ _ f10 _
  isplitl [HS0]
  · iexists _; isplitr; · ipureintro; exact harg16.read_unread _
    iexact HS0
  isplitl [HS1]
  · iexists _; isplitr; · ipureintro; exact harg17.read_unread _
    iexact HS1
  isplitl [HS2]
  · iexists _; isplitr; · ipureintro; exact harg18.read_unread _
    iexact HS2
  isplitl [HS3]
  · iexists _; isplitr; · ipureintro; exact harg19.read_unread _
    iexact HS3
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  isplitl [Hh3]; · iexact Hh3
  iexists _; iexact HW

end Cert.Kernel3Ideal.Hand

end
-- ==== Proof.Launch3.lean ====
/-
  THE LAUNCH of the feed-forward and projection call. What the four weight buffers hold between grid points (nothing
  known before the first, the rounded weights after it), the proof data of the pipeline, the body's obligation at every point, and
  the run of the whole program (`run_main`). The block of the keys' means stays from point to point of a sequence (`kmAcc`).
-/
module

public import proofs.«01_k».proof.Proof.Run3A
public import Idealize.ShloMosaic.Lib.Claim
public import Idealize.ShloMosaic.Lib.Pipeline.Value

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four weight buffers before point `n`: at anything before the first, at the rounded weights after. -/
def held (c : Dev nD) : ℕ → sProp 𝕄
  | 0 => iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d))
  | _ + 1 => iprop(owns (c : Thread nD τ) scM0_0 fullShare (guB c (V m c main_arg3)) ∗ owns (c : Thread nD τ) scM0_1 fullShare (downB c (V m c main_arg4)) ∗ owns (c : Thread nD τ) scM0_2 fullShare (wqB c (V m c main_arg7)) ∗ owns (c : Thread nD τ) scM0_3 fullShare (wkvB c (V m c main_arg8)))

/-- The rest of the invariant: the rings at anything, the generator register, the copies'
    semaphores at zero, the weights in HBM. -/
def others (c : Dev nD) : sProp 𝕄 :=
  iprop((∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ r, prngReg c r)
    ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0
    ∗ hbPt0 c hbM0_0 (V m c main_arg3) ∗ hbPt0 c hbM0_1 (V m c main_arg4) ∗ hbPt0 c hbM0_2 (V m c main_arg7) ∗ hbPt0 c hbM0_3 (V m c main_arg8))

/-- The first result's block of point `t`. -/
def outAt (c : Dev nD) (t : Fin cfg0.N) : Vec F S512x1024 .f32 :=
  outBlk (iblk m c 0 t) (iblk m c 1 t) (guB c (V m c main_arg3)) (downB c (V m c main_arg4))

/-- The blocks of the queries, the keys and the values of point `t`. -/
def qAt (c : Dev nD) (t : Fin cfg0.N) : Vec F S512x1024 .bf16 :=
  qBlk (iblk m c 0 t) (iblk m c 1 t) (iblk m c 2 t) (iblk m c 3 t) (iblk m c 4 t) (guB c (V m c main_arg3)) (downB c (V m c main_arg4)) (wqB c (V m c main_arg7))
def kAt (c : Dev nD) (t : Fin cfg0.N) : Vec F S512x1024 .bf16 :=
  kBlk (iblk m c 0 t) (iblk m c 1 t) (iblk m c 2 t) (iblk m c 3 t) (iblk m c 5 t) (guB c (V m c main_arg3)) (downB c (V m c main_arg4)) (wkvB c (V m c main_arg8))
def vtAt (c : Dev nD) (t : Fin cfg0.N) : Vec F S1x2x1024x256 .bf16 :=
  vtBlk (iblk m c 0 t) (iblk m c 1 t) (iblk m c 5 t) (guB c (V m c main_arg3)) (downB c (V m c main_arg4)) (wkvB c (V m c main_arg8))

/-- The block of the keys' means after point `t`, over `prev`; and after the points up to `n`, cleared where a sequence starts. -/
def kmAt (c : Dev nD) (t : Fin cfg0.N) (prev : Vec F S1x16x1024 .f32) : Vec F S1x16x1024 .f32 :=
  kmBlk (grid0.coords t) (iblk m c 0 t) (iblk m c 1 t) (iblk m c 2 t) (iblk m c 3 t) (iblk m c 5 t) (guB c (V m c main_arg3)) (downB c (V m c main_arg4)) (wkvB c (V m c main_arg8)) prev
def pt (n : ℕ) : Fin cfg0.N := ⟨n % 32, by rw [show cfg0.N = 32 from N_0]; exact Nat.mod_lt _ (by decide)⟩
def kmAcc (c : Dev nD) : ℕ → Vec F S1x16x1024 .f32
  | 0 => kmAt m c (pt 0) k0_pay36
  | n + 1 => kmAt m c (pt (n + 1)) (if (n + 1) % 8 = 0 then k0_pay36 else kmAcc c n)

theorem pt_val (t : Fin cfg0.N) : pt t.val = t :=
  Fin.ext (Nat.mod_eq_of_lt (lt_of_lt_of_eq t.isLt (show cfg0.N = 32 from N_0)))

/-- The proof data: inputs keep their blocks, the results' windows get `outAt`, `qAt`, `kAt`, `vtAt` and `kmAcc`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => qAt m c t
    | ⟨8, _⟩ => kAt m c t
    | ⟨9, _⟩ => vtAt m c t
    | ⟨10, _⟩ => kmAcc m c t.val
  Φ t := iprop(held m c t.val ∗ others m c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = qAt m c t := by dsimp only [dats]
theorem after0_8 (c : Dev nD) (t : Fin cfg0.N) : (dats m 0 c).after 8 t = kAt m c t := by dsimp only [dats]
theorem after0_9 (c : Dev nD) (t : Fin cfg0.N) : (dats m 0 c).after 9 t = vtAt m c t := by dsimp only [dats]
theorem after0_10 (c : Dev nD) (t : Fin cfg0.N) : (dats m 0 c).after 10 t = kmAcc m c t.val := by dsimp only [dats]
theorem before0_10 (c : Dev nD) (t : Fin cfg0.N) (n : ℕ) (hn : t.val = n + 1) (h8 : ¬ t.val % 8 = 0) (d) : (dats m 0 c).before 10 t d = kmAcc m c n := by
  rw [(dats m 0 c).before_out_kept 10 rfl t (by omega) (by
    rw [← Bool.not_eq_true, flush0_10]; show ¬ (t.val - 1) % 8 = 7; omega) (fun _ => rfl) (fun _ _ => rfl) d, after0_10]
  exact congrArg (kmAcc m c) (show t.val - 1 = n by omega)
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point, by the two triples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [after0_0, after0_1, after0_2, after0_3, after0_4, after0_5, after0_6, after0_7, after0_8, after0_9, after0_10,
    show (dats m 0 c).Φ t.castSucc = iprop(held m c t.val ∗ others m c) from rfl,
    show (dats m 0 c).Φ t.succ = iprop(held m c (t.val + 1) ∗ others m c) from rfl]
  unfold Dat.owesAt Pipeline.owesWithin others
  rw [show (dats m 0 c).owed t.castSucc = 0 from rfl, show (dats m 0 c).owed t.succ = 0 from rfl]
  have hN : t.val < 32 := lt_of_lt_of_eq t.isLt (show cfg0.N = 32 from N_0)
  rw [show held m c (t.val + 1) = iprop(owns (c : Thread nD τ) scM0_0 fullShare (guB c (V m c main_arg3)) ∗ owns (c : Thread nD τ) scM0_1 fullShare (downB c (V m c main_arg4)) ∗ owns (c : Thread nD τ) scM0_2 fullShare (wqB c (V m c main_arg7)) ∗ owns (c : Thread nD τ) scM0_3 fullShare (wkvB c (V m c main_arg8))) from rfl]
  by_cases h0 : t.val % 32 = 0
  · have ht : t = pt 0 := (pt_val t).symm.trans (congrArg pt (by omega))
    rw [show kmAcc m c t.val = kmAt m c t k0_pay36 from by rw [show t.val = 0 from by omega]; exact congrArg (fun u => kmAt m c u k0_pay36) ht.symm,
      show t.val = 0 from by omega]
    unfold held
    iintro ⟨⟨⟨HS0, HS1, HS2, HS3⟩, HS4, HS5, HS6, HS7, Hg, Hq0, Hq1, Hq2, Hq3, Hq4, Hq5, Hq6, Hq7, Hq8, Hq9, Hq10, Hq11, Hh0, Hh1, Hh2, Hh3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ _ _ _ _ _ _ _ _ _ _ _ _ ((hcond0_0 t).mpr h0) ((hcond0_1 t).mpr (by omega)) (iblk m c 0 t) (iblk m c 1 t) (iblk m c 2 t) (iblk m c 3 t) (iblk m c 4 t) (iblk m c 5 t) (V m c main_arg3) (V m c main_arg4) (V m c main_arg7) (V m c main_arg8) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, H9, H10, HS0, HS1, HS2, HS3, HS4, HS5, HS6, HS7, Hq0, Hq1, Hq2, Hq3, Hq4, Hq5, Hq6, Hq7, Hq8, Hq9, Hq10, Hq11, Hh0, Hh1, Hh2, Hh3, ⟨%W', HW'⟩⟩
    isplitl [HS0 HS1 HS2 HS3 HS4 HS5 HS6 HS7 Hg Hq0 Hq1 Hq2 Hq3 Hq4 Hq5 Hq6 Hq7 Hq8 Hq9 Hq10 Hq11 Hh0 Hh1 Hh2 Hh3]
    · isplitl [HS0 HS1 HS2 HS3]
      · isplitl [HS0]; · iexact HS0
        isplitl [HS1]; · iexact HS1
        isplitl [HS2]; · iexact HS2
        iexact HS3
      isplitl [HS4]; · iexact HS4
      isplitl [HS5]; · iexact HS5
      isplitl [HS6]; · iexact HS6
      isplitl [HS7]; · iexact HS7
      isplitl [Hg]; · iexact Hg
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · obtain ⟨n, hn⟩ : ∃ n, t.val = n + 1 := ⟨t.val - 1, by omega⟩
    rw [show kmAcc m c t.val = kmAt m c t (if (n + 1) % 8 = 0 then k0_pay36 else kmAcc m c n) from by
        rw [hn]; exact congrArg (fun u => kmAt m c u (if (n + 1) % 8 = 0 then k0_pay36 else kmAcc m c n)) ((congrArg pt hn.symm).trans (pt_val t)), hn]
    unfold held
    iintro ⟨⟨⟨HS0, HS1, HS2, HS3⟩, HS4, HS5, HS6, HS7, Hg, Hq0, Hq1, Hq2, Hq3, Hq4, Hq5, Hq6, Hq7, Hq8, Hq9, Hq10, Hq11, Hh0, Hh1, Hh2, Hh3⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (guB c (V m c main_arg3)) (downB c (V m c main_arg4)) (wqB c (V m c main_arg7)) (wkvB c (V m c main_arg8))
      ((dats m 0 c).before 10 t d10) (if (n + 1) % 8 = 0 then k0_pay36 else kmAcc m c n)
      (fun h => if_pos (by have := (hcond0_1 t).mp h; omega)) (fun h => by
        have h8 : ¬ t.val % 8 = 0 := fun e => h ((hcond0_1 t).mpr (by omega))
        rw [before0_10 m c t n hn h8, if_neg (by omega)]) (V m c main_arg3) (V m c main_arg4) (V m c main_arg7) (V m c main_arg8) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, H7, H8, H9, H10, HS0, HS1, HS2, HS3, HS4, HS5, HS6, HS7, Hq0, Hq1, Hq2, Hq3, Hq4, Hq5, Hq6, Hq7, Hq8, Hq9, Hq10, Hq11, Hh0, Hh1, Hh2, Hh3, ⟨%W', HW'⟩⟩
    isplitl [HS0 HS1 HS2 HS3 HS4 HS5 HS6 HS7 Hg Hq0 Hq1 Hq2 Hq3 Hq4 Hq5 Hq6 Hq7 Hq8 Hq9 Hq10 Hq11 Hh0 Hh1 Hh2 Hh3]
    · isplitl [HS0 HS1 HS2 HS3]
      · isplitl [HS0]; · iexact HS0
        isplitl [HS1]; · iexact HS1
        isplitl [HS2]; · iexact HS2
        iexact HS3
      isplitl [HS4]; · iexact HS4
      isplitl [HS5]; · iexact HS5
      isplitl [HS6]; · iexact HS6
      isplitl [HS7]; · iexact HS7
      isplitl [Hg]; · iexact Hg
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point, -/
theorem Phi_in (c : Dev nD) : (Pipeline.ΦD osem0 spec0 H0 (V m) c : sProp 𝕄) ⊢ (dats m 0 c).Φ 0 := by
  rw [PhiD0_eq, show (dats m 0 c).Φ 0 = iprop(held m c 0 ∗ others m c) from rfl]
  unfold held others
  iintro ⟨⟨HS0, HS1, HS2, HS3, HS4, HS5, HS6, HS7⟩, Hg, ⟨Hq0, Hq1, Hq2, Hq3, Hq4, Hq5, Hq6, Hq7, Hq8, Hq9, Hq10, Hq11⟩, ⟨Hh0, Hh1, Hh2, Hh3⟩⟩
  isplitl [HS0 HS1 HS2 HS3]
  · isplitl [HS0]; · iexact HS0
    isplitl [HS1]; · iexact HS1
    isplitl [HS2]; · iexact HS2
    iexact HS3
  isplitl [HS4]; · iexact HS4
  isplitl [HS5]; · iexact HS5
  isplitl [HS6]; · iexact HS6
  isplitl [HS7]; · iexact HS7
  isplitl [Hg]; · iexact Hg
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  iexact Hh3

/-- and takes it back after the last, the scratch at whatever it holds. -/
theorem Phi_out (c : Dev nD) : (dats m 0 c).Φ (Fin.last cfg0.N) ⊢ (Pipeline.ΦD osem0 spec0 H0 (V m) c : sProp 𝕄) := by
  rw [PhiD0_eq, show (dats m 0 c).Φ (Fin.last cfg0.N) = iprop(held m c (31 + 1) ∗ others m c) from rfl]
  unfold held others
  iintro ⟨⟨HS0, HS1, HS2, HS3⟩, HS4, HS5, HS6, HS7, Hg, Hq0, Hq1, Hq2, Hq3, Hq4, Hq5, Hq6, Hq7, Hq8, Hq9, Hq10, Hq11, Hh0, Hh1, Hh2, Hh3⟩
  isplitl [HS0 HS1 HS2 HS3 HS4 HS5 HS6 HS7]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexact HS5
    isplitl [HS6]; · iexact HS6
    iexact HS7
  isplitl [Hg]; · iexact Hg
  isplitl [Hq0 Hq1 Hq2 Hq3 Hq4 Hq5 Hq6 Hq7 Hq8 Hq9 Hq10 Hq11]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    iexact Hq11
  isplitl [Hh0]; · iexact Hh0
  isplitl [Hh1]; · iexact Hh1
  isplitl [Hh2]; · iexact Hh2
  iexact Hh3

set_option backward.isDefEq.respectTransparency.types false in
/-- The run: every array at what the points wrote, every other buffer as the region found it, every counter at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- What the final state keeps: the nine arguments. -/
def kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

theorem kept_of {r : PUnit × MemSt nD τ sig (Elt F)} (h : Pipeline.FramePost cfgs (dats m) 0 (V m) r) (c : Dev nD) : kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩

/-- The frame claim. -/
theorem frame_run : θ_run defs (onTc (τ := τ) (main (F := F))) ⟨m, fun _ => 0, ρ⟩ (fun r => (∀ c : Dev nD, kept m r c) ∧ r.2.sem = fun _ => 0) :=
  (θ_run defs _ _).mono (fun _ h => ⟨fun c => kept_of m h.1 c, h.2⟩) (run_main m ρ)

/-- The run with the five results' arrays named. -/
theorem value_run : θ_run defs (onTc (τ := τ) (main (F := F))) ⟨m, fun _ => 0, ρ⟩
    (fun r => ∀ c : Dev nD, r.2.mem ((c.tc : Thread nD τ).loc main_v18_0) = (dats m 0 c).arrAt 6 cfg0.N
      ∧ r.2.mem ((c.tc : Thread nD τ).loc main_v18_1) = (dats m 0 c).arrAt 7 cfg0.N
      ∧ r.2.mem ((c.tc : Thread nD τ).loc main_v18_2) = (dats m 0 c).arrAt 8 cfg0.N
      ∧ r.2.mem ((c.tc : Thread nD τ).loc main_v18_3) = (dats m 0 c).arrAt 9 cfg0.N
      ∧ r.2.mem ((c.tc : Thread nD τ).loc main_v18_4) = (dats m 0 c).arrAt 10 cfg0.N ∧ kept m r c) :=
  (θ_run defs _ _).mono (fun _ h c => ⟨(h.1 c).1 6, (h.1 c).1 7, (h.1 c).1 8, (h.1 c).1 9, (h.1 c).1 10, kept_of m h.1 c⟩) (run_main m ρ)

end Cert.Kernel3Ideal.Hand

end
-- ==== Proof.TileValue3.lean ====
/-
  ONE TILE OF THE FEED-FORWARD AND PROJECTION CALL, ROW BY ROW. Its arithmetic on 256 rows is that of the final call's tile before
  the last normalisation (`tileV_eq`), so row `r` of the tile is `RowSpec.block` of row `r` of what it was given.
-/
module

public import proofs.«01_k».proof.Proof.Run3B
public import proofs.«01_k».proof.Proof.TileValue

@[expose] public section

set_option maxRecDepth 16384

noncomputable section

namespace Cert.Kernel3Ideal.Hand

open Idealize.ShloMosaic Idealize.ShloMosaic.TcCoe
open Cert.Kernel3Ideal.Gen

/-- The tile in the final call's operations. -/
theorem tileV_eq (v : FVec Ideal S256x1024 .f32) (g : FVec Ideal S1x1x1024 .f32) (g0 u0 d0 g1 u1 d1 : FVec Ideal S1024x1024 .bf16)
    (g2 u2 : FVec Ideal S1024x768 .bf16) (d2 : FVec Ideal S768x1024 .bf16) :
    tileV v g g0 u0 d0 g1 u1 d1 g2 u2 d2
      = addf (Cert.KernelIdeal.Gen.k0_pay30 (F := Ideal) (Cert.KernelIdeal.Gen.k0_pay27 v) (Cert.KernelIdeal.Gen.k0_pay28 v g) (Cert.KernelIdeal.Gen.k0_pay29 v g g0 u0) d0 g1 u1 d1)
          (Cert.KernelIdeal.Gen.k0_pay31 (F := Ideal) (Cert.KernelIdeal.Gen.k0_pay28 v g) g2 u2 d2) := rfl

open Cert.KernelIdeal.Hand (pay27_at pay28_at pay29_at pay30_at pay31_at ld2_at gu_sum) in
/-- The tile at an index. -/
theorem tile_row (v : Vec Ideal S256x1024 .f32) (g : Vec Ideal S1x1x1024 .f32) (w7 : Vec Ideal S1024x5632 .bf16) (w8 : Vec Ideal S2816x1024 .bf16)
    (r : Fin 256) (k : Fin 1024) :
    tile (F := Ideal) v g w7 w8 (ix2 r k)
      = RowSpec.block (fun k => v (ix2 r k)) (fun k => g (ix3 0 0 k)) (fun k q => w7 (ix2 k q)) (fun q k => w8 (ix2 q k)) k := by
  unfold tile
  rw [tileV_eq]
  unfold RowSpec.block
  rw [RowSpec.sum_chunks]
  refine (congrArg₂ (fun a b : EReal => a + b) (pay30_at _ _ _ _ _ _ _ r k) (pay31_at _ _ _ _ r k)).trans ?_
  simp only [pay27_at, pay28_at, pay29_at]
  unfold RowSpec.hidden
  rw [← add_assoc, ← add_assoc]
  refine congrArg₂ (· + ·) (congrArg₂ (· + ·) (congrArg₂ (· + ·) rfl ?_) ?_) ?_ <;>
    refine Finset.sum_congr rfl fun q _ => congrArg₂ (· * ·) (congrArg₂ RowSpec.swish ?_ ?_) ?_
  · exact gu_sum v g w7 0 _ r q ⟨q.val, by omega⟩ (by show q.val = q.val + 0; omega)
  · exact gu_sum v g w7 2816 _ r q ⟨q.val + 2816, by omega⟩ (by show q.val + 2816 = q.val + 2816; omega)
  · exact ld2_at w8 0 0 _ q k _ _ rfl rfl
  · exact gu_sum v g w7 1024 _ r q ⟨q.val + 1024, by omega⟩ (by show q.val + 1024 = q.val + 1024; omega)
  · exact gu_sum v g w7 3840 _ r q ⟨q.val + 1024 + 2816, by omega⟩ (by show q.val + 1024 + 2816 = q.val + 3840; omega)
  · exact ld2_at w8 1024 0 _ q k _ _ rfl rfl
  · exact gu_sum v g w7 2048 _ r q ⟨q.val + 2048, by omega⟩ (by show q.val + 2048 = q.val + 2048; omega)
  · exact gu_sum v g w7 4864 _ r q ⟨q.val + 2048 + 2816, by omega⟩ (by show q.val + 2048 + 2816 = q.val + 4864; omega)
  · exact ld2_at w8 2048 0 _ q k _ _ rfl rfl

end Cert.Kernel3Ideal.Hand

end
-- ==== Proof.ArrayValue3.lean ====
/-
  THE FIRST RESULT ARRAY of the feed-forward and projection call. The thirty-two blocks that the grid writes tile the array of 16384
  rows; row `r` of the array is `RowSpec.block` of row `r` of the input, at the gain and weights of layer 0.
-/
module

public import proofs.«01_k».proof.Proof.Launch3
public import proofs.«01_k».proof.Proof.TileValue3

@[expose] public section

set_option maxRecDepth 16384

noncomputable section

namespace Cert.Kernel3Ideal.Hand

open Idealize.ShloMosaic Idealize.ShloMosaic.TcCoe
open Idealize.ShloMosaic.Pipeline (Dat)
open Cert.Kernel3Ideal.Gen

variable (m : (ℓ : Loc nD τ sig) → Buf (Elt Ideal) ℓ)

/-- Layer 0's gate and up matrix, as the body's copies see it, entry by entry. -/
theorem guB_at (c : Dev nD) (fh : HbBuf0 (F := Ideal) c hbM0_0) (k : Fin 1024) (q : Fin 5632) :
    guB c fh (ix2 k q) = (show FVec Ideal S2x1024x5632 .f32 from fh) (ix3 0 k q) := by
  unfold guB guF
  refine (congrFun (Memref.read_squeeze_slice (s' := S1024x5632) hbM0_0 (Rect.unit (s := S2x1024x5632) ![0, 0, 0] S1x1024x5632.size inb_S2x1024x5632_S1x1024x5632_0_0_0) (fun _ => rfl)
    squeezes_S1x1024x5632_S1024x5632 (by decide) fh) (ix2 k q)).trans ?_
  refine (shapeCast_dropUnit_apply ![1024, 5632] _ _ (ix2 k q)).trans ?_
  refine congrArg fh (funext fun a => Fin.ext ?_)
  match a with
  | ⟨0, _⟩ => rfl
  | ⟨1, _⟩ => show 0 + 1 * k.val = k.val; omega
  | ⟨2, _⟩ => show 0 + 1 * q.val = q.val; omega

/-- Layer 0's down matrix likewise. -/
theorem downB_at (c : Dev nD) (fh : HbBuf0 (F := Ideal) c hbM0_1) (k : Fin 2816) (q : Fin 1024) :
    downB c fh (ix2 k q) = (show FVec Ideal S2x2816x1024 .f32 from fh) (ix3 0 k q) := by
  unfold downB downF
  refine (congrFun (Memref.read_squeeze_slice (s' := S2816x1024) hbM0_1 (Rect.unit (s := S2x2816x1024) ![0, 0, 0] S1x2816x1024.size inb_S2x2816x1024_S1x2816x1024_0_0_0) (fun _ => rfl)
    squeezes_S1x2816x1024_S2816x1024 (by decide) fh) (ix2 k q)).trans ?_
  refine (shapeCast_dropUnit_apply ![2816, 1024] _ _ (ix2 k q)).trans ?_
  refine congrArg fh (funext fun a => Fin.ext ?_)
  match a with
  | ⟨0, _⟩ => rfl
  | ⟨1, _⟩ => show 0 + 1 * k.val = k.val; omega
  | ⟨2, _⟩ => show 0 + 1 * q.val = q.val; omega

/-- The rows as the region finds them: the input's, laid end to end. -/
theorem V_v0 (c : Dev nD) : V m c main_v0 = shapeCast S16384x1024 (show FVec Ideal S4x4096x1024 .f32 from m ((c : Thread nD τ).loc main_arg0)) shapeCasts_S4x4096x1024_S16384x1024 := by
  unfold V hostOps0; after_results; rfl
theorem V_v14 (c : Dev nD) : V m c main_v14 = shapeCast S2x1x1024 (show FVec Ideal S2x1024 .f32 from m ((c : Thread nD τ).loc main_arg2)) shapeCasts_S2x1024_S2x1x1024 := by
  unfold V hostOps0; after_results; rfl

/-- The blocks' entries. -/
theorem iblk0_at (c : Dev nD) (t : Fin cfg0.N) (r : Fin 512) (k : Fin 1024) (r' : Fin 16384) (hr : r'.val = 512 * t.val + r.val) :
    (show FVec Ideal S512x1024 .f32 from iblk m c 0 t) (ix2 r k) = (show FVec Ideal S16384x1024 .f32 from V m c main_v0) (ix2 r' k) := by
  have e : (grid0.coords t 0).val = t.val / 1 % 32 := Pipeline.Grid.coords_val t 0 (by decide) rfl
  have ht : t.val < 32 := lt_of_lt_of_eq t.isLt N_0
  refine congrArg (V m c main_v0) (funext fun a => Fin.ext ?_)
  match a with
  | ⟨0, _⟩ =>
    show (BitVec.ofNat 32 (grid0.coords t 0).val).toNat * 512 + 1 * r.val = r'.val
    rw [BitVec.toNat_ofNat, e, hr]; omega
  | ⟨1, _⟩ => show 0 * 1024 + 1 * k.val = k.val; omega
theorem iblk1_at (c : Dev nD) (t : Fin cfg0.N) (k : Fin 1024) :
    (show FVec Ideal S1x1x1024 .f32 from iblk m c 1 t) (ix3 0 0 k) = (show FVec Ideal S2x1x1024 .f32 from V m c main_v14) (ix3 0 0 k) := by
  refine congrArg (V m c main_v14) (funext fun a => Fin.ext ?_)
  match a with
  | ⟨0, _⟩ => rfl
  | ⟨1, _⟩ => rfl
  | ⟨2, _⟩ => show 0 * 1024 + 1 * k.val = k.val; omega

/-- Row `r` of the array: the row function at the input's row `r`, at the arguments' contents. -/
def rowOut (c : Dev nD) (b : Fin 4) (r : Fin 4096) : Fin 1024 → EReal :=
  RowSpec.block (fun k => (show FVec Ideal S4x4096x1024 .f32 from m ((c : Thread nD τ).loc main_arg0)) (ix3 b r k))
    (fun k => (show FVec Ideal S2x1024 .f32 from m ((c : Thread nD τ).loc main_arg2)) (ix2 0 k))
    (fun k q => (show FVec Ideal S2x1024x5632 .f32 from m ((c : Thread nD τ).loc main_arg3)) (ix3 0 k q))
    (fun q k => (show FVec Ideal S2x2816x1024 .f32 from m ((c : Thread nD τ).loc main_arg4)) (ix3 0 q k))

/-- The whole result, batch and row kept apart, -/
def batchOut (c : Dev nD) : FVec Ideal S4x4096x1024 .f32 := fun i => rowOut m c (i 0) (i 1) (i 2)

/-- and laid end to end. -/
def arrOut (c : Dev nD) : FVec Ideal S16384x1024 .f32 := shapeCast S16384x1024 (batchOut m c) shapeCasts_S4x4096x1024_S16384x1024

/-- Rows laid end to end, at an index. -/
theorem flat_at (x : FVec Ideal S4x4096x1024 .f32) (r : Fin 16384) (k : Fin 1024) :
    shapeCast S16384x1024 x shapeCasts_S4x4096x1024_S16384x1024 (ix2 r k)
      = x (ix3 ⟨r.val / 4096, by omega⟩ ⟨r.val % 4096, by omega⟩ k) := by
  pointwise

theorem gainCast_at (x : FVec Ideal S2x1024 .f32) (k : Fin 1024) :
    shapeCast S2x1x1024 x shapeCasts_S2x1024_S2x1x1024 (ix3 0 0 k) = x (ix2 0 k) := by
  pointwise

/-- The block that point `t` writes, at an index. -/
theorem outAt_at (c : Dev nD) (t : Fin cfg0.N) (r : Fin 512) (j : Fin 1024) (r' : Fin 16384) (hr : r'.val = 512 * t.val + r.val) :
    (show FVec Ideal S512x1024 .f32 from outAt m c t) (ix2 r j) = arrOut m c (ix2 r' j) := by
  have hin : inTile (ix2 r j) = ix2 ⟨r.val % 256, by omega⟩ j := funext fun a => by match a with | ⟨0, _⟩ => rfl | ⟨1, _⟩ => rfl
  refine (congrArg (tile (rowsAt (iblk m c 0 t) r) (iblk m c 1 t) (guB c (V m c main_arg3)) (downB c (V m c main_arg4))) hin).trans ?_
  refine (tile_row _ _ _ _ _ _).trans ?_
  unfold arrOut
  rw [flat_at]
  refine congrFun (?_ : RowSpec.block _ _ _ _ = rowOut m c _ _) j
  unfold rowOut
  congr 1
  · funext k
    refine (show _ = (show FVec Ideal S512x1024 .f32 from iblk m c 0 t) (ix2 r k) from congrArg (iblk m c 0 t) (funext fun a => Fin.ext ?_)).trans ?_
    · match a with
      | ⟨0, _⟩ => show 256 * (r.val / 256) + r.val % 256 = r.val; omega
      | ⟨1, _⟩ => rfl
    · rw [iblk0_at m c t r k r' hr, V_v0]; exact flat_at _ _ _
  · funext k; refine (iblk1_at m c t k).trans ?_; rw [V_v14]; exact gainCast_at _ k
  · funext k q; rw [V_main_arg3]; exact guB_at c _ k q
  · funext q k; rw [V_main_arg4]; exact downB_at c _ q k

/-- What point `t` writes back is block `t` of the array. -/
theorem flushed_eq (c : Dev nD) (t : Fin cfg0.N) :
    (dats m 0 c).flushed 6 t = ((cfg0.win 6).blk t).view.read (Elt Ideal) (arrOut m c) := by
  have e : (grid0.coords t 0).val = t.val / 1 % 32 := Pipeline.Grid.coords_val t 0 (by decide) rfl
  have ht : t.val < 32 := lt_of_lt_of_eq t.isLt N_0
  show (cfg0.win 6).cut (grid0.coords t) ((dats m 0 c).after 6 t) = _
  rw [after0_6]
  funext y
  have h0 : (y 0).val < 512 := (y 0).isLt
  refine (show _ = (show FVec Ideal S512x1024 .f32 from outAt m c t) (ix2 ⟨(y 0).val, h0⟩ ⟨(y 1).val, (y 1).isLt⟩) from
    congrArg (outAt m c t) (funext fun a => Fin.ext (by match a with | ⟨0, _⟩ => rfl | ⟨1, _⟩ => rfl))).trans ?_
  refine (outAt_at m c t _ _ ⟨512 * t.val + (y 0).val, by omega⟩ rfl).trans ?_
  refine congrArg (arrOut m c) (funext fun a => Fin.ext ?_)
  match a with
  | ⟨0, _⟩ =>
    show 512 * t.val + (y 0).val = (BitVec.ofNat 32 (grid0.coords t 0).val).toNat * 512 + 1 * (y 0).val
    rw [BitVec.toNat_ofNat, e]; omega
  | ⟨1, _⟩ => show (y 1).val = 0 * 1024 + 1 * (y 1).val; omega

/-- An index of the array lies in the block of the point its row names. -/
theorem covered (i : S16384x1024.Idx) : ∃ t : Fin cfg0.N, (cfg0.win 6).flush t = true ∧ i ∈ ((cfg0.win 6).blk t).view.set := by
  have h0 : (i 0 : Nat) < 16384 := (i 0).isLt
  have h1 : (i 1 : Nat) < 1024 := (i 1).isLt
  have hN : cfg0.N = 32 := N_0
  refine ⟨⟨(i 0).val / 512, by omega⟩, flush0_6 _, ?_⟩
  generalize ht : (⟨(i 0).val / 512, _⟩ : Fin cfg0.N) = t
  have hv : t.val = (i 0).val / 512 := by rw [← ht]
  have e : (grid0.coords t 0).val = t.val / 1 % 32 := Pipeline.Grid.coords_val t 0 (by decide) rfl
  show i ∈ ((View.whole main_v18_0).slice (win0_6.rect t)).set
  rw [View.set_slice_whole, Rect.mem_set_unit]
  intro a
  match a with
  | ⟨0, _⟩ =>
    show (BitVec.ofNat 32 (grid0.coords t 0).val).toNat * 512 ≤ (i 0 : Nat) ∧ (i 0 : Nat) < (BitVec.ofNat 32 (grid0.coords t 0).val).toNat * 512 + 512
    rw [BitVec.toNat_ofNat, e]; omega
  | ⟨1, _⟩ => show 0 * 1024 ≤ (i 1 : Nat) ∧ (i 1 : Nat) < 0 * 1024 + 1024; omega

/-- The result array after the last point. -/
theorem final (c : Dev nD) : (dats m 0 c).arrAt 6 cfg0.N = arrOut m c :=
  (dats m 0 c).arrAt_eq_of_cover 6 (arrOut m c) (fun t _ => flushed_eq m c t) covered

end Cert.Kernel3Ideal.Hand

end
-- ==== Proof.RowSpec3.lean ====
/-
  THE QUERIES, KEYS AND VALUES, ROW BY ROW. A row of 1024 numbers is eight heads of 128; the first 32 lanes of every head are turned in
  pairs, lane `l` with lane `l + 16`, by the angle of the row's position and of frequency `l` (`rope`). The call writes the same thing
  over whole lanes (`rot`): a cosine and a signed sine for every lane, angle zero from lane 32 on. `rot_eq` is that the two agree, and
  `rope_scale` that scaling a row by a real number before the turn or after it is the same.
-/
module

public import proofs.«01_k».proof.Proof.RowSpec

@[expose] public section

noncomputable section

namespace Cert.RowSpec

open Idealize.ShloMosaic

/-- The row after the product with the matrix `w` of its normalisation with gain `g`. -/
def normProj (x g : Fin 1024 → EReal) (w : Fin 1024 → Fin 1024 → EReal) (j : Fin 1024) : EReal := ∑ k, norm x g k * w k j

/-- The angle of the position `p` at frequency `i`. -/
def angle (p : BitVec 32) (fr : Fin 16 → EReal) (i : Fin 16) : EReal := (FloatOps.sitofp (F := Ideal) FTy.f32 p : EReal) * fr i

/-- The turn of every head's first 32 lanes by the angles `a`. -/
def rope (y : Fin 1024 → EReal) (a : Fin 16 → EReal) (j : Fin 1024) : EReal :=
  if h : j.val % 128 < 16 then y j * Ideal.cos (a ⟨j.val % 128, h⟩) - y ⟨j.val + 16, by omega⟩ * Ideal.sin (a ⟨j.val % 128, h⟩)
  else if h : j.val % 128 < 32 then y j * Ideal.cos (a ⟨j.val % 128 - 16, by omega⟩) + y ⟨j.val - 16, by omega⟩ * Ideal.sin (a ⟨j.val % 128 - 16, by omega⟩)
  else y j

/-- The frequency of a lane of a head. -/
def laneFreq (fr : Fin 16 → EReal) (l : Fin 128) : EReal :=
  if h : l.val < 16 then fr ⟨l.val, h⟩ else if h : l.val < 32 then fr ⟨l.val - 16, by omega⟩ else 0

/-- The turn over whole lanes, by the angle of the position `p` at the lane's frequency. -/
def rot (y : Fin 1024 → EReal) (p : BitVec 32) (f : Fin 128 → EReal) (j : Fin 1024) : EReal :=
  y j * Ideal.cos ((FloatOps.sitofp (F := Ideal) FTy.f32 p : EReal) * f ⟨j.val % 128, by omega⟩)
    + (if j.val % 128 < 16 then y ⟨(j.val + 1024 - 1008) % 1024, by omega⟩ else y ⟨(j.val + 1024 - 16) % 1024, by omega⟩)
      * ((if j.val % 128 < 16 then -1 else 1) * Ideal.sin ((FloatOps.sitofp (F := Ideal) FTy.f32 p : EReal) * f ⟨j.val % 128, by omega⟩))

theorem cos_zero : Ideal.cos 0 = 1 := by
  show ((Real.cos 0 : ℝ) : EReal) = 1
  rw [Real.cos_zero]; rfl
theorem sin_zero : Ideal.sin 0 = 0 := by
  show ((Real.sin 0 : ℝ) : EReal) = 0
  rw [Real.sin_zero]; rfl

/-- The two turns agree. -/
theorem rot_eq (y : Fin 1024 → EReal) (p : BitVec 32) (fr : Fin 16 → EReal) (j : Fin 1024) :
    rot y p (laneFreq fr) j = rope y (angle p fr) j := by
  have e1 : ∀ h : j.val % 128 < 16, (⟨(j.val + 1024 - 1008) % 1024, by omega⟩ : Fin 1024) = ⟨j.val + 16, by omega⟩ := fun h => Fin.ext (by show (j.val + 1024 - 1008) % 1024 = j.val + 16; omega)
  unfold rot rope angle laneFreq
  by_cases h : j.val % 128 < 16
  · simp only [h, if_true, dif_pos]
    rw [e1 h, sub_eq_add_neg, neg_mul, one_mul, mul_neg]
  · simp only [h, if_false, dif_neg, not_false_eq_true]
    by_cases h2 : j.val % 128 < 32
    · have e2 : (⟨(j.val + 1024 - 16) % 1024, by omega⟩ : Fin 1024) = ⟨j.val - 16, by omega⟩ := Fin.ext (by show (j.val + 1024 - 16) % 1024 = j.val - 16; omega)
      simp only [h2, dif_pos]
      rw [e2, one_mul]
    · simp only [h2, dif_neg, not_false_eq_true]
      rw [mul_zero, cos_zero, sin_zero, mul_zero, mul_zero, mul_one, add_zero]

/-- Scaling by a real number that is not negative passes through the turn. -/
theorem rope_scale (y : Fin 1024 → EReal) (a : Fin 16 → EReal) (c : EReal) (h0 : 0 ≤ c) (ht : c ≠ ⊤) (j : Fin 1024) :
    rope (fun j => y j * c) a j = rope y a j * c := by
  have e : ∀ u v s t : EReal, u * c * s + v * c * t = (u * s + v * t) * c := fun u v s t => by
    rw [mul_comm (u * s + v * t) c, EReal.left_distrib_of_nonneg_of_ne_top h0 ht, mul_comm u c, mul_comm v c, mul_assoc, mul_assoc]
  unfold rope
  split
  · rw [sub_eq_add_neg, sub_eq_add_neg, ← mul_neg, ← mul_neg, e]
  · split
    · rw [e]
    · rfl

/-- The scale of the queries, as both programs print it. -/
def scale : EReal := Ideal.ofBits FTy.f32 1040356334#32

theorem scale_real : ∃ e : ℝ, 0 ≤ e ∧ scale = (e : EReal) := by
  refine ⟨_, ?_, by unfold scale; simp [Ideal.ofBits, Ideal.ieee, -EReal.coe_mul]; rfl⟩
  norm_num

theorem rope_scaled (y : Fin 1024 → EReal) (a : Fin 16 → EReal) (j : Fin 1024) : rope (fun j => y j * scale) a j = rope y a j * scale := by
  obtain ⟨e, h, he⟩ := scale_real
  exact rope_scale y a scale (by rw [he]; exact EReal.coe_nonneg.mpr h) (by rw [he]; exact EReal.coe_ne_top e) j

/-- The mean of 256 numbers, as the kernel works it out: their sum times 1/256. -/
def mean256 (f : Fin 256 → EReal) : EReal := (∑ i, f i) * Ideal.ofBits FTy.f32 998244352#32

theorem count_eq : Ideal.ofBits FTy.f32 1132462080#32 = ((256 : ℝ) : EReal) := by
  simp [Ideal.ofBits, Ideal.ieee, -EReal.coe_mul]; norm_num
theorem inv_count_eq : Ideal.ofBits FTy.f32 998244352#32 = (((256 : ℝ)⁻¹ : ℝ) : EReal) := by
  simp [Ideal.ofBits, Ideal.ieee, -EReal.coe_mul]; norm_num

/-- Dividing by 256 gives the same mean. -/
theorem mean256_div (f : Fin 256 → EReal) : Ideal.div (∑ i, f i) (Ideal.ofBits FTy.f32 1132462080#32) = mean256 f := by
  unfold mean256
  rw [count_eq, inv_count_eq]
  unfold Ideal.div
  rw [if_neg (by exact_mod_cast (by norm_num : (256 : ℝ) ≠ 0)), EReal.coe_inv]

end Cert.RowSpec

end
-- ==== Proof.TileHeads3.lean ====
/-
  THE QUERIES, KEYS AND VALUES OF ONE GRID POINT, ROW BY ROW. The body's operations on the rows `x` of the first result's block, read at
  an index: the normalised row times the projection's matrix (`RowSpec.normProj`), and for queries and keys the turn over whole lanes
  (`RowSpec.rot`).
-/
module

public import proofs.«01_k».proof.Proof.Heads3
public import proofs.«01_k».proof.Proof.RowSpec3
public import Idealize.ShloMosaic.Lib.Pointwise.Sums

@[expose] public section

set_option maxRecDepth 16384

noncomputable section

namespace Cert.Kernel3Ideal.Hand

open Idealize.ShloMosaic Idealize.ShloMosaic.TcCoe
open Cert.Kernel3Ideal.Gen

/-- The normalised rows. -/
theorem pay52_at (x : FVec Ideal S512x1024 .f32) (g : Vec Ideal S1x1x1024 .f32) (r : Fin 512) (k : Fin 1024) :
    k0_pay52 (F := Ideal) x (meanSq x) g (ix2 r k) = RowSpec.norm (fun k => x (ix2 r k)) (fun k => g (ix3 0 0 k)) k := by
  unfold RowSpec.norm
  pointwise [k0_pay52, k0_pay51, meanSq]

/-- The product with a projection's matrix. -/
theorem pay60_at (h : FVec Ideal S512x1024 .bf16) (w : Vec Ideal S1024x1024 .bf16) (r : Fin 512) (j : Fin 1024) :
    k0_pay60 (F := Ideal) h w (ix2 r j) = ∑ k, h (ix2 r k) * w (ix2 k j) := by
  pointwise [k0_pay60]

/-- The scaled queries before the turn are that product times the scale. -/
theorem pay56_eq (x : FVec Ideal S512x1024 .f32) (g : Vec Ideal S1x1x1024 .f32) (w : Vec Ideal S1024x1024 .bf16) :
    k0_pay56 (F := Ideal) x (meanSq x) g w = mulf (k0_pay60 (k0_pay52 x (meanSq x) g) w) (broadcast S512x1024 (Scalar.ofBits .f32 0x3E0293EE#32)) := rfl
theorem pay56_at (x : FVec Ideal S512x1024 .f32) (g : Vec Ideal S1x1x1024 .f32) (w : Vec Ideal S1024x1024 .bf16) (r : Fin 512) (j : Fin 1024) :
    k0_pay56 (F := Ideal) x (meanSq x) g w (ix2 r j) = k0_pay60 (F := Ideal) (k0_pay52 x (meanSq x) g) w (ix2 r j) * RowSpec.scale := by
  rw [pay56_eq]
  unfold RowSpec.scale
  pointwise

/-- The mask of the lanes below 16. -/
theorem pay49_at (j : Fin 1024) : k0_pay49 (ix2 0 j) = if j.val % 128 < 16 then 1#1 else 0#1 := by
  pointwise [k0_pay49]
  revert j
  decide +kernel

/-- The angle of a row and a lane. -/
theorem pay53_at (pos : Vec Ideal S1x1x512 .i32) (fr : Vec Ideal S1x128 .f32) (r : Fin 512) (l : Fin 128) :
    k0_pay53 (F := Ideal) pos fr (ix2 r l) = (FloatOps.sitofp (F := Ideal) FTy.f32 (pos (ix3 0 0 r)) : EReal) * fr (ix2 0 l) := by
  pointwise [k0_pay53]

/-- Eight copies side by side. -/
theorem eight_at (x : FVec Ideal S512x128 .f32) (r : Fin 512) (j : Fin 1024) :
    (concatenate S512x1024 1 [⟨S512x128, x⟩, ⟨S512x128, x⟩, ⟨S512x128, x⟩, ⟨S512x128, x⟩, ⟨S512x128, x⟩, ⟨S512x128, x⟩, ⟨S512x128, x⟩, ⟨S512x128, x⟩]
      concatenates_S512x128_S512x128_S512x128_S512x128_S512x128_S512x128_S512x128_S512x128_S512x1024_d1 : FVec Ideal S512x1024 .f32) (ix2 r j)
      = x (ix2 r ⟨j.val % 128, by omega⟩) := by
  have e : ∀ (a : Nat) (h : a < 128), a = j.val % 128 → x (ix2 r ⟨a, h⟩) = x (ix2 r ⟨j.val % 128, by omega⟩) := fun a h ha => by subst ha; rfl
  pointwise
  split_ifs <;> exact e _ _ (by omega)

/-- The cosines of every lane. -/
theorem pay54_at (pos : Vec Ideal S1x1x512 .i32) (fr : Vec Ideal S1x128 .f32) (r : Fin 512) (j : Fin 1024) :
    k0_pay54 (F := Ideal) pos fr (ix2 r j)
      = Ideal.cos ((FloatOps.sitofp (F := Ideal) FTy.f32 (pos (ix3 0 0 r)) : EReal) * fr (ix2 0 ⟨j.val % 128, by omega⟩)) := by
  refine (eight_at _ r j).trans ?_
  exact congrArg Ideal.cos (pay53_at pos fr r _)

theorem minus_one : Ideal.ofBits FTy.f32 3212836864#32 = -1 := by
  have h : ((8388608 : ℝ) : EReal) * ((2 ^ 23 : ℝ)⁻¹ : ℝ) = 1 := by rw [← EReal.coe_mul]; norm_num
  simp [Ideal.ofBits, Ideal.ieee]
  exact h

/-- The sign of a lane's sine. -/
def signs : FVec Ideal S1x128 .f32 :=
  select (cmpi .slt lanes (broadcast S1x128 16#32)) (broadcast S1x128 (Scalar.ofBits (F := Ideal) .f32 0xBF800000#32)) (broadcast S1x128 (Scalar.ofBits (F := Ideal) .f32 0x3F800000#32))
theorem low_lane : ∀ l : Fin 128, IntOp.cmpi CmpIPredicate.slt (BitVec.ofNat 32 l.val) 16#32 = if l.val < 16 then 1#1 else 0#1 := by decide +kernel
theorem signs_at (l : Fin 128) : signs (ix2 0 l) = if l.val < 16 then -1 else 1 := by
  pointwise [signs, lanes]
  rw [low_lane, minus_one]
  split <;> rfl

/-- The signed sines of every lane. -/
theorem pay55_at (pos : Vec Ideal S1x1x512 .i32) (fr : Vec Ideal S1x128 .f32) (r : Fin 512) (j : Fin 1024) :
    k0_pay55 (F := Ideal) lanes pos fr (ix2 r j)
      = (if j.val % 128 < 16 then -1 else 1) * Ideal.sin ((FloatOps.sitofp (F := Ideal) FTy.f32 (pos (ix3 0 0 r)) : EReal) * fr (ix2 0 ⟨j.val % 128, by omega⟩)) := by
  refine (eight_at (mulf (broadcastTo S512x128 signs broadcasts_S1x128_S512x128) (sin (k0_pay53 pos fr))) r j).trans ?_
  have e : ∀ l : Fin 128, (mulf (broadcastTo S512x128 signs broadcasts_S1x128_S512x128) (sin (k0_pay53 (F := Ideal) pos fr)) : FVec Ideal S512x128 .f32) (ix2 r l)
      = signs (ix2 0 l) * Ideal.sin (k0_pay53 (F := Ideal) pos fr (ix2 r l)) := fun l => by pointwise
  rw [e, signs_at, pay53_at]

/-- The turn. -/
theorem pay57_at (v174 : IVec S1x1024 1) (v215 v216 v220 : FVec Ideal S512x1024 .f32) (r : Fin 512) (j : Fin 1024) :
    k0_pay57 (F := Ideal) v174 v215 v216 v220 1008#32 (ix2 r j)
      = v220 (ix2 r j) * v215 (ix2 r j)
        + Scalar.select (v174 (ix2 0 j)) (v220 (ix2 r ⟨(j.val + 1024 - 1008) % 1024, by omega⟩)) (v220 (ix2 r ⟨(j.val + 1024 - 16) % 1024, by omega⟩)) * v216 (ix2 r j) := by
  pointwise [k0_pay57]
theorem pay59_eq (v174 : IVec S1x1024 1) (v195 : FVec Ideal S512x1024 .bf16) (v215 v216 : FVec Ideal S512x1024 .f32) (w : Vec Ideal S1024x1024 .bf16) :
    k0_pay59 (F := Ideal) v174 v195 v215 v216 w = k0_pay57 (F := Ideal) v174 v215 v216 (k0_pay60 v195 w) 1008#32 := rfl

/-- The turn of a block is the turn of its rows. -/
theorem turn_at (y : FVec Ideal S512x1024 .f32) (pos : Vec Ideal S1x1x512 .i32) (fr : Vec Ideal S1x128 .f32) (r : Fin 512) (j : Fin 1024) :
    k0_pay57 (F := Ideal) k0_pay49 (k0_pay54 pos fr) (k0_pay55 lanes pos fr) y 1008#32 (ix2 r j)
      = RowSpec.rot (fun j => y (ix2 r j)) (pos (ix3 0 0 r)) (fun l => fr (ix2 0 l)) j := by
  rw [pay57_at, pay54_at, pay55_at, pay49_at]
  unfold RowSpec.rot
  refine congrArg₂ (· + ·) rfl (congrArg₂ (· * ·) ?_ rfl)
  split <;> rfl

/-- The queries, -/
theorem qV_at (x : FVec Ideal S512x1024 .f32) (g : Vec Ideal S1x1x1024 .f32) (pos : Vec Ideal S1x1x512 .i32) (fr : Vec Ideal S1x128 .f32) (w : Vec Ideal S1024x1024 .bf16)
    (r : Fin 512) (j : Fin 1024) :
    qV (F := Ideal) x g pos fr w (ix2 r j)
      = RowSpec.rot (fun j => RowSpec.normProj (fun k => x (ix2 r k)) (fun k => g (ix3 0 0 k)) (fun k j => w (ix2 k j)) j * RowSpec.scale) (pos (ix3 0 0 r)) (fun l => fr (ix2 0 l)) j := by
  refine (turn_at _ pos fr r j).trans ?_
  simp only [pay56_at, pay60_at, pay52_at, RowSpec.normProj]

/-- the keys -/
theorem kV_at (x : FVec Ideal S512x1024 .f32) (g : Vec Ideal S1x1x1024 .f32) (pos : Vec Ideal S1x1x512 .i32) (fr : Vec Ideal S1x128 .f32) (w : Vec Ideal S1024x1024 .bf16)
    (r : Fin 512) (j : Fin 1024) :
    kV (F := Ideal) x g pos fr w (ix2 r j)
      = RowSpec.rot (RowSpec.normProj (fun k => x (ix2 r k)) (fun k => g (ix3 0 0 k)) (fun k j => w (ix2 k j))) (pos (ix3 0 0 r)) (fun l => fr (ix2 0 l)) j := by
  unfold kV
  rw [pay59_eq]
  refine (turn_at _ pos fr r j).trans ?_
  simp only [pay60_at, pay52_at]
  rfl

/-- and the values, columns first: the first 256 rows and the last. -/
theorem pay61_at (h : FVec Ideal S512x1024 .bf16) (w : Vec Ideal S1024x1024 .bf16) (j : Fin 1024) (r : Fin 256) :
    k0_pay61 (F := Ideal) h w (ix4 0 0 j r) = k0_pay60 (F := Ideal) h w (ix2 ⟨r.val, by omega⟩ j) := by
  pointwise [k0_pay61]
theorem pay64_at (z : FVec Ideal S512x1024 .f32) (j : Fin 1024) (r : Fin 256) :
    k0_pay64 (F := Ideal) z (ix4 0 0 j r) = z (ix2 ⟨r.val + 256, by omega⟩ j) := by
  pointwise [k0_pay64]
  simp only [Nat.add_comm 256]
theorem vLo_at (x : FVec Ideal S512x1024 .f32) (g : Vec Ideal S1x1x1024 .f32) (w : Vec Ideal S1024x1024 .bf16) (j : Fin 1024) (r : Fin 256) :
    vLo (F := Ideal) x g w (ix4 0 0 j r)
      = RowSpec.normProj (fun k => x (ix2 ⟨r.val, by omega⟩ k)) (fun k => g (ix3 0 0 k)) (fun k j => w (ix2 k j)) j := by
  refine (pay61_at _ w j r).trans ?_
  simp only [pay60_at, pay52_at, RowSpec.normProj]
theorem vHi_at (x : FVec Ideal S512x1024 .f32) (g : Vec Ideal S1x1x1024 .f32) (w : Vec Ideal S1024x1024 .bf16) (j : Fin 1024) (r : Fin 256) :
    vHi (F := Ideal) x g w (ix4 0 0 j r)
      = RowSpec.normProj (fun k => x (ix2 ⟨r.val + 256, by omega⟩ k)) (fun k => g (ix3 0 0 k)) (fun k j => w (ix2 k j)) j := by
  refine (pay64_at _ j r).trans ?_
  simp only [pay60_at, pay52_at, RowSpec.normProj]

end Cert.Kernel3Ideal.Hand

end
-- ==== Proof.ArrayHeads3.lean ====
/-
  THE ARRAYS OF THE QUERIES, KEYS AND VALUES of the feed-forward and projection call. Row `r` of the queries' and of the keys' array is
  the turned projection of row `r` of the first result (`RowSpec.rope`, `RowSpec.normProj`); the values' array holds its own projection in
  blocks of 256 rows, columns first.
-/
module

public import proofs.«01_k».proof.Proof.ArrayValue3
public import proofs.«01_k».proof.Proof.TileHeads3

@[expose] public section

set_option maxRecDepth 16384

noncomputable section

namespace Cert.Kernel3Ideal.Hand

open Idealize.ShloMosaic Idealize.ShloMosaic.TcCoe
open Idealize.ShloMosaic.Pipeline (Dat)
open Cert.Kernel3Ideal.Gen

variable (m : (ℓ : Loc nD τ sig) → Buf (Elt Ideal) ℓ)

/-- The projections' matrices, as the body's copies see them, entry by entry. -/
theorem wqB_at (c : Dev nD) (fh : HbBuf0 (F := Ideal) c hbM0_2) (k j : Fin 1024) :
    wqB c fh (ix2 k j) = (show FVec Ideal S1x1024x1024 .f32 from fh) (ix3 0 k j) := by
  unfold wqB wqF
  refine (congrFun (Memref.read_squeeze_slice (s' := S1024x1024) hbM0_2 (Rect.unit (s := S1x1024x1024) ![0, 0, 0] S1x1024x1024.size inb_S1x1024x1024_S1x1024x1024_0_0_0) (fun _ => rfl)
    squeezes_S1x1024x1024_S1024x1024 (by decide) fh) (ix2 k j)).trans ?_
  refine (shapeCast_dropUnit_apply ![1024, 1024] _ _ (ix2 k j)).trans ?_
  refine congrArg fh (funext fun a => Fin.ext ?_)
  match a with
  | ⟨0, _⟩ => rfl
  | ⟨1, _⟩ => show 0 + 1 * k.val = k.val; omega
  | ⟨2, _⟩ => show 0 + 1 * j.val = j.val; omega
theorem wkvB_at (c : Dev nD) (fh : HbBuf0 (F := Ideal) c hbM0_3) (k : Fin 1024) (q : Fin 2048) :
    wkvB c fh (ix2 k q) = (show FVec Ideal S1024x2048 .f32 from fh) (ix2 k q) := rfl
theorem wkOf_at (w : Vec Ideal S1024x2048 .bf16) (k j : Fin 1024) : wkOf w (ix2 k j) = w (ix2 k ⟨j.val, by omega⟩) :=
  View.ld_unit_apply_of w _ _ _ _ _ fun a => by
    match a with
    | ⟨0, _⟩ => show k.val = 0 + k.val; omega
    | ⟨1, _⟩ => show j.val = 0 + j.val; omega
theorem wvOf_at (w : Vec Ideal S1024x2048 .bf16) (k j : Fin 1024) : wvOf w (ix2 k j) = w (ix2 k ⟨j.val + 1024, by omega⟩) :=
  View.ld_unit_apply_of w _ _ _ _ _ fun a => by
    match a with
    | ⟨0, _⟩ => show k.val = 0 + k.val; omega
    | ⟨1, _⟩ => show j.val + 1024 = 1024 + j.val; omega

/-- The sixteen frequencies, as the host computes them. -/
def freqs : FVec Ideal S16 .f32 :=
  Host.powf (broadcastInDim S16 ![] bcast_S_S16 (constant S_ .f32 0x48F42400#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The frequency of every lane of a head. -/
def lanesF : FVec Ideal S1x128 .f32 :=
  shapeCast S1x128 (concatenate S128 0 [⟨S16, freqs⟩, ⟨S16, freqs⟩, ⟨S96, broadcastInDim S96 ![] bcast_S_S96 (constant S_ .f32 0x00000000#32)⟩] concatenates_S16_S16_S96_S128_d0)
    shapeCasts_S128_S1x128
theorem lanesF_at (l : Fin 128) : lanesF (ix2 0 l) = RowSpec.laneFreq (fun i => freqs (ix1 i)) l := by
  unfold RowSpec.laneFreq
  pointwise [lanesF]
  by_cases h : l.val < 16
  · simp only [h, dif_pos]
  · by_cases h2 : l.val < 32
    · simp only [h, h2, show l.val - 16 < 16 by omega, dif_pos, dif_neg, not_false_eq_true]
    · simp only [h, h2, show ¬ l.val - 16 < 16 by omega, dif_neg, not_false_eq_true]

/-- What the region finds in the small operands. -/
theorem V_v13 (c : Dev nD) : V m c main_v13 = lanesF := by
  unfold V hostOps0; after_results; rfl
theorem V_v15 (c : Dev nD) : V m c main_v15 = shapeCast S32x1x512 (show IVec S4x4096 32 from m ((c : Thread nD τ).loc main_arg1)) shapeCasts_S4x4096_S32x1x512 := by
  unfold V hostOps0; after_results; rfl
theorem V_v16 (c : Dev nD) : V m c main_v16 = shapeCast S2x1x1024 (show FVec Ideal S2x1024 .f32 from m ((c : Thread nD τ).loc main_arg5)) shapeCasts_S2x1024_S2x1x1024 := by
  unfold V hostOps0; after_results; rfl
theorem V_v17 (c : Dev nD) : V m c main_v17 = shapeCast S1x1x1024 (show FVec Ideal S1024 .f32 from m ((c : Thread nD τ).loc main_arg6)) shapeCasts_S1024_S1x1x1024 := by
  unfold V hostOps0; after_results; rfl

theorem posCast_at (x : IVec S4x4096 32) (t : Fin 32) (r : Fin 512) :
    shapeCast S32x1x512 x shapeCasts_S4x4096_S32x1x512 (ix3 t 0 r) = x (ix2 ⟨(512 * t.val + r.val) / 4096, by omega⟩ ⟨(512 * t.val + r.val) % 4096, by omega⟩) := by
  pointwise
  refine congrArg x (congrArg₂ ix2 (Fin.ext ?_) (Fin.ext ?_))
  · show t.val / 8 = (512 * t.val + r.val) / 4096; omega
  · show t.val % 8 * 512 + r.val = (512 * t.val + r.val) % 4096; omega
theorem gainCast1_at (x : FVec Ideal S2x1024 .f32) (k : Fin 1024) :
    shapeCast S2x1x1024 x shapeCasts_S2x1024_S2x1x1024 (ix3 1 0 k) = x (ix2 1 k) := by
  pointwise
theorem kvGain_at (x : FVec Ideal S1024 .f32) (k : Fin 1024) :
    shapeCast S1x1x1024 x shapeCasts_S1024_S1x1x1024 (ix3 0 0 k) = x (ix1 k) := by
  pointwise

/-- The blocks' entries. -/
theorem iblk2_at (c : Dev nD) (t : Fin cfg0.N) (r : Fin 512) (t' : Fin 32) (ht' : t'.val = t.val) :
    (show IVec S1x1x512 32 from iblk m c 2 t) (ix3 0 0 r) = (show IVec S32x1x512 32 from V m c main_v15) (ix3 t' 0 r) := by
  have e : (grid0.coords t 0).val = t.val / 1 % 32 := Pipeline.Grid.coords_val t 0 (by decide) rfl
  have ht : t.val < 32 := lt_of_lt_of_eq t.isLt N_0
  refine congrArg (V m c main_v15) (funext fun a => Fin.ext ?_)
  match a with
  | ⟨0, _⟩ =>
    show (BitVec.ofNat 32 (grid0.coords t 0).val).toNat * 1 + 1 * 0 = t'.val
    rw [BitVec.toNat_ofNat, e, ht']; omega
  | ⟨1, _⟩ => rfl
  | ⟨2, _⟩ => show 0 * 512 + 1 * r.val = r.val; omega
theorem iblk3_at (c : Dev nD) (t : Fin cfg0.N) (l : Fin 128) :
    (show FVec Ideal S1x128 .f32 from iblk m c 3 t) (ix2 0 l) = (show FVec Ideal S1x128 .f32 from V m c main_v13) (ix2 0 l) := by
  refine congrArg (V m c main_v13) (funext fun a => Fin.ext ?_)
  match a with
  | ⟨0, _⟩ => rfl
  | ⟨1, _⟩ => show 0 * 128 + 1 * l.val = l.val; omega
theorem iblk4_at (c : Dev nD) (t : Fin cfg0.N) (k : Fin 1024) :
    (show FVec Ideal S1x1x1024 .f32 from iblk m c 4 t) (ix3 0 0 k) = (show FVec Ideal S2x1x1024 .f32 from V m c main_v16) (ix3 1 0 k) := by
  refine congrArg (V m c main_v16) (funext fun a => Fin.ext ?_)
  match a with
  | ⟨0, _⟩ => rfl
  | ⟨1, _⟩ => rfl
  | ⟨2, _⟩ => show 0 * 1024 + 1 * k.val = k.val; omega
theorem iblk5_at (c : Dev nD) (t : Fin cfg0.N) (k : Fin 1024) :
    (show FVec Ideal S1x1x1024 .f32 from iblk m c 5 t) (ix3 0 0 k) = (show FVec Ideal S1x1x1024 .f32 from V m c main_v17) (ix3 0 0 k) := by
  refine congrArg (V m c main_v17) (funext fun a => Fin.ext ?_)
  match a with
  | ⟨0, _⟩ => rfl
  | ⟨1, _⟩ => rfl
  | ⟨2, _⟩ => show 0 * 1024 + 1 * k.val = k.val; omega

/-- The angles of row `r` of batch `b`, -/
def rowAng (c : Dev nD) (b : Fin 4) (r : Fin 4096) : Fin 16 → EReal :=
  RowSpec.angle ((show IVec S4x4096 32 from m ((c : Thread nD τ).loc main_arg1)) (ix2 b r)) (fun i => freqs (ix1 i))

/-- and that row of the queries, the keys and the values. -/
def rowQ (c : Dev nD) (b : Fin 4) (r : Fin 4096) (j : Fin 1024) : EReal :=
  RowSpec.rope (RowSpec.normProj (rowOut m c b r) (fun k => (show FVec Ideal S2x1024 .f32 from m ((c : Thread nD τ).loc main_arg5)) (ix2 1 k))
    (fun k j => (show FVec Ideal S1x1024x1024 .f32 from m ((c : Thread nD τ).loc main_arg7)) (ix3 0 k j))) (rowAng m c b r) j * RowSpec.scale
def rowK (c : Dev nD) (b : Fin 4) (r : Fin 4096) (j : Fin 1024) : EReal :=
  RowSpec.rope (RowSpec.normProj (rowOut m c b r) (fun k => (show FVec Ideal S1024 .f32 from m ((c : Thread nD τ).loc main_arg6)) (ix1 k))
    (fun k j => (show FVec Ideal S1024x2048 .f32 from m ((c : Thread nD τ).loc main_arg8)) (ix2 k ⟨j.val, by omega⟩))) (rowAng m c b r) j
def rowV (c : Dev nD) (b : Fin 4) (r : Fin 4096) (j : Fin 1024) : EReal :=
  RowSpec.normProj (rowOut m c b r) (fun k => (show FVec Ideal S1024 .f32 from m ((c : Thread nD τ).loc main_arg6)) (ix1 k))
    (fun k j => (show FVec Ideal S1024x2048 .f32 from m ((c : Thread nD τ).loc main_arg8)) (ix2 k ⟨j.val + 1024, by omega⟩)) j

/-- Rows of all batches laid end to end. -/
def flatRows (f : Fin 4 → Fin 4096 → Fin 1024 → EReal) : FVec Ideal S16384x1024 .bf16 := fun i =>
  f ⟨(i 0).val / 4096, by have h : (i 0).val < 16384 := (i 0).isLt; omega⟩ ⟨(i 0).val % 4096, by omega⟩ (i 1)

/-- The three arrays. -/
def arrQ (c : Dev nD) : FVec Ideal S16384x1024 .bf16 := flatRows (rowQ m c)
def arrK (c : Dev nD) : FVec Ideal S16384x1024 .bf16 := flatRows (rowK m c)
def arrVt (c : Dev nD) : FVec Ideal S4x16x1024x256 .bf16 := fun i =>
  rowV m c (i 0) ⟨256 * (i 1).val + (i 3).val, by have h : (i 1).val < 16 := (i 1).isLt; have h' : (i 3).val < 256 := (i 3).isLt; omega⟩ (i 2)

/-- A row of the first result's block. -/
theorem outAt_row (c : Dev nD) (t : Fin cfg0.N) (r : Fin 512) (r' : Fin 16384) (hr : r'.val = 512 * t.val + r.val) :
    (fun k : Fin 1024 => (show FVec Ideal S512x1024 .f32 from outAt m c t) (ix2 r k)) = rowOut m c ⟨r'.val / 4096, by omega⟩ ⟨r'.val % 4096, by omega⟩ :=
  funext fun k => (outAt_at m c t r k r' hr).trans (flat_at (batchOut m c) r' k)

/-- The lanes' angles of a row. -/
theorem pos_at (c : Dev nD) (t : Fin cfg0.N) (r : Fin 512) (r' : Fin 16384) (hr : r'.val = 512 * t.val + r.val) :
    (show IVec S1x1x512 32 from iblk m c 2 t) (ix3 0 0 r)
      = (show IVec S4x4096 32 from m ((c : Thread nD τ).loc main_arg1)) (ix2 ⟨r'.val / 4096, by omega⟩ ⟨r'.val % 4096, by omega⟩) := by
  have ht : t.val < 32 := lt_of_lt_of_eq t.isLt N_0
  rw [iblk2_at m c t r ⟨t.val, ht⟩ rfl, V_v15]
  refine (posCast_at _ _ _).trans (congrArg _ (funext fun a => Fin.ext ?_))
  match a with
  | ⟨0, _⟩ => show (512 * t.val + r.val) / 4096 = r'.val / 4096; rw [hr]
  | ⟨1, _⟩ => show (512 * t.val + r.val) % 4096 = r'.val % 4096; rw [hr]
theorem freq_at (c : Dev nD) (t : Fin cfg0.N) : (fun l : Fin 128 => (show FVec Ideal S1x128 .f32 from iblk m c 3 t) (ix2 0 l)) = RowSpec.laneFreq (fun i => freqs (ix1 i)) :=
  funext fun l => by rw [iblk3_at, V_v13]; exact lanesF_at l
theorem kvg_at (c : Dev nD) (t : Fin cfg0.N) : (fun k : Fin 1024 => (show FVec Ideal S1x1x1024 .f32 from iblk m c 5 t) (ix3 0 0 k))
    = fun k => (show FVec Ideal S1024 .f32 from m ((c : Thread nD τ).loc main_arg6)) (ix1 k) :=
  funext fun k => by rw [iblk5_at, V_v17]; exact kvGain_at _ k
theorem qg_at (c : Dev nD) (t : Fin cfg0.N) : (fun k : Fin 1024 => (show FVec Ideal S1x1x1024 .f32 from iblk m c 4 t) (ix3 0 0 k))
    = fun k => (show FVec Ideal S2x1024 .f32 from m ((c : Thread nD τ).loc main_arg5)) (ix2 1 k) :=
  funext fun k => by rw [iblk4_at, V_v16]; exact gainCast1_at _ k

/-- The three matrices. -/
theorem wq_at (c : Dev nD) : (fun k j : Fin 1024 => wqB c (V m c main_arg7) (ix2 k j))
    = fun k j => (show FVec Ideal S1x1024x1024 .f32 from m ((c : Thread nD τ).loc main_arg7)) (ix3 0 k j) :=
  funext fun k => funext fun j => by rw [V_main_arg7]; exact wqB_at c _ k j
theorem wk_at (c : Dev nD) : (fun k j : Fin 1024 => wkOf (wkvB c (V m c main_arg8)) (ix2 k j))
    = fun k j => (show FVec Ideal S1024x2048 .f32 from m ((c : Thread nD τ).loc main_arg8)) (ix2 k ⟨j.val, by omega⟩) :=
  funext fun k => funext fun j => by rw [V_main_arg8]; exact wkOf_at _ k j
theorem wv_at (c : Dev nD) : (fun k j : Fin 1024 => wvOf (wkvB c (V m c main_arg8)) (ix2 k j))
    = fun k j => (show FVec Ideal S1024x2048 .f32 from m ((c : Thread nD τ).loc main_arg8)) (ix2 k ⟨j.val + 1024, by omega⟩) :=
  funext fun k => funext fun j => by rw [V_main_arg8]; exact wvOf_at _ k j

/-- The blocks that point `t` writes, at an index. -/
theorem qAt_at (c : Dev nD) (t : Fin cfg0.N) (r : Fin 512) (j : Fin 1024) (r' : Fin 16384) (hr : r'.val = 512 * t.val + r.val) :
    (show FVec Ideal S512x1024 .bf16 from qAt m c t) (ix2 r j) = arrQ m c (ix2 r' j) := by
  refine (qV_at (outAt m c t) (iblk m c 4 t) (iblk m c 2 t) (iblk m c 3 t) (wqB c (V m c main_arg7)) r j).trans ?_
  refine (congrArg (fun p => RowSpec.rot _ p _ j) (pos_at m c t r r' hr)).trans ?_
  rw [outAt_row m c t r r' hr, freq_at, qg_at, wq_at]
  exact (RowSpec.rot_eq _ _ _ j).trans (RowSpec.rope_scaled _ _ j)

theorem kAt_at (c : Dev nD) (t : Fin cfg0.N) (r : Fin 512) (j : Fin 1024) (r' : Fin 16384) (hr : r'.val = 512 * t.val + r.val) :
    (show FVec Ideal S512x1024 .bf16 from kAt m c t) (ix2 r j) = arrK m c (ix2 r' j) := by
  refine (kV_at (outAt m c t) (iblk m c 5 t) (iblk m c 2 t) (iblk m c 3 t) (wkOf (wkvB c (V m c main_arg8))) r j).trans ?_
  refine (congrArg (fun p => RowSpec.rot _ p _ j) (pos_at m c t r r' hr)).trans ?_
  rw [outAt_row m c t r r' hr, freq_at, kvg_at, wk_at]
  exact RowSpec.rot_eq _ _ _ j

theorem vtAt_at (c : Dev nD) (t : Fin cfg0.N) (h : Fin 2) (j : Fin 1024) (r : Fin 256) (i : S4x16x1024x256.Idx)
    (h0 : (i 0).val = t.val / 8) (h1 : (i 1).val = t.val % 8 * 2 + h.val) (h2 : (i 2).val = j.val) (h3 : (i 3).val = r.val) :
    (show FVec Ideal S1x2x1024x256 .bf16 from vtAt m c t) (ix4 0 h j r) = arrVt m c i := by
  have ht : t.val < 32 := lt_of_lt_of_eq t.isLt N_0
  have e : ∀ (r' : Fin 512) (_ : r'.val = 256 * h.val + r.val),
      RowSpec.normProj (fun k : Fin 1024 => (show FVec Ideal S512x1024 .f32 from outAt m c t) (ix2 r' k)) (fun k => (show FVec Ideal S1x1x1024 .f32 from iblk m c 5 t) (ix3 0 0 k))
        (fun k j => wvOf (wkvB c (V m c main_arg8)) (ix2 k j)) j = arrVt m c i := fun r' hr' => by
    rw [outAt_row m c t r' ⟨512 * t.val + r'.val, by omega⟩ rfl, kvg_at, wv_at]
    show _ = rowV m c _ _ _
    unfold rowV
    congr 1
    · refine congrArg₂ (rowOut m c) (Fin.ext ?_) (Fin.ext ?_)
      · show (512 * t.val + r'.val) / 4096 = (i 0).val; omega
      · show (512 * t.val + r'.val) % 4096 = 256 * (i 1).val + (i 3).val; omega
    · exact Fin.ext h2.symm
  have hin : inHalf (ix4 0 h j r) = ix4 0 0 j r := funext fun a => by match a with | ⟨0, _⟩ => rfl | ⟨1, _⟩ => rfl | ⟨2, _⟩ => rfl | ⟨3, _⟩ => rfl
  show (if h.val = 0 then vLo (outAt m c t) (iblk m c 5 t) (wvOf (wkvB c (V m c main_arg8))) (inHalf (ix4 0 h j r))
    else vHi (outAt m c t) (iblk m c 5 t) (wvOf (wkvB c (V m c main_arg8))) (inHalf (ix4 0 h j r))) = _
  rw [hin]
  split
  · exact (vLo_at _ _ _ j r).trans (e _ (by show r.val = 256 * h.val + r.val; omega))
  · exact (vHi_at _ _ _ j r).trans (e _ (by show r.val + 256 = 256 * h.val + r.val; omega))

/-- What point `t` writes back is block `t` of each array. -/
theorem flushed_q (c : Dev nD) (t : Fin cfg0.N) :
    (dats m 0 c).flushed 7 t = ((cfg0.win 7).blk t).view.read (Elt Ideal) (arrQ m c) := by
  have e : (grid0.coords t 0).val = t.val / 1 % 32 := Pipeline.Grid.coords_val t 0 (by decide) rfl
  have ht : t.val < 32 := lt_of_lt_of_eq t.isLt N_0
  show (cfg0.win 7).cut (grid0.coords t) ((dats m 0 c).after 7 t) = _
  rw [after0_7]
  funext y
  have h0 : (y 0).val < 512 := (y 0).isLt
  refine (show _ = (show FVec Ideal S512x1024 .bf16 from qAt m c t) (ix2 ⟨(y 0).val, h0⟩ ⟨(y 1).val, (y 1).isLt⟩) from
    congrArg (qAt m c t) (funext fun a => Fin.ext (by match a with | ⟨0, _⟩ => rfl | ⟨1, _⟩ => rfl))).trans ?_
  refine (qAt_at m c t _ _ ⟨512 * t.val + (y 0).val, by omega⟩ rfl).trans ?_
  refine congrArg (arrQ m c) (funext fun a => Fin.ext ?_)
  match a with
  | ⟨0, _⟩ =>
    show 512 * t.val + (y 0).val = (BitVec.ofNat 32 (grid0.coords t 0).val).toNat * 512 + 1 * (y 0).val
    rw [BitVec.toNat_ofNat, e]; omega
  | ⟨1, _⟩ => show (y 1).val = 0 * 1024 + 1 * (y 1).val; omega
theorem flushed_k (c : Dev nD) (t : Fin cfg0.N) :
    (dats m 0 c).flushed 8 t = ((cfg0.win 8).blk t).view.read (Elt Ideal) (arrK m c) := by
  have e : (grid0.coords t 0).val = t.val / 1 % 32 := Pipeline.Grid.coords_val t 0 (by decide) rfl
  have ht : t.val < 32 := lt_of_lt_of_eq t.isLt N_0
  show (cfg0.win 8).cut (grid0.coords t) ((dats m 0 c).after 8 t) = _
  rw [after0_8]
  funext y
  have h0 : (y 0).val < 512 := (y 0).isLt
  refine (show _ = (show FVec Ideal S512x1024 .bf16 from kAt m c t) (ix2 ⟨(y 0).val, h0⟩ ⟨(y 1).val, (y 1).isLt⟩) from
    congrArg (kAt m c t) (funext fun a => Fin.ext (by match a with | ⟨0, _⟩ => rfl | ⟨1, _⟩ => rfl))).trans ?_
  refine (kAt_at m c t _ _ ⟨512 * t.val + (y 0).val, by omega⟩ rfl).trans ?_
  refine congrArg (arrK m c) (funext fun a => Fin.ext ?_)
  match a with
  | ⟨0, _⟩ =>
    show 512 * t.val + (y 0).val = (BitVec.ofNat 32 (grid0.coords t 0).val).toNat * 512 + 1 * (y 0).val
    rw [BitVec.toNat_ofNat, e]; omega
  | ⟨1, _⟩ => show (y 1).val = 0 * 1024 + 1 * (y 1).val; omega

/-- The values' block of a point: the batch, then the pair of blocks of 256 rows. -/
theorem block13 : ∀ t : Fin grid0.N, cc0_transform_13 (grid0.coords t) 0 = t.val / 8 ∧ cc0_transform_13 (grid0.coords t) 1 = t.val % 8 := by decide +kernel
theorem flushed_vt (c : Dev nD) (t : Fin cfg0.N) :
    (dats m 0 c).flushed 9 t = ((cfg0.win 9).blk t).view.read (Elt Ideal) (arrVt m c) := by
  obtain ⟨e0, e1⟩ := block13 t
  show (cfg0.win 9).cut (grid0.coords t) ((dats m 0 c).after 9 t) = _
  rw [after0_9]
  funext y
  have h0 : (y 0).val < 1 := (y 0).isLt
  have h1 : (y 1).val < 2 := (y 1).isLt
  refine (show _ = (show FVec Ideal S1x2x1024x256 .bf16 from vtAt m c t) (ix4 0 ⟨(y 1).val, h1⟩ ⟨(y 2).val, (y 2).isLt⟩ ⟨(y 3).val, (y 3).isLt⟩) from
    congrArg (vtAt m c t) (funext fun a => Fin.ext (by match a with | ⟨0, _⟩ => show (y 0).val = 0; omega | ⟨1, _⟩ => rfl | ⟨2, _⟩ => rfl | ⟨3, _⟩ => rfl))).trans ?_
  refine vtAt_at m c t _ _ _ _ ?_ ?_ ?_ ?_
  · show cc0_transform_13 (grid0.coords t) 0 * 1 + 1 * (y 0).val = t.val / 8
    rw [e0]; omega
  · show cc0_transform_13 (grid0.coords t) 1 * 2 + 1 * (y 1).val = t.val % 8 * 2 + (y 1).val
    rw [e1]; omega
  · show 0 * 1024 + 1 * (y 2).val = (y 2).val; omega
  · show 0 * 256 + 1 * (y 3).val = (y 3).val; omega

/-- An index of each array lies in a block that is written back. -/
theorem covered_q (i : S16384x1024.Idx) : ∃ t : Fin cfg0.N, (cfg0.win 7).flush t = true ∧ i ∈ ((cfg0.win 7).blk t).view.set := by
  obtain ⟨t, _, h⟩ := covered i
  exact ⟨t, flush0_7 t, h⟩
theorem covered_k (i : S16384x1024.Idx) : ∃ t : Fin cfg0.N, (cfg0.win 8).flush t = true ∧ i ∈ ((cfg0.win 8).blk t).view.set := by
  obtain ⟨t, _, h⟩ := covered i
  exact ⟨t, flush0_8 t, h⟩
theorem covered_vt (i : S4x16x1024x256.Idx) : ∃ t : Fin cfg0.N, (cfg0.win 9).flush t = true ∧ i ∈ ((cfg0.win 9).blk t).view.set := by
  have h0 : (i 0 : Nat) < 4 := (i 0).isLt
  have h1 : (i 1 : Nat) < 16 := (i 1).isLt
  have h2 : (i 2 : Nat) < 1024 := (i 2).isLt
  have h3 : (i 3 : Nat) < 256 := (i 3).isLt
  have hN : cfg0.N = 32 := N_0
  refine ⟨⟨8 * (i 0).val + (i 1).val / 2, by omega⟩, flush0_9 _, ?_⟩
  generalize ht : (⟨8 * (i 0).val + (i 1).val / 2, _⟩ : Fin cfg0.N) = t
  have hv : t.val = 8 * (i 0).val + (i 1).val / 2 := by rw [← ht]
  obtain ⟨e0, e1⟩ := block13 t
  show i ∈ ((View.whole main_v18_3).slice (win0_9.rect t)).set
  rw [View.set_slice_whole, Rect.mem_set_unit]
  intro a
  match a with
  | ⟨0, _⟩ =>
    show cc0_transform_13 (grid0.coords t) 0 * 1 ≤ (i 0 : Nat) ∧ (i 0 : Nat) < cc0_transform_13 (grid0.coords t) 0 * 1 + 1
    rw [e0]; omega
  | ⟨1, _⟩ =>
    show cc0_transform_13 (grid0.coords t) 1 * 2 ≤ (i 1 : Nat) ∧ (i 1 : Nat) < cc0_transform_13 (grid0.coords t) 1 * 2 + 2
    rw [e1]; omega
  | ⟨2, _⟩ => show 0 * 1024 ≤ (i 2 : Nat) ∧ (i 2 : Nat) < 0 * 1024 + 1024; omega
  | ⟨3, _⟩ => show 0 * 256 ≤ (i 3 : Nat) ∧ (i 3 : Nat) < 0 * 256 + 256; omega

/-- The arrays after the last point. -/
theorem final_q (c : Dev nD) : (dats m 0 c).arrAt 7 cfg0.N = arrQ m c :=
  (dats m 0 c).arrAt_eq_of_cover 7 (arrQ m c) (fun t _ => flushed_q m c t) covered_q
theorem final_k (c : Dev nD) : (dats m 0 c).arrAt 8 cfg0.N = arrK m c :=
  (dats m 0 c).arrAt_eq_of_cover 8 (arrK m c) (fun t _ => flushed_k m c t) covered_k
theorem final_vt (c : Dev nD) : (dats m 0 c).arrAt 9 cfg0.N = arrVt m c :=
  (dats m 0 c).arrAt_eq_of_cover 9 (arrVt m c) (fun t _ => flushed_vt m c t) covered_vt

end Cert.Kernel3Ideal.Hand

end
-- ==== Proof.TileMeans3.lean ====
/-
  THE BLOCK OF THE KEYS' MEANS over the extended reals, index by index: the two rows that a point writes are the means of the first
  and the last 256 rows of its keys; the others are the rows it found.
-/
module

public import proofs.«01_k».proof.Proof.Means3
public import proofs.«01_k».proof.Proof.TileHeads3

@[expose] public section

set_option maxRecDepth 16384

noncomputable section

namespace Cert.Kernel3Ideal.Hand

open Idealize.ShloMosaic Idealize.ShloMosaic.TcCoe
open Cert.Kernel3Ideal.Gen

/-- The keys before they are rounded are the same extended reals. -/
theorem kF_at (x : FVec Ideal S512x1024 .f32) (g : Vec Ideal S1x1x1024 .f32) (pos : Vec Ideal S1x1x512 .i32) (fr : Vec Ideal S1x128 .f32) (w : Vec Ideal S1024x1024 .bf16)
    (r : Fin 512) (j : Fin 1024) :
    kF (F := Ideal) x g pos fr w (ix2 r j) = kV (F := Ideal) x g pos fr w (ix2 r j) := rfl

theorem low_mean (y : FVec Ideal S512x1024 .f32) (j : Fin 1024) :
    (mulf (shapeCast S1x1024 (multiReduction .add [0] S1024 (extractStridedSlice S256x1024 ![0, 0] y slices_S512x1024_o0_0_S256x1024) 0x00000000#32 reduces_S256x1024_S1024 (.inl rfl) rfl) shapeCasts_S1024_S1x1024)
      (broadcast S1x1024 (Scalar.ofBits .f32 0x3B800000#32)) : FVec Ideal S1x1024 .f32) (ix2 0 j)
      = RowSpec.mean256 fun r => y (ix2 ⟨r.val, by omega⟩ j) := by
  unfold RowSpec.mean256
  pointwise
theorem high_mean (y : FVec Ideal S512x1024 .f32) (j : Fin 1024) :
    (mulf (shapeCast S1x1024 (multiReduction .add [0] S1024 (extractStridedSlice S256x1024 ![256, 0] y slices_S512x1024_o256_0_S256x1024) 0x00000000#32 reduces_S256x1024_S1024 (.inl rfl) rfl) shapeCasts_S1024_S1x1024)
      (broadcast S1x1024 (Scalar.ofBits .f32 0x3B800000#32)) : FVec Ideal S1x1024 .f32) (ix2 0 j)
      = RowSpec.mean256 fun r => y (ix2 ⟨r.val + 256, by omega⟩ j) := by
  unfold RowSpec.mean256
  pointwise
  simp only [Nat.add_comm 256]

/-- A row of the block replaced by another. -/
def putRow (n : BitVec 32) (u : FVec Ideal S1x1024 .f32) (prev : Vec Ideal S1x16x1024 .f32) : FVec Ideal S1x16x1024 .f32 :=
  shapeCast S1x16x1024 (select (cmpi .eq rowNums (broadcast S16x1024 n)) (broadcastTo S16x1024 (shapeCast S1x1024 u shapeCasts_S1x1024_S1x1024) broadcasts_S1x1024_S16x1024)
    (shapeCast S16x1024 prev shapeCasts_S1x16x1024_S16x1024)) shapeCasts_S16x1024_S1x16x1024
theorem putRow_at (n : BitVec 32) (u : FVec Ideal S1x1024 .f32) (prev : Vec Ideal S1x16x1024 .f32) (r : Fin 16) (j : Fin 1024) :
    putRow n u prev (ix3 0 r j) = Scalar.select (IntOp.cmpi CmpIPredicate.eq (BitVec.ofNat 32 r.val) n) (u (ix2 0 j)) (prev (ix3 0 r j)) := by
  pointwise [putRow, rowNums]
theorem row_low : ∀ (s : Fin 8) (r : Fin 16), IntOp.cmpi CmpIPredicate.eq (BitVec.ofNat 32 r.val) (Scalar.addi (Scalar.muli (BitVec.ofNat 32 s.val) 2#32) 0#32)
    = if r.val = 2 * s.val then 1#1 else 0#1 := by decide +kernel
theorem row_high : ∀ (s : Fin 8) (r : Fin 16), IntOp.cmpi CmpIPredicate.eq (BitVec.ofNat 32 r.val) (Scalar.addi (Scalar.muli (BitVec.ofNat 32 s.val) 2#32) 1#32)
    = if r.val = 2 * s.val + 1 then 1#1 else 0#1 := by decide +kernel

/-- The block after point `s` of a sequence. -/
theorem kmV_at (s : Fin 8) (x : FVec Ideal S512x1024 .f32) (g : Vec Ideal S1x1x1024 .f32) (pos : Vec Ideal S1x1x512 .i32) (fr : Vec Ideal S1x128 .f32) (w : Vec Ideal S1024x1024 .bf16)
    (prev : Vec Ideal S1x16x1024 .f32) (r : Fin 16) (j : Fin 1024) :
    kmV (F := Ideal) (BitVec.ofNat 32 s.val) x g pos fr w prev (ix3 0 r j)
      = if r.val = 2 * s.val + 1 then RowSpec.mean256 fun i => kV (F := Ideal) x g pos fr w (ix2 ⟨i.val + 256, by omega⟩ j)
        else if r.val = 2 * s.val then RowSpec.mean256 fun i => kV (F := Ideal) x g pos fr w (ix2 ⟨i.val, by omega⟩ j)
        else prev (ix3 0 r j) := by
  refine (putRow_at (Scalar.addi (Scalar.muli (BitVec.ofNat 32 s.val) 2#32) 1#32) _ (putRow (Scalar.addi (Scalar.muli (BitVec.ofNat 32 s.val) 2#32) 0#32) (kMean x g pos fr w) prev) r j).trans ?_
  rw [row_high, putRow_at, row_low]
  by_cases h1 : r.val = 2 * s.val + 1
  · rw [if_pos h1, if_pos h1]
    exact high_mean (kF x g pos fr w) j
  · rw [if_neg h1, if_neg h1]
    by_cases h2 : r.val = 2 * s.val
    · rw [if_pos h2, if_pos h2]
      exact low_mean (kF x g pos fr w) j
    · rw [if_neg h2, if_neg h2]
      rfl

end Cert.Kernel3Ideal.Hand

end
-- ==== Proof.ArrayMeans3.lean ====
/-
  THE ARRAY OF THE KEYS' MEANS: over the points of a sequence the block fills up with the means of the blocks of 256 rows (`kmAcc_at`),
  the last of them writes it back, and so the array is the means of the rows of the keys (`final_km`).
-/
module

public import proofs.«01_k».proof.Proof.ArrayHeads3
public import proofs.«01_k».proof.Proof.TileMeans3

@[expose] public section

set_option maxRecDepth 16384

noncomputable section

namespace Cert.Kernel3Ideal.Hand

open Idealize.ShloMosaic Idealize.ShloMosaic.TcCoe
open Idealize.ShloMosaic.Pipeline (Dat)
open Cert.Kernel3Ideal.Gen

variable (m : (ℓ : Loc nD τ sig) → Buf (Elt Ideal) ℓ)

/-- The means of the keys over the blocks of 256 rows of every batch. -/
def meanK (c : Dev nD) (b : Fin 4) (i : Fin 16) (j : Fin 1024) : EReal :=
  RowSpec.mean256 fun r => rowK m c b ⟨256 * i.val + r.val, by omega⟩ j
def arrKm (c : Dev nD) : FVec Ideal S4x16x1024 .f32 := fun i => meanK m c (i 0) (i 1) (i 2)

/-- The mean of either half of a point's keys. -/
theorem half_at (c : Dev nD) (t : Fin cfg0.N) (j : Fin 1024) (b : Fin 4) (i : Fin 16) (f : Fin 256 → Fin 512)
    (hb : b.val = t.val / 8) (hf : ∀ r, 512 * (t.val % 8) + (f r).val = 256 * i.val + r.val) :
    (RowSpec.mean256 fun r => (show FVec Ideal S512x1024 .bf16 from kAt m c t) (ix2 (f r) j)) = meanK m c b i j := by
  have ht : t.val < 32 := lt_of_lt_of_eq t.isLt N_0
  refine congrArg RowSpec.mean256 (funext fun r => ?_)
  have h := hf r
  refine (kAt_at m c t (f r) j ⟨512 * t.val + (f r).val, by omega⟩ rfl).trans ?_
  show rowK m c _ _ j = _
  refine congrArg₂ (fun x y => rowK m c x y j) (Fin.ext ?_) (Fin.ext ?_)
  · show (512 * t.val + (f r).val) / 4096 = b.val; omega
  · show (512 * t.val + (f r).val) % 4096 = 256 * i.val + r.val; omega

/-- The block after a point: two rows are its means, the others are as found. -/
theorem kmAt_at (c : Dev nD) (t : Fin cfg0.N) (prev : Vec Ideal S1x16x1024 .f32) (i : Fin 16) (j : Fin 1024) (b : Fin 4) (hb : b.val = t.val / 8) :
    kmAt m c t prev (ix3 0 i j) = if i.val / 2 = t.val % 8 then meanK m c b i j else prev (ix3 0 i j) := by
  have h := kmV_at ⟨t.val % 8, Nat.mod_lt _ (by decide)⟩ (outAt m c t) (iblk m c 5 t) (iblk m c 2 t) (iblk m c 3 t) (wkOf (wkvB c (V m c main_arg8))) prev i j
  rw [← tileNo_at t] at h
  refine h.trans ?_
  show (if i.val = 2 * (t.val % 8) + 1 then _ else if i.val = 2 * (t.val % 8) then _ else _) = _
  by_cases h1 : i.val = 2 * (t.val % 8) + 1
  · rw [if_pos h1, if_pos (by omega)]
    exact half_at m c t j b i (fun r => ⟨r.val + 256, by omega⟩) hb fun r => by show 512 * (t.val % 8) + (r.val + 256) = _; omega
  · rw [if_neg h1]
    by_cases h2 : i.val = 2 * (t.val % 8)
    · rw [if_pos h2, if_pos (by omega)]
      exact half_at m c t j b i (fun r => ⟨r.val, by omega⟩) hb fun r => by show 512 * (t.val % 8) + r.val = _; omega
    · rw [if_neg h2, if_neg (by omega)]

/-- After the points up to `n` the rows of the points of its sequence are filled. -/
theorem kmAcc_at (c : Dev nD) (i : Fin 16) (j : Fin 1024) : ∀ n : ℕ, n < 32 → ∀ b : Fin 4, b.val = n / 8 → i.val / 2 ≤ n % 8 →
    kmAcc m c n (ix3 0 i j) = meanK m c b i j
  | 0, _, b, hb, hi => by
    refine (kmAt_at m c (pt 0) (k0_pay36 (F := Ideal)) i j b (by show b.val = 0 % 32 / 8; omega)).trans (if_pos ?_)
    show i.val / 2 = 0 % 32 % 8; omega
  | n + 1, hn, b, hb, hi => by
    refine (kmAt_at m c (pt (n + 1)) (if (n + 1) % 8 = 0 then k0_pay36 (F := Ideal) else kmAcc m c n) i j b (by show b.val = (n + 1) % 32 / 8; omega)).trans ?_
    show (if i.val / 2 = (n + 1) % 32 % 8 then _ else _) = _
    by_cases h : i.val / 2 = (n + 1) % 32 % 8
    · rw [if_pos h]
    · rw [if_neg h, if_neg (by omega)]
      exact kmAcc_at c i j n (by omega) b (by omega) (by omega)

/-- The block's place is the batch. -/
theorem block14 : ∀ t : Fin grid0.N, cc0_transform_14 (grid0.coords t) 0 = t.val / 8 := by decide +kernel
theorem flushed_km (c : Dev nD) (t : Fin cfg0.N) (hf : (cfg0.win 10).flush t = true) :
    (dats m 0 c).flushed 10 t = ((cfg0.win 10).blk t).view.read (Elt Ideal) (arrKm m c) := by
  have e0 := block14 t
  have ht : t.val < 32 := lt_of_lt_of_eq t.isLt N_0
  have h7 := (flush0_10 t).mp hf
  show (cfg0.win 10).cut (grid0.coords t) ((dats m 0 c).after 10 t) = _
  rw [after0_10]
  have hK : ∀ (i : Fin 16) (j : Fin 1024), kmAcc m c t.val (ix3 0 i j) = arrKm m c (ix3 ⟨t.val / 8, by omega⟩ i j) := fun i j =>
    kmAcc_at m c i j t.val ht ⟨t.val / 8, by omega⟩ rfl (by omega)
  generalize kmAcc m c t.val = K at hK ⊢
  funext y
  have h0 : (y 0).val < 1 := (y 0).isLt
  have h1 : (y 1).val < 16 := (y 1).isLt
  refine (show _ = K (ix3 0 ⟨(y 1).val, h1⟩ ⟨(y 2).val, (y 2).isLt⟩) from
    congrArg K (funext fun a => Fin.ext (by match a with | ⟨0, _⟩ => show (y 0).val = 0; omega | ⟨1, _⟩ => rfl | ⟨2, _⟩ => rfl))).trans ?_
  refine (hK _ _).trans ?_
  refine congrArg (arrKm m c) (show ix3 (⟨t.val / 8, by omega⟩ : Fin 4) (⟨(y 1).val, h1⟩ : Fin 16) (⟨(y 2).val, (y 2).isLt⟩ : Fin 1024) = _ from funext fun a => Fin.ext ?_)
  match a with
  | ⟨0, _⟩ =>
    show t.val / 8 = cc0_transform_14 (grid0.coords t) 0 * 1 + 1 * (y 0).val
    rw [e0]; omega
  | ⟨1, _⟩ => show (y 1).val = 0 * 16 + 1 * (y 1).val; omega
  | ⟨2, _⟩ => show (y 2).val = 0 * 1024 + 1 * (y 2).val; omega
theorem covered_km (i : S4x16x1024.Idx) : ∃ t : Fin cfg0.N, (cfg0.win 10).flush t = true ∧ i ∈ ((cfg0.win 10).blk t).view.set := by
  have h0 : (i 0 : Nat) < 4 := (i 0).isLt
  have h1 : (i 1 : Nat) < 16 := (i 1).isLt
  have h2 : (i 2 : Nat) < 1024 := (i 2).isLt
  have hN : cfg0.N = 32 := N_0
  refine ⟨⟨8 * (i 0).val + 7, by omega⟩, (flush0_10 _).mpr (by show (8 * (i 0).val + 7) % 8 = 7; omega), ?_⟩
  generalize ht : (⟨8 * (i 0).val + 7, _⟩ : Fin cfg0.N) = t
  have hv : t.val = 8 * (i 0).val + 7 := by rw [← ht]
  have e0 := block14 t
  show i ∈ ((View.whole main_v18_4).slice (win0_10.rect t)).set
  rw [View.set_slice_whole, Rect.mem_set_unit]
  intro a
  match a with
  | ⟨0, _⟩ =>
    show cc0_transform_14 (grid0.coords t) 0 * 1 ≤ (i 0 : Nat) ∧ (i 0 : Nat) < cc0_transform_14 (grid0.coords t) 0 * 1 + 1
    rw [e0]; omega
  | ⟨1, _⟩ => show 0 * 16 ≤ (i 1 : Nat) ∧ (i 1 : Nat) < 0 * 16 + 16; omega
  | ⟨2, _⟩ => show 0 * 1024 ≤ (i 2 : Nat) ∧ (i 2 : Nat) < 0 * 1024 + 1024; omega

/-- The array after the last point. -/
theorem final_km (c : Dev nD) : (dats m 0 c).arrAt 10 cfg0.N = arrKm m c :=
  (dats m 0 c).arrAt_eq_of_cover 10 (arrKm m c) (flushed_km m c) covered_km

end Cert.Kernel3Ideal.Hand

end
-- ==== Proof.RefValue3.lean ====
/-
  THE THIRD REFERENCE'S RESULT, ROW BY ROW. The reference program's result term, which is made of the first reference's stages
  (`Cert.ReferenceIdeal.Rows`) without the final normalisation, at the gain and weights of layer 0: row `r` of the result is `RowSpec.block` of row `r` of the input.
-/
module

public import proofs.«01_k».proof.Proof.Gen.Reference3Ideal.Run
public import proofs.«01_k».proof.Proof.RefValue

@[expose] public section

set_option maxRecDepth 16384

noncomputable section

namespace Cert.Reference3Ideal.Rows

open Cert.Reference3Ideal Cert.Reference3Ideal.Gen Idealize.ShloMosaic Idealize.ShloMosaic.TcCoe Idealize.SL.Sem

open Cert.ReferenceIdeal.Rows (normA guA actA resA normA_at guA_at actA_at resA_at)

/-- Layer 0's row of the gains and matrices of the stacked parameters. -/
def gain0 (g : FVec Ideal S2x1024 .f32) : FVec Ideal S1024 .f32 := shapeCast _ (extractStridedSlice S1x1024 ![0, 0] g slices_S2x1024_S1x1024_0_0) shapeCasts_S1x1024_S1024
def gu0 (w : FVec Ideal S2x1024x5632 .f32) : FVec Ideal S1024x5632 .f32 := shapeCast _ (extractStridedSlice S1x1024x5632 ![0, 0, 0] w slices_S2x1024x5632_S1x1024x5632_0_0_0) shapeCasts_S1x1024x5632_S1024x5632
def down0 (w : FVec Ideal S2x2816x1024 .f32) : FVec Ideal S2816x1024 .f32 := shapeCast _ (extractStridedSlice S1x2816x1024 ![0, 0, 0] w slices_S2x2816x1024_S1x2816x1024_0_0_0) shapeCasts_S1x2816x1024_S2816x1024

/-- All of it on the batch of rows. -/
def layerA (x : FVec Ideal S4x4096x1024 .f32) (g : FVec Ideal S2x1024 .f32) (w : FVec Ideal S2x1024x5632 .f32) (d : FVec Ideal S2x2816x1024 .f32) : FVec Ideal S4x4096x1024 .f32 :=
  resA x (actA (guA (normA x (gain0 g)) (gu0 w))) (down0 d)

theorem res_eq (m : (ℓ : Loc nD τ sig) → Buf (Elt Ideal) ℓ) (c : Dev nD) :
    Value.res_main_v121 (F := Ideal) m c
      = shapeCast S16384x1024 (layerA (m ((c.tc : Thread nD τ).loc main_arg0)) (m ((c.tc : Thread nD τ).loc main_arg2))
          (m ((c.tc : Thread nD τ).loc main_arg3)) (m ((c.tc : Thread nD τ).loc main_arg4)))
          shapeCasts_S4x4096x1024_S16384x1024 := rfl

theorem gain0_at (g : FVec Ideal S2x1024 .f32) (j : Fin 1024) : gain0 g (ix1 j) = g (ix2 0 j) := by
  pointwise [gain0]

theorem gu0_at (w : FVec Ideal S2x1024x5632 .f32) (k : Fin 1024) (q : Fin 5632) : gu0 w (ix2 k q) = w (ix3 0 k q) := by
  pointwise [gu0]

theorem down0_at (w : FVec Ideal S2x2816x1024 .f32) (k : Fin 2816) (q : Fin 1024) : down0 w (ix2 k q) = w (ix3 0 k q) := by
  pointwise [down0]

/-- Every row of the reference's result is the row function of the input's row. -/
theorem layerA_at (x : FVec Ideal S4x4096x1024 .f32) (g : FVec Ideal S2x1024 .f32) (w : FVec Ideal S2x1024x5632 .f32) (d : FVec Ideal S2x2816x1024 .f32)
    (b : Fin 4) (r : Fin 4096) (j : Fin 1024) :
    layerA x g w d (ix3 b r j)
      = RowSpec.block (fun k => x (ix3 b r k)) (fun k => g (ix2 0 k)) (fun k q => w (ix3 0 k q)) (fun q k => d (ix3 0 q k)) j := by
  unfold layerA RowSpec.block RowSpec.hidden
  simp only [normA_at, resA_at, actA_at, guA_at, gain0_at, gu0_at, down0_at]

end Cert.Reference3Ideal.Rows

end
-- ==== Proof.RefHeads3.lean ====
/-
  THE THIRD REFERENCE'S QUERIES, KEYS AND VALUES, ROW BY ROW. The result terms cut into the stages the reference is written in (the
  angles, the projections, the turn of the heads, the layouts) and each stage read at an index.
-/
module

public import proofs.«01_k».proof.Proof.RefValue3
public import proofs.«01_k».proof.Proof.RowSpec3

@[expose] public section

set_option maxRecDepth 16384

noncomputable section

namespace Cert.Reference3Ideal.Rows

open Cert.Reference3Ideal Cert.Reference3Ideal.Gen Idealize.ShloMosaic Idealize.ShloMosaic.TcCoe Idealize.SL.Sem

open Cert.ReferenceIdeal.Rows (normA gain1 normA_at gain1_at)

/-- The sixteen frequencies. -/
def freqs : FVec Ideal S16 .f32 :=
  Host.powf (broadcastInDim S16 ![] bcast_S_S16 (constant S_ .f32 0x48F42400#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The angles of every position, their cosines and their sines. -/
def angA (p : IVec S4x4096 32) : FVec Ideal S4x4096x16 .f32 :=
  mulf (broadcastInDim S4x4096x16 ![0, 1, 2] bcast_S4x4096x1_S4x4096x16_0_1_2 (broadcastInDim S4x4096x1 ![0, 1] bcast_S4x4096_S4x4096x1_0_1 (sitofp .f32 p)))
    (broadcastInDim S4x4096x16 ![0, 1, 2] bcast_S1x1x16_S4x4096x16_0_1_2 (broadcastInDim S1x1x16 ![2] bcast_S16_S1x1x16_2 freqs))
def cosA (p : IVec S4x4096 32) : FVec Ideal S4x4096x8x16 .f32 :=
  broadcastInDim S4x4096x8x16 ![0, 1, 2, 3] bcast_S4x4096x1x16_S4x4096x8x16_0_1_2_3 (broadcastInDim S4x4096x1x16 ![0, 1, 3] bcast_S4x4096x16_S4x4096x1x16_0_1_3 (Host.cos (angA p)))
def sinA (p : IVec S4x4096 32) : FVec Ideal S4x4096x8x16 .f32 :=
  broadcastInDim S4x4096x8x16 ![0, 1, 2, 3] bcast_S4x4096x1x16_S4x4096x8x16_0_1_2_3 (broadcastInDim S4x4096x1x16 ![0, 1, 3] bcast_S4x4096x16_S4x4096x1x16_0_1_3 (Host.sin (angA p)))

/-- The lanes 0 to 15 and 16 to 31 of every head. -/
def loA (y : FVec Ideal S4x4096x8x128 .f32) : FVec Ideal S4x4096x8x16 .f32 :=
  extractStridedSlice S4x4096x8x16 ![0, 0, 0, 0] (extractStridedSlice S4x4096x8x32 ![0, 0, 0, 0] y slices_S4x4096x8x128_S4x4096x8x32_0_0_0_0) slices_S4x4096x8x32_S4x4096x8x16_0_0_0_0
def hiA (y : FVec Ideal S4x4096x8x128 .f32) : FVec Ideal S4x4096x8x16 .f32 :=
  extractStridedSlice S4x4096x8x16 ![0, 0, 0, 16] (extractStridedSlice S4x4096x8x32 ![0, 0, 0, 0] y slices_S4x4096x8x128_S4x4096x8x32_0_0_0_0) slices_S4x4096x8x32_S4x4096x8x16_0_0_0_16

/-- The turn of every head. -/
def turnA (y : FVec Ideal S4x4096x8x128 .f32) (p : IVec S4x4096 32) : FVec Ideal S4x4096x8x128 .f32 :=
  Value.fn_main_v78 (F := Ideal)
    (Value.fn_main_v76 (F := Ideal) (subf (mulf (loA y) (cosA p)) (mulf (hiA y) (sinA p))) (addf (mulf (hiA y) (cosA p)) (mulf (loA y) (sinA p))))
    (extractStridedSlice S4x4096x8x96 ![0, 0, 0, 32] y slices_S4x4096x8x128_S4x4096x8x96_0_0_0_32)

/-- The heads of every row, and back. -/
def headsA (z : FVec Ideal S4x4096x1024 .f32) : FVec Ideal S4x4096x8x128 .f32 := shapeCast S4x4096x8x128 z shapeCasts_S4x4096x1024_S4x4096x8x128
def flatA (y : FVec Ideal S4x4096x8x128 .f32) : FVec Ideal S16384x1024 .bf16 :=
  truncf .bf16 (shapeCast S16384x1024 y shapeCasts_S4x4096x8x128_S16384x1024) bitsLt_bf16_f32

/-- The products. -/
def qA (h : FVec Ideal S4x4096x1024 .f32) (w : FVec Ideal S1x1024x1024 .f32) : FVec Ideal S4x4096x1024 .f32 :=
  Host.dotGeneral dot_S4x4096x1024_S1024x1024_S4x4096x1024_2_0_01_1_n_n none h (shapeCast S1024x1024 w shapeCasts_S1x1024x1024_S1024x1024)
def kvA (h : FVec Ideal S4x4096x1024 .f32) (w : FVec Ideal S1024x2048 .f32) : FVec Ideal S4x4096x2048 .f32 :=
  Host.dotGeneral dot_S4x4096x1024_S1024x2048_S4x4096x2048_2_0_01_1_n_n none h w
def kA (z : FVec Ideal S4x4096x2048 .f32) : FVec Ideal S4x4096x1024 .f32 := extractStridedSlice S4x4096x1024 ![0, 0, 0] z slices_S4x4096x2048_S4x4096x1024_0_0_0
def vtA (z : FVec Ideal S4x4096x2048 .f32) : FVec Ideal S4x16x1024x256 .bf16 :=
  truncf .bf16 (transpose S4x16x1024x256 [0, 1, 3, 2] (shapeCast S4x16x256x1024 (extractStridedSlice S4x4096x1024 ![0, 0, 1024] z slices_S4x4096x2048_S4x4096x1024_0_0_1024) shapeCasts_S4x4096x1024_S4x16x256x1024)
    transposes_S4x16x256x1024_S4x16x1024x256_0_1_3_2) bitsLt_bf16_f32
/-- The means of the keys over blocks of 256 rows. -/
def meansA (y : FVec Ideal S4x4096x8x128 .f32) : FVec Ideal S4x16x1024 .f32 :=
  Host.divf (Host.reduceAdd (shapeCast S4x16x256x1024 y shapeCasts_S4x4096x8x128_S4x16x256x1024) (constant S_ .f32 0x00000000#32) reducesTo_S4x16x256x1024_S4x16x1024_d2 h_S_)
    (broadcastInDim S4x16x1024 ![] bcast_S_S4x16x1024 (constant S_ .f32 0x43800000#32))

/-- The scale laid over every lane. -/
def scaleA (y : FVec Ideal S4x4096x8x128 .f32) : FVec Ideal S4x4096x8x128 .f32 :=
  mulf y (broadcastInDim S4x4096x8x128 ![] bcast_S_S4x4096x8x128 (constant S_ .f32 0x3E0293EE#32))

section Results
variable (m : (ℓ : Loc nD τ sig) → Buf (Elt Ideal) ℓ) (c : Dev nD)

/-- The first result's rows. -/
def xA : FVec Ideal S4x4096x1024 .f32 :=
  layerA (m ((c.tc : Thread nD τ).loc main_arg0)) (m ((c.tc : Thread nD τ).loc main_arg2)) (m ((c.tc : Thread nD τ).loc main_arg3)) (m ((c.tc : Thread nD τ).loc main_arg4))

theorem q_eq : Value.res_main_v123 (F := Ideal) m c
    = flatA (scaleA (turnA (headsA (qA (normA (xA m c) (gain1 (m ((c.tc : Thread nD τ).loc main_arg5)))) (m ((c.tc : Thread nD τ).loc main_arg7)))) (m ((c.tc : Thread nD τ).loc main_arg1)))) := rfl
theorem k_eq : Value.res_main_v125 (F := Ideal) m c
    = flatA (turnA (headsA (kA (kvA (normA (xA m c) (m ((c.tc : Thread nD τ).loc main_arg6))) (m ((c.tc : Thread nD τ).loc main_arg8))))) (m ((c.tc : Thread nD τ).loc main_arg1))) := rfl
theorem vt_eq : Value.res_main_v126 (F := Ideal) m c
    = vtA (kvA (normA (xA m c) (m ((c.tc : Thread nD τ).loc main_arg6))) (m ((c.tc : Thread nD τ).loc main_arg8))) := rfl
theorem km_eq : Value.res_main_v118 (F := Ideal) m c
    = meansA (turnA (headsA (kA (kvA (normA (xA m c) (m ((c.tc : Thread nD τ).loc main_arg6))) (m ((c.tc : Thread nD τ).loc main_arg8))))) (m ((c.tc : Thread nD τ).loc main_arg1))) := rfl

end Results

theorem angA_at (p : IVec S4x4096 32) (b : Fin 4) (r : Fin 4096) (i : Fin 16) :
    angA p (ix3 b r i) = RowSpec.angle (p (ix2 b r)) (fun i => freqs (ix1 i)) i := by
  unfold RowSpec.angle
  pointwise [angA]
theorem cosA_at (p : IVec S4x4096 32) (b : Fin 4) (r : Fin 4096) (h : Fin 8) (i : Fin 16) :
    cosA p (ix4 b r h i) = Ideal.cos (RowSpec.angle (p (ix2 b r)) (fun i => freqs (ix1 i)) i) := by
  rw [← angA_at]
  pointwise [cosA]
theorem sinA_at (p : IVec S4x4096 32) (b : Fin 4) (r : Fin 4096) (h : Fin 8) (i : Fin 16) :
    sinA p (ix4 b r h i) = Ideal.sin (RowSpec.angle (p (ix2 b r)) (fun i => freqs (ix1 i)) i) := by
  rw [← angA_at]
  pointwise [sinA]
theorem loA_at (y : FVec Ideal S4x4096x8x128 .f32) (b : Fin 4) (r : Fin 4096) (h : Fin 8) (i : Fin 16) :
    loA y (ix4 b r h i) = y (ix4 b r h ⟨i.val, by omega⟩) := by
  pointwise [loA]
theorem hiA_at (y : FVec Ideal S4x4096x8x128 .f32) (b : Fin 4) (r : Fin 4096) (h : Fin 8) (i : Fin 16) :
    hiA y (ix4 b r h i) = y (ix4 b r h ⟨i.val + 16, by omega⟩) := by
  pointwise [hiA]
  simp only [Nat.add_comm 16]

/-- Two joins along the lanes. -/
theorem join_at (u v : FVec Ideal S4x4096x8x16 .f32) (w : FVec Ideal S4x4096x8x96 .f32) (b : Fin 4) (r : Fin 4096) (h : Fin 8) (l : Fin 128) :
    Value.fn_main_v78 (F := Ideal) (Value.fn_main_v76 (F := Ideal) u v) w (ix4 b r h l)
      = if h1 : l.val < 16 then u (ix4 b r h ⟨l.val, h1⟩)
        else if h2 : l.val < 32 then v (ix4 b r h ⟨l.val - 16, by omega⟩) else w (ix4 b r h ⟨l.val - 32, by omega⟩) := by
  pointwise [Value.fn_main_v78, Value.fn_main_v76]
  by_cases h1 : l.val < 16
  · simp only [h1, show l.val < 32 by omega, dif_pos]
  · by_cases h2 : l.val < 32
    · simp only [h1, h2, dif_pos, dif_neg, not_false_eq_true]
    · simp only [h1, h2, dif_neg, not_false_eq_true]

theorem turnA_at (y : FVec Ideal S4x4096x8x128 .f32) (p : IVec S4x4096 32) (b : Fin 4) (r : Fin 4096) (j : Fin 1024) :
    turnA y p (ix4 b r ⟨j.val / 128, by omega⟩ ⟨j.val % 128, by omega⟩)
      = RowSpec.rope (fun j => y (ix4 b r ⟨j.val / 128, by omega⟩ ⟨j.val % 128, by omega⟩)) (RowSpec.angle (p (ix2 b r)) (fun i => freqs (ix1 i))) j := by
  have e : ∀ (h h' : Fin 8) (l l' : Fin 128), h.val = h'.val → l.val = l'.val → y (ix4 b r h l) = y (ix4 b r h' l') := fun h h' l l' eh el => by
    rw [Fin.ext eh, Fin.ext el]
  unfold turnA RowSpec.rope
  rw [join_at]
  split
  · rename_i h
    have h' : j.val % 128 < 16 := h
    pointwise
    simp only [loA_at, hiA_at, cosA_at, sinA_at]
    rw [e ⟨j.val / 128, by omega⟩ ⟨(j.val + 16) / 128, by omega⟩ ⟨j.val % 128 + 16, by omega⟩ ⟨(j.val + 16) % 128, by omega⟩
      (by show j.val / 128 = (j.val + 16) / 128; omega) (by show j.val % 128 + 16 = (j.val + 16) % 128; omega)]
  · rename_i h
    have h' : ¬ j.val % 128 < 16 := h
    split
    · rename_i h2
      have h2' : j.val % 128 < 32 := h2
      pointwise
      simp only [loA_at, hiA_at, cosA_at, sinA_at]
      rw [e _ _ ⟨j.val % 128 - 16 + 16, by omega⟩ ⟨j.val % 128, by omega⟩ rfl (by show j.val % 128 - 16 + 16 = j.val % 128; omega),
        e ⟨j.val / 128, by omega⟩ ⟨(j.val - 16) / 128, by omega⟩ ⟨j.val % 128 - 16, by omega⟩ ⟨(j.val - 16) % 128, by omega⟩
          (by show j.val / 128 = (j.val - 16) / 128; omega) (by show j.val % 128 - 16 = (j.val - 16) % 128; omega)]
    · rename_i h2
      have h2' : ¬ j.val % 128 < 32 := h2
      pointwise
      exact e _ _ _ _ rfl (by show 32 + (j.val % 128 - 32) = j.val % 128; omega)

theorem headsA_at (z : FVec Ideal S4x4096x1024 .f32) (b : Fin 4) (r : Fin 4096) (j : Fin 1024) :
    headsA z (ix4 b r ⟨j.val / 128, by omega⟩ ⟨j.val % 128, by omega⟩) = z (ix3 b r j) := by
  pointwise [headsA]
theorem flatA_at (y : FVec Ideal S4x4096x8x128 .f32) (r : Fin 16384) (j : Fin 1024) :
    flatA y (ix2 r j) = y (ix4 ⟨r.val / 4096, by omega⟩ ⟨r.val % 4096, by omega⟩ ⟨j.val / 128, by omega⟩ ⟨j.val % 128, by omega⟩) := by
  pointwise [flatA]
theorem qA_at (h : FVec Ideal S4x4096x1024 .f32) (w : FVec Ideal S1x1024x1024 .f32) (b : Fin 4) (r : Fin 4096) (j : Fin 1024) :
    qA h w (ix3 b r j) = ∑ k, h (ix3 b r k) * w (ix3 0 k j) := by
  pointwise [qA]
theorem kvA_at (h : FVec Ideal S4x4096x1024 .f32) (w : FVec Ideal S1024x2048 .f32) (b : Fin 4) (r : Fin 4096) (j : Fin 2048) :
    kvA h w (ix3 b r j) = ∑ k, h (ix3 b r k) * w (ix2 k j) := by
  pointwise [kvA]
theorem kA_at (z : FVec Ideal S4x4096x2048 .f32) (b : Fin 4) (r : Fin 4096) (j : Fin 1024) : kA z (ix3 b r j) = z (ix3 b r ⟨j.val, by omega⟩) := by
  pointwise [kA]
theorem vtA_at (z : FVec Ideal S4x4096x2048 .f32) (b : Fin 4) (i : Fin 16) (j : Fin 1024) (r : Fin 256) :
    vtA z (ix4 b i j r) = z (ix3 b ⟨256 * i.val + r.val, by omega⟩ ⟨j.val + 1024, by omega⟩) := by
  pointwise [vtA]
  simp only [Nat.add_comm 1024, Nat.mul_comm 256]
theorem meansA_at (y : FVec Ideal S4x4096x8x128 .f32) (b : Fin 4) (i : Fin 16) (j : Fin 1024) :
    meansA y (ix3 b i j) = RowSpec.mean256 fun r => y (ix4 b ⟨256 * i.val + r.val, by omega⟩ ⟨j.val / 128, by omega⟩ ⟨j.val % 128, by omega⟩) := by
  rw [← RowSpec.mean256_div]
  pointwise [meansA]
  simp only [Nat.mul_comm 256]
theorem scaleA_at (y : FVec Ideal S4x4096x8x128 .f32) (b : Fin 4) (r : Fin 4096) (h : Fin 8) (l : Fin 128) :
    scaleA y (ix4 b r h l) = y (ix4 b r h l) * RowSpec.scale := by
  unfold RowSpec.scale
  pointwise [scaleA]

/-- Every row of the reference's queries, keys and values, of the rows `x`. -/
theorem rowQ_at (x : FVec Ideal S4x4096x1024 .f32) (g : FVec Ideal S2x1024 .f32) (w : FVec Ideal S1x1024x1024 .f32) (p : IVec S4x4096 32) (r : Fin 16384) (j : Fin 1024) :
    flatA (scaleA (turnA (headsA (qA (normA x (gain1 g)) w)) p)) (ix2 r j)
      = RowSpec.rope (RowSpec.normProj (fun k => x (ix3 ⟨r.val / 4096, by omega⟩ ⟨r.val % 4096, by omega⟩ k)) (fun k => g (ix2 1 k)) (fun k j => w (ix3 0 k j)))
          (RowSpec.angle (p (ix2 ⟨r.val / 4096, by omega⟩ ⟨r.val % 4096, by omega⟩)) (fun i => freqs (ix1 i))) j * RowSpec.scale := by
  rw [flatA_at, scaleA_at, turnA_at]
  simp only [headsA_at, qA_at, normA_at, gain1_at]
  rfl
theorem rowK_at (x : FVec Ideal S4x4096x1024 .f32) (g : FVec Ideal S1024 .f32) (w : FVec Ideal S1024x2048 .f32) (p : IVec S4x4096 32) (r : Fin 16384) (j : Fin 1024) :
    flatA (turnA (headsA (kA (kvA (normA x g) w))) p) (ix2 r j)
      = RowSpec.rope (RowSpec.normProj (fun k => x (ix3 ⟨r.val / 4096, by omega⟩ ⟨r.val % 4096, by omega⟩ k)) (fun k => g (ix1 k)) (fun k j => w (ix2 k ⟨j.val, by omega⟩)))
          (RowSpec.angle (p (ix2 ⟨r.val / 4096, by omega⟩ ⟨r.val % 4096, by omega⟩)) (fun i => freqs (ix1 i))) j := by
  rw [flatA_at, turnA_at]
  simp only [headsA_at, kA_at, kvA_at, normA_at]
  rfl
theorem rowV_at (x : FVec Ideal S4x4096x1024 .f32) (g : FVec Ideal S1024 .f32) (w : FVec Ideal S1024x2048 .f32) (b : Fin 4) (i : Fin 16) (j : Fin 1024) (r : Fin 256) :
    vtA (kvA (normA x g) w) (ix4 b i j r)
      = RowSpec.normProj (fun k => x (ix3 b ⟨256 * i.val + r.val, by omega⟩ k)) (fun k => g (ix1 k)) (fun k j => w (ix2 k ⟨j.val + 1024, by omega⟩)) j := by
  rw [vtA_at]
  simp only [kvA_at, normA_at]
  rfl
theorem rowKm_at (x : FVec Ideal S4x4096x1024 .f32) (g : FVec Ideal S1024 .f32) (w : FVec Ideal S1024x2048 .f32) (p : IVec S4x4096 32) (b : Fin 4) (i : Fin 16) (j : Fin 1024) :
    meansA (turnA (headsA (kA (kvA (normA x g) w))) p) (ix3 b i j)
      = RowSpec.mean256 fun r =>
          RowSpec.rope (RowSpec.normProj (fun k => x (ix3 b ⟨256 * i.val + r.val, by omega⟩ k)) (fun k => g (ix1 k)) (fun k j => w (ix2 k ⟨j.val, by omega⟩)))
            (RowSpec.angle (p (ix2 b ⟨256 * i.val + r.val, by omega⟩)) (fun i => freqs (ix1 i))) j := by
  rw [meansA_at]
  simp only [turnA_at, headsA_at, kA_at, kvA_at, normA_at]
  rfl

end Cert.Reference3Ideal.Rows

end
-- ==== Proof.Setup4.lean ====
/- What the hand proof of the ideal kernel's run is stated over: @main up to the region, the blocks that the
   pipeline stages, the body's one branch condition, and the names of its staging buffers, scratch buffers,
   semaphores and HBM operands. -/
module

public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Tactic
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The memrefs the body is called on -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x1024 .bf16 := Memref.whole cc0_scratch0
abbrev scM0_1 : Memref sig .tc .vmem S3x512x1024 .f32 := Memref.whole cc0_scoped0
/-- The operand left in HBM that the body copies into scratch itself, whole. -/
abbrev hbM0_0 : Memref sig .tc .hbm S1x1024x1024 .f32 := Memref.whole main_arg2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 11, SemLoc.dma 12, SemLoc.dma 13] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2] (by decide) (by decide)]; rfl
/-- The HBM operand the body moves, as a reference: unscoped, no window's array (`Pipeline.restRefs`). -/
def H0 : Finset (Ref sig .tc) := {main_arg2}
theorem H0_sub : H0 ⊆ Pipeline.restRefs sig spec0 := by decide
/-- Its points-to at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, conjunct by conjunct: the scratch operands owned at some contents, the
    generator register at some state, the own cells at zero, the HBM operands at their launch contents. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg2))) := by
  rw [Pipeline.ΦD_eq, scopedRest0_eq, ownSems00_eq, hbmPts0_eq]; simp only [scM0_0, scM0_1, owns_whole]; try rfl

end Cert.Kernel4Ideal.Hand

end
-- ==== Proof.Blocks4.lean ====
/-
  WHAT ONE GRID POINT OF THE SECOND MEMORY-ATTENTION CALL LEAVES, at any float: its output block's two tiles of 512 rows, each the
  same function of its rows of `x` and of the block attention's output, and of the weights (`tileV`).
-/
module

public import proofs.«01_k».proof.Proof.Setup4
public import proofs.«01_k».proof.Proof.Staging
public import Idealize.ShloMosaic.Lib.WholeRead
public import Idealize.ShloMosaic.Lib.Pipeline.ValueKit.Tiles

@[expose] public section

set_option maxRecDepth 16384

noncomputable section

namespace Cert.Kernel4Ideal.Hand

open Idealize.ShloMosaic
open Cert.Kernel4Ideal.Gen
open Cert.Staging

variable {F : FTy → Type} [FloatOps F]

/-- One tile: the output projection `w` of the block attention's rows `a` added to the rows `v`, then the memory attention over the
    sum: the gain, and this sequence's prepared products for the scores and for the values. -/
def tileV (v : Vec F S512x1024 .f32) (a : Vec F S512x1024 .bf16) (w : Vec F S1024x1024 .bf16) (g : Vec F S1x1x1024 .f32) (qk vo : Vec F S1x1x1024x1024 .bf16) :
    FVec F S512x1024 .f32 :=
  k0_pay1 (k0_pay14 v a w) (k0_pay15 vo) (k0_pay18 (k0_pay17 v a w g qk)) (k0_pay19 (k0_pay16 v a w g qk)) (k0_pay20 (k0_pay16 v a w g qk))
    (k0_pay21 (k0_pay16 v a w g qk)) (k0_pay22 (k0_pay16 v a w g qk))

/-- The first tile as the body computes it: the same function. -/
theorem first_tile (v : Vec F S512x1024 .f32) (a : Vec F S512x1024 .bf16) (w : Vec F S1024x1024 .bf16) (g : Vec F S1x1x1024 .f32) (qk vo : Vec F S1x1x1024x1024 .bf16) :
    k0_pay13 (k0_pay4 v a w) (k0_pay5 vo) (k0_pay9 (k0_pay7 v a w g qk) (k0_pay8 v a w g qk)) (k0_pay10 (k0_pay6 v a w g qk)) (k0_pay11 (k0_pay6 v a w g qk))
      (k0_pay12 (k0_pay6 v a w g qk)) = tileV v a w g qk vo := rfl

/-- Rows `512*k …` of a block. -/
def rowsK {e : EltTy} (x : Vec F S1024x1024 e) (k : Fin 2) : Vec F S512x1024 e := fun j =>
  x (fun a => match a with
    | ⟨0, _⟩ => ⟨512 * k.val + (j 0).val, by have h : (j 0).val < 512 := (j 0).isLt; have := k.isLt; show _ < 1024; omega⟩
    | ⟨1, _⟩ => ⟨(j 1).val, (j 1).isLt⟩)

/-- A block index's tile, and the index within it. -/
def tileNo (y : S1024x1024.Idx) : Fin 2 := ⟨(y 0).val / 512, by have h : (y 0).val < 1024 := (y 0).isLt; omega⟩
def inTile (y : S1024x1024.Idx) : S512x1024.Idx := fun a => match a with
  | ⟨0, _⟩ => ⟨(y 0).val % 512, by show _ < 512; omega⟩
  | ⟨1, _⟩ => ⟨(y 1).val, (y 1).isLt⟩

/-- The output block. -/
def outBlk (x0 : Vec F S1024x1024 .f32) (x1 : Vec F S1024x1024 .bf16) (x2 : Vec F S1x1x1024 .f32) (x3 x4 : Vec F S1x1x1024x1024 .bf16)
    (w8 : Vec F S1024x1024 .bf16) : Vec F S1024x1024 .f32 :=
  fun y => tileV (rowsK x0 (tileNo y)) (rowsK x1 (tileNo y)) w8 x2 x3 x4 (inTile y)

theorem rows_ld {e : EltTy} (x : Vec F S1024x1024 e) (k : Fin 2) (inb : ∀ a : Fin 2, (![512 * k.val, 0] : Fin 2 → ℕ) a + S512x1024.size a ≤ S1024x1024.size a) :
    View.ld x (Rect.unit (s := S1024x1024) ![512 * k.val, 0] S512x1024.size inb) = rowsK x k := by
  funext j
  refine View.ld_unit_apply_of x _ _ _ j _ fun a => ?_
  match a with
  | ⟨0, _⟩ => rfl
  | ⟨1, _⟩ => show (j 1).val = 0 + (j 1).val; omega

theorem ld_whole {s : Shape} {e : EltTy} (X : Vec F s e) (off : Fin s.rank → ℕ) (h0 : ∀ a, off a = 0) (inb : ∀ a, off a + s.size a ≤ s.size a) :
    View.ld X (Rect.unit (s := s) off s.size inb) = X := by
  funext x
  exact View.ld_unit_apply_of X _ _ _ x x fun a => by rw [h0 a, Nat.zero_add]

theorem z2 : ∀ a : Fin 2, (![0, 0] : Fin 2 → ℕ) a = 0 := by decide
theorem z3 : ∀ a : Fin 3, (![0, 0, 0] : Fin 3 → ℕ) a = 0 := by decide
theorem z4 : ∀ a : Fin 4, (![0, 0, 0, 0] : Fin 4 → ℕ) a = 0 := by decide

section Reads
variable {arg1 : Memref sig .tc .vmem S1024x1024 .f32} (harg1 : arg1.IsWhole) {arg2 : Memref sig .tc .vmem S1024x1024 .bf16} (harg2 : arg2.IsWhole)
  {arg4 : Memref sig .tc .vmem S1x1x1024 .f32} (harg4 : arg4.IsWhole) {arg5 : Memref sig .tc .vmem S1x1x1024x1024 .bf16} (harg5 : arg5.IsWhole)
  {arg6 : Memref sig .tc .vmem S1x1x1024x1024 .bf16} (harg6 : arg6.IsWhole) {arg7 : Memref sig .tc .vmem S1024x1024 .f32}
  {arg8 : Memref sig .tc .vmem S1024x1024 .bf16} (harg8 : arg8.IsWhole)
  (x0 : Vec F S1024x1024 .f32) (x1 : Vec F S1024x1024 .bf16) (x2 : Vec F S1x1x1024 .f32) (x3 x4 : Vec F S1x1x1024x1024 .bf16) (w8 : Vec F S1024x1024 .bf16)

/-- One tile as the body computes it from its loads, the rows those at `r`. -/
def tileL (r : Rect S1024x1024) (hr : r.shape = S512x1024) : FVec F S512x1024 .f32 :=
  tileV (hr ▸ View.readAt (Elt F) arg1.view r.toLoadRect (harg1.unread x0))
    (hr ▸ View.readAt (Elt F) arg2.view r.toLoadRect (harg2.unread x1))
    (View.readAt (Elt F) arg8.view (Rect.unit (s := S1024x1024) ![0, 0] S1024x1024.size inb_S1024x1024_S1024x1024_0_0).toLoadRect (harg8.unread w8))
    (View.readAt (Elt F) arg4.view (Rect.unit (s := S1x1x1024) ![0, 0, 0] S1x1x1024.size inb_S1x1x1024_S1x1x1024_0_0_0).toLoadRect (harg4.unread x2))
    (View.readAt (Elt F) arg5.view (Rect.unit (s := S1x1x1024x1024) ![0, 0, 0, 0] S1x1x1024x1024.size inb_S1x1x1024x1024_S1x1x1024x1024_0_0_0_0).toLoadRect (harg5.unread x3))
    (View.readAt (Elt F) arg6.view (Rect.unit (s := S1x1x1024x1024) ![0, 0, 0, 0] S1x1x1024x1024.size inb_S1x1x1024x1024_S1x1x1024x1024_0_0_0_0).toLoadRect (harg6.unread x4))

theorem tileL_eq (o : ℕ) (inb : ∀ a : Fin 2, (![o, 0] : Fin 2 → ℕ) a + S512x1024.size a ≤ S1024x1024.size a) :
    tileL harg1 harg2 harg4 harg5 harg6 harg8 x0 x1 x2 x3 x4 w8 (Rect.unit (s := S1024x1024) ![o, 0] S512x1024.size inb) rfl
      = tileV (View.ld x0 (Rect.unit (s := S1024x1024) ![o, 0] S512x1024.size inb)) (View.ld x1 (Rect.unit (s := S1024x1024) ![o, 0] S512x1024.size inb)) w8 x2 x3 x4 := by
  unfold tileL
  congr 1
  all_goals first
    | exact load_unread _ _ _
    | exact (load_unread _ _ _).trans (ld_whole _ _ z2 _)
    | exact (load_unread _ _ _).trans (ld_whole _ _ z3 _)
    | exact (load_unread _ _ _).trans (ld_whole _ _ z4 _)

/-- A tile's value at its index is the block's. -/
theorem tile_at (k : Fin 2) (y : S1024x1024.Idx) (x : S512x1024.Idx) (h0 : (y 0).val = 512 * k.val + (x 0).val) (h1 : (y 1).val = (x 1).val) :
    tileV (rowsK x0 k) (rowsK x1 k) w8 x2 x3 x4 x = outBlk x0 x1 x2 x3 x4 w8 y := by
  have hx : (x 0).val < 512 := (x 0).isLt
  have e1 : inTile y = x := funext fun a => Fin.ext (by
    match a with
    | ⟨0, _⟩ => show (y 0).val % 512 = (x 0).val; omega
    | ⟨1, _⟩ => exact h1)
  have e2 : tileNo y = k := Fin.ext (by show (y 0).val / 512 = k.val; omega)
  rw [outBlk, e1, e2]

/-- Two stores of 512 rows each read back. -/
theorem two_tiles (f : arg7.view.ty.Contents (Elt F)) (P : Fin 2 → Vec F S512x1024 .f32) (v : Vec F S1024x1024 .f32)
    (h : ∀ (k : Fin 2) (y : S1024x1024.Idx) (x : S512x1024.Idx), (y 0).val = 512 * k.val + (x 0).val → (y 1).val = (x 1).val → P k x = v y) :
    View.read (Elt F) arg7.view (arg7.view.writes (Elt F) f
      [⟨Rect.unit (s := S1024x1024) ![512, 0] S512x1024.size inb_S1024x1024_S512x1024_512_0, P 1⟩,
        ⟨Rect.unit (s := S1024x1024) ![0, 0] S512x1024.size inb_S1024x1024_S512x1024_0_0, P 0⟩]) = v := by
  rw [View.read_writes_eq_canon _ _ _ (View.cover_of_tiled_head _ _ _ (by rfl))]
  funext y
  canon_tiles x h'
  · exact h 1 y x h'0 h'1
  · exact h 0 y x (by omega) h'1

/-- The body's two stores read back: the output block. -/
theorem out_read (f : arg7.view.ty.Contents (Elt F)) :
    View.read (Elt F) arg7.view (arg7.view.writes (Elt F) f
      [⟨Rect.unit (s := S1024x1024) ![512, 0] S512x1024.size inb_S1024x1024_S512x1024_512_0,
          tileL harg1 harg2 harg4 harg5 harg6 harg8 x0 x1 x2 x3 x4 w8 (Rect.unit (s := S1024x1024) ![512, 0] S512x1024.size inb_S1024x1024_S512x1024_512_0) rfl⟩,
        ⟨Rect.unit (s := S1024x1024) ![0, 0] S512x1024.size inb_S1024x1024_S512x1024_0_0,
          tileL harg1 harg2 harg4 harg5 harg6 harg8 x0 x1 x2 x3 x4 w8 (Rect.unit (s := S1024x1024) ![0, 0] S512x1024.size inb_S1024x1024_S512x1024_0_0) rfl⟩])
      = outBlk x0 x1 x2 x3 x4 w8 := by
  rw [tileL_eq, tileL_eq]
  rw [show View.ld x0 (Rect.unit (s := S1024x1024) ![512, 0] S512x1024.size inb_S1024x1024_S512x1024_512_0) = rowsK x0 1 from rows_ld x0 1 _,
    show View.ld x0 (Rect.unit (s := S1024x1024) ![0, 0] S512x1024.size inb_S1024x1024_S512x1024_0_0) = rowsK x0 0 from rows_ld x0 0 _,
    show View.ld x1 (Rect.unit (s := S1024x1024) ![512, 0] S512x1024.size inb_S1024x1024_S512x1024_512_0) = rowsK x1 1 from rows_ld x1 1 _,
    show View.ld x1 (Rect.unit (s := S1024x1024) ![0, 0] S512x1024.size inb_S1024x1024_S512x1024_0_0) = rowsK x1 0 from rows_ld x1 0 _]
  exact two_tiles f (fun k => tileV (rowsK x0 k) (rowsK x1 k) w8 x2 x3 x4) _ fun k y x h0 h1 => tile_at x0 x1 x2 x3 x4 w8 k y x h0 h1

end Reads

end Cert.Kernel4Ideal.Hand

end
-- ==== Proof.Run4B.lean ====
/-
  THE BODY AT A POINT AFTER THE FIRST of the second memory-attention call: the output projection's weights are already in the scratch
  buffer, and the point's output block is computed from them.
-/
module

public import proofs.«01_k».proof.Proof.Blocks4

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen
open Cert.Staging

variable {F : FTy → Type} [FloatOps F]

local notation "𝕄" => MT nD τ sig Unit (Elt F) ℕ (Pipeline.UD sig nD τ) ℕ

/-- The output projection's weights as HBM holds them, read through the view the copies read through, -/
def woutF (c : Dev nD) (fh : HbBuf0 (F := F) c hbM0_0) : FVec F S1024x1024 .f32 :=
  View.read (Elt F) ((hbM0_0.slice (Rect.unit (s := S1x1024x1024) ![0, 0, 0] S1x1024x1024.size inb_S1x1024x1024_S1x1024x1024_0_0_0) (fun _ => rfl)).squeeze
    S1024x1024 squeezes_S1x1024x1024_S1024x1024).view fh

/-- and the resident weights: rounded to bfloat16. -/
def woutB (c : Dev nD) (fh : HbBuf0 (F := F) c hbM0_0) : FVec F S1024x1024 .bf16 := truncf .bf16 (woutF c fh) bitsLt_bf16_f32

theorem wout_landed {B : Memref sig .tc .vmem S1024x1024 .bf16} (hB : B.IsWhole) (c : Dev nD) (A : Memref sig .tc .vmem S3x512x1024 .f32) (f : A.view.ty.Contents (Elt F)) (fh : HbBuf0 (F := F) c hbM0_0)
    (g : B.view.ty.Contents (Elt F)) :
    B.view.writes (Elt F) g (stores (R := 512) (C := 1024) (K := 2) (N := 1024) (by decide) rfl A squeezes_S1x512x1024_S512x1024
      shapeCasts_S1x512x1024_S512x1024 shapeCasts_S512x1024_S512x1024
      (fun k x => woutF c fh ((chunkR (R := 512) 1024 (K := 2) (N := 1024) (by decide) rfl k).emb x)) f 2) = hB.unread (woutB c fh) := by
  refine hB.eq_unread ?_
  funext y
  exact stores_read (R := 512) (C := 1024) (K := 2) (N := 1024) (by decide) rfl A _ _ _ (woutF c fh) f B g 2 (by decide) y (y 0).isLt

set_option maxHeartbeats 2552000 in set_option sl_exec.dmaWindow true in set_option sl_exec.dmaWindowSet true in
/-- The body's triple at a point after the first: the weights resident. -/
theorem runB (c : Dev nD) (i : grid0.Coords) (arg1 : Memref sig .tc .vmem S1024x1024 .f32) (harg1 : arg1.IsWhole) (arg2 : Memref sig .tc .vmem S1024x1024 .bf16) (harg2 : arg2.IsWhole) (arg4 : Memref sig .tc .vmem S1x1x1024 .f32) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1024x1024 .f32) (harg7 : arg7.IsWhole) (arg8 : Memref sig .tc .vmem S1024x1024 .bf16) (harg8 : arg8.IsWhole) (alloca_r0 : Memref sig .tc .vmem S3x512x1024 .f32) (halloca_r0 : alloca_r0.IsWhole) (hc0 : ¬cond0_0 i)
    (x0 : Vec F S1024x1024 .f32) (x1 : Vec F S1024x1024 .bf16) (x2 : Vec F S1x1x1024 .f32) (x3 x4 : Vec F S1x1x1024x1024 .bf16) (w8 : Vec F S1024x1024 .bf16) (fh0 : HbBuf0 (F := F) c hbM0_0)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare w8 ∗ (∃ d, owns (c : Thread nD τ) alloca_r0 fullShare d) ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x1 x2 x3 x4 w8) ∗ owns (c : Thread nD τ) arg8 fullShare w8 ∗ (∃ d, owns (c : Thread nD τ) alloca_r0 fullShare d) ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
      ⊢ wp frame (wpE (defs₀ (F := F)) Variants.none c none) Set.univ (cc0_memattn_l1 i arg1 harg1 arg2 harg2 (Memref.whole main_arg2) (Memref.isWhole_whole _) arg4 harg4 arg5 harg5 arg6 harg6 arg7 harg7 arg8 harg8 alloca_r0 halloca_r0 cc0_scoped1) K := by
  simp only [cc0_memattn_l1_eq_skeleton]; unfold cc0_memattn_l1_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H5⟩, ⟨%f8, %hf8, HS0⟩, ⟨%ds1, %fs1, -, HS1⟩, Hq0, Hq1, Hq2, Hh0, HW, Hk⟩
  obtain rfl := harg1.eq_unread hf0; obtain rfl := harg2.eq_unread hf1; obtain rfl := harg4.eq_unread hf2; obtain rfl := harg5.eq_unread hf3; obtain rfl := harg6.eq_unread hf4
  obtain rfl := harg8.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact out_read harg1 harg2 harg4 harg5 harg6 harg8 x0 x1 x2 x3 x4 _ f7
  isplitl [HS0]
  · iexists _; isplitr; · ipureintro; exact harg8.read_unread _
    iexact HS0
  isplitl [HS1]
  · iexists _, _; isplitr; swap; · iexact HS1
    ipureintro; rfl
  isplitl [Hq0]; · iexact Hq0
  isplitl [Hq1]; · iexact Hq1
  isplitl [Hq2]; · iexact Hq2
  isplitl [Hh0]; · iexact Hh0
  iexists _; iexact HW

end Cert.Kernel4Ideal.Hand

end
-- ==== Proof.Run4A.lean ====
/-
  THE BODY AT THE FIRST POINT of the second memory-attention call. The output projection's weights are copied from HBM through the
  ring into the scratch buffer, rounded on the way, every copy's wait matched with its start; then the point's output block is
  computed.
-/
module

public import proofs.«01_k».proof.Proof.Run4B

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen
open Cert.Staging

variable {F : FTy → Type} [FloatOps F]

local notation "𝕄" => MT nD τ sig Unit (Elt F) ℕ (Pipeline.UD sig nD τ) ℕ

set_option maxHeartbeats 2552000 in set_option sl_exec.dmaWindow true in set_option sl_exec.dmaWindowSet true in
/-- The body's triple at the first point: the weights staged from HBM, then the output block computed. -/
theorem runA (c : Dev nD) (i : grid0.Coords) (arg1 : Memref sig .tc .vmem S1024x1024 .f32) (harg1 : arg1.IsWhole) (arg2 : Memref sig .tc .vmem S1024x1024 .bf16) (harg2 : arg2.IsWhole) (arg4 : Memref sig .tc .vmem S1x1x1024 .f32) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1024x1024 .f32) (harg7 : arg7.IsWhole) (arg8 : Memref sig .tc .vmem S1024x1024 .bf16) (harg8 : arg8.IsWhole) (alloca_r0 : Memref sig .tc .vmem S3x512x1024 .f32) (halloca_r0 : alloca_r0.IsWhole) (hc0 : cond0_0 i)
    (x0 : Vec F S1024x1024 .f32) (x1 : Vec F S1024x1024 .bf16) (x2 : Vec F S1x1x1024 .f32) (x3 x4 : Vec F S1x1x1024x1024 .bf16) (fh0 : HbBuf0 (F := F) c hbM0_0)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) alloca_r0 fullShare d) ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ owes (c : Thread nD τ) 0 W
        ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare (outBlk x0 x1 x2 x3 x4 (woutB c fh0)) ∗ owns (c : Thread nD τ) arg8 fullShare (woutB c fh0) ∗ (∃ d, owns (c : Thread nD τ) alloca_r0 fullShare d) ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ (∃ W', owes (c : Thread nD τ) 0 W')) -∗ K ⟨⟩))
      ⊢ wp frame (wpE (defs₀ (F := F)) Variants.none c none) Set.univ (cc0_memattn_l1 i arg1 harg1 arg2 harg2 (Memref.whole main_arg2) (Memref.isWhole_whole _) arg4 harg4 arg5 harg5 arg6 harg6 arg7 harg7 arg8 harg8 alloca_r0 halloca_r0 cc0_scoped1) K := by
  simp only [cc0_memattn_l1_eq_skeleton]; unfold cc0_memattn_l1_skel
  simp only [k0_part2_eq_skeleton, k0_part1_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H5⟩, ⟨%d8, %f8, -, HS0⟩, ⟨%ds1, %fs1, -, HS1⟩, Hq0, Hq1, Hq2, Hh0, HW, Hk⟩
  obtain rfl := harg1.eq_unread hf0; obtain rfl := harg2.eq_unread hf1; obtain rfl := harg4.eq_unread hf2; obtain rfl := harg5.eq_unread hf3; obtain rfl := harg6.eq_unread hf4
  unfold k0_part2_skel
  rw [wp_bind]
  extract_lets v0 v1 v2 v3 jp
  obtain ⟨j, hjp⟩ : ∃ j, jp = j := ⟨_, rfl⟩
  rw [hjp]
  sl_exec (disch := first | sl_exact hc0)
  ihave HS0 : (View.loc (c : Thread nD τ) arg8.view ↦[arg8.view.set]{fullShare} harg8.unread (woutB c fh0)) $$ [HS0]
  · istop
    refine Entails.of_eq (congrArg (fun f => (View.loc (c : Thread nD τ) arg8.view ↦[arg8.view.set]{fullShare} f : sProp 𝕄)) ?_)
    exact wout_landed harg8 c alloca_r0 fs1 fh0 f8
  subst hjp
  simp only [jp]
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact out_read harg1 harg2 harg4 harg5 harg6 harg8 x0 x1 x2 x3 x4 _ f7
  isplitl [HS0]
  · iexists _; isplitr; · ipureintro; exact harg8.read_unread _
    iexact HS0
  isplitl [HS1]
  · iexists _, _; isplitr; swap; · iexact HS1
    ipureintro; rfl
  isplitl [Hq0]; · iexact Hq0
  isplitl [Hq1]; · iexact Hq1
  isplitl [Hq2]; · iexact Hq2
  isplitl [Hh0]; · iexact Hh0
  iexists _; iexact HW

end Cert.Kernel4Ideal.Hand

end
-- ==== Proof.Launch4.lean ====
/-
  THE LAUNCH of the second memory-attention call. What the scratch holds between grid points (nothing known before the first; after
  it the rounded weights), the proof data of the pipeline, the body's obligation at every point, and the run of the whole program
  (`run_main`).
-/
module

public import proofs.«01_k».proof.Proof.Run4A
public import Idealize.ShloMosaic.Lib.Claim
public import Idealize.ShloMosaic.Lib.Pipeline.Value

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen
open Cert.Staging

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The scratch before point `n`: at anything before the first; after it the rounded weights. -/
def held (c : Dev nD) : ℕ → sProp 𝕄
  | 0 => iprop(∃ d, owns (c : Thread nD τ) scM0_0 fullShare d)
  | _ + 1 => owns (c : Thread nD τ) scM0_0 fullShare (woutB c (V m c main_arg2))

/-- The rest of the invariant: the ring, the generator register, the copies' semaphores at zero, the weights in HBM. -/
def others (c : Dev nD) : sProp 𝕄 :=
  iprop((∃ d, owns (c : Thread nD τ) scM0_1 fullShare d) ∗ (∃ r, prngReg c r)
    ∗ semVal ((c : Thread nD τ), SemLoc.dma 11) 0 ∗ semVal ((c : Thread nD τ), SemLoc.dma 12) 0 ∗ semVal ((c : Thread nD τ), SemLoc.dma 13) 0
    ∗ hbPt0 c hbM0_0 (V m c main_arg2))

/-- The output block of point `t`. -/
def outAt (c : Dev nD) (t : Fin cfg0.N) : Vec F S1024x1024 .f32 :=
  outBlk (iblk m c 0 t) (iblk m c 1 t) (iblk m c 2 t) (iblk m c 3 t) (iblk m c 4 t) (woutB c (V m c main_arg2))

/-- The proof data: inputs keep their blocks, the output window gets `outAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := iprop(held m c t.val ∗ others m c)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point, by the two triples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5,
    show (dats m 0 c).Φ t.castSucc = iprop(held m c t.val ∗ others m c) from rfl,
    show (dats m 0 c).Φ t.succ = iprop(held m c (t.val + 1) ∗ others m c) from rfl]
  unfold Dat.owesAt Pipeline.owesWithin others
  rw [show (dats m 0 c).owed t.castSucc = 0 from rfl, show (dats m 0 c).owed t.succ = 0 from rfl]
  have hN : t.val < 16 := lt_of_lt_of_eq t.isLt (show cfg0.N = 16 from N_0)
  rw [show held m c (t.val + 1) = iprop(owns (c : Thread nD τ) scM0_0 fullShare (woutB c (V m c main_arg2))) from rfl]
  unfold outAt
  by_cases h0 : t.val % 16 = 0
  · rw [show held m c t.val = held m c 0 from by rw [show t.val = 0 from by omega]]
    rw [show held m c 0 = iprop(∃ d, owns (c : Thread nD τ) scM0_0 fullShare d) from rfl]
    iintro ⟨⟨HS0, HS1, Hg, Hq0, Hq1, Hq2, Hh0⟩, ⟨%W, -, HW⟩, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((hcond0_0 t).mpr h0) (iblk m c 0 t) (iblk m c 1 t) (iblk m c 2 t) (iblk m c 3 t) (iblk m c 4 t) (V m c main_arg2) W _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [Hq0]; · iexact Hq0
    isplitl [Hq1]; · iexact Hq1
    isplitl [Hq2]; · iexact Hq2
    isplitl [Hh0]; · iexact Hh0
    isplitl [HW]; · iexact HW
    iintro ⟨H0, H1, H2, H3, H4, H5, HS0, HS1, Hq0, Hq1, Hq2, Hh0, ⟨%W', HW'⟩⟩
    isplitl [HS0 HS1 Hg Hq0 Hq1 Hq2 Hh0]
    · isplitl [HS0]; · iexact HS0
      isplitl [HS1]; · iexact HS1
      isplitl [Hg]; · iexact Hg
      isplitl [Hq0]; · iexact Hq0
      isplitl [Hq1]; · iexact Hq1
      isplitl [Hq2]; · iexact Hq2
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · obtain ⟨n, hn⟩ : ∃ n, t.val = n + 1 := ⟨t.val - 1, by omega⟩
    rw [show held m c t.val = held m c (n + 1) from by rw [hn]]
    rw [show held m c (n + 1) = iprop(owns (c : Thread nD τ) scM0_0 fullShare (woutB c (V m c main_arg2))) from rfl]
    iintro ⟨⟨HS0, HS1, Hg, Hq0, Hq1, Hq2, Hh0⟩, ⟨%W, -, HW⟩, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((hcond0_0 t).mp h)) (iblk m c 0 t) (iblk m c 1 t) (iblk m c 2 t) (iblk m c 3 t) (iblk m c 4 t) (woutB c (V m c main_arg2)) (V m c main_arg2) W _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [Hq0]; · iexact Hq0
    isplitl [Hq1]; · iexact Hq1
    isplitl [Hq2]; · iexact Hq2
    isplitl [Hh0]; · iexact Hh0
    isplitl [HW]; · iexact HW
    iintro ⟨H0, H1, H2, H3, H4, H5, HS0, HS1, Hq0, Hq1, Hq2, Hh0, ⟨%W', HW'⟩⟩
    isplitl [HS0 HS1 Hg Hq0 Hq1 Hq2 Hh0]
    · isplitl [HS0]; · iexact HS0
      isplitl [HS1]; · iexact HS1
      isplitl [Hg]; · iexact Hg
      isplitl [Hq0]; · iexact Hq0
      isplitl [Hq1]; · iexact Hq1
      isplitl [Hq2]; · iexact Hq2
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point, -/
theorem Phi_in (c : Dev nD) : (Pipeline.ΦD osem0 spec0 H0 (V m) c : sProp 𝕄) ⊢ (dats m 0 c).Φ 0 := by
  rw [PhiD0_eq, show (dats m 0 c).Φ 0 = iprop(held m c 0 ∗ others m c) from rfl]
  unfold held others
  iintro ⟨⟨HS0, HS1⟩, Hg, ⟨Hq0, Hq1, Hq2⟩, Hh0⟩
  isplitl [HS0]; · iexact HS0
  isplitl [HS1]; · iexact HS1
  isplitl [Hg]; · iexact Hg
  isplitl [Hq0]; · iexact Hq0
  isplitl [Hq1]; · iexact Hq1
  isplitl [Hq2]; · iexact Hq2
  iexact Hh0

/-- and takes it back after the last, the scratch at whatever it holds. -/
theorem Phi_out (c : Dev nD) : (dats m 0 c).Φ (Fin.last cfg0.N) ⊢ (Pipeline.ΦD osem0 spec0 H0 (V m) c : sProp 𝕄) := by
  rw [PhiD0_eq, show (dats m 0 c).Φ (Fin.last cfg0.N) = iprop(held m c (15 + 1) ∗ others m c) from rfl]
  unfold held others
  iintro ⟨HS0, HS1, Hg, Hq0, Hq1, Hq2, Hh0⟩
  isplitl [HS0 HS1]
  · isplitl [HS0]; · iexists _; iexact HS0
    iexact HS1
  isplitl [Hg]; · iexact Hg
  isplitl [Hq0 Hq1 Hq2]
  · isplitl [Hq0]; · iexact Hq0
    isplitl [Hq1]; · iexact Hq1
    iexact Hq2
  iexact Hh0

set_option backward.isDefEq.respectTransparency.types false in
/-- The run: every array at what the points wrote, every other buffer as the region found it, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- What the final state keeps: the six arguments. -/
def kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem kept_of {r : PUnit × MemSt nD τ sig (Elt F)} (h : Pipeline.FramePost cfgs (dats m) 0 (V m) r) (c : Dev nD) : kept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c))),
    ((h c).1 4).trans (((dats m 0 c).arrAt_in 4 rfl _).trans ((A_eq m c 4).trans (V_main_arg5 m c)))⟩

/-- The frame claim. -/
theorem frame_run : θ_run defs (onTc (τ := τ) (main (F := F))) ⟨m, fun _ => 0, ρ⟩ (fun r => (∀ c : Dev nD, kept m r c) ∧ r.2.sem = fun _ => 0) :=
  (θ_run defs _ _).mono (fun _ h => ⟨fun c => kept_of m h.1 c, h.2⟩) (run_main m ρ)

/-- The run with the result array named. -/
theorem value_run : θ_run defs (onTc (τ := τ) (main (F := F))) ⟨m, fun _ => 0, ρ⟩
    (fun r => ∀ c : Dev nD, r.2.mem ((c.tc : Thread nD τ).loc main_v3) = (dats m 0 c).arrAt 5 cfg0.N ∧ kept m r c) :=
  (θ_run defs _ _).mono (fun _ h c => ⟨(h.1 c).1 5, kept_of m h.1 c⟩) (run_main m ρ)

end Cert.Kernel4Ideal.Hand

end
-- ==== Proof.RowSpec4.lean ====
/-
  ONE ROW OF A PROJECTION WITH ITS RESIDUAL, over the extended reals: a row and another row's product with a matrix added.
-/
module

public import proofs.«01_k».proof.Proof.RowSpec2

@[expose] public section

set_option maxRecDepth 16384

noncomputable section

namespace Cert.RowSpec

open Idealize.ShloMosaic

/-- Row `x` with the projection of row `a` added. -/
def resid (x a : Fin 1024 → EReal) (w : Fin 1024 → Fin 1024 → EReal) (j : Fin 1024) : EReal := x j + ∑ k, a k * w k j

theorem IsReal.resid {x a : Fin 1024 → EReal} {w : Fin 1024 → Fin 1024 → EReal} (hx : ∀ k, IsReal (x k)) (ha : ∀ k, IsReal (a k))
    (hw : ∀ k q, IsReal (w k q)) (j : Fin 1024) : IsReal (RowSpec.resid x a w j) := (hx j).add (IsReal.sum _ _ fun k => (ha k).mul (hw k j))

end Cert.RowSpec

end
-- ==== Proof.TileValue4.lean ====
/-
  ONE TILE OF THE SECOND MEMORY-ATTENTION CALL OVER THE EXTENDED REALS, read at an index. After the projection it is the attention
  that the first layer's call applies, so its value at a row is already known.
-/
module

public import proofs.«01_k».proof.Proof.Blocks4
public import proofs.«01_k».proof.Proof.RowSpec4
public import proofs.«01_k».proof.Proof.TileValue2

@[expose] public section

set_option maxRecDepth 16384

noncomputable section

namespace Cert.Kernel4Ideal.Hand

open Idealize.ShloMosaic Idealize.ShloMosaic.TcCoe
open Cert.Kernel4Ideal.Gen

/-- The tile is the first layer's attention over the projected rows. -/
theorem tileV_eq (v : Vec Ideal S512x1024 .f32) (a : Vec Ideal S512x1024 .bf16) (w : Vec Ideal S1024x1024 .bf16) (g : Vec Ideal S1x1x1024 .f32) (qk vo : Vec Ideal S1x1x1024x1024 .bf16) :
    tileV (F := Ideal) v a w g qk vo = Cert.Kernel2Ideal.Hand.attV (F := Ideal) (k0_pay14 v a w) (Cert.Kernel2Ideal.Gen.k0_pay34 g) qk vo := rfl

theorem pay14_at (v : Vec Ideal S512x1024 .f32) (a : Vec Ideal S512x1024 .bf16) (w : Vec Ideal S1024x1024 .bf16) (r : Fin 512) (j : Fin 1024) :
    k0_pay14 (F := Ideal) v a w (ix2 r j) = RowSpec.resid (fun k => v (ix2 r k)) (fun k => a (ix2 r k)) (fun k q => w (ix2 k q)) j := by
  unfold RowSpec.resid
  pointwise [k0_pay14]

/-- The tile at an index. -/
theorem tileV_at (v : Vec Ideal S512x1024 .f32) (a : Vec Ideal S512x1024 .bf16) (w : Vec Ideal S1024x1024 .bf16) (g : Vec Ideal S1x1x1024 .f32) (qk vo : Vec Ideal S1x1x1024x1024 .bf16)
    (r : Fin 512) (j : Fin 1024) :
    tileV (F := Ideal) v a w g qk vo (ix2 r j)
      = RowSpec.attend RowSpec.probR (RowSpec.resid (fun k => v (ix2 r k)) (fun k => a (ix2 r k)) (fun k q => w (ix2 k q))) (fun k => g (ix3 0 0 k))
          (fun k p => qk (ix4 0 0 k p)) (fun p k => vo (ix4 0 0 p k)) j := by
  rw [tileV_eq]
  refine (Cert.Kernel2Ideal.Hand.attV_at _ _ _ _ r j).trans ?_
  simp only [Cert.Kernel2Ideal.Hand.pay34_at]
  exact congrArg (fun y => RowSpec.attend RowSpec.probR y _ _ _ j) (funext fun k => pay14_at v a w r k)

end Cert.Kernel4Ideal.Hand

end
-- ==== Proof.ArrayValue4.lean ====
/-
  THE FOURTH KERNEL'S RESULT ARRAY. The sixteen blocks that the grid writes tile the array of 16384 rows: four points to a sequence.
  Row `r` of a sequence is the projection of the MoBA attention's row added to the input's, then the second layer's memory
  attention on it.
-/
module

public import proofs.«01_k».proof.Proof.Launch4
public import proofs.«01_k».proof.Proof.TileValue4

@[expose] public section

set_option maxRecDepth 16384

noncomputable section

namespace Cert.Kernel4Ideal.Hand

open Idealize.ShloMosaic Idealize.ShloMosaic.TcCoe
open Idealize.ShloMosaic.Pipeline (Dat)
open Cert.Kernel4Ideal.Gen

variable (m : (ℓ : Loc nD τ sig) → Buf (Elt Ideal) ℓ)

/-- The projection's weights, as the body's copies see them, entry by entry. -/
theorem woutB_at (c : Dev nD) (fh : HbBuf0 (F := Ideal) c hbM0_0) (k : Fin 1024) (q : Fin 1024) :
    woutB c fh (ix2 k q) = (show FVec Ideal S1x1024x1024 .f32 from fh) (ix3 0 k q) := by
  unfold woutB woutF
  refine (congrFun (Memref.read_squeeze_slice (s' := S1024x1024) hbM0_0 (Rect.unit (s := S1x1024x1024) ![0, 0, 0] S1x1024x1024.size inb_S1x1024x1024_S1x1024x1024_0_0_0) (fun _ => rfl)
    squeezes_S1x1024x1024_S1024x1024 (by decide) fh) (ix2 k q)).trans ?_
  refine (shapeCast_dropUnit_apply ![1024, 1024] _ _ (ix2 k q)).trans ?_
  refine congrArg fh (funext fun a => Fin.ext ?_)
  match a with
  | ⟨0, _⟩ => rfl
  | ⟨1, _⟩ => show 0 + 1 * k.val = k.val; omega
  | ⟨2, _⟩ => show 0 + 1 * q.val = q.val; omega

/-- The rows as the region finds them: laid end to end. -/
theorem V_v0 (c : Dev nD) : V m c main_v0 = shapeCast S16384x1024 (show FVec Ideal S4x4096x1024 .f32 from m ((c : Thread nD τ).loc main_arg0)) shapeCasts_S4x4096x1024_S16384x1024 := by
  unfold V hostOps0; after_results; rfl
theorem V_v1 (c : Dev nD) : V m c main_v1 = shapeCast S16384x1024 (show FVec Ideal S4x4096x1024 .bf16 from m ((c : Thread nD τ).loc main_arg1)) shapeCasts_S4x4096x1024_S16384x1024 := by
  unfold V hostOps0; after_results; rfl
theorem V_v2 (c : Dev nD) : V m c main_v2 = shapeCast S2x1x1024 (show FVec Ideal S2x1024 .f32 from m ((c : Thread nD τ).loc main_arg3)) shapeCasts_S2x1024_S2x1x1024 := by
  unfold V hostOps0; after_results; rfl

/-- Rows laid end to end, at an index. -/
theorem flat_at {φ : FTy} (x : FVec Ideal S4x4096x1024 φ) (r : Fin 16384) (k : Fin 1024) :
    shapeCast S16384x1024 x shapeCasts_S4x4096x1024_S16384x1024 (ix2 r k)
      = x (ix3 ⟨r.val / 4096, by omega⟩ ⟨r.val % 4096, by omega⟩ k) := by
  pointwise

theorem gainCast_at (x : FVec Ideal S2x1024 .f32) (k : Fin 1024) :
    shapeCast S2x1x1024 x shapeCasts_S2x1024_S2x1x1024 (ix3 1 0 k) = x (ix2 1 k) := by
  pointwise

/-- A point's sequence. -/
def seqOf (t : Fin cfg0.N) : Fin 4 := ⟨t.val / 4, by have := lt_of_lt_of_eq t.isLt N_0; omega⟩

/-- The blocks' entries. -/
theorem iblk0_at (c : Dev nD) (t : Fin cfg0.N) (r : Fin 1024) (k : Fin 1024) (s : Fin 4096) (hs : s.val = 1024 * (t.val % 4) + r.val) :
    (show FVec Ideal S1024x1024 .f32 from iblk m c 0 t) (ix2 r k) = (show FVec Ideal S4x4096x1024 .f32 from m ((c : Thread nD τ).loc main_arg0)) (ix3 (seqOf t) s k) := by
  have e : (grid0.coords t 0).val = t.val / 1 % 16 := Pipeline.Grid.coords_val t 0 (by decide) rfl
  have ht : t.val < 16 := lt_of_lt_of_eq t.isLt N_0
  have h1 : (show FVec Ideal S1024x1024 .f32 from iblk m c 0 t) (ix2 r k) = (show FVec Ideal S16384x1024 .f32 from V m c main_v0) (ix2 ⟨1024 * t.val + r.val, by omega⟩ k) := by
    refine congrArg (V m c main_v0) (funext fun a => Fin.ext ?_)
    match a with
    | ⟨0, _⟩ =>
      show (BitVec.ofNat 32 (grid0.coords t 0).val).toNat * 1024 + 1 * r.val = 1024 * t.val + r.val
      rw [BitVec.toNat_ofNat, e]; omega
    | ⟨1, _⟩ => show 0 * 1024 + 1 * k.val = k.val; omega
  rw [h1, V_v0]
  refine (flat_at _ _ k).trans ?_
  exact congrArg₂ (fun b s => (show FVec Ideal S4x4096x1024 .f32 from m ((c : Thread nD τ).loc main_arg0)) (ix3 b s k))
    (Fin.ext (by show (1024 * t.val + r.val) / 4096 = t.val / 4; omega)) (Fin.ext (by show (1024 * t.val + r.val) % 4096 = s.val; omega))
theorem iblk1_at (c : Dev nD) (t : Fin cfg0.N) (r : Fin 1024) (k : Fin 1024) (s : Fin 4096) (hs : s.val = 1024 * (t.val % 4) + r.val) :
    (show FVec Ideal S1024x1024 .bf16 from iblk m c 1 t) (ix2 r k) = (show FVec Ideal S4x4096x1024 .bf16 from m ((c : Thread nD τ).loc main_arg1)) (ix3 (seqOf t) s k) := by
  have e : (grid0.coords t 0).val = t.val / 1 % 16 := Pipeline.Grid.coords_val t 0 (by decide) rfl
  have ht : t.val < 16 := lt_of_lt_of_eq t.isLt N_0
  have h1 : (show FVec Ideal S1024x1024 .bf16 from iblk m c 1 t) (ix2 r k) = (show FVec Ideal S16384x1024 .bf16 from V m c main_v1) (ix2 ⟨1024 * t.val + r.val, by omega⟩ k) := by
    refine congrArg (V m c main_v1) (funext fun a => Fin.ext ?_)
    match a with
    | ⟨0, _⟩ =>
      show (BitVec.ofNat 32 (grid0.coords t 0).val).toNat * 1024 + 1 * r.val = 1024 * t.val + r.val
      rw [BitVec.toNat_ofNat, e]; omega
    | ⟨1, _⟩ => show 0 * 1024 + 1 * k.val = k.val; omega
  rw [h1, V_v1]
  refine (flat_at _ _ k).trans ?_
  exact congrArg₂ (fun b s => (show FVec Ideal S4x4096x1024 .bf16 from m ((c : Thread nD τ).loc main_arg1)) (ix3 b s k))
    (Fin.ext (by show (1024 * t.val + r.val) / 4096 = t.val / 4; omega)) (Fin.ext (by show (1024 * t.val + r.val) % 4096 = s.val; omega))
theorem iblk2_at (c : Dev nD) (t : Fin cfg0.N) (k : Fin 1024) :
    (show FVec Ideal S1x1x1024 .f32 from iblk m c 2 t) (ix3 0 0 k) = (show FVec Ideal S2x1024 .f32 from m ((c : Thread nD τ).loc main_arg3)) (ix2 1 k) := by
  refine (show _ = (show FVec Ideal S2x1x1024 .f32 from V m c main_v2) (ix3 1 0 k) from congrArg (V m c main_v2) (funext fun a => Fin.ext ?_)).trans ?_
  · match a with
    | ⟨0, _⟩ => rfl
    | ⟨1, _⟩ => rfl
    | ⟨2, _⟩ => show 0 * 1024 + 1 * k.val = k.val; omega
  · rw [V_v2]; exact gainCast_at _ k

/-- The prepared products' block is the sequence's. -/
theorem bq (t : Fin cfg0.N) : cc0_transform_4 (grid0.coords t) 1 = t.val / 4 := by
  have ht : t.val < 16 := lt_of_lt_of_eq t.isLt N_0
  have e0 : (grid0.coords t 0).val = t.val / 1 % 16 := Pipeline.Grid.coords_val t 0 (by decide) rfl
  have e1 : t.val / 1 % 16 = t.val := by omega
  rw [e1] at e0
  simp only [cc0_transform_4, e0]
  revert ht
  generalize t.val = n
  revert n
  decide
theorem bv (t : Fin cfg0.N) : cc0_transform_5 (grid0.coords t) 1 = t.val / 4 := bq t

theorem iblk3_at (c : Dev nD) (t : Fin cfg0.N) (k p : Fin 1024) :
    (show FVec Ideal S1x1x1024x1024 .bf16 from iblk m c 3 t) (ix4 0 0 k p) = (show FVec Ideal S2x4x1024x1024 .bf16 from m ((c : Thread nD τ).loc main_arg4)) (ix4 1 (seqOf t) k p) := by
  refine (show _ = (show FVec Ideal S2x4x1024x1024 .bf16 from V m c main_arg4) (ix4 1 (seqOf t) k p) from congrArg (V m c main_arg4) (funext fun a => Fin.ext ?_)).trans ?_
  · match a with
    | ⟨0, _⟩ => rfl
    | ⟨1, _⟩ => show cc0_transform_4 (grid0.coords t) 1 * 1 + 1 * 0 = t.val / 4; rw [bq]; omega
    | ⟨2, _⟩ => show 0 * 1024 + 1 * k.val = k.val; omega
    | ⟨3, _⟩ => show 0 * 1024 + 1 * p.val = p.val; omega
  · rw [V_main_arg4]
theorem iblk4_at (c : Dev nD) (t : Fin cfg0.N) (k p : Fin 1024) :
    (show FVec Ideal S1x1x1024x1024 .bf16 from iblk m c 4 t) (ix4 0 0 k p) = (show FVec Ideal S2x4x1024x1024 .bf16 from m ((c : Thread nD τ).loc main_arg5)) (ix4 1 (seqOf t) k p) := by
  refine (show _ = (show FVec Ideal S2x4x1024x1024 .bf16 from V m c main_arg5) (ix4 1 (seqOf t) k p) from congrArg (V m c main_arg5) (funext fun a => Fin.ext ?_)).trans ?_
  · match a with
    | ⟨0, _⟩ => rfl
    | ⟨1, _⟩ => show cc0_transform_5 (grid0.coords t) 1 * 1 + 1 * 0 = t.val / 4; rw [bv]; omega
    | ⟨2, _⟩ => show 0 * 1024 + 1 * k.val = k.val; omega
    | ⟨3, _⟩ => show 0 * 1024 + 1 * p.val = p.val; omega
  · rw [V_main_arg5]

/-- Row `r` of sequence `b` of the result, for a way `pr` of making the probabilities: the projection, then the attention. -/
def rowOut (pr : (Fin 1024 → EReal) → Fin 4 → Fin 256 → EReal) (c : Dev nD) (b : Fin 4) (r : Fin 4096) : Fin 1024 → EReal :=
  RowSpec.attend pr
    (RowSpec.resid (fun k => (show FVec Ideal S4x4096x1024 .f32 from m ((c : Thread nD τ).loc main_arg0)) (ix3 b r k))
      (fun k => (show FVec Ideal S4x4096x1024 .bf16 from m ((c : Thread nD τ).loc main_arg1)) (ix3 b r k))
      (fun k q => (show FVec Ideal S1x1024x1024 .f32 from m ((c : Thread nD τ).loc main_arg2)) (ix3 0 k q)))
    (fun k => (show FVec Ideal S2x1024 .f32 from m ((c : Thread nD τ).loc main_arg3)) (ix2 1 k))
    (fun k p => (show FVec Ideal S2x4x1024x1024 .bf16 from m ((c : Thread nD τ).loc main_arg4)) (ix4 1 b k p))
    (fun p k => (show FVec Ideal S2x4x1024x1024 .bf16 from m ((c : Thread nD τ).loc main_arg5)) (ix4 1 b p k))

/-- The whole result, batch and row kept apart, -/
def batchOut (pr : (Fin 1024 → EReal) → Fin 4 → Fin 256 → EReal) (c : Dev nD) : FVec Ideal S4x4096x1024 .f32 := fun i => rowOut m pr c (i 0) (i 1) (i 2)

/-- and laid end to end. -/
def arrOut (pr : (Fin 1024 → EReal) → Fin 4 → Fin 256 → EReal) (c : Dev nD) : FVec Ideal S16384x1024 .f32 := shapeCast S16384x1024 (batchOut m pr c) shapeCasts_S4x4096x1024_S16384x1024

/-- Tile `k` of a block at a row. -/
theorem rowsK_at {e : EltTy} (x : Vec Ideal S1024x1024 e) (k : Fin 2) (r : Fin 512) (q : Fin 1024) :
    rowsK (F := Ideal) x k (ix2 r q) = x (ix2 ⟨512 * k.val + r.val, by omega⟩ q) :=
  congrArg x (funext fun a => Fin.ext (by match a with | ⟨0, _⟩ => rfl | ⟨1, _⟩ => rfl))

/-- A row's value from equal arguments. -/
theorem row_congr {pr : (Fin 1024 → EReal) → Fin 4 → Fin 256 → EReal} {x x' a a' : Fin 1024 → EReal} {w w' : Fin 1024 → Fin 1024 → EReal} {g g' : Fin 1024 → EReal}
    {qk qk' vo vo' : Fin 1024 → Fin 1024 → EReal} (hx : x = x') (ha : a = a') (hw : w = w') (hg : g = g') (hq : qk = qk') (hv : vo = vo') :
    RowSpec.attend pr (RowSpec.resid x a w) g qk vo = RowSpec.attend pr (RowSpec.resid x' a' w') g' qk' vo' := by
  subst hx ha hw hg hq hv; rfl

/-- The block that point `t` writes, at an index. -/
theorem outAt_at (c : Dev nD) (t : Fin cfg0.N) (r : Fin 1024) (j : Fin 1024) (r' : Fin 16384) (hr : r'.val = 1024 * t.val + r.val) :
    (show FVec Ideal S1024x1024 .f32 from outAt m c t) (ix2 r j) = arrOut m RowSpec.probR c (ix2 r' j) := by
  have ht : t.val < 16 := lt_of_lt_of_eq t.isLt N_0
  have hk : r.val / 512 < 2 := by omega
  have hno : tileNo (ix2 r j) = ⟨r.val / 512, hk⟩ := rfl
  have hin : inTile (ix2 r j) = ix2 ⟨r.val % 512, by omega⟩ j := funext fun a => by match a with | ⟨0, _⟩ => rfl | ⟨1, _⟩ => rfl
  show tileV (F := Ideal) (rowsK (iblk m c 0 t) (tileNo (ix2 r j))) (rowsK (iblk m c 1 t) (tileNo (ix2 r j))) (woutB c (V m c main_arg2)) (iblk m c 2 t) (iblk m c 3 t) (iblk m c 4 t)
    (inTile (ix2 r j)) = _
  rw [hno, hin]
  have hs : 1024 * (t.val % 4) + (512 * (r.val / 512) + r.val % 512) < 4096 := by omega
  refine (tileV_at _ _ _ _ _ _ ⟨r.val % 512, by omega⟩ j).trans ?_
  unfold arrOut
  rw [flat_at]
  refine congrFun (?_ : RowSpec.attend _ _ _ _ _ = rowOut m _ c _ _) j
  have hb : (⟨r'.val / 4096, by omega⟩ : Fin 4) = seqOf t := Fin.ext (by show r'.val / 4096 = t.val / 4; omega)
  have hs' : (⟨r'.val % 4096, by omega⟩ : Fin 4096) = ⟨1024 * (t.val % 4) + (512 * (r.val / 512) + r.val % 512), hs⟩ :=
    Fin.ext (by show r'.val % 4096 = 1024 * (t.val % 4) + (512 * (r.val / 512) + r.val % 512); omega)
  refine Eq.trans ?_ (congrArg₂ (rowOut m RowSpec.probR c) hb hs').symm
  exact row_congr (funext fun k => (rowsK_at _ _ _ k).trans (iblk0_at m c t _ k _ rfl)) (funext fun k => (rowsK_at _ _ _ k).trans (iblk1_at m c t _ k _ rfl))
    (funext fun k => funext fun q => by rw [V_main_arg2]; exact woutB_at c _ k q) (funext fun k => iblk2_at m c t k)
    (funext fun k => funext fun p => iblk3_at m c t k p) (funext fun p => funext fun k => iblk4_at m c t p k)

/-- What point `t` writes back is block `t` of the array. -/
theorem flushed_eq (c : Dev nD) (t : Fin cfg0.N) :
    (dats m 0 c).flushed 5 t = ((cfg0.win 5).blk t).view.read (Elt Ideal) (arrOut m RowSpec.probR c) := by
  have e : (grid0.coords t 0).val = t.val / 1 % 16 := Pipeline.Grid.coords_val t 0 (by decide) rfl
  have ht : t.val < 16 := lt_of_lt_of_eq t.isLt N_0
  show (cfg0.win 5).cut (grid0.coords t) ((dats m 0 c).after 5 t) = _
  rw [after0_5]
  funext y
  have h0 : (y 0).val < 1024 := (y 0).isLt
  refine (show _ = (show FVec Ideal S1024x1024 .f32 from outAt m c t) (ix2 ⟨(y 0).val, h0⟩ ⟨(y 1).val, (y 1).isLt⟩) from
    congrArg (outAt m c t) (funext fun a => Fin.ext (by match a with | ⟨0, _⟩ => rfl | ⟨1, _⟩ => rfl))).trans ?_
  refine (outAt_at m c t _ _ ⟨1024 * t.val + (y 0).val, by omega⟩ rfl).trans ?_
  refine congrArg (arrOut m RowSpec.probR c) (funext fun a => Fin.ext ?_)
  match a with
  | ⟨0, _⟩ =>
    show 1024 * t.val + (y 0).val = (BitVec.ofNat 32 (grid0.coords t 0).val).toNat * 1024 + 1 * (y 0).val
    rw [BitVec.toNat_ofNat, e]; omega
  | ⟨1, _⟩ => show (y 1).val = 0 * 1024 + 1 * (y 1).val; omega

/-- An index of the array lies in the block of the point its row names. -/
theorem covered (i : S16384x1024.Idx) : ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 16 := N_0
  refine ⟨⟨(i 0).val / 1024, by omega⟩, flush0_5 _, ?_⟩
  generalize ht : (⟨(i 0).val / 1024, _⟩ : Fin cfg0.N) = t
  have hv : t.val = (i 0).val / 1024 := by rw [← ht]
  have e : (grid0.coords t 0).val = t.val / 1 % 16 := Pipeline.Grid.coords_val t 0 (by decide) rfl
  show i ∈ ((View.whole main_v3).slice (win0_5.rect t)).set
  rw [View.set_slice_whole, Rect.mem_set_unit]
  intro a
  match a with
  | ⟨0, _⟩ =>
    show (BitVec.ofNat 32 (grid0.coords t 0).val).toNat * 1024 ≤ (i 0 : Nat) ∧ (i 0 : Nat) < (BitVec.ofNat 32 (grid0.coords t 0).val).toNat * 1024 + 1024
    rw [BitVec.toNat_ofNat, e]; omega
  | ⟨1, _⟩ => show 0 * 1024 ≤ (i 1 : Nat) ∧ (i 1 : Nat) < 0 * 1024 + 1024; omega

/-- The result array after the last point. -/
theorem final (c : Dev nD) : (dats m 0 c).arrAt 5 cfg0.N = arrOut m RowSpec.probR c :=
  (dats m 0 c).arrAt_eq_of_cover 5 (arrOut m RowSpec.probR c) (fun t _ => flushed_eq m c t) covered

end Cert.Kernel4Ideal.Hand

end
-- ==== Proof.Finite4.lean ====
/-
  WHAT THE FOURTH KERNEL'S PRECONDITION SAYS: every number that the scores are computed from is real; and so the two ways of making
  the probabilities give one result.
-/
module

public import proofs.«01_k».proof.Defs
public import proofs.«01_k».proof.Proof.ArrayValue4

@[expose] public section

noncomputable section

namespace Cert.Kernel4Ideal.Hand

open Idealize.ShloMosaic Idealize.ShloMosaic.TcCoe
open Cert.Kernel4Ideal.Gen

/-- The side conditions of the precondition's own operations. -/
theorem preFacts : Cert.Pre_finite4.Facts where
  bcast_S_S4x4096x1024 := by decide
  bitsLt_bf16_f32 := by decide
  bcast_S_S1x1024x1024 := by decide
  bcast_S_S2x1024 := by decide
  bcast_S_S2x4x1024x1024 := by decide

/-- An array of ones for "absolute value below the infinite one" is an array of real numbers. -/
theorem real_of_mask {s : Shape} (x : FVec Ideal s .f32) (hb : Cert.Pre_finite4.S_.BroadcastsInDim s (![] : Fin 0 → Fin s.rank))
    (h : cmpf .olt (Host.absf x) (broadcastInDim s ![] hb (constant (F := Ideal) Cert.Pre_finite4.S_ .f32 0x7F800000#32)) = fun _ => 1#1) (i : s.Idx) :
    RowSpec.IsReal (x i) := RowSpec.IsReal.of_abs_lt (congrFun h i)

variable (m : (ℓ : Loc nD τ sig) → Buf (Elt Ideal) ℓ)

/-- Under the precondition every score is real, so both ways of making the probabilities give the same row, -/
theorem rowOut_eq (hm : Cert.Pre_Kernel4Ideal_finite4 (hPre_finite4 := preFacts) m) (c : Dev nD) (b : Fin 4) (r : Fin 4096) :
    rowOut m RowSpec.probR c b r = rowOut m RowSpec.prob c b r := by
  obtain ⟨h0, h1, h2, h3, h4⟩ := hm c
  have hs : ∀ p, RowSpec.IsReal (RowSpec.scores
      (RowSpec.resid (fun k => (show FVec Ideal S4x4096x1024 .f32 from m ((c : Thread nD τ).loc main_arg0)) (ix3 b r k))
        (fun k => (show FVec Ideal S4x4096x1024 .bf16 from m ((c : Thread nD τ).loc main_arg1)) (ix3 b r k))
        (fun k q => (show FVec Ideal S1x1024x1024 .f32 from m ((c : Thread nD τ).loc main_arg2)) (ix3 0 k q)))
      (fun k => (show FVec Ideal S2x1024 .f32 from m ((c : Thread nD τ).loc main_arg3)) (ix2 1 k))
      (fun k p => (show FVec Ideal S2x4x1024x1024 .bf16 from m ((c : Thread nD τ).loc main_arg4)) (ix4 1 b k p)) p) :=
    RowSpec.IsReal.scores
      (RowSpec.IsReal.resid (fun k => real_of_mask _ _ h0 (ix3 b r k)) (fun k => real_of_mask _ _ h1 (ix3 b r k)) (fun k q => real_of_mask _ _ h2 (ix3 0 k q)))
      (fun k => real_of_mask _ _ h3 (ix2 1 k)) (fun k p => real_of_mask _ _ h4 (ix4 1 b k p))
  unfold rowOut RowSpec.attend
  rw [RowSpec.probR_eq hs]

/-- and the same array. -/
theorem arrOut_eq (hm : Cert.Pre_Kernel4Ideal_finite4 (hPre_finite4 := preFacts) m) (c : Dev nD) : arrOut m RowSpec.probR c = arrOut m RowSpec.prob c :=
  congrArg (fun x => shapeCast S16384x1024 x shapeCasts_S4x4096x1024_S16384x1024) (funext fun i => congrFun (rowOut_eq m hm c (i 0) (i 1)) (i 2))

end Cert.Kernel4Ideal.Hand

end
-- ==== Proof.RefValue4.lean ====
/-
  THE FOURTH REFERENCE'S RESULT, ROW BY ROW: the projection with the residual, then the second layer's memory attention, whose
  stages are the first layer's on the second layer's slices.
-/
module

public import proofs.«01_k».proof.Proof.Gen.Reference4Ideal.Run
public import proofs.«01_k».proof.Proof.RefValue2
public import proofs.«01_k».proof.Proof.RowSpec4

@[expose] public section

set_option maxRecDepth 16384

noncomputable section

namespace Cert.Reference4Ideal.Rows

open Cert.Reference4Ideal Cert.Reference4Ideal.Gen Idealize.ShloMosaic Idealize.ShloMosaic.TcCoe Idealize.SL.Sem
open Cert.Reference2Ideal.Rows (normA scoresA topA floorA lessA probA valA normA_at scoresA_at topA_at floorA_at lessA_at probA_at valA_at max_neg_inf)

/-- The block attention's rows projected and added to the input. -/
def residA (x : FVec Ideal S4x4096x1024 .f32) (a : FVec Ideal S4x4096x1024 .bf16) (w : FVec Ideal S1x1024x1024 .f32) : FVec Ideal S4x4096x1024 .f32 :=
  addf x (Host.dotGeneral dot_S4x4096x1024_S1024x1024_S4x4096x1024_2_0_01_1_n_n none (extf .f32 a bitsLt_bf16_f32) (shapeCast _ w shapeCasts_S1x1024x1024_S1024x1024))

/-- Layer 1's row of stacked gains, and its prepared products. -/
def gain1 (g : FVec Ideal S2x1024 .f32) : FVec Ideal S1024 .f32 := shapeCast _ (extractStridedSlice S1x1024 ![1, 0] g slices_S2x1024_S1x1024_1_0) shapeCasts_S1x1024_S1024
def mem1 (w : FVec Ideal S2x4x1024x1024 .bf16) : FVec Ideal S4x1024x1024 .f32 :=
  extf .f32 (shapeCast _ (extractStridedSlice S1x4x1024x1024 ![1, 0, 0, 0] w slices_S2x4x1024x1024_S1x4x1024x1024_1_0_0_0) shapeCasts_S1x4x1024x1024_S4x1024x1024) bitsLt_bf16_f32

/-- The attention. -/
def attA (x : FVec Ideal S4x4096x1024 .f32) (g : FVec Ideal S2x1024 .f32) (qk vo : FVec Ideal S2x4x1024x1024 .bf16) : FVec Ideal S4x4096x1024 .f32 :=
  valA x (probA (lessA (scoresA (normA x (gain1 g)) (mem1 qk)) (floorA (topA (scoresA (normA x (gain1 g)) (mem1 qk)))))) (mem1 vo)

/-- The reference's result term, the two stages named. -/
theorem res_eq (m : (ℓ : Loc nD τ sig) → Buf (Elt Ideal) ℓ) (c : Dev nD) :
    Value.res_main_v41 (F := Ideal) m c
      = shapeCast S16384x1024 (attA (residA (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5))) shapeCasts_S4x4096x1024_S16384x1024 := rfl

theorem residA_at (x : FVec Ideal S4x4096x1024 .f32) (a : FVec Ideal S4x4096x1024 .bf16) (w : FVec Ideal S1x1024x1024 .f32) (b : Fin 4) (r : Fin 4096) (j : Fin 1024) :
    residA x a w (ix3 b r j) = RowSpec.resid (fun k => x (ix3 b r k)) (fun k => a (ix3 b r k)) (fun k q => w (ix3 0 k q)) j := by
  unfold RowSpec.resid
  pointwise [residA]
theorem gain1_at (g : FVec Ideal S2x1024 .f32) (j : Fin 1024) : gain1 g (ix1 j) = g (ix2 1 j) := by
  pointwise [gain1]
theorem mem1_at (w : FVec Ideal S2x4x1024x1024 .bf16) (b : Fin 4) (k q : Fin 1024) : mem1 w (ix3 b k q) = w (ix4 1 b k q) := by
  pointwise [mem1]

/-- The attention on a row. -/
theorem attA_at (x : FVec Ideal S4x4096x1024 .f32) (g : FVec Ideal S2x1024 .f32) (qk vo : FVec Ideal S2x4x1024x1024 .bf16) (b : Fin 4) (r : Fin 4096) (j : Fin 1024) :
    attA x g qk vo (ix3 b r j)
      = RowSpec.attend RowSpec.prob (fun k => x (ix3 b r k)) (fun k => g (ix2 1 k)) (fun k p => qk (ix4 1 b k p)) (fun p k => vo (ix4 1 b p k)) j := by
  have hs : ∀ (hd : Fin 4) (i : Fin 256), scoresA (normA x (gain1 g)) (mem1 qk) (ix4 b r hd i)
      = RowSpec.scores (fun k => x (ix3 b r k)) (fun k => g (ix2 1 k)) (fun k p => qk (ix4 1 b k p)) (RowSpec.col hd i) := fun hd i => by
    rw [scoresA_at]; simp only [normA_at, gain1_at, mem1_at]; rfl
  unfold attA RowSpec.attend
  rw [valA_at]
  refine congrArg (x (ix3 b r j) + ·) (Finset.sum_congr rfl fun p _ => congrArg₂ (· * ·) ?_ (mem1_at vo b p j))
  rw [probA_at]
  simp only [lessA_at, floorA_at, max_neg_inf, topA_at, hs]
  rfl

/-- Both on a row. -/
theorem rowA_at (x : FVec Ideal S4x4096x1024 .f32) (a : FVec Ideal S4x4096x1024 .bf16) (w : FVec Ideal S1x1024x1024 .f32)
    (g : FVec Ideal S2x1024 .f32) (qk vo : FVec Ideal S2x4x1024x1024 .bf16) (b : Fin 4) (r : Fin 4096) (j : Fin 1024) :
    attA (residA x a w) g qk vo (ix3 b r j)
      = RowSpec.attend RowSpec.prob (RowSpec.resid (fun k => x (ix3 b r k)) (fun k => a (ix3 b r k)) (fun k q => w (ix3 0 k q)))
          (fun k => g (ix2 1 k)) (fun k p => qk (ix4 1 b k p)) (fun p k => vo (ix4 1 b p k)) j := by
  rw [attA_at]
  exact congrArg (fun y => RowSpec.attend RowSpec.prob y _ _ _ j) (funext fun k => residA_at x a w b r k)

end Cert.Reference4Ideal.Rows

end
-- ==== Proof.lean ====
/- The claims of this certificate, assembled: the frames of each kernel at the bits and at the extended reals and of its
   reference, and the equality of their two results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.ArrayValue
public import proofs.«01_k».proof.Proof.RefValue
public import proofs.«01_k».proof.Proof.Finite2
public import proofs.«01_k».proof.Proof.RefValue2
public import proofs.«01_k».proof.Proof.ArrayMeans3
public import proofs.«01_k».proof.Proof.RefHeads3
public import proofs.«01_k».proof.Proof.Finite4
public import proofs.«01_k».proof.Proof.RefValue4
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The two programs have the same text, so the same body under the same label. -/
theorem defs₀_eq : Cert.Kernel.defs₀ (F := Bits) = Cert.KernelIdeal.defs₀ := by
  unfold Cert.Kernel.defs₀ Cert.KernelIdeal.defs₀
  refine congrArg Defs.onTc (funext fun l => ?_)
  match l with
  | 0 => rfl

theorem defs_eq : Cert.Kernel.defs (F := Bits) = Cert.KernelIdeal.defs :=
  congrArg (Pipeline.defs Cert.KernelIdeal.pcfgs) defs₀_eq

/-- The kernel's frame, as printed: the run over any float values, read at the machine's. -/
theorem frame_kernel : Cert.quiescent_Kernel := fun m ρ _ => by
  rw [defs_eq]
  exact Cert.KernelIdeal.Hand.frame_run (F := Bits) m ρ

/-- The idealized kernel's frame. -/
theorem frame_ideal : Cert.quiescent_KernelIdeal := fun m ρ _ => Cert.KernelIdeal.Hand.frame_run m ρ

/-- The reference's frame: it has no semaphores. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- From equal arguments the reference's result is the array that the kernel leaves. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v39 (F := Ideal) m' c = Cert.KernelIdeal.Hand.arrOut m c := by
  rw [Cert.ReferenceIdeal.Rows.res_eq, h0, h1, h2, h3, h4]
  unfold Cert.KernelIdeal.Hand.arrOut
  refine congrArg (fun x => shapeCast Cert.KernelIdeal.S16384x1024 x Cert.KernelIdeal.Gen.shapeCasts_S4x4096x1024_S16384x1024) (funext fun i => ?_)
  have hi : i = ix3 (i 0) (i 1) (i 2) := funext fun a => by match a with | ⟨0, _⟩ => rfl | ⟨1, _⟩ => rfl | ⟨2, _⟩ => rfl
  rw [hi]
  exact Cert.ReferenceIdeal.Rows.layerA_at _ _ _ _ _ _ _ _

/-- Kernel and reference compute the same function over the extended reals. -/
theorem values : Cert.algebraic_KernelIdeal_ReferenceIdeal := fun m ρ m' ρ' _ h =>
  ⟨fun c => Cert.KernelIdeal.Hand.arrOut m c,
    (θ_run Cert.KernelIdeal.defs _ _).mono (fun _ hr c => ⟨(hr c).1.trans (Cert.KernelIdeal.Hand.final m c), (hr c).2⟩) (Cert.KernelIdeal.Hand.value_run m ρ),
    (θ_run Cert.ReferenceIdeal.defs _ _).mono (fun _ hr c => ⟨(hr c).1.trans
      (results_eq m m' c (h c).1 (h c).2.1 (h c).2.2.1 (h c).2.2.2.1 (h c).2.2.2.2), (hr c).2⟩) (Cert.ReferenceIdeal.Value.run m' ρ')⟩

/-! ## The convolution and memory-attention call -/

/-- Again the two programs have the same text. -/
theorem defs₀_eq2 : Cert.Kernel2.defs₀ (F := Bits) = Cert.Kernel2Ideal.defs₀ := by
  unfold Cert.Kernel2.defs₀ Cert.Kernel2Ideal.defs₀
  refine congrArg Defs.onTc (funext fun l => ?_)
  match l with
  | 0 => rfl

theorem defs_eq2 : Cert.Kernel2.defs (F := Bits) = Cert.Kernel2Ideal.defs :=
  congrArg (Pipeline.defs Cert.Kernel2Ideal.pcfgs) defs₀_eq2

/-- The second kernel's frame, as printed, -/
theorem frame_kernel2 : Cert.quiescent_Kernel2 := fun m ρ _ => by
  rw [defs_eq2]
  exact Cert.Kernel2Ideal.Hand.frame_run (F := Bits) m ρ

/-- idealized, -/
theorem frame_ideal2 : Cert.quiescent_Kernel2Ideal := fun m ρ _ => Cert.Kernel2Ideal.Hand.frame_run m ρ
theorem frame_ideal2_pre : Cert.quiescent_Kernel2Ideal_pre_finite2 (hPre_finite2 := Cert.Kernel2Ideal.Hand.preFacts) := fun m ρ _ => Cert.Kernel2Ideal.Hand.frame_run m ρ

/-- and its reference's. -/
theorem frame_reference2 : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)
theorem frame_reference2_pre : Cert.quiescent_Reference2Ideal_pre_finite2 (hPre_finite2 := Cert.Kernel2Ideal.Hand.preFacts) := fun m ρ _ => frame_reference2 m ρ trivial

/-- From equal arguments the second reference's array is the second kernel's, the probabilities made by division. -/
theorem results_eq2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    shapeCast Cert.Kernel2Ideal.S16384x1024 (Cert.Reference2Ideal.Rows.attA (Cert.Reference2Ideal.Rows.mixerA
      (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)))
      (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7))) Cert.Kernel2Ideal.Gen.shapeCasts_S4x4096x1024_S16384x1024
      = Cert.Kernel2Ideal.Hand.arrOut m Cert.RowSpec.prob c := by
  rw [h0, h1, h2, h3, h4, h5, h6, h7]
  unfold Cert.Kernel2Ideal.Hand.arrOut
  refine congrArg (fun x => shapeCast Cert.Kernel2Ideal.S16384x1024 x Cert.Kernel2Ideal.Gen.shapeCasts_S4x4096x1024_S16384x1024) (funext fun i => ?_)
  have hi : i = ix3 (i 0) (i 1) (i 2) := funext fun a => by match a with | ⟨0, _⟩ => rfl | ⟨1, _⟩ => rfl | ⟨2, _⟩ => rfl
  rw [hi]
  exact Cert.Reference2Ideal.Rows.rowA_at _ _ _ _ _ _ _ _ _ _ _

/-- The second kernel and its reference compute the same function over the extended reals where the scores are finite. -/
theorem values2 : Cert.algebraic_Kernel2Ideal_Reference2Ideal_pre_finite2 (hPre_finite2 := Cert.Kernel2Ideal.Hand.preFacts) := fun m ρ m' ρ' hm h =>
  ⟨fun c => Cert.Kernel2Ideal.Hand.arrOut m Cert.RowSpec.prob c,
    (θ_run Cert.Kernel2Ideal.defs _ _).mono (fun _ hr c => ⟨(hr c).1.trans ((Cert.Kernel2Ideal.Hand.final m c).trans (Cert.Kernel2Ideal.Hand.arrOut_eq m hm c)), (hr c).2⟩)
      (Cert.Kernel2Ideal.Hand.value_run m ρ),
    (θ_run Cert.Reference2Ideal.defs _ _).mono (fun _ hr c => ⟨(hr c).1.trans ((Cert.Reference2Ideal.Rows.res_eq m' c).trans
      (results_eq2 m m' c (h c).1 (h c).2.1 (h c).2.2.1 (h c).2.2.2.1 (h c).2.2.2.2.1 (h c).2.2.2.2.2.1 (h c).2.2.2.2.2.2.1 (h c).2.2.2.2.2.2.2)), (hr c).2⟩) (Cert.Reference2Ideal.Value.run m' ρ')⟩

/-! ## The feed-forward and projection call -/

/-- Again the two programs have the same text. -/
theorem defs₀_eq3 : Cert.Kernel3.defs₀ (F := Bits) = Cert.Kernel3Ideal.defs₀ := by
  unfold Cert.Kernel3.defs₀ Cert.Kernel3Ideal.defs₀
  refine congrArg Defs.onTc (funext fun l => ?_)
  match l with
  | 0 => rfl

theorem defs_eq3 : Cert.Kernel3.defs (F := Bits) = Cert.Kernel3Ideal.defs :=
  congrArg (Pipeline.defs Cert.Kernel3Ideal.pcfgs) defs₀_eq3

/-- The third kernel's frame, as printed, -/
theorem frame_kernel3 : Cert.quiescent_Kernel3 := fun m ρ _ => by
  rw [defs_eq3]
  exact Cert.Kernel3Ideal.Hand.frame_run (F := Bits) m ρ

/-- idealized, -/
theorem frame_ideal3 : Cert.quiescent_Kernel3Ideal := fun m ρ _ => Cert.Kernel3Ideal.Hand.frame_run m ρ

/-- and its reference's. -/
theorem frame_reference3 : Cert.quiescent_Reference3Ideal := fun m ρ _ =>
  (θ_run Cert.Reference3Ideal.defs _ _).mono (fun r h => ⟨fun c => (h c).2.2.2.2.2, sem_eq_zero_of_no_sems rfl r.2⟩) (Cert.Reference3Ideal.Value.run m ρ)

section Results3
variable (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)

/-- From equal arguments a row of the reference's first result is the row that the kernel computes. -/
theorem row3
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) (b : Fin 4) (r : Fin 4096) :
    (fun k : Fin 1024 => Cert.Reference3Ideal.Rows.xA m' c (ix3 b r k)) = Cert.Kernel3Ideal.Hand.rowOut m c b r := by
  unfold Cert.Reference3Ideal.Rows.xA
  rw [h0, h2, h3, h4]
  exact funext fun k => Cert.Reference3Ideal.Rows.layerA_at _ _ _ _ _ _ _

/-- So the reference's five results are the arrays that the kernel leaves. -/
theorem results_eq3
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Value.res_main_v121 (F := Ideal) m' c = Cert.Kernel3Ideal.Hand.arrOut m c := by
  refine (Cert.Reference3Ideal.Rows.res_eq m' c).trans ?_
  refine congrArg (fun x => shapeCast Cert.Kernel3Ideal.S16384x1024 x Cert.Kernel3Ideal.Gen.shapeCasts_S4x4096x1024_S16384x1024) (funext fun i => ?_)
  have hi : i = ix3 (i 0) (i 1) (i 2) := funext fun a => by match a with | ⟨0, _⟩ => rfl | ⟨1, _⟩ => rfl | ⟨2, _⟩ => rfl
  rw [hi]
  exact congrFun (row3 m m' c h0 h2 h3 h4 (i 0) (i 1)) (i 2)
theorem queries_eq3
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    Cert.Reference3Ideal.Value.res_main_v123 (F := Ideal) m' c = Cert.Kernel3Ideal.Hand.arrQ m c := by
  refine (Cert.Reference3Ideal.Rows.q_eq m' c).trans (funext fun i => ?_)
  have hi : i = ix2 (i 0) (i 1) := funext fun a => by match a with | ⟨0, _⟩ => rfl | ⟨1, _⟩ => rfl
  rw [hi]
  refine (Cert.Reference3Ideal.Rows.rowQ_at _ _ _ _ _ _).trans ?_
  rw [row3 m m' c h0 h2 h3 h4, h1, h5, h7]
  rfl
theorem keys_eq3
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Cert.Reference3Ideal.Value.res_main_v125 (F := Ideal) m' c = Cert.Kernel3Ideal.Hand.arrK m c := by
  refine (Cert.Reference3Ideal.Rows.k_eq m' c).trans (funext fun i => ?_)
  have hi : i = ix2 (i 0) (i 1) := funext fun a => by match a with | ⟨0, _⟩ => rfl | ⟨1, _⟩ => rfl
  rw [hi]
  refine (Cert.Reference3Ideal.Rows.rowK_at _ _ _ _ _ _).trans ?_
  rw [row3 m m' c h0 h2 h3 h4, h1, h6, h8]
  rfl
theorem values_eq3
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Cert.Reference3Ideal.Value.res_main_v126 (F := Ideal) m' c = Cert.Kernel3Ideal.Hand.arrVt m c := by
  refine (Cert.Reference3Ideal.Rows.vt_eq m' c).trans (funext fun i => ?_)
  have hi : i = ix4 (i 0) (i 1) (i 2) (i 3) := funext fun a => by match a with | ⟨0, _⟩ => rfl | ⟨1, _⟩ => rfl | ⟨2, _⟩ => rfl | ⟨3, _⟩ => rfl
  rw [hi]
  refine (Cert.Reference3Ideal.Rows.rowV_at _ _ _ _ _ _ _).trans ?_
  refine (congrArg (fun x => RowSpec.normProj x _ _ (i 2)) (row3 m m' c h0 h2 h3 h4 (i 0) ⟨256 * (i 1).val + (i 3).val, _⟩)).trans ?_
  rw [h6, h8]
  rfl

theorem means_eq3
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Cert.Reference3Ideal.Value.res_main_v118 (F := Ideal) m' c = Cert.Kernel3Ideal.Hand.arrKm m c := by
  refine (Cert.Reference3Ideal.Rows.km_eq m' c).trans (funext fun i => ?_)
  have hi : i = ix3 (i 0) (i 1) (i 2) := funext fun a => by match a with | ⟨0, _⟩ => rfl | ⟨1, _⟩ => rfl | ⟨2, _⟩ => rfl
  rw [hi]
  refine (Cert.Reference3Ideal.Rows.rowKm_at _ _ _ _ _ _ _).trans (congrArg RowSpec.mean256 (funext fun r => ?_))
  refine (congrArg (fun x => RowSpec.rope (RowSpec.normProj x _ _) _ (i 2)) (row3 m m' c h0 h2 h3 h4 (i 0) ⟨256 * (i 1).val + r.val, _⟩)).trans ?_
  rw [h1, h6, h8]
  rfl

end Results3

/-- The third kernel and its reference are the same functions over the extended reals. -/
theorem values3 : Cert.algebraic_Kernel3Ideal_Reference3Ideal := fun m ρ m' ρ' _ h =>
  ⟨fun c => Cert.Kernel3Ideal.Hand.arrOut m c, fun c => Cert.Kernel3Ideal.Hand.arrQ m c, fun c => Cert.Kernel3Ideal.Hand.arrK m c, fun c => Cert.Kernel3Ideal.Hand.arrVt m c,
    fun c => Cert.Kernel3Ideal.Hand.arrKm m c,
    (θ_run Cert.Kernel3Ideal.defs _ _).mono (fun _ hr c => ⟨(hr c).1.trans (Cert.Kernel3Ideal.Hand.final m c), (hr c).2.1.trans (Cert.Kernel3Ideal.Hand.final_q m c), (hr c).2.2.1.trans (Cert.Kernel3Ideal.Hand.final_k m c),
      (hr c).2.2.2.1.trans (Cert.Kernel3Ideal.Hand.final_vt m c), (hr c).2.2.2.2.1.trans (Cert.Kernel3Ideal.Hand.final_km m c), (hr c).2.2.2.2.2⟩) (Cert.Kernel3Ideal.Hand.value_run m ρ),
    (θ_run Cert.Reference3Ideal.defs _ _).mono (fun _ hr c =>
      have ⟨h0, h1, h2, h3, h4, h5, h6, h7, h8⟩ := h c
      ⟨(hr c).1.trans (results_eq3 m m' c h0 h2 h3 h4), (hr c).2.1.trans (queries_eq3 m m' c h0 h1 h2 h3 h4 h5 h7),
        (hr c).2.2.1.trans (keys_eq3 m m' c h0 h1 h2 h3 h4 h6 h8), (hr c).2.2.2.1.trans (values_eq3 m m' c h0 h2 h3 h4 h6 h8),
        (hr c).2.2.2.2.1.trans (means_eq3 m m' c h0 h1 h2 h3 h4 h6 h8), (hr c).2.2.2.2.2⟩) (Cert.Reference3Ideal.Value.run m' ρ')⟩

/-! ## The projection and second memory-attention call -/

/-- Again the two programs have the same text. -/
theorem defs₀_eq4 : Cert.Kernel4.defs₀ (F := Bits) = Cert.Kernel4Ideal.defs₀ := by
  unfold Cert.Kernel4.defs₀ Cert.Kernel4Ideal.defs₀
  refine congrArg Defs.onTc (funext fun l => ?_)
  match l with
  | 0 => rfl

theorem defs_eq4 : Cert.Kernel4.defs (F := Bits) = Cert.Kernel4Ideal.defs :=
  congrArg (Pipeline.defs Cert.Kernel4Ideal.pcfgs) defs₀_eq4

/-- The fourth kernel's frame, as printed, -/
theorem frame_kernel4 : Cert.quiescent_Kernel4 := fun m ρ _ => by
  rw [defs_eq4]
  exact Cert.Kernel4Ideal.Hand.frame_run (F := Bits) m ρ

/-- idealized, -/
theorem frame_ideal4 : Cert.quiescent_Kernel4Ideal := fun m ρ _ => Cert.Kernel4Ideal.Hand.frame_run m ρ
theorem frame_ideal4_pre : Cert.quiescent_Kernel4Ideal_pre_finite4 (hPre_finite4 := Cert.Kernel4Ideal.Hand.preFacts) := fun m ρ _ => Cert.Kernel4Ideal.Hand.frame_run m ρ

/-- and its reference's. -/
theorem frame_reference4 : Cert.quiescent_Reference4Ideal := fun m ρ _ =>
  (θ_run Cert.Reference4Ideal.defs _ _).mono (fun r h => ⟨fun c => (h c).2, sem_eq_zero_of_no_sems rfl r.2⟩) (Cert.Reference4Ideal.Value.run m ρ)
theorem frame_reference4_pre : Cert.quiescent_Reference4Ideal_pre_finite4 (hPre_finite4 := Cert.Kernel4Ideal.Hand.preFacts) := fun m ρ _ => frame_reference4 m ρ trivial

/-- From equal arguments the fourth reference's result is the fourth kernel's array, the probabilities made by division. -/
theorem results_eq4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) :
    Cert.Reference4Ideal.Value.res_main_v41 (F := Ideal) m' c = Cert.Kernel4Ideal.Hand.arrOut m Cert.RowSpec.prob c := by
  rw [Cert.Reference4Ideal.Rows.res_eq, h0, h1, h2, h3, h4, h5]
  unfold Cert.Kernel4Ideal.Hand.arrOut
  refine congrArg (fun x => shapeCast Cert.Kernel4Ideal.S16384x1024 x Cert.Kernel4Ideal.Gen.shapeCasts_S4x4096x1024_S16384x1024) (funext fun i => ?_)
  have hi : i = ix3 (i 0) (i 1) (i 2) := funext fun a => by match a with | ⟨0, _⟩ => rfl | ⟨1, _⟩ => rfl | ⟨2, _⟩ => rfl
  rw [hi]
  exact Cert.Reference4Ideal.Rows.rowA_at _ _ _ _ _ _ _ _ _

/-- The fourth kernel and its reference compute the same function over the extended reals where the scores are finite. -/
theorem values4 : Cert.algebraic_Kernel4Ideal_Reference4Ideal_pre_finite4 (hPre_finite4 := Cert.Kernel4Ideal.Hand.preFacts) := fun m ρ m' ρ' hm h =>
  ⟨fun c => Cert.Kernel4Ideal.Hand.arrOut m Cert.RowSpec.prob c,
    (θ_run Cert.Kernel4Ideal.defs _ _).mono (fun _ hr c => ⟨(hr c).1.trans ((Cert.Kernel4Ideal.Hand.final m c).trans (Cert.Kernel4Ideal.Hand.arrOut_eq m hm c)), (hr c).2⟩)
      (Cert.Kernel4Ideal.Hand.value_run m ρ),
    (θ_run Cert.Reference4Ideal.defs _ _).mono (fun _ hr c => ⟨(hr c).1.trans
      (results_eq4 m m' c (h c).1 (h c).2.1 (h c).2.2.1 (h c).2.2.2.1 (h c).2.2.2.2.1 (h c).2.2.2.2.2), (hr c).2⟩) (Cert.Reference4Ideal.Value.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel2Ideal.Hand.preFacts, Cert.Kernel4Ideal.Hand.preFacts,
  frame_kernel, frame_ideal, frame_reference, frame_kernel2, frame_ideal2, frame_ideal2_pre, frame_reference2, frame_reference2_pre,
  frame_kernel3, frame_ideal3, frame_reference3, frame_kernel4, frame_ideal4, frame_ideal4_pre, frame_reference4, frame_reference4_pre,
  trivial, values, trivial, values2, trivial, values3, trivial, values4⟩

end Cert.Proof

end
